-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_softmax_stats [hPre_softmax_stats : Cert.Pre_softmax_stats.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_softmax_stats.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).1 = (fun _ => 1#1)
    ∧ (Cert.Pre_softmax_stats.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.1 = (fun _ => 1#1)
    ∧ (Cert.Pre_softmax_stats.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.1 = (fun _ => 1#1)
    ∧ (Cert.Pre_softmax_stats.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.1 = (fun _ => 1#1)
    ∧ (Cert.Pre_softmax_stats.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.1 = (fun _ => 1#1)
    ∧ (Cert.Pre_softmax_stats.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_softmax_stats [hPre_softmax_stats : Cert.Pre_softmax_stats.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_softmax_stats.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).1 = (fun _ => 1#1)
    ∧ (Cert.Pre_softmax_stats.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.1 = (fun _ => 1#1)
    ∧ (Cert.Pre_softmax_stats.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.1 = (fun _ => 1#1)
    ∧ (Cert.Pre_softmax_stats.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.1 = (fun _ => 1#1)
    ∧ (Cert.Pre_softmax_stats.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.1 = (fun _ => 1#1)
    ∧ (Cert.Pre_softmax_stats.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_softmax_stats [hKernel5Ideal : Cert.Kernel5Ideal.Facts] [hPre_softmax_stats : Cert.Pre_softmax_stats.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_softmax_stats m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_softmax_stats [hReference5Ideal : Cert.Reference5Ideal.Facts] [hPre_softmax_stats : Cert.Pre_softmax_stats.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_softmax_stats m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_softmax_stats [hKernel5Ideal : Cert.Kernel5Ideal.Facts] [hReference5Ideal : Cert.Reference5Ideal.Facts] [hPre_softmax_stats : Cert.Pre_softmax_stats.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_softmax_stats m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v76) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  IdealRules.named_const.Statement Cert.Kernel6Ideal.κ "mask" .f32 0xF149F2CA#32 ⊥
  ∧ IdealRules.named_const.Statement Cert.Kernel6Ideal.κ "log2e" .f32 0x3FB8AA3B#32 (((Real.log 2)⁻¹ : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v61_0)) (v1 : (c : Dev Cert.Kernel6Ideal.nD) → Buf (Elt Ideal) ((c.tc : Thread Cert.Kernel6Ideal.nD Cert.Kernel6Ideal.τ).loc Cert.Kernel6Ideal.main_v61_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v61_0) = v0 c
          ∧ r.2.mem ((c.tc : Thread Cert.Kernel6Ideal.nD Cert.Kernel6Ideal.τ).loc Cert.Kernel6Ideal.main_v61_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v101) = v0 c
          ∧ r.2.mem ((c.tc : Thread Cert.Reference6Ideal.nD Cert.Reference6Ideal.τ).loc Cert.Reference6Ideal.main_v102) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def preserves_Kernel9_Kernel9Ideal : Prop :=
  IdealRules.named_const.Statement Cert.Kernel9Ideal.κ "mask" .f32 0xF149F2CA#32 ⊥
  ∧ IdealRules.named_const.Statement Cert.Kernel9Ideal.κ "log2e" .f32 0x3FB8AA3B#32 (((Real.log 2)⁻¹ : ℝ) : EReal)

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v61_0)) (v1 : (c : Dev Cert.Kernel9Ideal.nD) → Buf (Elt Ideal) ((c.tc : Thread Cert.Kernel9Ideal.nD Cert.Kernel9Ideal.τ).loc Cert.Kernel9Ideal.main_v61_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v61_0) = v0 c
          ∧ r.2.mem ((c.tc : Thread Cert.Kernel9Ideal.nD Cert.Kernel9Ideal.τ).loc Cert.Kernel9Ideal.main_v61_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v102) = v0 c
          ∧ r.2.mem ((c.tc : Thread Cert.Reference9Ideal.nD Cert.Reference9Ideal.τ).loc Cert.Reference9Ideal.main_v104) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  IdealRules.named_const.Statement Cert.Kernel10Ideal.κ "mask" .f32 0xF149F2CA#32 ⊥
  ∧ IdealRules.named_const.Statement Cert.Kernel10Ideal.κ "log2e" .f32 0x3FB8AA3B#32 (((Real.log 2)⁻¹ : ℝ) : EReal)

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v61_0)) (v1 : (c : Dev Cert.Kernel10Ideal.nD) → Buf (Elt Ideal) ((c.tc : Thread Cert.Kernel10Ideal.nD Cert.Kernel10Ideal.τ).loc Cert.Kernel10Ideal.main_v61_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v61_0) = v0 c
          ∧ r.2.mem ((c.tc : Thread Cert.Kernel10Ideal.nD Cert.Kernel10Ideal.τ).loc Cert.Kernel10Ideal.main_v61_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v102) = v0 c
          ∧ r.2.mem ((c.tc : Thread Cert.Reference10Ideal.nD Cert.Reference10Ideal.τ).loc Cert.Reference10Ideal.main_v104) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_inputs : Cert.Pre_finite_inputs.Facts) (hPre_softmax_stats : Cert.Pre_softmax_stats.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_softmax_stats (hKernel5Ideal := hKernel5Ideal) (hPre_softmax_stats := hPre_softmax_stats)
    ∧ quiescent_Reference5Ideal (hReference5Ideal := hReference5Ideal)
    ∧ quiescent_Reference5Ideal_pre_softmax_stats (hReference5Ideal := hReference5Ideal) (hPre_softmax_stats := hPre_softmax_stats)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_softmax_stats (hKernel5Ideal := hKernel5Ideal) (hReference5Ideal := hReference5Ideal) (hPre_softmax_stats := hPre_softmax_stats)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite_inputs.lean ====
abbrev S16384x2048 : Shape := ⟨2, ![16384, 2048]⟩
abbrev S2048 : Shape := ⟨1, ![2048]⟩
abbrev S4x2048x11264 : Shape := ⟨3, ![4, 2048, 11264]⟩
abbrev S4x5632x2048 : Shape := ⟨3, ![4, 5632, 2048]⟩
abbrev S_ : Shape := ⟨0, ![]⟩

class Facts : Prop where
  bcast_S_S16384x2048 : S_.BroadcastsInDim S16384x2048 (![] : Fin 0 → Fin S16384x2048.rank)
  bcast_S_S2048 : S_.BroadcastsInDim S2048 (![] : Fin 0 → Fin S2048.rank)
  bcast_S_S4x2048x11264 : S_.BroadcastsInDim S4x2048x11264 (![] : Fin 0 → Fin S4x2048x11264.rank)

variable [Facts]

def fn {F : FTy → Type} [FloatOps F] (main_arg0 : FVec F S16384x2048 .f32) (main_arg1 : FVec F S2048 .f32) (main_arg2 : FVec F S4x2048x11264 .f32) (main_arg3 : FVec F S4x5632x2048 .f32) (main_arg4 : FVec F S2048 .f32) : IVec S16384x2048 1 × IVec S2048 1 × IVec S4x2048x11264 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S4x2048x11264 .f32 := Host.absf main_arg2
  let main_cst_1 : FVec F S_ .f32 := constant S_ .f32 0x7F800000#32
  let main_v7 : FVec F S4x2048x11264 .f32 := broadcastInDim S4x2048x11264 ![] bcast_S_S4x2048x11264 main_cst_1
  let main_v8 : IVec S4x2048x11264 1 := cmpf .olt main_v6 main_v7
  (main_v2, main_v5, main_v8)
-- ==== Pre_softmax_stats.lean ====
abbrev S16384x2048 : Shape := ⟨2, ![16384, 2048]⟩
abbrev S16384x128 : Shape := ⟨2, ![16384, 128]⟩
abbrev S2x2048x2048 : Shape := ⟨3, ![2, 2048, 2048]⟩
abbrev S2048 : Shape := ⟨1, ![2048]⟩
abbrev S16384x32 : Shape := ⟨2, ![16384, 32]⟩
abbrev S_ : Shape := ⟨0, ![]⟩
abbrev S16384x16 : Shape := ⟨2, ![16384, 16]⟩

class Facts : Prop where
  slices_S16384x128_S16384x32_0_0 : S16384x128.Slices ![0, 0] S16384x32
  bcast_S_S16384x32 : S_.BroadcastsInDim S16384x32 (![] : Fin 0 → Fin S16384x32.rank)
  slices_S16384x128_S16384x16_0_16 : S16384x128.Slices ![0, 16] S16384x16
  bcast_S_S16384x16 : S_.BroadcastsInDim S16384x16 (![] : Fin 0 → Fin S16384x16.rank)

variable [Facts]

def fn_part1 {F : FTy → Type} [FloatOps F] (main_v3 : IVec S16384x32 1) (main_v7 : IVec S16384x32 1) (main_v11 : IVec S16384x32 1) (main_v14 : IVec S16384x16 1) (main_v17 : IVec S16384x16 1) (main_v18 : FVec F S16384x16 .f32) : IVec S16384x32 1 × IVec S16384x32 1 × IVec S16384x32 1 × IVec S16384x16 1 × IVec S16384x16 1 × IVec S16384x16 1 :=
  let main_cst_4 : FVec F S_ .f32 := constant S_ .f32 0x00000000#32
  let main_v19 : FVec F S16384x16 .f32 := broadcastInDim S16384x16 ![] bcast_S_S16384x16 main_cst_4
  let main_v20 : IVec S16384x16 1 := cmpf .ogt main_v18 main_v19
  (main_v3, main_v7, main_v11, main_v14, main_v17, main_v20)

def fn {F : FTy → Type} [FloatOps F] (main_arg0 : FVec F S16384x2048 .bf16) (main_arg1 : FVec F S16384x2048 .bf16) (main_arg2 : FVec F S16384x2048 .bf16) (main_arg3 : FVec F S16384x128 .f32) (main_arg4 : FVec F S16384x128 .f32) (main_arg5 : FVec F S16384x128 .f32) (main_arg6 : FVec F S2x2048x2048 .f32) (main_arg7 : FVec F S2048 .f32) (main_arg8 : FVec F S16384x2048 .f32) : IVec S16384x32 1 × IVec S16384x32 1 × IVec S16384x32 1 × IVec S16384x16 1 × IVec S16384x16 1 × IVec S16384x16 1 :=
  let main_v0 : FVec F S16384x32 .f32 := (extractStridedSlice S16384x32 ![0, 0] · slices_S16384x128_S16384x32_0_0) main_arg3
  let main_v1 : FVec F S16384x32 .f32 := Host.absf main_v0
  let main_cst : FVec F S_ .f32 := constant S_ .f32 0x7F800000#32
  let main_v2 : FVec F S16384x32 .f32 := broadcastInDim S16384x32 ![] bcast_S_S16384x32 main_cst
  let main_v3 : IVec S16384x32 1 := cmpf .olt main_v1 main_v2
  let main_v4 : FVec F S16384x32 .f32 := (extractStridedSlice S16384x32 ![0, 0] · slices_S16384x128_S16384x32_0_0) main_arg4
  let main_v5 : FVec F S16384x32 .f32 := Host.absf main_v4
  let main_cst_0 : FVec F S_ .f32 := constant S_ .f32 0x7F800000#32
  let main_v6 : FVec F S16384x32 .f32 := broadcastInDim S16384x32 ![] bcast_S_S16384x32 main_cst_0
  let main_v7 : IVec S16384x32 1 := cmpf .olt main_v5 main_v6
  let main_v8 : FVec F S16384x32 .f32 := (extractStridedSlice S16384x32 ![0, 0] · slices_S16384x128_S16384x32_0_0) main_arg5
  let main_v9 : FVec F S16384x32 .f32 := Host.absf main_v8
  let main_cst_1 : FVec F S_ .f32 := constant S_ .f32 0x7F800000#32
  let main_v10 : FVec F S16384x32 .f32 := broadcastInDim S16384x32 ![] bcast_S_S16384x32 main_cst_1
  let main_v11 : IVec S16384x32 1 := cmpf .olt main_v9 main_v10
  let main_v12 : FVec F S16384x16 .f32 := (extractStridedSlice S16384x16 ![0, 16] · slices_S16384x128_S16384x16_0_16) main_arg3
  let main_cst_2 : FVec F S_ .f32 := constant S_ .f32 0x00000000#32
  let main_v13 : FVec F S16384x16 .f32 := broadcastInDim S16384x16 ![] bcast_S_S16384x16 main_cst_2
  let main_v14 : IVec S16384x16 1 := cmpf .ogt main_v12 main_v13
  let main_v15 : FVec F S16384x16 .f32 := (extractStridedSlice S16384x16 ![0, 16] · slices_S16384x128_S16384x16_0_16) main_arg4
  let main_cst_3 : FVec F S_ .f32 := constant S_ .f32 0x00000000#32
  let main_v16 : FVec F S16384x16 .f32 := broadcastInDim S16384x16 ![] bcast_S_S16384x16 main_cst_3
  let main_v17 : IVec S16384x16 1 := cmpf .ogt main_v15 main_v16
  let main_v18 : FVec F S16384x16 .f32 := (extractStridedSlice S16384x16 ![0, 16] · slices_S16384x128_S16384x16_0_16) main_arg5
  fn_part1 (F := F) main_v3 main_v7 main_v11 main_v14 main_v17 main_v18
-- ==== Kernel.lean ====
abbrev S16384x2048 : Shape := ⟨2, ![16384, 2048]⟩
abbrev S2048 : Shape := ⟨1, ![2048]⟩
abbrev S4x2048x11264 : Shape := ⟨3, ![4, 2048, 11264]⟩
abbrev S4x5632x2048 : Shape := ⟨3, ![4, 5632, 2048]⟩
abbrev S1x2048 : Shape := ⟨2, ![1, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S4x2048x11264, .f32⟩
  | .hbm, ⟨3, _⟩ => ⟨S4x5632x2048, .f32⟩
  | .hbm, ⟨4, _⟩ => ⟨S2048, .f32⟩
  | .hbm, ⟨5, _⟩ => ⟨S4x2048x11264, .bf16⟩
  | .hbm, ⟨6, _⟩ => ⟨S4x5632x2048, .bf16⟩
  | .hbm, ⟨7, _⟩ => ⟨S1x2048, .f32⟩
  | .hbm, ⟨8, _⟩ => ⟨S1x2048, .f32⟩
  | .hbm, ⟨9, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c10_i32 : BitVec 32 := 10#32
  let v3 : BitVec 1 := Scalar.cmpi .slt arg1 c10_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c10_i32_2 : BitVec 32 := 10#32
  let v6 : BitVec 1 := Scalar.cmpi .eq arg1 c10_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S16384x2048 : Shape := ⟨2, ![16384, 2048]⟩
abbrev S2048 : Shape := ⟨1, ![2048]⟩
abbrev S4x2048x11264 : Shape := ⟨3, ![4, 2048, 11264]⟩
abbrev S4x5632x2048 : Shape := ⟨3, ![4, 5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x2048x11264 : Shape := ⟨3, ![1, 2048, 11264]⟩
abbrev S2048x11264 : Shape := ⟨2, ![2048, 11264]⟩
abbrev S16384x11264 : Shape := ⟨2, ![16384, 11264]⟩
abbrev S16384x5632 : Shape := ⟨2, ![16384, 5632]⟩
abbrev S1x5632x2048 : Shape := ⟨3, ![1, 5632, 2048]⟩
abbrev S5632x2048 : Shape := ⟨2, ![5632, 2048]⟩

abbrev nBuf : Space → Nat
  | .hbm => 56
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S4x2048x11264, .f32⟩
  | .hbm, ⟨3, _⟩ => ⟨S4x5632x2048, .f32⟩
  | .hbm, ⟨4, _⟩ => ⟨S2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S1x2048x11264, .f32⟩
  | .hbm, ⟨22, _⟩ => ⟨S2048x11264, .f32⟩
  | .hbm, ⟨23, _⟩ => ⟨S16384x11264, .f32⟩
  | .hbm, ⟨24, _⟩ => ⟨S16384x5632, .f32⟩
  | .hbm, ⟨25, _⟩ => ⟨S16384x5632, .f32⟩
  | .hbm, ⟨26, _⟩ => ⟨S16384x5632, .f32⟩
  | .hbm, ⟨27, _⟩ => ⟨S16384x5632, .f32⟩
  | .hbm, ⟨28, _⟩ => ⟨S_, .f32⟩
  | .hbm, ⟨29, _⟩ => ⟨S16384x5632, .f32⟩
  | .hbm, ⟨30, _⟩ => ⟨S16384x5632, .f32⟩
  | .hbm, ⟨31, _⟩ => ⟨S_, .f32⟩
  | .hbm, ⟨32, _⟩ => ⟨S16384x5632, .f32⟩
  | .hbm, ⟨33, _⟩ => ⟨S16384x5632, .f32⟩
  | .hbm, ⟨34, _⟩ => ⟨S16384x5632, .f32⟩
  | .hbm, ⟨35, _⟩ => ⟨S16384x5632, .f32⟩
  | .hbm, ⟨36, _⟩ => ⟨S1x5632x2048, .f32⟩
  | .hbm, ⟨37, _⟩ => ⟨S5632x2048, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x2048, .f32⟩
  | .hbm, ⟨51, _⟩ => ⟨S16384x2048, .f32⟩
  | .hbm, ⟨52, _⟩ => ⟨S1x2048, .f32⟩
  | .hbm, ⟨53, _⟩ => ⟨S16384x2048, .f32⟩
  | .hbm, ⟨54, _⟩ => ⟨S16384x2048, .f32⟩
  | .hbm, ⟨55, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩

abbrev nD : Nat := 1
abbrev τ : Topo := Topo.v7x

variable {F : FTy → Type} [FloatOps F]
-- ==== Kernel2.lean ====
abbrev S16384x2048 : Shape := ⟨2, ![16384, 2048]⟩
abbrev S2048 : Shape := ⟨1, ![2048]⟩
abbrev S2048x12288 : Shape := ⟨2, ![2048, 12288]⟩
abbrev S1x2048x12288 : Shape := ⟨3, ![1, 2048, 12288]⟩
abbrev S1x2048 : Shape := ⟨2, ![1, 2048]⟩
abbrev S16384x12288 : Shape := ⟨2, ![16384, 12288]⟩
abbrev S1024x2048 : Shape := ⟨2, ![1024, 2048]⟩
abbrev S1x2048x2048 : Shape := ⟨3, ![1, 2048, 2048]⟩
abbrev S1024 : Shape := ⟨1, ![1024]⟩
abbrev S1024x1 : Shape := ⟨2, ![1024, 1]⟩
abbrev S2048x2048 : Shape := ⟨2, ![2048, 2048]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x12288, .f32⟩
  | .hbm, ⟨3, _⟩ => ⟨S2048x12288, .bf16⟩
  | .hbm, ⟨4, _⟩ => ⟨S1x2048x12288, .bf16⟩
  | .hbm, ⟨5, _⟩ => ⟨S1x2048, .f32⟩
  | .hbm, ⟨6, _⟩ => ⟨S16384x12288, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x2048, .bf16⟩
  | .local _ .vmem, ⟨4, _⟩ => ⟨S1x2048x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x2048 : Shape := ⟨2, ![16384, 2048]⟩
abbrev S2048 : Shape := ⟨1, ![2048]⟩
abbrev S2048x12288 : Shape := ⟨2, ![2048, 12288]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x12288 : Shape := ⟨2, ![16384, 12288]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x12288, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x12288, .f32⟩
  | .hbm, ⟨20, _⟩ => ⟨S16384x12288, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel3.lean ====
abbrev S16384x2048 : Shape := ⟨2, ![16384, 2048]⟩
abbrev S2048 : Shape := ⟨1, ![2048]⟩
abbrev S2x2048x6144 : Shape := ⟨3, ![2, 2048, 6144]⟩
abbrev S1x2048 : Shape := ⟨2, ![1, 2048]⟩
abbrev S16384x6144 : Shape := ⟨2, ![16384, 6144]⟩
abbrev S1024x2048 : Shape := ⟨2, ![1024, 2048]⟩
abbrev S1x2048x2048 : Shape := ⟨3, ![1, 2048, 2048]⟩
abbrev S1024 : Shape := ⟨1, ![1024]⟩
abbrev S1024x1 : Shape := ⟨2, ![1024, 1]⟩
abbrev S2048x2048 : Shape := ⟨2, ![2048, 2048]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x2048x6144, .f32⟩
  | .hbm, ⟨3, _⟩ => ⟨S2x2048x6144, .bf16⟩
  | .hbm, ⟨4, _⟩ => ⟨S1x2048, .f32⟩
  | .hbm, ⟨5, _⟩ => ⟨S16384x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x2048, .bf16⟩
  | .local _ .vmem, ⟨4, _⟩ => ⟨S1x2048x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x2048 : Shape := ⟨2, ![16384, 2048]⟩
abbrev S2048 : Shape := ⟨1, ![2048]⟩
abbrev S2x2048x6144 : Shape := ⟨3, ![2, 2048, 6144]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x2048x6144 : Shape := ⟨3, ![1, 2048, 6144]⟩
abbrev S2048x6144 : Shape := ⟨2, ![2048, 6144]⟩
abbrev S16384x6144 : Shape := ⟨2, ![16384, 6144]⟩

abbrev nBuf : Space → Nat
  | .hbm => 26
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x2048x6144, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S1x2048x6144, .f32⟩
  | .hbm, ⟨20, _⟩ => ⟨S2048x6144, .f32⟩
  | .hbm, ⟨21, _⟩ => ⟨S16384x6144, .f32⟩
  | .hbm, ⟨22, _⟩ => ⟨S_, .f32⟩
  | .hbm, ⟨23, _⟩ => ⟨S16384x6144, .f32⟩
  | .hbm, ⟨24, _⟩ => ⟨S16384x6144, .f32⟩
  | .hbm, ⟨25, _⟩ => ⟨S16384x6144, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel4.lean ====
abbrev S16384x2048 : Shape := ⟨2, ![16384, 2048]⟩
abbrev S2x2048x2048 : Shape := ⟨3, ![2, 2048, 2048]⟩
abbrev S2048 : Shape := ⟨1, ![2048]⟩
abbrev S1x2048 : Shape := ⟨2, ![1, 2048]⟩
abbrev S512x2048 : Shape := ⟨2, ![512, 2048]⟩
abbrev S1x2048x2048 : Shape := ⟨3, ![1, 2048, 2048]⟩
abbrev S128x2048 : Shape := ⟨2, ![128, 2048]⟩
abbrev S2048x2048 : Shape := ⟨2, ![2048, 2048]⟩
abbrev S128 : Shape := ⟨1, ![128]⟩
abbrev S128x1 : Shape := ⟨2, ![128, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S2048, .f32⟩
  | .hbm, ⟨3, _⟩ => ⟨S16384x2048, .f32⟩
  | .hbm, ⟨4, _⟩ => ⟨S2x2048x2048, .bf16⟩
  | .hbm, ⟨5, _⟩ => ⟨S1x2048, .f32⟩
  | .hbm, ⟨6, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S16384x2048 : Shape := ⟨2, ![16384, 2048]⟩
abbrev S2x2048x2048 : Shape := ⟨3, ![2, 2048, 2048]⟩
abbrev S2048 : Shape := ⟨1, ![2048]⟩
abbrev S1x2048x2048 : Shape := ⟨3, ![1, 2048, 2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S2048, .f32⟩
  | .hbm, ⟨3, _⟩ => ⟨S16384x2048, .f32⟩
  | .hbm, ⟨4, _⟩ => ⟨S16384x2048, .f32⟩
  | .hbm, ⟨5, _⟩ => ⟨S1x2048x2048, .f32⟩
  | .hbm, ⟨6, _⟩ => ⟨S2048x2048, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel5.lean ====
abbrev S16384x2048 : Shape := ⟨2, ![16384, 2048]⟩
abbrev S16384x128 : Shape := ⟨2, ![16384, 128]⟩
abbrev S2x2048x2048 : Shape := ⟨3, ![2, 2048, 2048]⟩
abbrev S2048 : Shape := ⟨1, ![2048]⟩
abbrev S1x2048 : Shape := ⟨2, ![1, 2048]⟩
abbrev S512x2048 : Shape := ⟨2, ![512, 2048]⟩
abbrev S512x128 : Shape := ⟨2, ![512, 128]⟩
abbrev S1x2048x2048 : Shape := ⟨3, ![1, 2048, 2048]⟩
abbrev S128x128 : Shape := ⟨2, ![128, 128]⟩
abbrev S128x1 : Shape := ⟨2, ![128, 1]⟩
abbrev S128x2048 : Shape := ⟨2, ![128, 2048]⟩
abbrev S2048x2048 : Shape := ⟨2, ![2048, 2048]⟩
abbrev S128 : Shape := ⟨1, ![128]⟩

abbrev nBuf : Space → Nat
  | .hbm => 12
  | .vmem => 18
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S16384x128, .f32⟩
  | .hbm, ⟨4, _⟩ => ⟨S16384x128, .f32⟩
  | .hbm, ⟨5, _⟩ => ⟨S16384x128, .f32⟩
  | .hbm, ⟨6, _⟩ => ⟨S2x2048x2048, .f32⟩
  | .hbm, ⟨7, _⟩ => ⟨S2048, .f32⟩
  | .hbm, ⟨8, _⟩ => ⟨S16384x2048, .f32⟩
  | .hbm, ⟨9, _⟩ => ⟨S2x2048x2048, .bf16⟩
  | .hbm, ⟨10, _⟩ => ⟨S1x2048, .f32⟩
  | .hbm, ⟨11, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x2048x2048, .bf16⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S16384x2048 : Shape := ⟨2, ![16384, 2048]⟩
abbrev S16384x128 : Shape := ⟨2, ![16384, 128]⟩
abbrev S2x2048x2048 : Shape := ⟨3, ![2, 2048, 2048]⟩
abbrev S2048 : Shape := ⟨1, ![2048]⟩
abbrev S16384x16 : Shape := ⟨2, ![16384, 16]⟩
abbrev S16384x16x128 : Shape := ⟨3, ![16384, 16, 128]⟩
abbrev S16384x16x1 : Shape := ⟨3, ![16384, 16, 1]⟩
abbrev S_ : Shape := ⟨0, ![]⟩
abbrev S1x16384x16 : Shape := ⟨3, ![1, 16384, 16]⟩
abbrev S3x16384x16 : Shape := ⟨3, ![3, 16384, 16]⟩
abbrev S3x16384x16x1 : Shape := ⟨4, ![3, 16384, 16, 1]⟩
abbrev S1x16384x16x128 : Shape := ⟨4, ![1, 16384, 16, 128]⟩
abbrev S3x16384x16x128 : Shape := ⟨4, ![3, 16384, 16, 128]⟩
abbrev S1x2048x2048 : Shape := ⟨3, ![1, 2048, 2048]⟩
abbrev S2048x2048 : Shape := ⟨2, ![2048, 2048]⟩
abbrev S16384 : Shape := ⟨1, ![16384]⟩
abbrev S16384x1 : Shape := ⟨2, ![16384, 1]⟩
abbrev S1x2048 : Shape := ⟨2, ![1, 2048]⟩

abbrev nBuf : Space → Nat
  | .hbm => 96
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S16384x128, .f32⟩
  | .hbm, ⟨4, _⟩ => ⟨S16384x128, .f32⟩
  | .hbm, ⟨5, _⟩ => ⟨S16384x128, .f32⟩
  | .hbm, ⟨6, _⟩ => ⟨S2x2048x2048, .f32⟩
  | .hbm, ⟨7, _⟩ => ⟨S2048, .f32⟩
  | .hbm, ⟨8, _⟩ => ⟨S16384x2048, .f32⟩
  | .hbm, ⟨9, _⟩ => ⟨S16384x16, .f32⟩
  | .hbm, ⟨10, _⟩ => ⟨S16384x16, .f32⟩
  | .hbm, ⟨11, _⟩ => ⟨S16384x2048, .f32⟩
  | .hbm, ⟨12, _⟩ => ⟨S16384x16x128, .f32⟩
  | .hbm, ⟨13, _⟩ => ⟨S16384x16x1, .f32⟩
  | .hbm, ⟨14, _⟩ => ⟨S16384x16x128, .f32⟩
  | .hbm, ⟨15, _⟩ => ⟨S16384x16x128, .f32⟩
  | .hbm, ⟨16, _⟩ => ⟨S_, .f32⟩
  | .hbm, ⟨17, _⟩ => ⟨S_, .f32⟩
  | .hbm, ⟨18, _⟩ => ⟨S16384x16, .f32⟩
  | .hbm, ⟨19, _⟩ => ⟨S16384x16, .f32⟩
  | .hbm, ⟨20, _⟩ => ⟨S16384x16, .f32⟩
  | .hbm, ⟨21, _⟩ => ⟨S16384x16, .f32⟩
  | .hbm, ⟨22, _⟩ => ⟨S16384x16, .f32⟩
  | .hbm, ⟨23, _⟩ => ⟨S16384x16, .f32⟩
  | .hbm, ⟨24, _⟩ => ⟨S16384x2048, .f32⟩
  | .hbm, ⟨25, _⟩ => ⟨S16384x16x128, .f32⟩
  | .hbm, ⟨26, _⟩ => ⟨S16384x16x1, .f32⟩
  | .hbm, ⟨27, _⟩ => ⟨S16384x16x128, .f32⟩
  | .hbm, ⟨28, _⟩ => ⟨S16384x16x128, .f32⟩
  | .hbm, ⟨29, _⟩ => ⟨S_, .f32⟩
  | .hbm, ⟨30, _⟩ => ⟨S_, .f32⟩
  | .hbm, ⟨31, _⟩ => ⟨S16384x16, .f32⟩
  | .hbm, ⟨32, _⟩ => ⟨S16384x16, .f32⟩
  | .hbm, ⟨33, _⟩ => ⟨S16384x16, .f32⟩
  | .hbm, ⟨34, _⟩ => ⟨S16384x16, .f32⟩
  | .hbm, ⟨35, _⟩ => ⟨S16384x16, .f32⟩
  | .hbm, ⟨36, _⟩ => ⟨S16384x16, .f32⟩
  | .hbm, ⟨37, _⟩ => ⟨S16384x2048, .f32⟩
  | .hbm, ⟨38, _⟩ => ⟨S16384x16x128, .f32⟩
  | .hbm, ⟨39, _⟩ => ⟨S16384x16x1, .f32⟩
  | .hbm, ⟨40, _⟩ => ⟨S16384x16x128, .f32⟩
  | .hbm, ⟨41, _⟩ => ⟨S16384x16x128, .f32⟩
  | .hbm, ⟨42, _⟩ => ⟨S_, .f32⟩
  | .hbm, ⟨43, _⟩ => ⟨S_, .f32⟩
  | .hbm, ⟨44, _⟩ => ⟨S16384x16, .f32⟩
  | .hbm, ⟨45, _⟩ => ⟨S16384x16, .f32⟩
  | .hbm, ⟨46, _⟩ => ⟨S16384x16, .f32⟩
  | .hbm, ⟨47, _⟩ => ⟨S16384x16, .f32⟩
  | .hbm, ⟨48, _⟩ => ⟨S1x16384x16, .f32⟩
  | .hbm, ⟨49, _⟩ => ⟨S1x16384x16, .f32⟩
  | .hbm, ⟨50, _⟩ => ⟨S1x16384x16, .f32⟩
  | .hbm, ⟨51, _⟩ => ⟨S3x16384x16, .f32⟩
  | .hbm, ⟨52, _⟩ => ⟨S_, .f32⟩
  | .hbm, ⟨53, _⟩ => ⟨S16384x16, .f32⟩
  | .hbm, ⟨54, _⟩ => ⟨S_, .f32⟩
  | .hbm, ⟨55, _⟩ => ⟨S16384x16, .f32⟩
  | .hbm, ⟨56, _⟩ => ⟨S16384x16, .f32⟩
  | .hbm, ⟨57, _⟩ => ⟨S1x16384x16, .f32⟩
  | .hbm, ⟨58, _⟩ => ⟨S3x16384x16, .f32⟩
  | .hbm, ⟨59, _⟩ => ⟨S3x16384x16, .f32⟩
  | .hbm, ⟨60, _⟩ => ⟨S3x16384x16, .f32⟩
  | .hbm, ⟨61, _⟩ => ⟨S_, .f32⟩
  | .hbm, ⟨62, _⟩ => ⟨S16384x16, .f32⟩
  | .hbm, ⟨63, _⟩ => ⟨S1x16384x16, .f32⟩
  | .hbm, ⟨64, _⟩ => ⟨S3x16384x16, .f32⟩
  | .hbm, ⟨65, _⟩ => ⟨S3x16384x16, .f32⟩
  | .hbm, ⟨66, _⟩ => ⟨S3x16384x16x1, .f32⟩
  | .hbm, ⟨67, _⟩ => ⟨S1x16384x16x128, .f32⟩
  | .hbm, ⟨68, _⟩ => ⟨S1x16384x16x128, .f32⟩
  | .hbm, ⟨69, _⟩ => ⟨S1x16384x16x128, .f32⟩
  | .hbm, ⟨70, _⟩ => ⟨S3x16384x16x128, .f32⟩
  | .hbm, ⟨71, _⟩ => ⟨S3x16384x16x128, .f32⟩
  | .hbm, ⟨72, _⟩ => ⟨S3x16384x16x128, .f32⟩
  | .hbm, ⟨73, _⟩ => ⟨S_, .f32⟩
  | .hbm, ⟨74, _⟩ => ⟨S16384x16x128, .f32⟩
  | .hbm, ⟨75, _⟩ => ⟨S16384x2048, .f32⟩
  | .hbm, ⟨76, _⟩ => ⟨S1x2048x2048, .f32⟩
  | .hbm, ⟨77, _⟩ => ⟨S2048x2048, .f32⟩
  | .hbm, ⟨78, _⟩ => ⟨S16384x2048, .f32⟩
  | .hbm, ⟨79, _⟩ => ⟨S16384x2048, .f32⟩
  | .hbm, ⟨80, _⟩ => ⟨S_, .f32⟩
  | .hbm, ⟨81, _⟩ => ⟨S16384, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S_, .f32⟩
  | .hbm, ⟨87, _⟩ => ⟨S16384x1, .f32⟩
  | .hbm, ⟨88, _⟩ => ⟨S16384x1, .f32⟩
  | .hbm, ⟨89, _⟩ => ⟨S16384x1, .f32⟩
  | .hbm, ⟨90, _⟩ => ⟨S16384x2048, .f32⟩
  | .hbm, ⟨91, _⟩ => ⟨S16384x2048, .f32⟩
  | .hbm, ⟨92, _⟩ => ⟨S1x2048, .f32⟩
  | .hbm, ⟨93, _⟩ => ⟨S16384x2048, .f32⟩
  | .hbm, ⟨94, _⟩ => ⟨S16384x2048, .f32⟩
  | .hbm, ⟨95, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_1 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_2 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_4 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_5 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_6 : Ref sig .tc := ⟨.hbm, 80, rfl⟩
abbrev main_v64 : Ref sig .tc := ⟨.hbm, 81, rfl⟩
abbrev main_v65 : Ref sig .tc := ⟨.hbm, 82, rfl⟩
abbrev main_cst_7 : Ref sig .tc := ⟨.hbm, 83, rfl⟩
abbrev main_v66 : Ref sig .tc := ⟨.hbm, 84, rfl⟩
abbrev main_v67 : Ref sig .tc := ⟨.hbm, 85, rfl⟩
abbrev main_cst_8 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩

abbrev nD : Nat := 1
abbrev τ : Topo := Topo.v7x

variable {F : FTy → Type} [FloatOps F]
-- ==== Kernel6.lean ====
abbrev S16384x6144 : Shape := ⟨2, ![16384, 6144]⟩
abbrev S16384x12288 : Shape := ⟨2, ![16384, 12288]⟩
abbrev S32x48 : Shape := ⟨2, ![32, 48]⟩
abbrev S1024x16x6144 : Shape := ⟨3, ![1024, 16, 6144]⟩
abbrev S16x1024x6144 : Shape := ⟨3, ![16, 1024, 6144]⟩
abbrev S_ : Shape := ⟨0, ![]⟩
abbrev S1024x16x12288 : Shape := ⟨3, ![1024, 16, 12288]⟩
abbrev S16x1024x12288 : Shape := ⟨3, ![16, 1024, 12288]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x16x1024x6144 : Shape := ⟨4, ![1, 16, 1024, 6144]⟩
abbrev S1x16x1024x12288 : Shape := ⟨4, ![1, 16, 1024, 12288]⟩
abbrev S1x16x1024x2048 : Shape := ⟨4, ![1, 16, 1024, 2048]⟩
abbrev S1x16x1024x128 : Shape := ⟨4, ![1, 16, 1024, 128]⟩
abbrev S1x1x1024x2048 : Shape := ⟨4, ![1, 1, 1024, 2048]⟩
abbrev S1x1x128x2048 : Shape := ⟨4, ![1, 1, 128, 2048]⟩
abbrev S1x1x1024x128 : Shape := ⟨4, ![1, 1, 1024, 128]⟩
abbrev S2x16x128x256 : Shape := ⟨4, ![2, 16, 128, 256]⟩
abbrev S1x1 : Shape := ⟨2, ![1, 1]⟩
abbrev S1x1x128x256 : Shape := ⟨4, ![1, 1, 128, 256]⟩
abbrev S128x128 : Shape := ⟨2, ![128, 128]⟩
abbrev S256x128 : Shape := ⟨2, ![256, 128]⟩
abbrev S1x1024x128 : Shape := ⟨3, ![1, 1024, 128]⟩
abbrev S1x128x128 : Shape := ⟨3, ![1, 128, 128]⟩
abbrev S1x1x128x128 : Shape := ⟨4, ![1, 1, 128, 128]⟩
abbrev S256x256 : Shape := ⟨2, ![256, 256]⟩

abbrev nBuf : Space → Nat
  | .hbm => 129
  | .vmem => 16
  | .smem => 1
  | _ => 0

abbrev hbmTy0_0 (i : Nat) : BufTy := match i % 128 with
  | 0 => ⟨S16384x6144, .f32⟩
  | 1 => ⟨S16384x12288, .f32⟩
  | 2 => ⟨S32x48, .f32⟩
  | 3 => ⟨S1024x16x6144, .f32⟩
  | 4 => ⟨S16x1024x6144, .f32⟩
  | 5 => ⟨S16384x6144, .f32⟩
  | 6 => ⟨S_, .f32⟩
  | 7 => ⟨S16384x6144, .f32⟩
  | 8 => ⟨S16384x6144, .f32⟩
  | 9 => ⟨S_, .f32⟩
  | 10 => ⟨S_, .f32⟩
  | 11 => ⟨S16384x6144, .f32⟩
  | 12 => ⟨S16384x6144, .f32⟩
  | 13 => ⟨S16384x6144, .bf16⟩
  | 14 => ⟨S1024x16x12288, .f32⟩
  | 15 => ⟨S16x1024x12288, .f32⟩
  | 16 => ⟨S16384x12288, .f32⟩
  | 17 => ⟨S16384x12288, .bf16⟩
  | 18 => ⟨S128, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S128, .i32⟩
  | 26 => ⟨S128, .i32⟩
  | 27 => ⟨S_, .i32⟩
  | 28 => ⟨S128, .i32⟩
  | 29 => ⟨S128, .i1⟩
  | 30 => ⟨S_, .i32⟩
  | 31 => ⟨S128, .i32⟩
  | 32 => ⟨S128, .i1⟩
  | 33 => ⟨S_, .i32⟩
  | 34 => ⟨S_, .i1⟩
  | 35 => ⟨S128, .i1⟩
  | 36 => ⟨S128, .i1⟩
  | 37 => ⟨S128, .i1⟩
  | 38 => ⟨S128, .i32⟩
  | 39 => ⟨S128, .i32⟩
  | 40 => ⟨S128, .i32⟩
  | 41 => ⟨S_, .i32⟩
  | 42 => ⟨S128, .i32⟩
  | 43 => ⟨S128, .i32⟩
  | 44 => ⟨S_, .i32⟩
  | 45 => ⟨S_, .i32⟩
  | 46 => ⟨S128, .i32⟩
  | 47 => ⟨S128, .i32⟩
  | 48 => ⟨S128, .i32⟩
  | 49 => ⟨S_, .i32⟩
  | 50 => ⟨S128, .i32⟩
  | 51 => ⟨S128, .i1⟩
  | 52 => ⟨S128, .i32⟩
  | 53 => ⟨S128, .i32⟩
  | 54 => ⟨S_, .i32⟩
  | 55 => ⟨S128, .i32⟩
  | 56 => ⟨S128, .i1⟩
  | 57 => ⟨S128, .i1⟩
  | 58 => ⟨S_, .i32⟩
  | 59 => ⟨S128, .i32⟩
  | 60 => ⟨S128, .i32⟩
  | 61 => ⟨S128, .i32⟩
  | 62 => ⟨S128, .i32⟩
  | 63 => ⟨S128x1, .i32⟩
  | 64 => ⟨S_, .i32⟩
  | 65 => ⟨S128x1, .i32⟩
  | 66 => ⟨S128x1, .i32⟩
  | 67 => ⟨S_, .i32⟩
  | 68 => ⟨S128, .i32⟩
  | 69 => ⟨S128, .i32⟩
  | 70 => ⟨S256, .i32⟩
  | 71 => ⟨S1x256, .i32⟩
  | 72 => ⟨S128x256, .i32⟩
  | 73 => ⟨S128x256, .i32⟩
  | 74 => ⟨S128x256, .i32⟩
  | 75 => ⟨S_, .i32⟩
  | 76 => ⟨S128x256, .i32⟩
  | 77 => ⟨S128x256, .i1⟩
  | 78 => ⟨S_, .i32⟩
  | 79 => ⟨S128x256, .i32⟩
  | 80 => ⟨S128x256, .i1⟩
  | 81 => ⟨S128x256, .i1⟩
  | 82 => ⟨S_, .i32⟩
  | 83 => ⟨S_, .i32⟩
  | 84 => ⟨S_, .i32⟩
  | 85 => ⟨S128x256, .i32⟩
  | 86 => ⟨S128x256, .i32⟩
  | 87 => ⟨S_, .i32⟩
  | 88 => ⟨S128x256, .i32⟩
  | 89 => ⟨S128x256, .i32⟩
  | 90 => ⟨S_, .i32⟩
  | 91 => ⟨S128x256, .i32⟩
  | 92 => ⟨S128x256, .i32⟩
  | 93 => ⟨S_, .i32⟩
  | 94 => ⟨S128x256, .i32⟩
  | 95 => ⟨S128x256, .i32⟩
  | 96 => ⟨S128x256, .f32⟩
  | 97 => ⟨S_, .f32⟩
  | 98 => ⟨S128x256, .f32⟩
  | 99 => ⟨S128x256, .f32⟩
  | 100 => ⟨S128x256, .f32⟩
  | 101 => ⟨S_, .f32⟩
  | 102 => ⟨S128x256, .f32⟩
  | 103 => ⟨S128x256, .f32⟩
  | 104 => ⟨S_, .f32⟩
  | 105 => ⟨S128x256, .f32⟩
  | 106 => ⟨S128x256, .f32⟩
  | 107 => ⟨S128x256, .i32⟩
  | 108 => ⟨S_, .i32⟩
  | 109 => ⟨S128x256, .i32⟩
  | 110 => ⟨S128x256, .i32⟩
  | 111 => ⟨S_, .i32⟩
  | 112 => ⟨S128x256, .i32⟩
  | 113 => ⟨S128x256, .i32⟩
  | 114 => ⟨S_, .i32⟩
  | 115 => ⟨S128x256, .i32⟩
  | 116 => ⟨S128x256, .i1⟩
  | 117 => ⟨S128x256, .i32⟩
  | 118 => ⟨S_, .i32⟩
  | 119 => ⟨S_, .i32⟩
  | 120 => ⟨S128x256, .i32⟩
  | 121 => ⟨S128x256, .i32⟩
  | 122 => ⟨S1x16x1024x6144, .bf16⟩
  | 123 => ⟨S1x16x1024x12288, .bf16⟩
  | 124 => ⟨S1x16x1024x12288, .bf16⟩
  | 125 => ⟨S1x16x1024x12288, .bf16⟩
  | 126 => ⟨S1x16x1024x12288, .bf16⟩
  | 127 => ⟨S1x16x1024x2048, .bf16⟩
  | _ => ⟨S16384x6144, .f32⟩

abbrev hbmTy0_1 (i : Nat) : BufTy := match i % 128 with
  | 0 => ⟨S1x16x1024x128, .f32⟩
  | _ => ⟨S16384x6144, .f32⟩

abbrev hbmTy (i : Nat) : BufTy := match i / 128 with
  | 0 => hbmTy0_0 i
  | 1 => hbmTy0_1 i
  | _ => ⟨S16384x6144, .f32⟩

abbrev bufTy : (tb : Table) → Fin (tcTables nBuf tb) → BufTy
  | .hbm, ⟨i, _⟩ => hbmTy i
  | .local _ .vmem, ⟨0, _⟩ => ⟨S128x256, .i32⟩
  | .local _ .vmem, ⟨1, _⟩ => ⟨S1x1x1024x2048, .bf16⟩
  | .local _ .vmem, ⟨2, _⟩ => ⟨S1x1x1024x2048, .bf16⟩
  | .local _ .vmem, ⟨3, _⟩ => ⟨S1x1x128x2048, .bf16⟩
  | .local _ .vmem, ⟨4, _⟩ => ⟨S1x1x128x2048, .bf16⟩
  | .local _ .vmem, ⟨5, _⟩ => ⟨S1x1x1024x2048, .bf16⟩
  | .local _ .vmem, ⟨6, _⟩ => ⟨S1x1x1024x2048, .bf16⟩
  | .local _ .vmem, ⟨7, _⟩ => ⟨S1x1x128x2048, .bf16⟩
  | .local _ .vmem, ⟨8, _⟩ => ⟨S1x1x128x2048, .bf16⟩
  | .local _ .vmem, ⟨9, _⟩ => ⟨S1x1x1024x2048, .bf16⟩
  | .local _ .vmem, ⟨10, _⟩ => ⟨S1x1x1024x2048, .bf16⟩
  | .local _ .vmem, ⟨11, _⟩ => ⟨S1x1x1024x2048, .bf16⟩
  | .local _ .vmem, ⟨12, _⟩ => ⟨S1x1x1024x2048, .bf16⟩
  | .local _ .vmem, ⟨13, _⟩ => ⟨S1x1x1024x128, .f32⟩
  | .local _ .vmem, ⟨14, _⟩ => ⟨S1x1x1024x128, .f32⟩
  | .local _ .vmem, ⟨15, _⟩ => ⟨S2x16x128x256, .f32⟩
  | .local _ .smem, ⟨0, _⟩ => ⟨S32x48, .f32⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_1 : Ref sig .tc := ⟨.hbm, 27, rfl⟩
abbrev main_call0_v5 : Ref sig .tc := ⟨.hbm, 28, rfl⟩
abbrev main_call0_v6 : Ref sig .tc := ⟨.hbm, 29, rfl⟩
abbrev main_call0_c_2 : Ref sig .tc := ⟨.hbm, 30, rfl⟩
abbrev main_call0_v7 : Ref sig .tc := ⟨.hbm, 31, rfl⟩
abbrev main_call0_v8 : Ref sig .tc := ⟨.hbm, 32, rfl⟩
abbrev main_call0_c_3 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_v14 : Ref sig .tc := ⟨.hbm, 40, rfl⟩
abbrev main_c_1 : Ref sig .tc := ⟨.hbm, 41, rfl⟩
abbrev main_v15 : Ref sig .tc := ⟨.hbm, 42, rfl⟩
abbrev main_v16 : Ref sig .tc := ⟨.hbm, 43, rfl⟩
abbrev main_c_2 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_c : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_0 : Ref sig .tc := ⟨.hbm, 58, rfl⟩
abbrev main_call1_v12 : Ref sig .tc := ⟨.hbm, 59, rfl⟩
abbrev main_call1_v13 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_c_3 : Ref sig .tc := ⟨.hbm, 64, rfl⟩
abbrev main_v20 : Ref sig .tc := ⟨.hbm, 65, rfl⟩
abbrev main_v21 : Ref sig .tc := ⟨.hbm, 66, rfl⟩
abbrev main_c_4 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_c_5 : Ref sig .tc := ⟨.hbm, 75, rfl⟩
abbrev main_v29 : Ref sig .tc := ⟨.hbm, 76, rfl⟩
abbrev main_v30 : Ref sig .tc := ⟨.hbm, 77, rfl⟩
abbrev main_c_6 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_c_7 : Ref sig .tc := ⟨.hbm, 82, rfl⟩
abbrev main_c_8 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_v34 : Ref sig .tc := ⟨.hbm, 89, rfl⟩
abbrev main_c_9 : Ref sig .tc := ⟨.hbm, 90, rfl⟩
abbrev main_v35 : Ref sig .tc := ⟨.hbm, 91, rfl⟩
abbrev main_v36 : Ref sig .tc := ⟨.hbm, 92, rfl⟩
abbrev main_c_10 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_cst_11 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_cst_12 : Ref sig .tc := ⟨.hbm, 101, rfl⟩
abbrev main_v43 : Ref sig .tc := ⟨.hbm, 102, rfl⟩
abbrev main_v44 : Ref sig .tc := ⟨.hbm, 103, rfl⟩
abbrev main_cst_13 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_c_14 : Ref sig .tc := ⟨.hbm, 108, rfl⟩
abbrev main_v48 : Ref sig .tc := ⟨.hbm, 109, rfl⟩
abbrev main_v49 : Ref sig .tc := ⟨.hbm, 110, rfl⟩
abbrev main_c_15 : Ref sig .tc := ⟨.hbm, 111, rfl⟩
abbrev main_v50 : Ref sig .tc := ⟨.hbm, 112, rfl⟩
abbrev main_v51 : Ref sig .tc := ⟨.hbm, 113, rfl⟩
abbrev main_c_16 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_c_17 : Ref sig .tc := ⟨.hbm, 118, rfl⟩
abbrev main_call4_v0 : Ref sig .tc := ⟨.hbm, 119, rfl⟩
abbrev main_call4_v1 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61_0 : Ref sig .tc := ⟨.hbm, 127, rfl⟩
abbrev main_v61_1 : Ref sig .tc := ⟨.hbm, 128, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_off1 (c0_i32_1477 : BitVec 32) : Fin 2 → Nat :=
  let c0_1480 : Index := 0#32
  let c32_i32 : BitVec 32 := 32#32
  let v4291 : BitVec 32 := Scalar.addi c32_i32 c0_i32_1477
  let v4292 : Index := Scalar.indexCast v4291
  ![0, v4292.toNat]
def k0_off2 (c0_i32_1477 : BitVec 32) : Fin 2 → Nat :=
  let c1_1484 : Index := 1#32
  let c32_i32_1483 : BitVec 32 := 32#32
  let v4299 : BitVec 32 := Scalar.addi c32_i32_1483 c0_i32_1477
  let v4300 : Index := Scalar.indexCast v4299
  ![1, v4300.toNat]
def k0_off3 (c0_i32_1477 : BitVec 32) : Fin 2 → Nat :=
  let c2_1488 : Index := 2#32
  let c32_i32_1487 : BitVec 32 := 32#32
  let v4307 : BitVec 32 := Scalar.addi c32_i32_1487 c0_i32_1477
  let v4308 : Index := Scalar.indexCast v4307
  ![2, v4308.toNat]
def k0_off4 (c0_i32_1477 : BitVec 32) : Fin 2 → Nat :=
  let c3_1492 : Index := 3#32
  let c32_i32_1491 : BitVec 32 := 32#32
  let v4315 : BitVec 32 := Scalar.addi c32_i32_1491 c0_i32_1477
  let v4316 : Index := Scalar.indexCast v4315
  ![3, v4316.toNat]
def k0_off5 (c0_i32_1477 : BitVec 32) : Fin 2 → Nat :=
  let c4_1496 : Index := 4#32
  let c32_i32_1495 : BitVec 32 := 32#32
  let v4323 : BitVec 32 := Scalar.addi c32_i32_1495 c0_i32_1477
  let v4324 : Index := Scalar.indexCast v4323
  ![4, v4324.toNat]
def k0_off6 (c0_i32_1477 : BitVec 32) : Fin 2 → Nat :=
  let c5_1500 : Index := 5#32
  let c32_i32_1499 : BitVec 32 := 32#32
  let v4331 : BitVec 32 := Scalar.addi c32_i32_1499 c0_i32_1477
  let v4332 : Index := Scalar.indexCast v4331
  ![5, v4332.toNat]
def k0_off7 (c0_i32_1477 : BitVec 32) : Fin 2 → Nat :=
  let c6_1504 : Index := 6#32
  let c32_i32_1503 : BitVec 32 := 32#32
  let v4339 : BitVec 32 := Scalar.addi c32_i32_1503 c0_i32_1477
  let v4340 : Index := Scalar.indexCast v4339
  ![6, v4340.toNat]
def k0_off8 (c0_i32_1477 : BitVec 32) : Fin 2 → Nat :=
  let c7_1508 : Index := 7#32
  let c32_i32_1507 : BitVec 32 := 32#32
  let v4347 : BitVec 32 := Scalar.addi c32_i32_1507 c0_i32_1477
  let v4348 : Index := Scalar.indexCast v4347
  ![7, v4348.toNat]
def k0_off9 (c0_i32_1477 : BitVec 32) : Fin 2 → Nat :=
  let c8_1512 : Index := 8#32
  let c32_i32_1511 : BitVec 32 := 32#32
  let v4355 : BitVec 32 := Scalar.addi c32_i32_1511 c0_i32_1477
  let v4356 : Index := Scalar.indexCast v4355
  ![8, v4356.toNat]
def k0_off10 (c0_i32_1477 : BitVec 32) : Fin 2 → Nat :=
  let c9_1516 : Index := 9#32
  let c32_i32_1515 : BitVec 32 := 32#32
  let v4363 : BitVec 32 := Scalar.addi c32_i32_1515 c0_i32_1477
  let v4364 : Index := Scalar.indexCast v4363
  ![9, v4364.toNat]
def k0_off11 (c0_i32_1477 : BitVec 32) : Fin 2 → Nat :=
  let c10_1520 : Index := 10#32
  let c32_i32_1519 : BitVec 32 := 32#32
  let v4371 : BitVec 32 := Scalar.addi c32_i32_1519 c0_i32_1477
  let v4372 : Index := Scalar.indexCast v4371
  ![10, v4372.toNat]
def k0_off12 (c0_i32_1477 : BitVec 32) : Fin 2 → Nat :=
  let c11_1524 : Index := 11#32
  let c32_i32_1523 : BitVec 32 := 32#32
  let v4379 : BitVec 32 := Scalar.addi c32_i32_1523 c0_i32_1477
  let v4380 : Index := Scalar.indexCast v4379
  ![11, v4380.toNat]
def k0_off13 (c0_i32_1477 : BitVec 32) : Fin 2 → Nat :=
  let c12_1528 : Index := 12#32
  let c32_i32_1527 : BitVec 32 := 32#32
  let v4387 : BitVec 32 := Scalar.addi c32_i32_1527 c0_i32_1477
  let v4388 : Index := Scalar.indexCast v4387
  ![12, v4388.toNat]
def k0_off14 (c0_i32_1477 : BitVec 32) : Fin 2 → Nat :=
  let c13_1532 : Index := 13#32
  let c32_i32_1531 : BitVec 32 := 32#32
  let v4395 : BitVec 32 := Scalar.addi c32_i32_1531 c0_i32_1477
  let v4396 : Index := Scalar.indexCast v4395
  ![13, v4396.toNat]
def k0_off15 (c0_i32_1477 : BitVec 32) : Fin 2 → Nat :=
  let c14_1536 : Index := 14#32
  let c32_i32_1535 : BitVec 32 := 32#32
  let v4403 : BitVec 32 := Scalar.addi c32_i32_1535 c0_i32_1477
  let v4404 : Index := Scalar.indexCast v4403
  ![14, v4404.toNat]
def k0_off16 (c0_i32_1477 : BitVec 32) : Fin 2 → Nat :=
  let c15_1540 : Index := 15#32
  let c32_i32_1539 : BitVec 32 := 32#32
  let v4411 : BitVec 32 := Scalar.addi c32_i32_1539 c0_i32_1477
  let v4412 : Index := Scalar.indexCast v4411
  ![15, v4412.toNat]
def k0_off17 (c0_i32_1477 : BitVec 32) : Fin 2 → Nat :=
  let c16 : Index := 16#32
  let c32_i32_1543 : BitVec 32 := 32#32
  let v4419 : BitVec 32 := Scalar.addi c32_i32_1543 c0_i32_1477
  let v4420 : Index := Scalar.indexCast v4419
  ![16, v4420.toNat]
def k0_off18 (c0_i32_1477 : BitVec 32) : Fin 2 → Nat :=
  let c17 : Index := 17#32
  let c32_i32_1546 : BitVec 32 := 32#32
  let v4427 : BitVec 32 := Scalar.addi c32_i32_1546 c0_i32_1477
  let v4428 : Index := Scalar.indexCast v4427
  ![17, v4428.toNat]
def k0_off19 (c0_i32_1477 : BitVec 32) : Fin 2 → Nat :=
  let c18 : Index := 18#32
  let c32_i32_1549 : BitVec 32 := 32#32
  let v4435 : BitVec 32 := Scalar.addi c32_i32_1549 c0_i32_1477
  let v4436 : Index := Scalar.indexCast v4435
  ![18, v4436.toNat]
def k0_off20 (c0_i32_1477 : BitVec 32) : Fin 2 → Nat :=
  let c19 : Index := 19#32
  let c32_i32_1552 : BitVec 32 := 32#32
  let v4443 : BitVec 32 := Scalar.addi c32_i32_1552 c0_i32_1477
  let v4444 : Index := Scalar.indexCast v4443
  ![19, v4444.toNat]
def k0_off21 (c0_i32_1477 : BitVec 32) : Fin 2 → Nat :=
  let c20 : Index := 20#32
  let c32_i32_1555 : BitVec 32 := 32#32
  let v4451 : BitVec 32 := Scalar.addi c32_i32_1555 c0_i32_1477
  let v4452 : Index := Scalar.indexCast v4451
  ![20, v4452.toNat]
def k0_off22 (c0_i32_1477 : BitVec 32) : Fin 2 → Nat :=
  let c21 : Index := 21#32
  let c32_i32_1558 : BitVec 32 := 32#32
  let v4459 : BitVec 32 := Scalar.addi c32_i32_1558 c0_i32_1477
  let v4460 : Index := Scalar.indexCast v4459
  ![21, v4460.toNat]
def k0_off23 (c0_i32_1477 : BitVec 32) : Fin 2 → Nat :=
  let c22 : Index := 22#32
  let c32_i32_1561 : BitVec 32 := 32#32
  let v4467 : BitVec 32 := Scalar.addi c32_i32_1561 c0_i32_1477
  let v4468 : Index := Scalar.indexCast v4467
  ![22, v4468.toNat]
def k0_off24 (c0_i32_1477 : BitVec 32) : Fin 2 → Nat :=
  let c23 : Index := 23#32
  let c32_i32_1564 : BitVec 32 := 32#32
  let v4475 : BitVec 32 := Scalar.addi c32_i32_1564 c0_i32_1477
  let v4476 : Index := Scalar.indexCast v4475
  ![23, v4476.toNat]
def k0_off25 (c0_i32_1477 : BitVec 32) : Fin 2 → Nat :=
  let c24 : Index := 24#32
  let c32_i32_1567 : BitVec 32 := 32#32
  let v4483 : BitVec 32 := Scalar.addi c32_i32_1567 c0_i32_1477
  let v4484 : Index := Scalar.indexCast v4483
  ![24, v4484.toNat]
def k0_off26 (c0_i32_1477 : BitVec 32) : Fin 2 → Nat :=
  let c25 : Index := 25#32
  let c32_i32_1570 : BitVec 32 := 32#32
  let v4491 : BitVec 32 := Scalar.addi c32_i32_1570 c0_i32_1477
  let v4492 : Index := Scalar.indexCast v4491
  ![25, v4492.toNat]
def k0_off27 (c0_i32_1477 : BitVec 32) : Fin 2 → Nat :=
  let c26 : Index := 26#32
  let c32_i32_1573 : BitVec 32 := 32#32
  let v4499 : BitVec 32 := Scalar.addi c32_i32_1573 c0_i32_1477
  let v4500 : Index := Scalar.indexCast v4499
  ![26, v4500.toNat]
def k0_off28 (c0_i32_1477 : BitVec 32) : Fin 2 → Nat :=
  let c27 : Index := 27#32
  let c32_i32_1576 : BitVec 32 := 32#32
  let v4507 : BitVec 32 := Scalar.addi c32_i32_1576 c0_i32_1477
  let v4508 : Index := Scalar.indexCast v4507
  ![27, v4508.toNat]
def k0_off29 (c0_i32_1477 : BitVec 32) : Fin 2 → Nat :=
  let c28 : Index := 28#32
  let c32_i32_1579 : BitVec 32 := 32#32
  let v4515 : BitVec 32 := Scalar.addi c32_i32_1579 c0_i32_1477
  let v4516 : Index := Scalar.indexCast v4515
  ![28, v4516.toNat]
def k0_off30 (c0_i32_1477 : BitVec 32) : Fin 2 → Nat :=
  let c29 : Index := 29#32
  let c32_i32_1582 : BitVec 32 := 32#32
  let v4523 : BitVec 32 := Scalar.addi c32_i32_1582 c0_i32_1477
  let v4524 : Index := Scalar.indexCast v4523
  ![29, v4524.toNat]
def k0_off31 (c0_i32_1477 : BitVec 32) : Fin 2 → Nat :=
  let c30 : Index := 30#32
  let c32_i32_1585 : BitVec 32 := 32#32
  let v4531 : BitVec 32 := Scalar.addi c32_i32_1585 c0_i32_1477
  let v4532 : Index := Scalar.indexCast v4531
  ![30, v4532.toNat]
def k0_off32 (c0_i32_1477 : BitVec 32) : Fin 2 → Nat :=
  let c31 : Index := 31#32
  let c32_i32_1588 : BitVec 32 := 32#32
  let v4539 : BitVec 32 := Scalar.addi c32_i32_1588 c0_i32_1477
  let v4540 : Index := Scalar.indexCast v4539
  ![31, v4540.toNat]
def k0_off33 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v80 : Index := Scalar.indexCast v6
  let c0_32 : Index := 0#32
  let c0_33 : Index := 0#32
  let c0_34 : Index := 0#32
  ![v80.toNat, 0, 0, 0]
def k0_off34 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v346 : Index := Scalar.indexCast v6
  let c1 : Index := 1#32
  let c0_125 : Index := 0#32
  let c0_126 : Index := 0#32
  ![v346.toNat, 1, 0, 0]
def k0_off35 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v612 : Index := Scalar.indexCast v6
  let c2 : Index := 2#32
  let c0_217 : Index := 0#32
  let c0_218 : Index := 0#32
  ![v612.toNat, 2, 0, 0]
def k0_off36 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v878 : Index := Scalar.indexCast v6
  let c3 : Index := 3#32
  let c0_308 : Index := 0#32
  let c0_309 : Index := 0#32
  ![v878.toNat, 3, 0, 0]
def k0_off37 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v1144 : Index := Scalar.indexCast v6
  let c4 : Index := 4#32
  let c0_399 : Index := 0#32
  let c0_400 : Index := 0#32
  ![v1144.toNat, 4, 0, 0]
def k0_off38 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v1410 : Index := Scalar.indexCast v6
  let c5 : Index := 5#32
  let c0_490 : Index := 0#32
  let c0_491 : Index := 0#32
  ![v1410.toNat, 5, 0, 0]
def k0_off39 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v1676 : Index := Scalar.indexCast v6
  let c6 : Index := 6#32
  let c0_581 : Index := 0#32
  let c0_582 : Index := 0#32
  ![v1676.toNat, 6, 0, 0]
def k0_off40 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v1942 : Index := Scalar.indexCast v6
  let c7 : Index := 7#32
  let c0_672 : Index := 0#32
  let c0_673 : Index := 0#32
  ![v1942.toNat, 7, 0, 0]
def k0_off41 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v2208 : Index := Scalar.indexCast v6
  let c8 : Index := 8#32
  let c0_763 : Index := 0#32
  let c0_764 : Index := 0#32
  ![v2208.toNat, 8, 0, 0]
def k0_off42 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v2474 : Index := Scalar.indexCast v6
  let c9 : Index := 9#32
  let c0_854 : Index := 0#32
  let c0_855 : Index := 0#32
  ![v2474.toNat, 9, 0, 0]
def k0_off43 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v2740 : Index := Scalar.indexCast v6
  let c10 : Index := 10#32
  let c0_945 : Index := 0#32
  let c0_946 : Index := 0#32
  ![v2740.toNat, 10, 0, 0]
def k0_off44 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v3006 : Index := Scalar.indexCast v6
  let c11 : Index := 11#32
  let c0_1036 : Index := 0#32
  let c0_1037 : Index := 0#32
  ![v3006.toNat, 11, 0, 0]
def k0_off45 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v3272 : Index := Scalar.indexCast v6
  let c12 : Index := 12#32
  let c0_1127 : Index := 0#32
  let c0_1128 : Index := 0#32
  ![v3272.toNat, 12, 0, 0]
def k0_off46 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v3538 : Index := Scalar.indexCast v6
  let c13 : Index := 13#32
  let c0_1218 : Index := 0#32
  let c0_1219 : Index := 0#32
  ![v3538.toNat, 13, 0, 0]
def k0_off47 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v3804 : Index := Scalar.indexCast v6
  let c14 : Index := 14#32
  let c0_1309 : Index := 0#32
  let c0_1310 : Index := 0#32
  ![v3804.toNat, 14, 0, 0]
def k0_off48 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v4070 : Index := Scalar.indexCast v6
  let c15 : Index := 15#32
  let c0_1400 : Index := 0#32
  let c0_1401 : Index := 0#32
  ![v4070.toNat, 15, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, arg0.toNat, arg1.toNat, c2_i32.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c2_i32 : BitVec 32 := 2#32
  let c0_i32_1 : BitVec 32 := 0#32
  ![c0_i32_0.toNat, arg0.toNat, v2.toNat, c2_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, arg0.toNat, arg1.toNat, c2_i32.toNat]

def cc0_transform_5 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c5_i32 : BitVec 32 := 5#32
  let c0_i32_1 : BitVec 32 := 0#32
  ![c0_i32_0.toNat, arg0.toNat, v2.toNat, c5_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![c0_i32.toNat, arg0.toNat, arg1.toNat, c5_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 1 → Memref sig .tc .smem S32x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel6Ideal.lean ====
variable {F : FTy → Type} [FloatOps F] [Named F]
def κ : String → Option EReal := fun
  | "log2e" => some (((Real.log 2)⁻¹ : ℝ) : EReal)
  | "mask" => some ⊥
  | _ => none
-- ==== Reference6Ideal.lean ====
abbrev S16384x6144 : Shape := ⟨2, ![16384, 6144]⟩
abbrev S16384x12288 : Shape := ⟨2, ![16384, 12288]⟩
abbrev S32x48 : Shape := ⟨2, ![32, 48]⟩
abbrev S16384x3x16x128 : Shape := ⟨4, ![16384, 3, 16, 128]⟩
abbrev S16384x1x16x128 : Shape := ⟨4, ![16384, 1, 16, 128]⟩
abbrev S16384x16x128 : Shape := ⟨3, ![16384, 16, 128]⟩
abbrev S16384x2x3x16x128 : Shape := ⟨5, ![16384, 2, 3, 16, 128]⟩
abbrev S16384x1x1x16x128 : Shape := ⟨5, ![16384, 1, 1, 16, 128]⟩
abbrev S32x16 : Shape := ⟨2, ![32, 16]⟩
abbrev S1024x16x16x128 : Shape := ⟨4, ![1024, 16, 16, 128]⟩
abbrev S16x1024x16x128 : Shape := ⟨4, ![16, 1024, 16, 128]⟩
abbrev S16x8x128x16x128 : Shape := ⟨5, ![16, 8, 128, 16, 128]⟩
abbrev S_ : Shape := ⟨0, ![]⟩
abbrev S16x9x128x16x128 : Shape := ⟨5, ![16, 9, 128, 16, 128]⟩
abbrev S16x8x256x16x128 : Shape := ⟨5, ![16, 8, 256, 16, 128]⟩
abbrev S16x8x16x128x256 : Shape := ⟨5, ![16, 8, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S1 : Shape := ⟨1, ![1]⟩
abbrev S1x1x1 : Shape := ⟨3, ![1, 1, 1]⟩
abbrev S128x256x16 : Shape := ⟨3, ![128, 256, 16]⟩
abbrev S16x128x256 : Shape := ⟨3, ![16, 128, 256]⟩
abbrev S8 : Shape := ⟨1, ![8]⟩
abbrev S8x1 : Shape := ⟨2, ![8, 1]⟩
abbrev S8x256 : Shape := ⟨2, ![8, 256]⟩
abbrev S1x128x256 : Shape := ⟨3, ![1, 128, 256]⟩
abbrev S8x1x256 : Shape := ⟨3, ![8, 1, 256]⟩
abbrev S8x128x256 : Shape := ⟨3, ![8, 128, 256]⟩
abbrev S1x8x1x128x256 : Shape := ⟨5, ![1, 8, 1, 128, 256]⟩
abbrev S1x1x16x128x256 : Shape := ⟨5, ![1, 1, 16, 128, 256]⟩
abbrev S16x8x16x128 : Shape := ⟨4, ![16, 8, 16, 128]⟩
abbrev S16x8x16x128x1 : Shape := ⟨5, ![16, 8, 16, 128, 1]⟩
abbrev S16x8x16x128x128 : Shape := ⟨5, ![16, 8, 16, 128, 128]⟩
abbrev S16x8x128x16 : Shape := ⟨4, ![16, 8, 128, 16]⟩
abbrev S16x8x128x96 : Shape := ⟨4, ![16, 8, 128, 96]⟩
abbrev S16x8x128x128 : Shape := ⟨4, ![16, 8, 128, 128]⟩
abbrev S1x16x1024x2048 : Shape := ⟨4, ![1, 16, 1024, 2048]⟩
abbrev S1x16x1024x128 : Shape := ⟨4, ![1, 16, 1024, 128]⟩

abbrev nBuf : Space → Nat
  | .hbm => 162
  | .vmem => 0
  | .smem => 0
  | _ => 0

abbrev hbmTy0_0 (i : Nat) : BufTy := match i % 128 with
  | 0 => ⟨S16384x6144, .f32⟩
  | 1 => ⟨S16384x12288, .f32⟩
  | 2 => ⟨S32x48, .f32⟩
  | 3 => ⟨S16384x3x16x128, .f32⟩
  | 4 => ⟨S16384x1x16x128, .f32⟩
  | 5 => ⟨S16384x16x128, .f32⟩
  | 6 => ⟨S16384x2x3x16x128, .f32⟩
  | 7 => ⟨S16384x1x1x16x128, .f32⟩
  | 8 => ⟨S16384x16x128, .f32⟩
  | 9 => ⟨S16384x1x1x16x128, .f32⟩
  | 10 => ⟨S16384x16x128, .f32⟩
  | 11 => ⟨S32x16, .f32⟩
  | 12 => ⟨S1024x16x16x128, .f32⟩
  | 13 => ⟨S16x1024x16x128, .f32⟩
  | 14 => ⟨S16x8x128x16x128, .f32⟩
  | 15 => ⟨S1024x16x16x128, .f32⟩
  | 16 => ⟨S16x1024x16x128, .f32⟩
  | 17 => ⟨S16x8x128x16x128, .f32⟩
  | 18 => ⟨S_, .i32⟩
  | 19 => ⟨S_, .f32⟩
  | 20 => ⟨S16x9x128x16x128, .f32⟩
  | 21 => ⟨S16x8x128x16x128, .f32⟩
  | 22 => ⟨S16x8x256x16x128, .f32⟩
  | 23 => ⟨S1024x16x16x128, .f32⟩
  | 24 => ⟨S16x1024x16x128, .f32⟩
  | 25 => ⟨S16x8x128x16x128, .f32⟩
  | 26 => ⟨S_, .i32⟩
  | 27 => ⟨S_, .f32⟩
  | 28 => ⟨S16x9x128x16x128, .f32⟩
  | 29 => ⟨S16x8x128x16x128, .f32⟩
  | 30 => ⟨S16x8x256x16x128, .f32⟩
  | 31 => ⟨S16x8x16x128x256, .f32⟩
  | 32 => ⟨S_, .f32⟩
  | 33 => ⟨S16x8x16x128x256, .f32⟩
  | 34 => ⟨S16x8x16x128x256, .f32⟩
  | 35 => ⟨S128, .i32⟩
  | 36 => ⟨S128x1, .i32⟩
  | 37 => ⟨S256, .i32⟩
  | 38 => ⟨S1x256, .i32⟩
  | 39 => ⟨S_, .i32⟩
  | 40 => ⟨S128x1, .i32⟩
  | 41 => ⟨S128x1, .i32⟩
  | 42 => ⟨S128x256, .i32⟩
  | 43 => ⟨S128x256, .i32⟩
  | 44 => ⟨S128x256, .i32⟩
  | 45 => ⟨S_, .i32⟩
  | 46 => ⟨S128x256, .i32⟩
  | 47 => ⟨S128x256, .i1⟩
  | 48 => ⟨S_, .i32⟩
  | 49 => ⟨S128x256, .i32⟩
  | 50 => ⟨S128x256, .i1⟩
  | 51 => ⟨S128x256, .i1⟩
  | 52 => ⟨S_, .i32⟩
  | 53 => ⟨S_, .i32⟩
  | 54 => ⟨S_, .i32⟩
  | 55 => ⟨S128x256, .i32⟩
  | 56 => ⟨S128x256, .i32⟩
  | 57 => ⟨S_, .i32⟩
  | 58 => ⟨S128x256, .i32⟩
  | 59 => ⟨S128x256, .i32⟩
  | 60 => ⟨S_, .i32⟩
  | 61 => ⟨S128x256, .i32⟩
  | 62 => ⟨S128x256, .i32⟩
  | 63 => ⟨S_, .i32⟩
  | 64 => ⟨S128x256, .i32⟩
  | 65 => ⟨S128x256, .i32⟩
  | 66 => ⟨S128x256, .f32⟩
  | 67 => ⟨S_, .f32⟩
  | 68 => ⟨S128x256, .f32⟩
  | 69 => ⟨S128x256, .f32⟩
  | 70 => ⟨S128x256, .f32⟩
  | 71 => ⟨S_, .f32⟩
  | 72 => ⟨S128x256, .f32⟩
  | 73 => ⟨S128x256, .f32⟩
  | 74 => ⟨S_, .f32⟩
  | 75 => ⟨S128x256, .f32⟩
  | 76 => ⟨S128x256, .f32⟩
  | 77 => ⟨S128x256, .i32⟩
  | 78 => ⟨S_, .i32⟩
  | 79 => ⟨S128x256, .i32⟩
  | 80 => ⟨S128x256, .i32⟩
  | 81 => ⟨S_, .i32⟩
  | 82 => ⟨S128x256, .i32⟩
  | 83 => ⟨S128x256, .i32⟩
  | 84 => ⟨S_, .i32⟩
  | 85 => ⟨S128x256, .i32⟩
  | 86 => ⟨S128x256, .i1⟩
  | 87 => ⟨S128x256, .i32⟩
  | 88 => ⟨S_, .i32⟩
  | 89 => ⟨S128x256, .i32⟩
  | 90 => ⟨S128x256, .i1⟩
  | 91 => ⟨S_, .i32⟩
  | 92 => ⟨S128x256, .i32⟩
  | 93 => ⟨S128x256, .i32⟩
  | 94 => ⟨S128x256, .i32⟩
  | 95 => ⟨S128x256x1, .i32⟩
  | 96 => ⟨S1, .i32⟩
  | 97 => ⟨S_, .i32⟩
  | 98 => ⟨S128x256x1, .i32⟩
  | 99 => ⟨S128x256x1, .i1⟩
  | 100 => ⟨S1x1x1, .i32⟩
  | 101 => ⟨S128x256x1, .i32⟩
  | 102 => ⟨S128x256x1, .i1⟩
  | 103 => ⟨S128x256x1, .i1⟩
  | 104 => ⟨S_, .i1⟩
  | 105 => ⟨S128x256, .i1⟩
  | 106 => ⟨S128x256x16, .f32⟩
  | 107 => ⟨S128x256x16, .i1⟩
  | 108 => ⟨S_, .f32⟩
  | 109 => ⟨S128x256x16, .f32⟩
  | 110 => ⟨S128x256x16, .f32⟩
  | 111 => ⟨S16x128x256, .f32⟩
  | 112 => ⟨S8, .i32⟩
  | 113 => ⟨S8x1, .i32⟩
  | 114 => ⟨S_, .i32⟩
  | 115 => ⟨S8x1, .i32⟩
  | 116 => ⟨S8x1, .i32⟩
  | 117 => ⟨S_, .i32⟩
  | 118 => ⟨S8x1, .i32⟩
  | 119 => ⟨S8x1, .i32⟩
  | 120 => ⟨S8x256, .i32⟩
  | 121 => ⟨S8x256, .i32⟩
  | 122 => ⟨S8x256, .i32⟩
  | 123 => ⟨S1x128x256, .i1⟩
  | 124 => ⟨S_, .i32⟩
  | 125 => ⟨S8x256, .i32⟩
  | 126 => ⟨S8x256, .i1⟩
  | 127 => ⟨S8x1x256, .i1⟩
  | _ => ⟨S16384x6144, .f32⟩

abbrev hbmTy0_1 (i : Nat) : BufTy := match i % 128 with
  | 0 => ⟨S8x128x256, .i1⟩
  | 1 => ⟨S8x128x256, .i1⟩
  | 2 => ⟨S8x128x256, .i1⟩
  | 3 => ⟨S1x8x1x128x256, .i1⟩
  | 4 => ⟨S1x1x16x128x256, .f32⟩
  | 5 => ⟨S16x8x16x128x256, .f32⟩
  | 6 => ⟨S16x8x16x128x256, .f32⟩
  | 7 => ⟨S_, .f32⟩
  | 8 => ⟨S_, .f32⟩
  | 9 => ⟨S16x8x16x128x256, .i1⟩
  | 10 => ⟨S16x8x16x128x256, .f32⟩
  | 11 => ⟨S16x8x16x128x256, .f32⟩
  | 12 => ⟨S_, .f32⟩
  | 13 => ⟨S16x8x16x128, .f32⟩
  | 14 => ⟨S16x8x16x128x1, .f32⟩
  | 15 => ⟨S16x8x16x128x256, .f32⟩
  | 16 => ⟨S16x8x16x128x256, .f32⟩
  | 17 => ⟨S16x8x16x128x256, .f32⟩
  | 18 => ⟨S_, .f32⟩
  | 19 => ⟨S16x8x16x128, .f32⟩
  | 20 => ⟨S16x8x16x128x128, .f32⟩
  | 21 => ⟨S16x8x128x16x128, .f32⟩
  | 22 => ⟨S16x8x128x16, .f32⟩
  | 23 => ⟨S_, .f32⟩
  | 24 => ⟨S_, .f32⟩
  | 25 => ⟨S16x8x128x16, .f32⟩
  | 26 => ⟨S16x8x128x16, .f32⟩
  | 27 => ⟨S16x8x128x16, .f32⟩
  | 28 => ⟨S_, .f32⟩
  | 29 => ⟨S16x8x128x96, .f32⟩
  | 30 => ⟨S16x8x128x128, .f32⟩
  | 31 => ⟨S1x16x1024x2048, .f32⟩
  | 32 => ⟨S1x16x1024x2048, .bf16⟩
  | 33 => ⟨S1x16x1024x128, .f32⟩
  | _ => ⟨S16384x6144, .f32⟩

abbrev hbmTy (i : Nat) : BufTy := match i / 128 with
  | 0 => hbmTy0_0 i
  | 1 => hbmTy0_1 i
  | _ => ⟨S16384x6144, .f32⟩

abbrev bufTy : (tb : Table) → Fin (tcTables nBuf tb) → BufTy
  | .hbm, ⟨i, _⟩ => hbmTy i
  | _, _ => ⟨S16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_call0_v0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_0 : Ref sig .tc := ⟨.hbm, 26, rfl⟩
abbrev main_call1_v0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_1 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_2 : Ref sig .tc := ⟨.hbm, 45, rfl⟩
abbrev main_v36 : Ref sig .tc := ⟨.hbm, 46, rfl⟩
abbrev main_v37 : Ref sig .tc := ⟨.hbm, 47, rfl⟩
abbrev main_c_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_4 : Ref sig .tc := ⟨.hbm, 52, rfl⟩
abbrev main_c_5 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_v41 : Ref sig .tc := ⟨.hbm, 59, rfl⟩
abbrev main_c_6 : Ref sig .tc := ⟨.hbm, 60, rfl⟩
abbrev main_v42 : Ref sig .tc := ⟨.hbm, 61, rfl⟩
abbrev main_v43 : Ref sig .tc := ⟨.hbm, 62, rfl⟩
abbrev main_c_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_11 : Ref sig .tc := ⟨.hbm, 78, rfl⟩
abbrev main_v55 : Ref sig .tc := ⟨.hbm, 79, rfl⟩
abbrev main_v56 : Ref sig .tc := ⟨.hbm, 80, rfl⟩
abbrev main_c_12 : Ref sig .tc := ⟨.hbm, 81, rfl⟩
abbrev main_v57 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call4_c : Ref sig .tc := ⟨.hbm, 88, rfl⟩
abbrev main_call4_v0 : Ref sig .tc := ⟨.hbm, 89, rfl⟩
abbrev main_call4_v1 : Ref sig .tc := ⟨.hbm, 90, rfl⟩
abbrev main_call4_c_0 : Ref sig .tc := ⟨.hbm, 91, rfl⟩
abbrev main_call4_v2 : Ref sig .tc := ⟨.hbm, 92, rfl⟩
abbrev main_call4_v3 : Ref sig .tc := ⟨.hbm, 93, rfl⟩
abbrev main_call4_v4 : Ref sig .tc := ⟨.hbm, 94, rfl⟩
abbrev main_call4_v5 : Ref sig .tc := ⟨.hbm, 95, rfl⟩
abbrev main_call4_c_1 : Ref sig .tc := ⟨.hbm, 96, rfl⟩
abbrev main_call4_c_2 : Ref sig .tc := ⟨.hbm, 97, rfl⟩
abbrev main_call4_v6 : Ref sig .tc := ⟨.hbm, 98, rfl⟩
abbrev main_call4_v7 : Ref sig .tc := ⟨.hbm, 99, rfl⟩
abbrev main_call4_v8 : Ref sig .tc := ⟨.hbm, 100, rfl⟩
abbrev main_call4_v9 : Ref sig .tc := ⟨.hbm, 101, rfl⟩
abbrev main_call4_v10 : Ref sig .tc := ⟨.hbm, 102, rfl⟩
abbrev main_call4_v11 : Ref sig .tc := ⟨.hbm, 103, rfl⟩
abbrev main_call4_c_3 : Ref sig .tc := ⟨.hbm, 104, rfl⟩
abbrev main_call4_v12 : Ref sig .tc := ⟨.hbm, 105, rfl⟩
abbrev main_call4_v13 : Ref sig .tc := ⟨.hbm, 106, rfl⟩
abbrev main_call4_v14 : Ref sig .tc := ⟨.hbm, 107, rfl⟩
abbrev main_call4_cst : Ref sig .tc := ⟨.hbm, 108, rfl⟩
abbrev main_call4_v15 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_c_14 : Ref sig .tc := ⟨.hbm, 114, rfl⟩
abbrev main_v66 : Ref sig .tc := ⟨.hbm, 115, rfl⟩
abbrev main_v67 : Ref sig .tc := ⟨.hbm, 116, rfl⟩
abbrev main_c_15 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_c_16 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_cst_17 : Ref sig .tc := ⟨.hbm, 135, rfl⟩
abbrev main_call5_v0 : Ref sig .tc := ⟨.hbm, 136, rfl⟩
abbrev main_call5_v1 : Ref sig .tc := ⟨.hbm, 137, rfl⟩
abbrev main_call5_v2 : Ref sig .tc := ⟨.hbm, 138, rfl⟩
abbrev main_v84 : Ref sig .tc := ⟨.hbm, 139, rfl⟩
abbrev main_cst_18 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_cst_19 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_cst_20 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_cst_21 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩

abbrev nD : Nat := 1
abbrev τ : Topo := Topo.v7x

variable {F : FTy → Type} [FloatOps F]
-- ==== Kernel7.lean ====
abbrev S16384x2048 : Shape := ⟨2, ![16384, 2048]⟩
abbrev S16x1024x2048 : Shape := ⟨3, ![16, 1024, 2048]⟩
abbrev S512x2048 : Shape := ⟨2, ![512, 2048]⟩
abbrev S16x32x2048 : Shape := ⟨3, ![16, 32, 2048]⟩
abbrev S32x16x2048 : Shape := ⟨3, ![32, 16, 2048]⟩

abbrev nBuf : Space → Nat
  | .hbm => 2
  | .vmem => 4
  | .smem => 0
  | _ => 0

abbrev bufTy : (tb : Table) → Fin (tcTables nBuf tb) → BufTy
  | .hbm, ⟨0, _⟩ => ⟨S16384x2048, .f32⟩
  | .hbm, ⟨1, _⟩ => ⟨S16x1024x2048, .f32⟩
  | .local _ .vmem, ⟨0, _⟩ => ⟨S512x2048, .f32⟩
  | .local _ .vmem, ⟨1, _⟩ => ⟨S512x2048, .f32⟩
  | .local _ .vmem, ⟨2, _⟩ => ⟨S16x32x2048, .f32⟩
  | .local _ .vmem, ⟨3, _⟩ => ⟨S16x32x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference7Ideal.lean ====
abbrev S16384x2048 : Shape := ⟨2, ![16384, 2048]⟩
abbrev S1024x16x2048 : Shape := ⟨3, ![1024, 16, 2048]⟩
abbrev S16x1024x2048 : Shape := ⟨3, ![16, 1024, 2048]⟩

abbrev nBuf : Space → Nat
  | .hbm => 3
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1024x16x2048, .f32⟩
  | .hbm, ⟨2, _⟩ => ⟨S16x1024x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Kernel8.lean ====
abbrev S16384x2048 : Shape := ⟨2, ![16384, 2048]⟩
abbrev S16x1024x2048 : Shape := ⟨3, ![16, 1024, 2048]⟩
abbrev S16x32x2048 : Shape := ⟨3, ![16, 32, 2048]⟩
abbrev S512x2048 : Shape := ⟨2, ![512, 2048]⟩
abbrev S32x16x2048 : Shape := ⟨3, ![32, 16, 2048]⟩

abbrev nBuf : Space → Nat
  | .hbm => 3
  | .vmem => 4
  | .smem => 0
  | _ => 0

abbrev bufTy : (tb : Table) → Fin (tcTables nBuf tb) → BufTy
  | .hbm, ⟨0, _⟩ => ⟨S16384x2048, .f32⟩
  | .hbm, ⟨1, _⟩ => ⟨S16x1024x2048, .f32⟩
  | .hbm, ⟨2, _⟩ => ⟨S16384x2048, .f32⟩
  | .local _ .vmem, ⟨0, _⟩ => ⟨S16x32x2048, .f32⟩
  | .local _ .vmem, ⟨1, _⟩ => ⟨S16x32x2048, .f32⟩
  | .local _ .vmem, ⟨2, _⟩ => ⟨S512x2048, .f32⟩
  | .local _ .vmem, ⟨3, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference8Ideal.lean ====
abbrev S16384x2048 : Shape := ⟨2, ![16384, 2048]⟩
abbrev S16x1024x2048 : Shape := ⟨3, ![16, 1024, 2048]⟩
abbrev S1024x16x2048 : Shape := ⟨3, ![1024, 16, 2048]⟩

abbrev nBuf : Space → Nat
  | .hbm => 4
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16x1024x2048, .f32⟩
  | .hbm, ⟨2, _⟩ => ⟨S1024x16x2048, .f32⟩
  | .hbm, ⟨3, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Kernel9.lean ====
abbrev S16384x6144 : Shape := ⟨2, ![16384, 6144]⟩
abbrev S16384x12288 : Shape := ⟨2, ![16384, 12288]⟩
abbrev S32x48 : Shape := ⟨2, ![32, 48]⟩
abbrev S1024x16x6144 : Shape := ⟨3, ![1024, 16, 6144]⟩
abbrev S16x1024x6144 : Shape := ⟨3, ![16, 1024, 6144]⟩
abbrev S_ : Shape := ⟨0, ![]⟩
abbrev S1024x16x12288 : Shape := ⟨3, ![1024, 16, 12288]⟩
abbrev S16x1024x12288 : Shape := ⟨3, ![16, 1024, 12288]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4x4x1024x6144 : Shape := ⟨4, ![4, 4, 1024, 6144]⟩
abbrev S4x4x1024x12288 : Shape := ⟨4, ![4, 4, 1024, 12288]⟩
abbrev S4x4x1024x2048 : Shape := ⟨4, ![4, 4, 1024, 2048]⟩
abbrev S4x4x1024x128 : Shape := ⟨4, ![4, 4, 1024, 128]⟩
abbrev S4x1x256x2048 : Shape := ⟨4, ![4, 1, 256, 2048]⟩
abbrev S4x1x32x2048 : Shape := ⟨4, ![4, 1, 32, 2048]⟩
abbrev S4x1x256x128 : Shape := ⟨4, ![4, 1, 256, 128]⟩
abbrev S2x16x128x256 : Shape := ⟨4, ![2, 16, 128, 256]⟩
abbrev S1x1 : Shape := ⟨2, ![1, 1]⟩
abbrev S1x1x128x256 : Shape := ⟨4, ![1, 1, 128, 256]⟩
abbrev S128x128 : Shape := ⟨2, ![128, 128]⟩
abbrev S256x128 : Shape := ⟨2, ![256, 128]⟩
abbrev S4x256x128 : Shape := ⟨3, ![4, 256, 128]⟩
abbrev S4x32x128 : Shape := ⟨3, ![4, 32, 128]⟩
abbrev S4x1x32x128 : Shape := ⟨4, ![4, 1, 32, 128]⟩
abbrev S256x256 : Shape := ⟨2, ![256, 256]⟩

abbrev nBuf : Space → Nat
  | .hbm => 129
  | .vmem => 16
  | .smem => 1
  | _ => 0

abbrev hbmTy0_0 (i : Nat) : BufTy := match i % 128 with
  | 0 => ⟨S16384x6144, .f32⟩
  | 1 => ⟨S16384x12288, .f32⟩
  | 2 => ⟨S32x48, .f32⟩
  | 3 => ⟨S1024x16x6144, .f32⟩
  | 4 => ⟨S16x1024x6144, .f32⟩
  | 5 => ⟨S16384x6144, .f32⟩
  | 6 => ⟨S_, .f32⟩
  | 7 => ⟨S16384x6144, .f32⟩
  | 8 => ⟨S16384x6144, .f32⟩
  | 9 => ⟨S_, .f32⟩
  | 10 => ⟨S_, .f32⟩
  | 11 => ⟨S16384x6144, .f32⟩
  | 12 => ⟨S16384x6144, .f32⟩
  | 13 => ⟨S16384x6144, .bf16⟩
  | 14 => ⟨S1024x16x12288, .f32⟩
  | 15 => ⟨S16x1024x12288, .f32⟩
  | 16 => ⟨S16384x12288, .f32⟩
  | 17 => ⟨S16384x12288, .bf16⟩
  | 18 => ⟨S128, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S128, .i32⟩
  | 26 => ⟨S128, .i32⟩
  | 27 => ⟨S_, .i32⟩
  | 28 => ⟨S128, .i32⟩
  | 29 => ⟨S128, .i1⟩
  | 30 => ⟨S_, .i32⟩
  | 31 => ⟨S128, .i32⟩
  | 32 => ⟨S128, .i1⟩
  | 33 => ⟨S_, .i32⟩
  | 34 => ⟨S_, .i1⟩
  | 35 => ⟨S128, .i1⟩
  | 36 => ⟨S128, .i1⟩
  | 37 => ⟨S128, .i1⟩
  | 38 => ⟨S128, .i32⟩
  | 39 => ⟨S128, .i32⟩
  | 40 => ⟨S128, .i32⟩
  | 41 => ⟨S_, .i32⟩
  | 42 => ⟨S128, .i32⟩
  | 43 => ⟨S128, .i32⟩
  | 44 => ⟨S_, .i32⟩
  | 45 => ⟨S_, .i32⟩
  | 46 => ⟨S128, .i32⟩
  | 47 => ⟨S128, .i32⟩
  | 48 => ⟨S128, .i32⟩
  | 49 => ⟨S_, .i32⟩
  | 50 => ⟨S128, .i32⟩
  | 51 => ⟨S128, .i1⟩
  | 52 => ⟨S128, .i32⟩
  | 53 => ⟨S128, .i32⟩
  | 54 => ⟨S_, .i32⟩
  | 55 => ⟨S128, .i32⟩
  | 56 => ⟨S128, .i1⟩
  | 57 => ⟨S128, .i1⟩
  | 58 => ⟨S_, .i32⟩
  | 59 => ⟨S128, .i32⟩
  | 60 => ⟨S128, .i32⟩
  | 61 => ⟨S128, .i32⟩
  | 62 => ⟨S128, .i32⟩
  | 63 => ⟨S128x1, .i32⟩
  | 64 => ⟨S_, .i32⟩
  | 65 => ⟨S128x1, .i32⟩
  | 66 => ⟨S128x1, .i32⟩
  | 67 => ⟨S_, .i32⟩
  | 68 => ⟨S128, .i32⟩
  | 69 => ⟨S128, .i32⟩
  | 70 => ⟨S256, .i32⟩
  | 71 => ⟨S1x256, .i32⟩
  | 72 => ⟨S128x256, .i32⟩
  | 73 => ⟨S128x256, .i32⟩
  | 74 => ⟨S128x256, .i32⟩
  | 75 => ⟨S_, .i32⟩
  | 76 => ⟨S128x256, .i32⟩
  | 77 => ⟨S128x256, .i1⟩
  | 78 => ⟨S_, .i32⟩
  | 79 => ⟨S128x256, .i32⟩
  | 80 => ⟨S128x256, .i1⟩
  | 81 => ⟨S128x256, .i1⟩
  | 82 => ⟨S_, .i32⟩
  | 83 => ⟨S_, .i32⟩
  | 84 => ⟨S_, .i32⟩
  | 85 => ⟨S128x256, .i32⟩
  | 86 => ⟨S128x256, .i32⟩
  | 87 => ⟨S_, .i32⟩
  | 88 => ⟨S128x256, .i32⟩
  | 89 => ⟨S128x256, .i32⟩
  | 90 => ⟨S_, .i32⟩
  | 91 => ⟨S128x256, .i32⟩
  | 92 => ⟨S128x256, .i32⟩
  | 93 => ⟨S_, .i32⟩
  | 94 => ⟨S128x256, .i32⟩
  | 95 => ⟨S128x256, .i32⟩
  | 96 => ⟨S128x256, .f32⟩
  | 97 => ⟨S_, .f32⟩
  | 98 => ⟨S128x256, .f32⟩
  | 99 => ⟨S128x256, .f32⟩
  | 100 => ⟨S128x256, .f32⟩
  | 101 => ⟨S_, .f32⟩
  | 102 => ⟨S128x256, .f32⟩
  | 103 => ⟨S128x256, .f32⟩
  | 104 => ⟨S_, .f32⟩
  | 105 => ⟨S128x256, .f32⟩
  | 106 => ⟨S128x256, .f32⟩
  | 107 => ⟨S128x256, .i32⟩
  | 108 => ⟨S_, .i32⟩
  | 109 => ⟨S128x256, .i32⟩
  | 110 => ⟨S128x256, .i32⟩
  | 111 => ⟨S_, .i32⟩
  | 112 => ⟨S128x256, .i32⟩
  | 113 => ⟨S128x256, .i32⟩
  | 114 => ⟨S_, .i32⟩
  | 115 => ⟨S128x256, .i32⟩
  | 116 => ⟨S128x256, .i1⟩
  | 117 => ⟨S128x256, .i32⟩
  | 118 => ⟨S_, .i32⟩
  | 119 => ⟨S_, .i32⟩
  | 120 => ⟨S128x256, .i32⟩
  | 121 => ⟨S128x256, .i32⟩
  | 122 => ⟨S4x4x1024x6144, .bf16⟩
  | 123 => ⟨S4x4x1024x12288, .bf16⟩
  | 124 => ⟨S4x4x1024x12288, .bf16⟩
  | 125 => ⟨S4x4x1024x12288, .bf16⟩
  | 126 => ⟨S4x4x1024x12288, .bf16⟩
  | 127 => ⟨S4x4x1024x2048, .bf16⟩
  | _ => ⟨S16384x6144, .f32⟩

abbrev hbmTy0_1 (i : Nat) : BufTy := match i % 128 with
  | 0 => ⟨S4x4x1024x128, .f32⟩
  | _ => ⟨S16384x6144, .f32⟩

abbrev hbmTy (i : Nat) : BufTy := match i / 128 with
  | 0 => hbmTy0_0 i
  | 1 => hbmTy0_1 i
  | _ => ⟨S16384x6144, .f32⟩

abbrev bufTy : (tb : Table) → Fin (tcTables nBuf tb) → BufTy
  | .hbm, ⟨i, _⟩ => hbmTy i
  | .local _ .vmem, ⟨0, _⟩ => ⟨S128x256, .i32⟩
  | .local _ .vmem, ⟨1, _⟩ => ⟨S4x1x256x2048, .bf16⟩
  | .local _ .vmem, ⟨2, _⟩ => ⟨S4x1x256x2048, .bf16⟩
  | .local _ .vmem, ⟨3, _⟩ => ⟨S4x1x32x2048, .bf16⟩
  | .local _ .vmem, ⟨4, _⟩ => ⟨S4x1x32x2048, .bf16⟩
  | .local _ .vmem, ⟨5, _⟩ => ⟨S4x1x256x2048, .bf16⟩
  | .local _ .vmem, ⟨6, _⟩ => ⟨S4x1x256x2048, .bf16⟩
  | .local _ .vmem, ⟨7, _⟩ => ⟨S4x1x32x2048, .bf16⟩
  | .local _ .vmem, ⟨8, _⟩ => ⟨S4x1x32x2048, .bf16⟩
  | .local _ .vmem, ⟨9, _⟩ => ⟨S4x1x256x2048, .bf16⟩
  | .local _ .vmem, ⟨10, _⟩ => ⟨S4x1x256x2048, .bf16⟩
  | .local _ .vmem, ⟨11, _⟩ => ⟨S4x1x256x2048, .bf16⟩
  | .local _ .vmem, ⟨12, _⟩ => ⟨S4x1x256x2048, .bf16⟩
  | .local _ .vmem, ⟨13, _⟩ => ⟨S4x1x256x128, .f32⟩
  | .local _ .vmem, ⟨14, _⟩ => ⟨S4x1x256x128, .f32⟩
  | .local _ .vmem, ⟨15, _⟩ => ⟨S2x16x128x256, .f32⟩
  | .local _ .smem, ⟨0, _⟩ => ⟨S32x48, .f32⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_1 : Ref sig .tc := ⟨.hbm, 27, rfl⟩
abbrev main_call0_v5 : Ref sig .tc := ⟨.hbm, 28, rfl⟩
abbrev main_call0_v6 : Ref sig .tc := ⟨.hbm, 29, rfl⟩
abbrev main_call0_c_2 : Ref sig .tc := ⟨.hbm, 30, rfl⟩
abbrev main_call0_v7 : Ref sig .tc := ⟨.hbm, 31, rfl⟩
abbrev main_call0_v8 : Ref sig .tc := ⟨.hbm, 32, rfl⟩
abbrev main_call0_c_3 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_v14 : Ref sig .tc := ⟨.hbm, 40, rfl⟩
abbrev main_c_1 : Ref sig .tc := ⟨.hbm, 41, rfl⟩
abbrev main_v15 : Ref sig .tc := ⟨.hbm, 42, rfl⟩
abbrev main_v16 : Ref sig .tc := ⟨.hbm, 43, rfl⟩
abbrev main_c_2 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_c : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_0 : Ref sig .tc := ⟨.hbm, 58, rfl⟩
abbrev main_call1_v12 : Ref sig .tc := ⟨.hbm, 59, rfl⟩
abbrev main_call1_v13 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_c_3 : Ref sig .tc := ⟨.hbm, 64, rfl⟩
abbrev main_v20 : Ref sig .tc := ⟨.hbm, 65, rfl⟩
abbrev main_v21 : Ref sig .tc := ⟨.hbm, 66, rfl⟩
abbrev main_c_4 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_c_5 : Ref sig .tc := ⟨.hbm, 75, rfl⟩
abbrev main_v29 : Ref sig .tc := ⟨.hbm, 76, rfl⟩
abbrev main_v30 : Ref sig .tc := ⟨.hbm, 77, rfl⟩
abbrev main_c_6 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_c_7 : Ref sig .tc := ⟨.hbm, 82, rfl⟩
abbrev main_c_8 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_v34 : Ref sig .tc := ⟨.hbm, 89, rfl⟩
abbrev main_c_9 : Ref sig .tc := ⟨.hbm, 90, rfl⟩
abbrev main_v35 : Ref sig .tc := ⟨.hbm, 91, rfl⟩
abbrev main_v36 : Ref sig .tc := ⟨.hbm, 92, rfl⟩
abbrev main_c_10 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_cst_11 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_cst_12 : Ref sig .tc := ⟨.hbm, 101, rfl⟩
abbrev main_v43 : Ref sig .tc := ⟨.hbm, 102, rfl⟩
abbrev main_v44 : Ref sig .tc := ⟨.hbm, 103, rfl⟩
abbrev main_cst_13 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_c_14 : Ref sig .tc := ⟨.hbm, 108, rfl⟩
abbrev main_v48 : Ref sig .tc := ⟨.hbm, 109, rfl⟩
abbrev main_v49 : Ref sig .tc := ⟨.hbm, 110, rfl⟩
abbrev main_c_15 : Ref sig .tc := ⟨.hbm, 111, rfl⟩
abbrev main_v50 : Ref sig .tc := ⟨.hbm, 112, rfl⟩
abbrev main_v51 : Ref sig .tc := ⟨.hbm, 113, rfl⟩
abbrev main_c_16 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_c_17 : Ref sig .tc := ⟨.hbm, 118, rfl⟩
abbrev main_call4_v0 : Ref sig .tc := ⟨.hbm, 119, rfl⟩
abbrev main_call4_v1 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61_0 : Ref sig .tc := ⟨.hbm, 127, rfl⟩
abbrev main_v61_1 : Ref sig .tc := ⟨.hbm, 128, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_off1 (c0_i32_1477 : BitVec 32) : Fin 2 → Nat :=
  let c0_1481 : Index := 0#32
  let c16_i32_1480 : BitVec 32 := 16#32
  let v4291 : BitVec 32 := Scalar.addi c16_i32_1480 c0_i32_1477
  let v4292 : Index := Scalar.indexCast v4291
  ![0, v4292.toNat]
def k0_off2 (c0_i32_1477 : BitVec 32) : Fin 2 → Nat :=
  let c1_1485 : Index := 1#32
  let c16_i32_1484 : BitVec 32 := 16#32
  let v4299 : BitVec 32 := Scalar.addi c16_i32_1484 c0_i32_1477
  let v4300 : Index := Scalar.indexCast v4299
  ![1, v4300.toNat]
def k0_off3 (c0_i32_1477 : BitVec 32) : Fin 2 → Nat :=
  let c2_1489 : Index := 2#32
  let c16_i32_1488 : BitVec 32 := 16#32
  let v4307 : BitVec 32 := Scalar.addi c16_i32_1488 c0_i32_1477
  let v4308 : Index := Scalar.indexCast v4307
  ![2, v4308.toNat]
def k0_off4 (c0_i32_1477 : BitVec 32) : Fin 2 → Nat :=
  let c3_1493 : Index := 3#32
  let c16_i32_1492 : BitVec 32 := 16#32
  let v4315 : BitVec 32 := Scalar.addi c16_i32_1492 c0_i32_1477
  let v4316 : Index := Scalar.indexCast v4315
  ![3, v4316.toNat]
def k0_off5 (c0_i32_1477 : BitVec 32) : Fin 2 → Nat :=
  let c4_1497 : Index := 4#32
  let c16_i32_1496 : BitVec 32 := 16#32
  let v4323 : BitVec 32 := Scalar.addi c16_i32_1496 c0_i32_1477
  let v4324 : Index := Scalar.indexCast v4323
  ![4, v4324.toNat]
def k0_off6 (c0_i32_1477 : BitVec 32) : Fin 2 → Nat :=
  let c5_1501 : Index := 5#32
  let c16_i32_1500 : BitVec 32 := 16#32
  let v4331 : BitVec 32 := Scalar.addi c16_i32_1500 c0_i32_1477
  let v4332 : Index := Scalar.indexCast v4331
  ![5, v4332.toNat]
def k0_off7 (c0_i32_1477 : BitVec 32) : Fin 2 → Nat :=
  let c6_1505 : Index := 6#32
  let c16_i32_1504 : BitVec 32 := 16#32
  let v4339 : BitVec 32 := Scalar.addi c16_i32_1504 c0_i32_1477
  let v4340 : Index := Scalar.indexCast v4339
  ![6, v4340.toNat]
def k0_off8 (c0_i32_1477 : BitVec 32) : Fin 2 → Nat :=
  let c7_1509 : Index := 7#32
  let c16_i32_1508 : BitVec 32 := 16#32
  let v4347 : BitVec 32 := Scalar.addi c16_i32_1508 c0_i32_1477
  let v4348 : Index := Scalar.indexCast v4347
  ![7, v4348.toNat]
def k0_off9 (c0_i32_1477 : BitVec 32) : Fin 2 → Nat :=
  let c8_1513 : Index := 8#32
  let c16_i32_1512 : BitVec 32 := 16#32
  let v4355 : BitVec 32 := Scalar.addi c16_i32_1512 c0_i32_1477
  let v4356 : Index := Scalar.indexCast v4355
  ![8, v4356.toNat]
def k0_off10 (c0_i32_1477 : BitVec 32) : Fin 2 → Nat :=
  let c9_1517 : Index := 9#32
  let c16_i32_1516 : BitVec 32 := 16#32
  let v4363 : BitVec 32 := Scalar.addi c16_i32_1516 c0_i32_1477
  let v4364 : Index := Scalar.indexCast v4363
  ![9, v4364.toNat]
def k0_off11 (c0_i32_1477 : BitVec 32) : Fin 2 → Nat :=
  let c10_1521 : Index := 10#32
  let c16_i32_1520 : BitVec 32 := 16#32
  let v4371 : BitVec 32 := Scalar.addi c16_i32_1520 c0_i32_1477
  let v4372 : Index := Scalar.indexCast v4371
  ![10, v4372.toNat]
def k0_off12 (c0_i32_1477 : BitVec 32) : Fin 2 → Nat :=
  let c11_1525 : Index := 11#32
  let c16_i32_1524 : BitVec 32 := 16#32
  let v4379 : BitVec 32 := Scalar.addi c16_i32_1524 c0_i32_1477
  let v4380 : Index := Scalar.indexCast v4379
  ![11, v4380.toNat]
def k0_off13 (c0_i32_1477 : BitVec 32) : Fin 2 → Nat :=
  let c12_1529 : Index := 12#32
  let c16_i32_1528 : BitVec 32 := 16#32
  let v4387 : BitVec 32 := Scalar.addi c16_i32_1528 c0_i32_1477
  let v4388 : Index := Scalar.indexCast v4387
  ![12, v4388.toNat]
def k0_off14 (c0_i32_1477 : BitVec 32) : Fin 2 → Nat :=
  let c13_1533 : Index := 13#32
  let c16_i32_1532 : BitVec 32 := 16#32
  let v4395 : BitVec 32 := Scalar.addi c16_i32_1532 c0_i32_1477
  let v4396 : Index := Scalar.indexCast v4395
  ![13, v4396.toNat]
def k0_off15 (c0_i32_1477 : BitVec 32) : Fin 2 → Nat :=
  let c14_1537 : Index := 14#32
  let c16_i32_1536 : BitVec 32 := 16#32
  let v4403 : BitVec 32 := Scalar.addi c16_i32_1536 c0_i32_1477
  let v4404 : Index := Scalar.indexCast v4403
  ![14, v4404.toNat]
def k0_off16 (c0_i32_1477 : BitVec 32) : Fin 2 → Nat :=
  let c15_1541 : Index := 15#32
  let c16_i32_1540 : BitVec 32 := 16#32
  let v4411 : BitVec 32 := Scalar.addi c16_i32_1540 c0_i32_1477
  let v4412 : Index := Scalar.indexCast v4411
  ![15, v4412.toNat]
def k0_off17 (c0_i32_1477 : BitVec 32) : Fin 2 → Nat :=
  let c16 : Index := 16#32
  let c16_i32_1544 : BitVec 32 := 16#32
  let v4419 : BitVec 32 := Scalar.addi c16_i32_1544 c0_i32_1477
  let v4420 : Index := Scalar.indexCast v4419
  ![16, v4420.toNat]
def k0_off18 (c0_i32_1477 : BitVec 32) : Fin 2 → Nat :=
  let c17 : Index := 17#32
  let c16_i32_1547 : BitVec 32 := 16#32
  let v4427 : BitVec 32 := Scalar.addi c16_i32_1547 c0_i32_1477
  let v4428 : Index := Scalar.indexCast v4427
  ![17, v4428.toNat]
def k0_off19 (c0_i32_1477 : BitVec 32) : Fin 2 → Nat :=
  let c18 : Index := 18#32
  let c16_i32_1550 : BitVec 32 := 16#32
  let v4435 : BitVec 32 := Scalar.addi c16_i32_1550 c0_i32_1477
  let v4436 : Index := Scalar.indexCast v4435
  ![18, v4436.toNat]
def k0_off20 (c0_i32_1477 : BitVec 32) : Fin 2 → Nat :=
  let c19 : Index := 19#32
  let c16_i32_1553 : BitVec 32 := 16#32
  let v4443 : BitVec 32 := Scalar.addi c16_i32_1553 c0_i32_1477
  let v4444 : Index := Scalar.indexCast v4443
  ![19, v4444.toNat]
def k0_off21 (c0_i32_1477 : BitVec 32) : Fin 2 → Nat :=
  let c20 : Index := 20#32
  let c16_i32_1556 : BitVec 32 := 16#32
  let v4451 : BitVec 32 := Scalar.addi c16_i32_1556 c0_i32_1477
  let v4452 : Index := Scalar.indexCast v4451
  ![20, v4452.toNat]
def k0_off22 (c0_i32_1477 : BitVec 32) : Fin 2 → Nat :=
  let c21 : Index := 21#32
  let c16_i32_1559 : BitVec 32 := 16#32
  let v4459 : BitVec 32 := Scalar.addi c16_i32_1559 c0_i32_1477
  let v4460 : Index := Scalar.indexCast v4459
  ![21, v4460.toNat]
def k0_off23 (c0_i32_1477 : BitVec 32) : Fin 2 → Nat :=
  let c22 : Index := 22#32
  let c16_i32_1562 : BitVec 32 := 16#32
  let v4467 : BitVec 32 := Scalar.addi c16_i32_1562 c0_i32_1477
  let v4468 : Index := Scalar.indexCast v4467
  ![22, v4468.toNat]
def k0_off24 (c0_i32_1477 : BitVec 32) : Fin 2 → Nat :=
  let c23 : Index := 23#32
  let c16_i32_1565 : BitVec 32 := 16#32
  let v4475 : BitVec 32 := Scalar.addi c16_i32_1565 c0_i32_1477
  let v4476 : Index := Scalar.indexCast v4475
  ![23, v4476.toNat]
def k0_off25 (c0_i32_1477 : BitVec 32) : Fin 2 → Nat :=
  let c24 : Index := 24#32
  let c16_i32_1568 : BitVec 32 := 16#32
  let v4483 : BitVec 32 := Scalar.addi c16_i32_1568 c0_i32_1477
  let v4484 : Index := Scalar.indexCast v4483
  ![24, v4484.toNat]
def k0_off26 (c0_i32_1477 : BitVec 32) : Fin 2 → Nat :=
  let c25 : Index := 25#32
  let c16_i32_1571 : BitVec 32 := 16#32
  let v4491 : BitVec 32 := Scalar.addi c16_i32_1571 c0_i32_1477
  let v4492 : Index := Scalar.indexCast v4491
  ![25, v4492.toNat]
def k0_off27 (c0_i32_1477 : BitVec 32) : Fin 2 → Nat :=
  let c26 : Index := 26#32
  let c16_i32_1574 : BitVec 32 := 16#32
  let v4499 : BitVec 32 := Scalar.addi c16_i32_1574 c0_i32_1477
  let v4500 : Index := Scalar.indexCast v4499
  ![26, v4500.toNat]
def k0_off28 (c0_i32_1477 : BitVec 32) : Fin 2 → Nat :=
  let c27 : Index := 27#32
  let c16_i32_1577 : BitVec 32 := 16#32
  let v4507 : BitVec 32 := Scalar.addi c16_i32_1577 c0_i32_1477
  let v4508 : Index := Scalar.indexCast v4507
  ![27, v4508.toNat]
def k0_off29 (c0_i32_1477 : BitVec 32) : Fin 2 → Nat :=
  let c28 : Index := 28#32
  let c16_i32_1580 : BitVec 32 := 16#32
  let v4515 : BitVec 32 := Scalar.addi c16_i32_1580 c0_i32_1477
  let v4516 : Index := Scalar.indexCast v4515
  ![28, v4516.toNat]
def k0_off30 (c0_i32_1477 : BitVec 32) : Fin 2 → Nat :=
  let c29 : Index := 29#32
  let c16_i32_1583 : BitVec 32 := 16#32
  let v4523 : BitVec 32 := Scalar.addi c16_i32_1583 c0_i32_1477
  let v4524 : Index := Scalar.indexCast v4523
  ![29, v4524.toNat]
def k0_off31 (c0_i32_1477 : BitVec 32) : Fin 2 → Nat :=
  let c30 : Index := 30#32
  let c16_i32_1586 : BitVec 32 := 16#32
  let v4531 : BitVec 32 := Scalar.addi c16_i32_1586 c0_i32_1477
  let v4532 : Index := Scalar.indexCast v4531
  ![30, v4532.toNat]
def k0_off32 (c0_i32_1477 : BitVec 32) : Fin 2 → Nat :=
  let c31 : Index := 31#32
  let c16_i32_1589 : BitVec 32 := 16#32
  let v4539 : BitVec 32 := Scalar.addi c16_i32_1589 c0_i32_1477
  let v4540 : Index := Scalar.indexCast v4539
  ![31, v4540.toNat]
def k0_off33 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v80 : Index := Scalar.indexCast v6
  let c0_32 : Index := 0#32
  let c0_33 : Index := 0#32
  let c0_34 : Index := 0#32
  ![v80.toNat, 0, 0, 0]
def k0_off34 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v346 : Index := Scalar.indexCast v6
  let c1 : Index := 1#32
  let c0_125 : Index := 0#32
  let c0_126 : Index := 0#32
  ![v346.toNat, 1, 0, 0]
def k0_off35 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v612 : Index := Scalar.indexCast v6
  let c2 : Index := 2#32
  let c0_217 : Index := 0#32
  let c0_218 : Index := 0#32
  ![v612.toNat, 2, 0, 0]
def k0_off36 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v878 : Index := Scalar.indexCast v6
  let c3 : Index := 3#32
  let c0_308 : Index := 0#32
  let c0_309 : Index := 0#32
  ![v878.toNat, 3, 0, 0]
def k0_off37 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v1144 : Index := Scalar.indexCast v6
  let c4 : Index := 4#32
  let c0_399 : Index := 0#32
  let c0_400 : Index := 0#32
  ![v1144.toNat, 4, 0, 0]
def k0_off38 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v1410 : Index := Scalar.indexCast v6
  let c5 : Index := 5#32
  let c0_490 : Index := 0#32
  let c0_491 : Index := 0#32
  ![v1410.toNat, 5, 0, 0]
def k0_off39 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v1676 : Index := Scalar.indexCast v6
  let c6 : Index := 6#32
  let c0_581 : Index := 0#32
  let c0_582 : Index := 0#32
  ![v1676.toNat, 6, 0, 0]
def k0_off40 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v1942 : Index := Scalar.indexCast v6
  let c7 : Index := 7#32
  let c0_672 : Index := 0#32
  let c0_673 : Index := 0#32
  ![v1942.toNat, 7, 0, 0]
def k0_off41 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v2208 : Index := Scalar.indexCast v6
  let c8 : Index := 8#32
  let c0_763 : Index := 0#32
  let c0_764 : Index := 0#32
  ![v2208.toNat, 8, 0, 0]
def k0_off42 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v2474 : Index := Scalar.indexCast v6
  let c9 : Index := 9#32
  let c0_854 : Index := 0#32
  let c0_855 : Index := 0#32
  ![v2474.toNat, 9, 0, 0]
def k0_off43 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v2740 : Index := Scalar.indexCast v6
  let c10 : Index := 10#32
  let c0_945 : Index := 0#32
  let c0_946 : Index := 0#32
  ![v2740.toNat, 10, 0, 0]
def k0_off44 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v3006 : Index := Scalar.indexCast v6
  let c11 : Index := 11#32
  let c0_1036 : Index := 0#32
  let c0_1037 : Index := 0#32
  ![v3006.toNat, 11, 0, 0]
def k0_off45 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v3272 : Index := Scalar.indexCast v6
  let c12 : Index := 12#32
  let c0_1127 : Index := 0#32
  let c0_1128 : Index := 0#32
  ![v3272.toNat, 12, 0, 0]
def k0_off46 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v3538 : Index := Scalar.indexCast v6
  let c13 : Index := 13#32
  let c0_1218 : Index := 0#32
  let c0_1219 : Index := 0#32
  ![v3538.toNat, 13, 0, 0]
def k0_off47 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v3804 : Index := Scalar.indexCast v6
  let c14 : Index := 14#32
  let c0_1309 : Index := 0#32
  let c0_1310 : Index := 0#32
  ![v3804.toNat, 14, 0, 0]
def k0_off48 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v4070 : Index := Scalar.indexCast v6
  let c15 : Index := 15#32
  let c0_1400 : Index := 0#32
  let c0_1401 : Index := 0#32
  ![v4070.toNat, 15, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, arg0.toNat, arg1.toNat, c1_i32.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c1_i32_1 : BitVec 32 := 1#32
  let c0_i32_2 : BitVec 32 := 0#32
  ![c0_i32_0.toNat, arg0.toNat, v2.toNat, c1_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, arg0.toNat, arg1.toNat, c1_i32.toNat]

def cc0_transform_5 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c4_i32 : BitVec 32 := 4#32
  let c0_i32_1 : BitVec 32 := 0#32
  ![c0_i32_0.toNat, arg0.toNat, v2.toNat, c4_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![c0_i32.toNat, arg0.toNat, arg1.toNat, c4_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 1 → Memref sig .tc .smem S32x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4x1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1x32x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1x32x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x1x256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel9Ideal.lean ====
variable {F : FTy → Type} [FloatOps F] [Named F]
def κ : String → Option EReal := fun
  | "log2e" => some (((Real.log 2)⁻¹ : ℝ) : EReal)
  | "mask" => some ⊥
  | _ => none
-- ==== Reference9Ideal.lean ====
abbrev S16384x6144 : Shape := ⟨2, ![16384, 6144]⟩
abbrev S16384x12288 : Shape := ⟨2, ![16384, 12288]⟩
abbrev S32x48 : Shape := ⟨2, ![32, 48]⟩
abbrev S16384x3x16x128 : Shape := ⟨4, ![16384, 3, 16, 128]⟩
abbrev S16384x1x16x128 : Shape := ⟨4, ![16384, 1, 16, 128]⟩
abbrev S16384x16x128 : Shape := ⟨3, ![16384, 16, 128]⟩
abbrev S16384x2x3x16x128 : Shape := ⟨5, ![16384, 2, 3, 16, 128]⟩
abbrev S16384x1x1x16x128 : Shape := ⟨5, ![16384, 1, 1, 16, 128]⟩
abbrev S32x16 : Shape := ⟨2, ![32, 16]⟩
abbrev S4096x4x16x128 : Shape := ⟨4, ![4096, 4, 16, 128]⟩
abbrev S4x4096x16x128 : Shape := ⟨4, ![4, 4096, 16, 128]⟩
abbrev S4x32x128x16x128 : Shape := ⟨5, ![4, 32, 128, 16, 128]⟩
abbrev S_ : Shape := ⟨0, ![]⟩
abbrev S4x33x128x16x128 : Shape := ⟨5, ![4, 33, 128, 16, 128]⟩
abbrev S4x32x256x16x128 : Shape := ⟨5, ![4, 32, 256, 16, 128]⟩
abbrev S4x32x16x128x256 : Shape := ⟨5, ![4, 32, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S1 : Shape := ⟨1, ![1]⟩
abbrev S1x1x1 : Shape := ⟨3, ![1, 1, 1]⟩
abbrev S128x256x16 : Shape := ⟨3, ![128, 256, 16]⟩
abbrev S16x128x256 : Shape := ⟨3, ![16, 128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S1x32x1x128x256 : Shape := ⟨5, ![1, 32, 1, 128, 256]⟩
abbrev S1x1x16x128x256 : Shape := ⟨5, ![1, 1, 16, 128, 256]⟩
abbrev S4x32x16x128 : Shape := ⟨4, ![4, 32, 16, 128]⟩
abbrev S4x32x16x128x1 : Shape := ⟨5, ![4, 32, 16, 128, 1]⟩
abbrev S4x32x16x128x128 : Shape := ⟨5, ![4, 32, 16, 128, 128]⟩
abbrev S4x32x128x16 : Shape := ⟨4, ![4, 32, 128, 16]⟩
abbrev S4x32x128x96 : Shape := ⟨4, ![4, 32, 128, 96]⟩
abbrev S4x32x128x128 : Shape := ⟨4, ![4, 32, 128, 128]⟩
abbrev S4x1024x4x2048 : Shape := ⟨4, ![4, 1024, 4, 2048]⟩
abbrev S4x4x1024x2048 : Shape := ⟨4, ![4, 4, 1024, 2048]⟩
abbrev S4x1024x4x128 : Shape := ⟨4, ![4, 1024, 4, 128]⟩
abbrev S4x4x1024x128 : Shape := ⟨4, ![4, 4, 1024, 128]⟩

abbrev nBuf : Space → Nat
  | .hbm => 164
  | .vmem => 0
  | .smem => 0
  | _ => 0

abbrev hbmTy0_0 (i : Nat) : BufTy := match i % 128 with
  | 0 => ⟨S16384x6144, .f32⟩
  | 1 => ⟨S16384x12288, .f32⟩
  | 2 => ⟨S32x48, .f32⟩
  | 3 => ⟨S16384x3x16x128, .f32⟩
  | 4 => ⟨S16384x1x16x128, .f32⟩
  | 5 => ⟨S16384x16x128, .f32⟩
  | 6 => ⟨S16384x2x3x16x128, .f32⟩
  | 7 => ⟨S16384x1x1x16x128, .f32⟩
  | 8 => ⟨S16384x16x128, .f32⟩
  | 9 => ⟨S16384x1x1x16x128, .f32⟩
  | 10 => ⟨S16384x16x128, .f32⟩
  | 11 => ⟨S32x16, .f32⟩
  | 12 => ⟨S4096x4x16x128, .f32⟩
  | 13 => ⟨S4x4096x16x128, .f32⟩
  | 14 => ⟨S4x32x128x16x128, .f32⟩
  | 15 => ⟨S4096x4x16x128, .f32⟩
  | 16 => ⟨S4x4096x16x128, .f32⟩
  | 17 => ⟨S4x32x128x16x128, .f32⟩
  | 18 => ⟨S_, .i32⟩
  | 19 => ⟨S_, .f32⟩
  | 20 => ⟨S4x33x128x16x128, .f32⟩
  | 21 => ⟨S4x32x128x16x128, .f32⟩
  | 22 => ⟨S4x32x256x16x128, .f32⟩
  | 23 => ⟨S4096x4x16x128, .f32⟩
  | 24 => ⟨S4x4096x16x128, .f32⟩
  | 25 => ⟨S4x32x128x16x128, .f32⟩
  | 26 => ⟨S_, .i32⟩
  | 27 => ⟨S_, .f32⟩
  | 28 => ⟨S4x33x128x16x128, .f32⟩
  | 29 => ⟨S4x32x128x16x128, .f32⟩
  | 30 => ⟨S4x32x256x16x128, .f32⟩
  | 31 => ⟨S4x32x16x128x256, .f32⟩
  | 32 => ⟨S_, .f32⟩
  | 33 => ⟨S4x32x16x128x256, .f32⟩
  | 34 => ⟨S4x32x16x128x256, .f32⟩
  | 35 => ⟨S128, .i32⟩
  | 36 => ⟨S128x1, .i32⟩
  | 37 => ⟨S256, .i32⟩
  | 38 => ⟨S1x256, .i32⟩
  | 39 => ⟨S_, .i32⟩
  | 40 => ⟨S128x1, .i32⟩
  | 41 => ⟨S128x1, .i32⟩
  | 42 => ⟨S128x256, .i32⟩
  | 43 => ⟨S128x256, .i32⟩
  | 44 => ⟨S128x256, .i32⟩
  | 45 => ⟨S_, .i32⟩
  | 46 => ⟨S128x256, .i32⟩
  | 47 => ⟨S128x256, .i1⟩
  | 48 => ⟨S_, .i32⟩
  | 49 => ⟨S128x256, .i32⟩
  | 50 => ⟨S128x256, .i1⟩
  | 51 => ⟨S128x256, .i1⟩
  | 52 => ⟨S_, .i32⟩
  | 53 => ⟨S_, .i32⟩
  | 54 => ⟨S_, .i32⟩
  | 55 => ⟨S128x256, .i32⟩
  | 56 => ⟨S128x256, .i32⟩
  | 57 => ⟨S_, .i32⟩
  | 58 => ⟨S128x256, .i32⟩
  | 59 => ⟨S128x256, .i32⟩
  | 60 => ⟨S_, .i32⟩
  | 61 => ⟨S128x256, .i32⟩
  | 62 => ⟨S128x256, .i32⟩
  | 63 => ⟨S_, .i32⟩
  | 64 => ⟨S128x256, .i32⟩
  | 65 => ⟨S128x256, .i32⟩
  | 66 => ⟨S128x256, .f32⟩
  | 67 => ⟨S_, .f32⟩
  | 68 => ⟨S128x256, .f32⟩
  | 69 => ⟨S128x256, .f32⟩
  | 70 => ⟨S128x256, .f32⟩
  | 71 => ⟨S_, .f32⟩
  | 72 => ⟨S128x256, .f32⟩
  | 73 => ⟨S128x256, .f32⟩
  | 74 => ⟨S_, .f32⟩
  | 75 => ⟨S128x256, .f32⟩
  | 76 => ⟨S128x256, .f32⟩
  | 77 => ⟨S128x256, .i32⟩
  | 78 => ⟨S_, .i32⟩
  | 79 => ⟨S128x256, .i32⟩
  | 80 => ⟨S128x256, .i32⟩
  | 81 => ⟨S_, .i32⟩
  | 82 => ⟨S128x256, .i32⟩
  | 83 => ⟨S128x256, .i32⟩
  | 84 => ⟨S_, .i32⟩
  | 85 => ⟨S128x256, .i32⟩
  | 86 => ⟨S128x256, .i1⟩
  | 87 => ⟨S128x256, .i32⟩
  | 88 => ⟨S_, .i32⟩
  | 89 => ⟨S128x256, .i32⟩
  | 90 => ⟨S128x256, .i1⟩
  | 91 => ⟨S_, .i32⟩
  | 92 => ⟨S128x256, .i32⟩
  | 93 => ⟨S128x256, .i32⟩
  | 94 => ⟨S128x256, .i32⟩
  | 95 => ⟨S128x256x1, .i32⟩
  | 96 => ⟨S1, .i32⟩
  | 97 => ⟨S_, .i32⟩
  | 98 => ⟨S128x256x1, .i32⟩
  | 99 => ⟨S128x256x1, .i1⟩
  | 100 => ⟨S1x1x1, .i32⟩
  | 101 => ⟨S128x256x1, .i32⟩
  | 102 => ⟨S128x256x1, .i1⟩
  | 103 => ⟨S128x256x1, .i1⟩
  | 104 => ⟨S_, .i1⟩
  | 105 => ⟨S128x256, .i1⟩
  | 106 => ⟨S128x256x16, .f32⟩
  | 107 => ⟨S128x256x16, .i1⟩
  | 108 => ⟨S_, .f32⟩
  | 109 => ⟨S128x256x16, .f32⟩
  | 110 => ⟨S128x256x16, .f32⟩
  | 111 => ⟨S16x128x256, .f32⟩
  | 112 => ⟨S32, .i32⟩
  | 113 => ⟨S32x1, .i32⟩
  | 114 => ⟨S_, .i32⟩
  | 115 => ⟨S32x1, .i32⟩
  | 116 => ⟨S32x1, .i32⟩
  | 117 => ⟨S_, .i32⟩
  | 118 => ⟨S32x1, .i32⟩
  | 119 => ⟨S32x1, .i32⟩
  | 120 => ⟨S32x256, .i32⟩
  | 121 => ⟨S32x256, .i32⟩
  | 122 => ⟨S32x256, .i32⟩
  | 123 => ⟨S1x128x256, .i1⟩
  | 124 => ⟨S_, .i32⟩
  | 125 => ⟨S32x256, .i32⟩
  | 126 => ⟨S32x256, .i1⟩
  | 127 => ⟨S32x1x256, .i1⟩
  | _ => ⟨S16384x6144, .f32⟩

abbrev hbmTy0_1 (i : Nat) : BufTy := match i % 128 with
  | 0 => ⟨S32x128x256, .i1⟩
  | 1 => ⟨S32x128x256, .i1⟩
  | 2 => ⟨S32x128x256, .i1⟩
  | 3 => ⟨S1x32x1x128x256, .i1⟩
  | 4 => ⟨S1x1x16x128x256, .f32⟩
  | 5 => ⟨S4x32x16x128x256, .f32⟩
  | 6 => ⟨S4x32x16x128x256, .f32⟩
  | 7 => ⟨S_, .f32⟩
  | 8 => ⟨S_, .f32⟩
  | 9 => ⟨S4x32x16x128x256, .i1⟩
  | 10 => ⟨S4x32x16x128x256, .f32⟩
  | 11 => ⟨S4x32x16x128x256, .f32⟩
  | 12 => ⟨S_, .f32⟩
  | 13 => ⟨S4x32x16x128, .f32⟩
  | 14 => ⟨S4x32x16x128x1, .f32⟩
  | 15 => ⟨S4x32x16x128x256, .f32⟩
  | 16 => ⟨S4x32x16x128x256, .f32⟩
  | 17 => ⟨S4x32x16x128x256, .f32⟩
  | 18 => ⟨S_, .f32⟩
  | 19 => ⟨S4x32x16x128, .f32⟩
  | 20 => ⟨S4x32x16x128x128, .f32⟩
  | 21 => ⟨S4x32x128x16x128, .f32⟩
  | 22 => ⟨S4x32x128x16, .f32⟩
  | 23 => ⟨S_, .f32⟩
  | 24 => ⟨S_, .f32⟩
  | 25 => ⟨S4x32x128x16, .f32⟩
  | 26 => ⟨S4x32x128x16, .f32⟩
  | 27 => ⟨S4x32x128x16, .f32⟩
  | 28 => ⟨S_, .f32⟩
  | 29 => ⟨S4x32x128x96, .f32⟩
  | 30 => ⟨S4x32x128x128, .f32⟩
  | 31 => ⟨S4x1024x4x2048, .f32⟩
  | 32 => ⟨S4x4x1024x2048, .f32⟩
  | 33 => ⟨S4x4x1024x2048, .bf16⟩
  | 34 => ⟨S4x1024x4x128, .f32⟩
  | 35 => ⟨S4x4x1024x128, .f32⟩
  | _ => ⟨S16384x6144, .f32⟩

abbrev hbmTy (i : Nat) : BufTy := match i / 128 with
  | 0 => hbmTy0_0 i
  | 1 => hbmTy0_1 i
  | _ => ⟨S16384x6144, .f32⟩

abbrev bufTy : (tb : Table) → Fin (tcTables nBuf tb) → BufTy
  | .hbm, ⟨i, _⟩ => hbmTy i
  | _, _ => ⟨S16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_call0_v0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_0 : Ref sig .tc := ⟨.hbm, 26, rfl⟩
abbrev main_call1_v0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_1 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_2 : Ref sig .tc := ⟨.hbm, 45, rfl⟩
abbrev main_v36 : Ref sig .tc := ⟨.hbm, 46, rfl⟩
abbrev main_v37 : Ref sig .tc := ⟨.hbm, 47, rfl⟩
abbrev main_c_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_4 : Ref sig .tc := ⟨.hbm, 52, rfl⟩
abbrev main_c_5 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_v41 : Ref sig .tc := ⟨.hbm, 59, rfl⟩
abbrev main_c_6 : Ref sig .tc := ⟨.hbm, 60, rfl⟩
abbrev main_v42 : Ref sig .tc := ⟨.hbm, 61, rfl⟩
abbrev main_v43 : Ref sig .tc := ⟨.hbm, 62, rfl⟩
abbrev main_c_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_11 : Ref sig .tc := ⟨.hbm, 78, rfl⟩
abbrev main_v55 : Ref sig .tc := ⟨.hbm, 79, rfl⟩
abbrev main_v56 : Ref sig .tc := ⟨.hbm, 80, rfl⟩
abbrev main_c_12 : Ref sig .tc := ⟨.hbm, 81, rfl⟩
abbrev main_v57 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call4_c : Ref sig .tc := ⟨.hbm, 88, rfl⟩
abbrev main_call4_v0 : Ref sig .tc := ⟨.hbm, 89, rfl⟩
abbrev main_call4_v1 : Ref sig .tc := ⟨.hbm, 90, rfl⟩
abbrev main_call4_c_0 : Ref sig .tc := ⟨.hbm, 91, rfl⟩
abbrev main_call4_v2 : Ref sig .tc := ⟨.hbm, 92, rfl⟩
abbrev main_call4_v3 : Ref sig .tc := ⟨.hbm, 93, rfl⟩
abbrev main_call4_v4 : Ref sig .tc := ⟨.hbm, 94, rfl⟩
abbrev main_call4_v5 : Ref sig .tc := ⟨.hbm, 95, rfl⟩
abbrev main_call4_c_1 : Ref sig .tc := ⟨.hbm, 96, rfl⟩
abbrev main_call4_c_2 : Ref sig .tc := ⟨.hbm, 97, rfl⟩
abbrev main_call4_v6 : Ref sig .tc := ⟨.hbm, 98, rfl⟩
abbrev main_call4_v7 : Ref sig .tc := ⟨.hbm, 99, rfl⟩
abbrev main_call4_v8 : Ref sig .tc := ⟨.hbm, 100, rfl⟩
abbrev main_call4_v9 : Ref sig .tc := ⟨.hbm, 101, rfl⟩
abbrev main_call4_v10 : Ref sig .tc := ⟨.hbm, 102, rfl⟩
abbrev main_call4_v11 : Ref sig .tc := ⟨.hbm, 103, rfl⟩
abbrev main_call4_c_3 : Ref sig .tc := ⟨.hbm, 104, rfl⟩
abbrev main_call4_v12 : Ref sig .tc := ⟨.hbm, 105, rfl⟩
abbrev main_call4_v13 : Ref sig .tc := ⟨.hbm, 106, rfl⟩
abbrev main_call4_v14 : Ref sig .tc := ⟨.hbm, 107, rfl⟩
abbrev main_call4_cst : Ref sig .tc := ⟨.hbm, 108, rfl⟩
abbrev main_call4_v15 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_c_14 : Ref sig .tc := ⟨.hbm, 114, rfl⟩
abbrev main_v66 : Ref sig .tc := ⟨.hbm, 115, rfl⟩
abbrev main_v67 : Ref sig .tc := ⟨.hbm, 116, rfl⟩
abbrev main_c_15 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_c_16 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_cst_17 : Ref sig .tc := ⟨.hbm, 135, rfl⟩
abbrev main_call5_v0 : Ref sig .tc := ⟨.hbm, 136, rfl⟩
abbrev main_call5_v1 : Ref sig .tc := ⟨.hbm, 137, rfl⟩
abbrev main_call5_v2 : Ref sig .tc := ⟨.hbm, 138, rfl⟩
abbrev main_v84 : Ref sig .tc := ⟨.hbm, 139, rfl⟩
abbrev main_cst_18 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_cst_19 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_cst_20 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_cst_21 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩

abbrev nD : Nat := 1
abbrev τ : Topo := Topo.v7x

variable {F : FTy → Type} [FloatOps F]
-- ==== Kernel10.lean ====
abbrev S16384x6144 : Shape := ⟨2, ![16384, 6144]⟩
abbrev S16384x12288 : Shape := ⟨2, ![16384, 12288]⟩
abbrev S32x48 : Shape := ⟨2, ![32, 48]⟩
abbrev S1024x16x6144 : Shape := ⟨3, ![1024, 16, 6144]⟩
abbrev S16x1024x6144 : Shape := ⟨3, ![16, 1024, 6144]⟩
abbrev S_ : Shape := ⟨0, ![]⟩
abbrev S1024x16x12288 : Shape := ⟨3, ![1024, 16, 12288]⟩
abbrev S16x1024x12288 : Shape := ⟨3, ![16, 1024, 12288]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1024x6144 : Shape := ⟨4, ![16, 1, 1024, 6144]⟩
abbrev S16x1x1024x12288 : Shape := ⟨4, ![16, 1, 1024, 12288]⟩
abbrev S16x1x1024x2048 : Shape := ⟨4, ![16, 1, 1024, 2048]⟩
abbrev S16x1x1024x128 : Shape := ⟨4, ![16, 1, 1024, 128]⟩
abbrev S16x1x64x2048 : Shape := ⟨4, ![16, 1, 64, 2048]⟩
abbrev S16x1x16x2048 : Shape := ⟨4, ![16, 1, 16, 2048]⟩
abbrev S16x1x64x128 : Shape := ⟨4, ![16, 1, 64, 128]⟩
abbrev S2x16x128x256 : Shape := ⟨4, ![2, 16, 128, 256]⟩
abbrev S1x1 : Shape := ⟨2, ![1, 1]⟩
abbrev S1x1x128x256 : Shape := ⟨4, ![1, 1, 128, 256]⟩
abbrev S128x128 : Shape := ⟨2, ![128, 128]⟩
abbrev S256x128 : Shape := ⟨2, ![256, 128]⟩
abbrev S16x64x128 : Shape := ⟨3, ![16, 64, 128]⟩
abbrev S16x8x128 : Shape := ⟨3, ![16, 8, 128]⟩
abbrev S16x1x16x128 : Shape := ⟨4, ![16, 1, 16, 128]⟩
abbrev S16x16x128 : Shape := ⟨3, ![16, 16, 128]⟩
abbrev S256x256 : Shape := ⟨2, ![256, 256]⟩

abbrev nBuf : Space → Nat
  | .hbm => 129
  | .vmem => 16
  | .smem => 1
  | _ => 0

abbrev hbmTy0_0 (i : Nat) : BufTy := match i % 128 with
  | 0 => ⟨S16384x6144, .f32⟩
  | 1 => ⟨S16384x12288, .f32⟩
  | 2 => ⟨S32x48, .f32⟩
  | 3 => ⟨S1024x16x6144, .f32⟩
  | 4 => ⟨S16x1024x6144, .f32⟩
  | 5 => ⟨S16384x6144, .f32⟩
  | 6 => ⟨S_, .f32⟩
  | 7 => ⟨S16384x6144, .f32⟩
  | 8 => ⟨S16384x6144, .f32⟩
  | 9 => ⟨S_, .f32⟩
  | 10 => ⟨S_, .f32⟩
  | 11 => ⟨S16384x6144, .f32⟩
  | 12 => ⟨S16384x6144, .f32⟩
  | 13 => ⟨S16384x6144, .bf16⟩
  | 14 => ⟨S1024x16x12288, .f32⟩
  | 15 => ⟨S16x1024x12288, .f32⟩
  | 16 => ⟨S16384x12288, .f32⟩
  | 17 => ⟨S16384x12288, .bf16⟩
  | 18 => ⟨S128, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S128, .i32⟩
  | 26 => ⟨S128, .i32⟩
  | 27 => ⟨S_, .i32⟩
  | 28 => ⟨S128, .i32⟩
  | 29 => ⟨S128, .i1⟩
  | 30 => ⟨S_, .i32⟩
  | 31 => ⟨S128, .i32⟩
  | 32 => ⟨S128, .i1⟩
  | 33 => ⟨S_, .i32⟩
  | 34 => ⟨S_, .i1⟩
  | 35 => ⟨S128, .i1⟩
  | 36 => ⟨S128, .i1⟩
  | 37 => ⟨S128, .i1⟩
  | 38 => ⟨S128, .i32⟩
  | 39 => ⟨S128, .i32⟩
  | 40 => ⟨S128, .i32⟩
  | 41 => ⟨S_, .i32⟩
  | 42 => ⟨S128, .i32⟩
  | 43 => ⟨S128, .i32⟩
  | 44 => ⟨S_, .i32⟩
  | 45 => ⟨S_, .i32⟩
  | 46 => ⟨S128, .i32⟩
  | 47 => ⟨S128, .i32⟩
  | 48 => ⟨S128, .i32⟩
  | 49 => ⟨S_, .i32⟩
  | 50 => ⟨S128, .i32⟩
  | 51 => ⟨S128, .i1⟩
  | 52 => ⟨S128, .i32⟩
  | 53 => ⟨S128, .i32⟩
  | 54 => ⟨S_, .i32⟩
  | 55 => ⟨S128, .i32⟩
  | 56 => ⟨S128, .i1⟩
  | 57 => ⟨S128, .i1⟩
  | 58 => ⟨S_, .i32⟩
  | 59 => ⟨S128, .i32⟩
  | 60 => ⟨S128, .i32⟩
  | 61 => ⟨S128, .i32⟩
  | 62 => ⟨S128, .i32⟩
  | 63 => ⟨S128x1, .i32⟩
  | 64 => ⟨S_, .i32⟩
  | 65 => ⟨S128x1, .i32⟩
  | 66 => ⟨S128x1, .i32⟩
  | 67 => ⟨S_, .i32⟩
  | 68 => ⟨S128, .i32⟩
  | 69 => ⟨S128, .i32⟩
  | 70 => ⟨S256, .i32⟩
  | 71 => ⟨S1x256, .i32⟩
  | 72 => ⟨S128x256, .i32⟩
  | 73 => ⟨S128x256, .i32⟩
  | 74 => ⟨S128x256, .i32⟩
  | 75 => ⟨S_, .i32⟩
  | 76 => ⟨S128x256, .i32⟩
  | 77 => ⟨S128x256, .i1⟩
  | 78 => ⟨S_, .i32⟩
  | 79 => ⟨S128x256, .i32⟩
  | 80 => ⟨S128x256, .i1⟩
  | 81 => ⟨S128x256, .i1⟩
  | 82 => ⟨S_, .i32⟩
  | 83 => ⟨S_, .i32⟩
  | 84 => ⟨S_, .i32⟩
  | 85 => ⟨S128x256, .i32⟩
  | 86 => ⟨S128x256, .i32⟩
  | 87 => ⟨S_, .i32⟩
  | 88 => ⟨S128x256, .i32⟩
  | 89 => ⟨S128x256, .i32⟩
  | 90 => ⟨S_, .i32⟩
  | 91 => ⟨S128x256, .i32⟩
  | 92 => ⟨S128x256, .i32⟩
  | 93 => ⟨S_, .i32⟩
  | 94 => ⟨S128x256, .i32⟩
  | 95 => ⟨S128x256, .i32⟩
  | 96 => ⟨S128x256, .f32⟩
  | 97 => ⟨S_, .f32⟩
  | 98 => ⟨S128x256, .f32⟩
  | 99 => ⟨S128x256, .f32⟩
  | 100 => ⟨S128x256, .f32⟩
  | 101 => ⟨S_, .f32⟩
  | 102 => ⟨S128x256, .f32⟩
  | 103 => ⟨S128x256, .f32⟩
  | 104 => ⟨S_, .f32⟩
  | 105 => ⟨S128x256, .f32⟩
  | 106 => ⟨S128x256, .f32⟩
  | 107 => ⟨S128x256, .i32⟩
  | 108 => ⟨S_, .i32⟩
  | 109 => ⟨S128x256, .i32⟩
  | 110 => ⟨S128x256, .i32⟩
  | 111 => ⟨S_, .i32⟩
  | 112 => ⟨S128x256, .i32⟩
  | 113 => ⟨S128x256, .i32⟩
  | 114 => ⟨S_, .i32⟩
  | 115 => ⟨S128x256, .i32⟩
  | 116 => ⟨S128x256, .i1⟩
  | 117 => ⟨S128x256, .i32⟩
  | 118 => ⟨S_, .i32⟩
  | 119 => ⟨S_, .i32⟩
  | 120 => ⟨S128x256, .i32⟩
  | 121 => ⟨S128x256, .i32⟩
  | 122 => ⟨S16x1x1024x6144, .bf16⟩
  | 123 => ⟨S16x1x1024x12288, .bf16⟩
  | 124 => ⟨S16x1x1024x12288, .bf16⟩
  | 125 => ⟨S16x1x1024x12288, .bf16⟩
  | 126 => ⟨S16x1x1024x12288, .bf16⟩
  | 127 => ⟨S16x1x1024x2048, .bf16⟩
  | _ => ⟨S16384x6144, .f32⟩

abbrev hbmTy0_1 (i : Nat) : BufTy := match i % 128 with
  | 0 => ⟨S16x1x1024x128, .f32⟩
  | _ => ⟨S16384x6144, .f32⟩

abbrev hbmTy (i : Nat) : BufTy := match i / 128 with
  | 0 => hbmTy0_0 i
  | 1 => hbmTy0_1 i
  | _ => ⟨S16384x6144, .f32⟩

abbrev bufTy : (tb : Table) → Fin (tcTables nBuf tb) → BufTy
  | .hbm, ⟨i, _⟩ => hbmTy i
  | .local _ .vmem, ⟨0, _⟩ => ⟨S128x256, .i32⟩
  | .local _ .vmem, ⟨1, _⟩ => ⟨S16x1x64x2048, .bf16⟩
  | .local _ .vmem, ⟨2, _⟩ => ⟨S16x1x64x2048, .bf16⟩
  | .local _ .vmem, ⟨3, _⟩ => ⟨S16x1x16x2048, .bf16⟩
  | .local _ .vmem, ⟨4, _⟩ => ⟨S16x1x16x2048, .bf16⟩
  | .local _ .vmem, ⟨5, _⟩ => ⟨S16x1x64x2048, .bf16⟩
  | .local _ .vmem, ⟨6, _⟩ => ⟨S16x1x64x2048, .bf16⟩
  | .local _ .vmem, ⟨7, _⟩ => ⟨S16x1x16x2048, .bf16⟩
  | .local _ .vmem, ⟨8, _⟩ => ⟨S16x1x16x2048, .bf16⟩
  | .local _ .vmem, ⟨9, _⟩ => ⟨S16x1x64x2048, .bf16⟩
  | .local _ .vmem, ⟨10, _⟩ => ⟨S16x1x64x2048, .bf16⟩
  | .local _ .vmem, ⟨11, _⟩ => ⟨S16x1x64x2048, .bf16⟩
  | .local _ .vmem, ⟨12, _⟩ => ⟨S16x1x64x2048, .bf16⟩
  | .local _ .vmem, ⟨13, _⟩ => ⟨S16x1x64x128, .f32⟩
  | .local _ .vmem, ⟨14, _⟩ => ⟨S16x1x64x128, .f32⟩
  | .local _ .vmem, ⟨15, _⟩ => ⟨S2x16x128x256, .f32⟩
  | .local _ .smem, ⟨0, _⟩ => ⟨S32x48, .f32⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_1 : Ref sig .tc := ⟨.hbm, 27, rfl⟩
abbrev main_call0_v5 : Ref sig .tc := ⟨.hbm, 28, rfl⟩
abbrev main_call0_v6 : Ref sig .tc := ⟨.hbm, 29, rfl⟩
abbrev main_call0_c_2 : Ref sig .tc := ⟨.hbm, 30, rfl⟩
abbrev main_call0_v7 : Ref sig .tc := ⟨.hbm, 31, rfl⟩
abbrev main_call0_v8 : Ref sig .tc := ⟨.hbm, 32, rfl⟩
abbrev main_call0_c_3 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_v14 : Ref sig .tc := ⟨.hbm, 40, rfl⟩
abbrev main_c_1 : Ref sig .tc := ⟨.hbm, 41, rfl⟩
abbrev main_v15 : Ref sig .tc := ⟨.hbm, 42, rfl⟩
abbrev main_v16 : Ref sig .tc := ⟨.hbm, 43, rfl⟩
abbrev main_c_2 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_c : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_0 : Ref sig .tc := ⟨.hbm, 58, rfl⟩
abbrev main_call1_v12 : Ref sig .tc := ⟨.hbm, 59, rfl⟩
abbrev main_call1_v13 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_c_3 : Ref sig .tc := ⟨.hbm, 64, rfl⟩
abbrev main_v20 : Ref sig .tc := ⟨.hbm, 65, rfl⟩
abbrev main_v21 : Ref sig .tc := ⟨.hbm, 66, rfl⟩
abbrev main_c_4 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_c_5 : Ref sig .tc := ⟨.hbm, 75, rfl⟩
abbrev main_v29 : Ref sig .tc := ⟨.hbm, 76, rfl⟩
abbrev main_v30 : Ref sig .tc := ⟨.hbm, 77, rfl⟩
abbrev main_c_6 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_c_7 : Ref sig .tc := ⟨.hbm, 82, rfl⟩
abbrev main_c_8 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_v34 : Ref sig .tc := ⟨.hbm, 89, rfl⟩
abbrev main_c_9 : Ref sig .tc := ⟨.hbm, 90, rfl⟩
abbrev main_v35 : Ref sig .tc := ⟨.hbm, 91, rfl⟩
abbrev main_v36 : Ref sig .tc := ⟨.hbm, 92, rfl⟩
abbrev main_c_10 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_cst_11 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_cst_12 : Ref sig .tc := ⟨.hbm, 101, rfl⟩
abbrev main_v43 : Ref sig .tc := ⟨.hbm, 102, rfl⟩
abbrev main_v44 : Ref sig .tc := ⟨.hbm, 103, rfl⟩
abbrev main_cst_13 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_c_14 : Ref sig .tc := ⟨.hbm, 108, rfl⟩
abbrev main_v48 : Ref sig .tc := ⟨.hbm, 109, rfl⟩
abbrev main_v49 : Ref sig .tc := ⟨.hbm, 110, rfl⟩
abbrev main_c_15 : Ref sig .tc := ⟨.hbm, 111, rfl⟩
abbrev main_v50 : Ref sig .tc := ⟨.hbm, 112, rfl⟩
abbrev main_v51 : Ref sig .tc := ⟨.hbm, 113, rfl⟩
abbrev main_c_16 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_c_17 : Ref sig .tc := ⟨.hbm, 118, rfl⟩
abbrev main_call4_v0 : Ref sig .tc := ⟨.hbm, 119, rfl⟩
abbrev main_call4_v1 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61_0 : Ref sig .tc := ⟨.hbm, 127, rfl⟩
abbrev main_v61_1 : Ref sig .tc := ⟨.hbm, 128, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_off1 (c0_i32_1477 : BitVec 32) : Fin 2 → Nat :=
  let c0_1481 : Index := 0#32
  let c0_i32_1480 : BitVec 32 := 0#32
  let v4819 : BitVec 32 := Scalar.addi c0_i32_1480 c0_i32_1477
  let v4820 : Index := Scalar.indexCast v4819
  ![0, v4820.toNat]
def k0_off2 (c0_i32_1477 : BitVec 32) : Fin 2 → Nat :=
  let c1_1485 : Index := 1#32
  let c0_i32_1484 : BitVec 32 := 0#32
  let v4827 : BitVec 32 := Scalar.addi c0_i32_1484 c0_i32_1477
  let v4828 : Index := Scalar.indexCast v4827
  ![1, v4828.toNat]
def k0_off3 (c0_i32_1477 : BitVec 32) : Fin 2 → Nat :=
  let c2_1489 : Index := 2#32
  let c0_i32_1488 : BitVec 32 := 0#32
  let v4835 : BitVec 32 := Scalar.addi c0_i32_1488 c0_i32_1477
  let v4836 : Index := Scalar.indexCast v4835
  ![2, v4836.toNat]
def k0_off4 (c0_i32_1477 : BitVec 32) : Fin 2 → Nat :=
  let c3_1493 : Index := 3#32
  let c0_i32_1492 : BitVec 32 := 0#32
  let v4843 : BitVec 32 := Scalar.addi c0_i32_1492 c0_i32_1477
  let v4844 : Index := Scalar.indexCast v4843
  ![3, v4844.toNat]
def k0_off5 (c0_i32_1477 : BitVec 32) : Fin 2 → Nat :=
  let c4_1497 : Index := 4#32
  let c0_i32_1496 : BitVec 32 := 0#32
  let v4851 : BitVec 32 := Scalar.addi c0_i32_1496 c0_i32_1477
  let v4852 : Index := Scalar.indexCast v4851
  ![4, v4852.toNat]
def k0_off6 (c0_i32_1477 : BitVec 32) : Fin 2 → Nat :=
  let c5_1501 : Index := 5#32
  let c0_i32_1500 : BitVec 32 := 0#32
  let v4859 : BitVec 32 := Scalar.addi c0_i32_1500 c0_i32_1477
  let v4860 : Index := Scalar.indexCast v4859
  ![5, v4860.toNat]
def k0_off7 (c0_i32_1477 : BitVec 32) : Fin 2 → Nat :=
  let c6_1505 : Index := 6#32
  let c0_i32_1504 : BitVec 32 := 0#32
  let v4867 : BitVec 32 := Scalar.addi c0_i32_1504 c0_i32_1477
  let v4868 : Index := Scalar.indexCast v4867
  ![6, v4868.toNat]
def k0_off8 (c0_i32_1477 : BitVec 32) : Fin 2 → Nat :=
  let c7_1509 : Index := 7#32
  let c0_i32_1508 : BitVec 32 := 0#32
  let v4875 : BitVec 32 := Scalar.addi c0_i32_1508 c0_i32_1477
  let v4876 : Index := Scalar.indexCast v4875
  ![7, v4876.toNat]
def k0_off9 (c0_i32_1477 : BitVec 32) : Fin 2 → Nat :=
  let c8_1513 : Index := 8#32
  let c0_i32_1512 : BitVec 32 := 0#32
  let v4883 : BitVec 32 := Scalar.addi c0_i32_1512 c0_i32_1477
  let v4884 : Index := Scalar.indexCast v4883
  ![8, v4884.toNat]
def k0_off10 (c0_i32_1477 : BitVec 32) : Fin 2 → Nat :=
  let c9_1517 : Index := 9#32
  let c0_i32_1516 : BitVec 32 := 0#32
  let v4891 : BitVec 32 := Scalar.addi c0_i32_1516 c0_i32_1477
  let v4892 : Index := Scalar.indexCast v4891
  ![9, v4892.toNat]
def k0_off11 (c0_i32_1477 : BitVec 32) : Fin 2 → Nat :=
  let c10_1521 : Index := 10#32
  let c0_i32_1520 : BitVec 32 := 0#32
  let v4899 : BitVec 32 := Scalar.addi c0_i32_1520 c0_i32_1477
  let v4900 : Index := Scalar.indexCast v4899
  ![10, v4900.toNat]
def k0_off12 (c0_i32_1477 : BitVec 32) : Fin 2 → Nat :=
  let c11_1525 : Index := 11#32
  let c0_i32_1524 : BitVec 32 := 0#32
  let v4907 : BitVec 32 := Scalar.addi c0_i32_1524 c0_i32_1477
  let v4908 : Index := Scalar.indexCast v4907
  ![11, v4908.toNat]
def k0_off13 (c0_i32_1477 : BitVec 32) : Fin 2 → Nat :=
  let c12_1529 : Index := 12#32
  let c0_i32_1528 : BitVec 32 := 0#32
  let v4915 : BitVec 32 := Scalar.addi c0_i32_1528 c0_i32_1477
  let v4916 : Index := Scalar.indexCast v4915
  ![12, v4916.toNat]
def k0_off14 (c0_i32_1477 : BitVec 32) : Fin 2 → Nat :=
  let c13_1533 : Index := 13#32
  let c0_i32_1532 : BitVec 32 := 0#32
  let v4923 : BitVec 32 := Scalar.addi c0_i32_1532 c0_i32_1477
  let v4924 : Index := Scalar.indexCast v4923
  ![13, v4924.toNat]
def k0_off15 (c0_i32_1477 : BitVec 32) : Fin 2 → Nat :=
  let c14_1537 : Index := 14#32
  let c0_i32_1536 : BitVec 32 := 0#32
  let v4931 : BitVec 32 := Scalar.addi c0_i32_1536 c0_i32_1477
  let v4932 : Index := Scalar.indexCast v4931
  ![14, v4932.toNat]
def k0_off16 (c0_i32_1477 : BitVec 32) : Fin 2 → Nat :=
  let c15_1541 : Index := 15#32
  let c0_i32_1540 : BitVec 32 := 0#32
  let v4939 : BitVec 32 := Scalar.addi c0_i32_1540 c0_i32_1477
  let v4940 : Index := Scalar.indexCast v4939
  ![15, v4940.toNat]
def k0_off17 (c0_i32_1477 : BitVec 32) : Fin 2 → Nat :=
  let c16 : Index := 16#32
  let c0_i32_1544 : BitVec 32 := 0#32
  let v4947 : BitVec 32 := Scalar.addi c0_i32_1544 c0_i32_1477
  let v4948 : Index := Scalar.indexCast v4947
  ![16, v4948.toNat]
def k0_off18 (c0_i32_1477 : BitVec 32) : Fin 2 → Nat :=
  let c17 : Index := 17#32
  let c0_i32_1547 : BitVec 32 := 0#32
  let v4955 : BitVec 32 := Scalar.addi c0_i32_1547 c0_i32_1477
  let v4956 : Index := Scalar.indexCast v4955
  ![17, v4956.toNat]
def k0_off19 (c0_i32_1477 : BitVec 32) : Fin 2 → Nat :=
  let c18 : Index := 18#32
  let c0_i32_1550 : BitVec 32 := 0#32
  let v4963 : BitVec 32 := Scalar.addi c0_i32_1550 c0_i32_1477
  let v4964 : Index := Scalar.indexCast v4963
  ![18, v4964.toNat]
def k0_off20 (c0_i32_1477 : BitVec 32) : Fin 2 → Nat :=
  let c19 : Index := 19#32
  let c0_i32_1553 : BitVec 32 := 0#32
  let v4971 : BitVec 32 := Scalar.addi c0_i32_1553 c0_i32_1477
  let v4972 : Index := Scalar.indexCast v4971
  ![19, v4972.toNat]
def k0_off21 (c0_i32_1477 : BitVec 32) : Fin 2 → Nat :=
  let c20 : Index := 20#32
  let c0_i32_1556 : BitVec 32 := 0#32
  let v4979 : BitVec 32 := Scalar.addi c0_i32_1556 c0_i32_1477
  let v4980 : Index := Scalar.indexCast v4979
  ![20, v4980.toNat]
def k0_off22 (c0_i32_1477 : BitVec 32) : Fin 2 → Nat :=
  let c21 : Index := 21#32
  let c0_i32_1559 : BitVec 32 := 0#32
  let v4987 : BitVec 32 := Scalar.addi c0_i32_1559 c0_i32_1477
  let v4988 : Index := Scalar.indexCast v4987
  ![21, v4988.toNat]
def k0_off23 (c0_i32_1477 : BitVec 32) : Fin 2 → Nat :=
  let c22 : Index := 22#32
  let c0_i32_1562 : BitVec 32 := 0#32
  let v4995 : BitVec 32 := Scalar.addi c0_i32_1562 c0_i32_1477
  let v4996 : Index := Scalar.indexCast v4995
  ![22, v4996.toNat]
def k0_off24 (c0_i32_1477 : BitVec 32) : Fin 2 → Nat :=
  let c23 : Index := 23#32
  let c0_i32_1565 : BitVec 32 := 0#32
  let v5003 : BitVec 32 := Scalar.addi c0_i32_1565 c0_i32_1477
  let v5004 : Index := Scalar.indexCast v5003
  ![23, v5004.toNat]
def k0_off25 (c0_i32_1477 : BitVec 32) : Fin 2 → Nat :=
  let c24 : Index := 24#32
  let c0_i32_1568 : BitVec 32 := 0#32
  let v5011 : BitVec 32 := Scalar.addi c0_i32_1568 c0_i32_1477
  let v5012 : Index := Scalar.indexCast v5011
  ![24, v5012.toNat]
def k0_off26 (c0_i32_1477 : BitVec 32) : Fin 2 → Nat :=
  let c25 : Index := 25#32
  let c0_i32_1571 : BitVec 32 := 0#32
  let v5019 : BitVec 32 := Scalar.addi c0_i32_1571 c0_i32_1477
  let v5020 : Index := Scalar.indexCast v5019
  ![25, v5020.toNat]
def k0_off27 (c0_i32_1477 : BitVec 32) : Fin 2 → Nat :=
  let c26 : Index := 26#32
  let c0_i32_1574 : BitVec 32 := 0#32
  let v5027 : BitVec 32 := Scalar.addi c0_i32_1574 c0_i32_1477
  let v5028 : Index := Scalar.indexCast v5027
  ![26, v5028.toNat]
def k0_off28 (c0_i32_1477 : BitVec 32) : Fin 2 → Nat :=
  let c27 : Index := 27#32
  let c0_i32_1577 : BitVec 32 := 0#32
  let v5035 : BitVec 32 := Scalar.addi c0_i32_1577 c0_i32_1477
  let v5036 : Index := Scalar.indexCast v5035
  ![27, v5036.toNat]
def k0_off29 (c0_i32_1477 : BitVec 32) : Fin 2 → Nat :=
  let c28 : Index := 28#32
  let c0_i32_1580 : BitVec 32 := 0#32
  let v5043 : BitVec 32 := Scalar.addi c0_i32_1580 c0_i32_1477
  let v5044 : Index := Scalar.indexCast v5043
  ![28, v5044.toNat]
def k0_off30 (c0_i32_1477 : BitVec 32) : Fin 2 → Nat :=
  let c29 : Index := 29#32
  let c0_i32_1583 : BitVec 32 := 0#32
  let v5051 : BitVec 32 := Scalar.addi c0_i32_1583 c0_i32_1477
  let v5052 : Index := Scalar.indexCast v5051
  ![29, v5052.toNat]
def k0_off31 (c0_i32_1477 : BitVec 32) : Fin 2 → Nat :=
  let c30 : Index := 30#32
  let c0_i32_1586 : BitVec 32 := 0#32
  let v5059 : BitVec 32 := Scalar.addi c0_i32_1586 c0_i32_1477
  let v5060 : Index := Scalar.indexCast v5059
  ![30, v5060.toNat]
def k0_off32 (c0_i32_1477 : BitVec 32) : Fin 2 → Nat :=
  let c31 : Index := 31#32
  let c0_i32_1589 : BitVec 32 := 0#32
  let v5067 : BitVec 32 := Scalar.addi c0_i32_1589 c0_i32_1477
  let v5068 : Index := Scalar.indexCast v5067
  ![31, v5068.toNat]
def k0_off33 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v113 : Index := Scalar.indexCast v6
  let c0_32 : Index := 0#32
  let c0_33 : Index := 0#32
  let c0_34 : Index := 0#32
  ![v113.toNat, 0, 0, 0]
def k0_off34 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v412 : Index := Scalar.indexCast v6
  let c1 : Index := 1#32
  let c0_125 : Index := 0#32
  let c0_126 : Index := 0#32
  ![v412.toNat, 1, 0, 0]
def k0_off35 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v711 : Index := Scalar.indexCast v6
  let c2 : Index := 2#32
  let c0_217 : Index := 0#32
  let c0_218 : Index := 0#32
  ![v711.toNat, 2, 0, 0]
def k0_off36 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v1010 : Index := Scalar.indexCast v6
  let c3 : Index := 3#32
  let c0_308 : Index := 0#32
  let c0_309 : Index := 0#32
  ![v1010.toNat, 3, 0, 0]
def k0_off37 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v1309 : Index := Scalar.indexCast v6
  let c4 : Index := 4#32
  let c0_399 : Index := 0#32
  let c0_400 : Index := 0#32
  ![v1309.toNat, 4, 0, 0]
def k0_off38 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v1608 : Index := Scalar.indexCast v6
  let c5 : Index := 5#32
  let c0_490 : Index := 0#32
  let c0_491 : Index := 0#32
  ![v1608.toNat, 5, 0, 0]
def k0_off39 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v1907 : Index := Scalar.indexCast v6
  let c6 : Index := 6#32
  let c0_581 : Index := 0#32
  let c0_582 : Index := 0#32
  ![v1907.toNat, 6, 0, 0]
def k0_off40 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v2206 : Index := Scalar.indexCast v6
  let c7 : Index := 7#32
  let c0_672 : Index := 0#32
  let c0_673 : Index := 0#32
  ![v2206.toNat, 7, 0, 0]
def k0_off41 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v2505 : Index := Scalar.indexCast v6
  let c8 : Index := 8#32
  let c0_763 : Index := 0#32
  let c0_764 : Index := 0#32
  ![v2505.toNat, 8, 0, 0]
def k0_off42 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v2804 : Index := Scalar.indexCast v6
  let c9 : Index := 9#32
  let c0_854 : Index := 0#32
  let c0_855 : Index := 0#32
  ![v2804.toNat, 9, 0, 0]
def k0_off43 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v3103 : Index := Scalar.indexCast v6
  let c10 : Index := 10#32
  let c0_945 : Index := 0#32
  let c0_946 : Index := 0#32
  ![v3103.toNat, 10, 0, 0]
def k0_off44 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v3402 : Index := Scalar.indexCast v6
  let c11 : Index := 11#32
  let c0_1036 : Index := 0#32
  let c0_1037 : Index := 0#32
  ![v3402.toNat, 11, 0, 0]
def k0_off45 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v3701 : Index := Scalar.indexCast v6
  let c12 : Index := 12#32
  let c0_1127 : Index := 0#32
  let c0_1128 : Index := 0#32
  ![v3701.toNat, 12, 0, 0]
def k0_off46 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v4000 : Index := Scalar.indexCast v6
  let c13 : Index := 13#32
  let c0_1218 : Index := 0#32
  let c0_1219 : Index := 0#32
  ![v4000.toNat, 13, 0, 0]
def k0_off47 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v4299 : Index := Scalar.indexCast v6
  let c14 : Index := 14#32
  let c0_1309 : Index := 0#32
  let c0_1310 : Index := 0#32
  ![v4299.toNat, 14, 0, 0]
def k0_off48 (i : grid0.Coords) : Fin 4 → Nat :=
  let arg1 : BitVec 32 := BitVec.ofNat 32 (i 1).val
  let c0_i32_2 : BitVec 32 := 0#32
  let v5 : BitVec 1 := Scalar.cmpi .eq arg1 c0_i32_2
  let c1_i32 : BitVec 32 := 1#32
  let c0_i32_3 : BitVec 32 := 0#32
  let v6 : BitVec 32 := Scalar.select v5 c1_i32 c0_i32_3
  let v4598 : Index := Scalar.indexCast v6
  let c15 : Index := 15#32
  let c0_1400 : Index := 0#32
  let c0_1401 : Index := 0#32
  ![v4598.toNat, 15, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, arg0.toNat, v2.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c3_i32 : BitVec 32 := 3#32
  let c0_i32_1 : BitVec 32 := 0#32
  ![c0_i32_0.toNat, arg0.toNat, v2.toNat, c3_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, arg0.toNat, arg1.toNat, c3_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 1 → Memref sig .tc .smem S32x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S16x1x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1x16x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1x64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1x16x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x1x64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x1x64x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x1x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel10Ideal.lean ====
variable {F : FTy → Type} [FloatOps F] [Named F]
def κ : String → Option EReal := fun
  | "log2e" => some (((Real.log 2)⁻¹ : ℝ) : EReal)
  | "mask" => some ⊥
  | _ => none
-- ==== Reference10Ideal.lean ====
abbrev S16384x6144 : Shape := ⟨2, ![16384, 6144]⟩
abbrev S16384x12288 : Shape := ⟨2, ![16384, 12288]⟩
abbrev S32x48 : Shape := ⟨2, ![32, 48]⟩
abbrev S16384x3x16x128 : Shape := ⟨4, ![16384, 3, 16, 128]⟩
abbrev S16384x1x16x128 : Shape := ⟨4, ![16384, 1, 16, 128]⟩
abbrev S16384x16x128 : Shape := ⟨3, ![16384, 16, 128]⟩
abbrev S16384x2x3x16x128 : Shape := ⟨5, ![16384, 2, 3, 16, 128]⟩
abbrev S16384x1x1x16x128 : Shape := ⟨5, ![16384, 1, 1, 16, 128]⟩
abbrev S32x16 : Shape := ⟨2, ![32, 16]⟩
abbrev S1x16384x16x128 : Shape := ⟨4, ![1, 16384, 16, 128]⟩
abbrev S1x128x128x16x128 : Shape := ⟨5, ![1, 128, 128, 16, 128]⟩
abbrev S_ : Shape := ⟨0, ![]⟩
abbrev S1x129x128x16x128 : Shape := ⟨5, ![1, 129, 128, 16, 128]⟩
abbrev S1x128x256x16x128 : Shape := ⟨5, ![1, 128, 256, 16, 128]⟩
abbrev S1x128x16x128x256 : Shape := ⟨5, ![1, 128, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S1 : Shape := ⟨1, ![1]⟩
abbrev S1x1x1 : Shape := ⟨3, ![1, 1, 1]⟩
abbrev S128x256x16 : Shape := ⟨3, ![128, 256, 16]⟩
abbrev S16x128x256 : Shape := ⟨3, ![16, 128, 256]⟩
abbrev S1x128x256 : Shape := ⟨3, ![1, 128, 256]⟩
abbrev S128x1x256 : Shape := ⟨3, ![128, 1, 256]⟩
abbrev S128x128x256 : Shape := ⟨3, ![128, 128, 256]⟩
abbrev S1x128x1x128x256 : Shape := ⟨5, ![1, 128, 1, 128, 256]⟩
abbrev S1x1x16x128x256 : Shape := ⟨5, ![1, 1, 16, 128, 256]⟩
abbrev S1x128x16x128 : Shape := ⟨4, ![1, 128, 16, 128]⟩
abbrev S1x128x16x128x1 : Shape := ⟨5, ![1, 128, 16, 128, 1]⟩
abbrev S1x128x16x128x128 : Shape := ⟨5, ![1, 128, 16, 128, 128]⟩
abbrev S1x128x128x16 : Shape := ⟨4, ![1, 128, 128, 16]⟩
abbrev S1x128x128x96 : Shape := ⟨4, ![1, 128, 128, 96]⟩
abbrev S1x128x128x128 : Shape := ⟨4, ![1, 128, 128, 128]⟩
abbrev S1x1024x16x2048 : Shape := ⟨4, ![1, 1024, 16, 2048]⟩
abbrev S16x1x1024x2048 : Shape := ⟨4, ![16, 1, 1024, 2048]⟩
abbrev S1x1024x16x128 : Shape := ⟨4, ![1, 1024, 16, 128]⟩
abbrev S16x1x1024x128 : Shape := ⟨4, ![16, 1, 1024, 128]⟩

abbrev nBuf : Space → Nat
  | .hbm => 164
  | .vmem => 0
  | .smem => 0
  | _ => 0

abbrev hbmTy0_0 (i : Nat) : BufTy := match i % 128 with
  | 0 => ⟨S16384x6144, .f32⟩
  | 1 => ⟨S16384x12288, .f32⟩
  | 2 => ⟨S32x48, .f32⟩
  | 3 => ⟨S16384x3x16x128, .f32⟩
  | 4 => ⟨S16384x1x16x128, .f32⟩
  | 5 => ⟨S16384x16x128, .f32⟩
  | 6 => ⟨S16384x2x3x16x128, .f32⟩
  | 7 => ⟨S16384x1x1x16x128, .f32⟩
  | 8 => ⟨S16384x16x128, .f32⟩
  | 9 => ⟨S16384x1x1x16x128, .f32⟩
  | 10 => ⟨S16384x16x128, .f32⟩
  | 11 => ⟨S32x16, .f32⟩
  | 12 => ⟨S16384x1x16x128, .f32⟩
  | 13 => ⟨S1x16384x16x128, .f32⟩
  | 14 => ⟨S1x128x128x16x128, .f32⟩
  | 15 => ⟨S16384x1x16x128, .f32⟩
  | 16 => ⟨S1x16384x16x128, .f32⟩
  | 17 => ⟨S1x128x128x16x128, .f32⟩
  | 18 => ⟨S_, .i32⟩
  | 19 => ⟨S_, .f32⟩
  | 20 => ⟨S1x129x128x16x128, .f32⟩
  | 21 => ⟨S1x128x128x16x128, .f32⟩
  | 22 => ⟨S1x128x256x16x128, .f32⟩
  | 23 => ⟨S16384x1x16x128, .f32⟩
  | 24 => ⟨S1x16384x16x128, .f32⟩
  | 25 => ⟨S1x128x128x16x128, .f32⟩
  | 26 => ⟨S_, .i32⟩
  | 27 => ⟨S_, .f32⟩
  | 28 => ⟨S1x129x128x16x128, .f32⟩
  | 29 => ⟨S1x128x128x16x128, .f32⟩
  | 30 => ⟨S1x128x256x16x128, .f32⟩
  | 31 => ⟨S1x128x16x128x256, .f32⟩
  | 32 => ⟨S_, .f32⟩
  | 33 => ⟨S1x128x16x128x256, .f32⟩
  | 34 => ⟨S1x128x16x128x256, .f32⟩
  | 35 => ⟨S128, .i32⟩
  | 36 => ⟨S128x1, .i32⟩
  | 37 => ⟨S256, .i32⟩
  | 38 => ⟨S1x256, .i32⟩
  | 39 => ⟨S_, .i32⟩
  | 40 => ⟨S128x1, .i32⟩
  | 41 => ⟨S128x1, .i32⟩
  | 42 => ⟨S128x256, .i32⟩
  | 43 => ⟨S128x256, .i32⟩
  | 44 => ⟨S128x256, .i32⟩
  | 45 => ⟨S_, .i32⟩
  | 46 => ⟨S128x256, .i32⟩
  | 47 => ⟨S128x256, .i1⟩
  | 48 => ⟨S_, .i32⟩
  | 49 => ⟨S128x256, .i32⟩
  | 50 => ⟨S128x256, .i1⟩
  | 51 => ⟨S128x256, .i1⟩
  | 52 => ⟨S_, .i32⟩
  | 53 => ⟨S_, .i32⟩
  | 54 => ⟨S_, .i32⟩
  | 55 => ⟨S128x256, .i32⟩
  | 56 => ⟨S128x256, .i32⟩
  | 57 => ⟨S_, .i32⟩
  | 58 => ⟨S128x256, .i32⟩
  | 59 => ⟨S128x256, .i32⟩
  | 60 => ⟨S_, .i32⟩
  | 61 => ⟨S128x256, .i32⟩
  | 62 => ⟨S128x256, .i32⟩
  | 63 => ⟨S_, .i32⟩
  | 64 => ⟨S128x256, .i32⟩
  | 65 => ⟨S128x256, .i32⟩
  | 66 => ⟨S128x256, .f32⟩
  | 67 => ⟨S_, .f32⟩
  | 68 => ⟨S128x256, .f32⟩
  | 69 => ⟨S128x256, .f32⟩
  | 70 => ⟨S128x256, .f32⟩
  | 71 => ⟨S_, .f32⟩
  | 72 => ⟨S128x256, .f32⟩
  | 73 => ⟨S128x256, .f32⟩
  | 74 => ⟨S_, .f32⟩
  | 75 => ⟨S128x256, .f32⟩
  | 76 => ⟨S128x256, .f32⟩
  | 77 => ⟨S128x256, .i32⟩
  | 78 => ⟨S_, .i32⟩
  | 79 => ⟨S128x256, .i32⟩
  | 80 => ⟨S128x256, .i32⟩
  | 81 => ⟨S_, .i32⟩
  | 82 => ⟨S128x256, .i32⟩
  | 83 => ⟨S128x256, .i32⟩
  | 84 => ⟨S_, .i32⟩
  | 85 => ⟨S128x256, .i32⟩
  | 86 => ⟨S128x256, .i1⟩
  | 87 => ⟨S128x256, .i32⟩
  | 88 => ⟨S_, .i32⟩
  | 89 => ⟨S128x256, .i32⟩
  | 90 => ⟨S128x256, .i1⟩
  | 91 => ⟨S_, .i32⟩
  | 92 => ⟨S128x256, .i32⟩
  | 93 => ⟨S128x256, .i32⟩
  | 94 => ⟨S128x256, .i32⟩
  | 95 => ⟨S128x256x1, .i32⟩
  | 96 => ⟨S1, .i32⟩
  | 97 => ⟨S_, .i32⟩
  | 98 => ⟨S128x256x1, .i32⟩
  | 99 => ⟨S128x256x1, .i1⟩
  | 100 => ⟨S1x1x1, .i32⟩
  | 101 => ⟨S128x256x1, .i32⟩
  | 102 => ⟨S128x256x1, .i1⟩
  | 103 => ⟨S128x256x1, .i1⟩
  | 104 => ⟨S_, .i1⟩
  | 105 => ⟨S128x256, .i1⟩
  | 106 => ⟨S128x256x16, .f32⟩
  | 107 => ⟨S128x256x16, .i1⟩
  | 108 => ⟨S_, .f32⟩
  | 109 => ⟨S128x256x16, .f32⟩
  | 110 => ⟨S128x256x16, .f32⟩
  | 111 => ⟨S16x128x256, .f32⟩
  | 112 => ⟨S128, .i32⟩
  | 113 => ⟨S128x1, .i32⟩
  | 114 => ⟨S_, .i32⟩
  | 115 => ⟨S128x1, .i32⟩
  | 116 => ⟨S128x1, .i32⟩
  | 117 => ⟨S_, .i32⟩
  | 118 => ⟨S128x1, .i32⟩
  | 119 => ⟨S128x1, .i32⟩
  | 120 => ⟨S128x256, .i32⟩
  | 121 => ⟨S128x256, .i32⟩
  | 122 => ⟨S128x256, .i32⟩
  | 123 => ⟨S1x128x256, .i1⟩
  | 124 => ⟨S_, .i32⟩
  | 125 => ⟨S128x256, .i32⟩
  | 126 => ⟨S128x256, .i1⟩
  | 127 => ⟨S128x1x256, .i1⟩
  | _ => ⟨S16384x6144, .f32⟩

abbrev hbmTy0_1 (i : Nat) : BufTy := match i % 128 with
  | 0 => ⟨S128x128x256, .i1⟩
  | 1 => ⟨S128x128x256, .i1⟩
  | 2 => ⟨S128x128x256, .i1⟩
  | 3 => ⟨S1x128x1x128x256, .i1⟩
  | 4 => ⟨S1x1x16x128x256, .f32⟩
  | 5 => ⟨S1x128x16x128x256, .f32⟩
  | 6 => ⟨S1x128x16x128x256, .f32⟩
  | 7 => ⟨S_, .f32⟩
  | 8 => ⟨S_, .f32⟩
  | 9 => ⟨S1x128x16x128x256, .i1⟩
  | 10 => ⟨S1x128x16x128x256, .f32⟩
  | 11 => ⟨S1x128x16x128x256, .f32⟩
  | 12 => ⟨S_, .f32⟩
  | 13 => ⟨S1x128x16x128, .f32⟩
  | 14 => ⟨S1x128x16x128x1, .f32⟩
  | 15 => ⟨S1x128x16x128x256, .f32⟩
  | 16 => ⟨S1x128x16x128x256, .f32⟩
  | 17 => ⟨S1x128x16x128x256, .f32⟩
  | 18 => ⟨S_, .f32⟩
  | 19 => ⟨S1x128x16x128, .f32⟩
  | 20 => ⟨S1x128x16x128x128, .f32⟩
  | 21 => ⟨S1x128x128x16x128, .f32⟩
  | 22 => ⟨S1x128x128x16, .f32⟩
  | 23 => ⟨S_, .f32⟩
  | 24 => ⟨S_, .f32⟩
  | 25 => ⟨S1x128x128x16, .f32⟩
  | 26 => ⟨S1x128x128x16, .f32⟩
  | 27 => ⟨S1x128x128x16, .f32⟩
  | 28 => ⟨S_, .f32⟩
  | 29 => ⟨S1x128x128x96, .f32⟩
  | 30 => ⟨S1x128x128x128, .f32⟩
  | 31 => ⟨S1x1024x16x2048, .f32⟩
  | 32 => ⟨S16x1x1024x2048, .f32⟩
  | 33 => ⟨S16x1x1024x2048, .bf16⟩
  | 34 => ⟨S1x1024x16x128, .f32⟩
  | 35 => ⟨S16x1x1024x128, .f32⟩
  | _ => ⟨S16384x6144, .f32⟩

abbrev hbmTy (i : Nat) : BufTy := match i / 128 with
  | 0 => hbmTy0_0 i
  | 1 => hbmTy0_1 i
  | _ => ⟨S16384x6144, .f32⟩

abbrev bufTy : (tb : Table) → Fin (tcTables nBuf tb) → BufTy
  | .hbm, ⟨i, _⟩ => hbmTy i
  | _, _ => ⟨S16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_call0_v0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_0 : Ref sig .tc := ⟨.hbm, 26, rfl⟩
abbrev main_call1_v0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_1 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_2 : Ref sig .tc := ⟨.hbm, 45, rfl⟩
abbrev main_v36 : Ref sig .tc := ⟨.hbm, 46, rfl⟩
abbrev main_v37 : Ref sig .tc := ⟨.hbm, 47, rfl⟩
abbrev main_c_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_4 : Ref sig .tc := ⟨.hbm, 52, rfl⟩
abbrev main_c_5 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_v41 : Ref sig .tc := ⟨.hbm, 59, rfl⟩
abbrev main_c_6 : Ref sig .tc := ⟨.hbm, 60, rfl⟩
abbrev main_v42 : Ref sig .tc := ⟨.hbm, 61, rfl⟩
abbrev main_v43 : Ref sig .tc := ⟨.hbm, 62, rfl⟩
abbrev main_c_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_11 : Ref sig .tc := ⟨.hbm, 78, rfl⟩
abbrev main_v55 : Ref sig .tc := ⟨.hbm, 79, rfl⟩
abbrev main_v56 : Ref sig .tc := ⟨.hbm, 80, rfl⟩
abbrev main_c_12 : Ref sig .tc := ⟨.hbm, 81, rfl⟩
abbrev main_v57 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call4_c : Ref sig .tc := ⟨.hbm, 88, rfl⟩
abbrev main_call4_v0 : Ref sig .tc := ⟨.hbm, 89, rfl⟩
abbrev main_call4_v1 : Ref sig .tc := ⟨.hbm, 90, rfl⟩
abbrev main_call4_c_0 : Ref sig .tc := ⟨.hbm, 91, rfl⟩
abbrev main_call4_v2 : Ref sig .tc := ⟨.hbm, 92, rfl⟩
abbrev main_call4_v3 : Ref sig .tc := ⟨.hbm, 93, rfl⟩
abbrev main_call4_v4 : Ref sig .tc := ⟨.hbm, 94, rfl⟩
abbrev main_call4_v5 : Ref sig .tc := ⟨.hbm, 95, rfl⟩
abbrev main_call4_c_1 : Ref sig .tc := ⟨.hbm, 96, rfl⟩
abbrev main_call4_c_2 : Ref sig .tc := ⟨.hbm, 97, rfl⟩
abbrev main_call4_v6 : Ref sig .tc := ⟨.hbm, 98, rfl⟩
abbrev main_call4_v7 : Ref sig .tc := ⟨.hbm, 99, rfl⟩
abbrev main_call4_v8 : Ref sig .tc := ⟨.hbm, 100, rfl⟩
abbrev main_call4_v9 : Ref sig .tc := ⟨.hbm, 101, rfl⟩
abbrev main_call4_v10 : Ref sig .tc := ⟨.hbm, 102, rfl⟩
abbrev main_call4_v11 : Ref sig .tc := ⟨.hbm, 103, rfl⟩
abbrev main_call4_c_3 : Ref sig .tc := ⟨.hbm, 104, rfl⟩
abbrev main_call4_v12 : Ref sig .tc := ⟨.hbm, 105, rfl⟩
abbrev main_call4_v13 : Ref sig .tc := ⟨.hbm, 106, rfl⟩
abbrev main_call4_v14 : Ref sig .tc := ⟨.hbm, 107, rfl⟩
abbrev main_call4_cst : Ref sig .tc := ⟨.hbm, 108, rfl⟩
abbrev main_call4_v15 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_c_14 : Ref sig .tc := ⟨.hbm, 114, rfl⟩
abbrev main_v66 : Ref sig .tc := ⟨.hbm, 115, rfl⟩
abbrev main_v67 : Ref sig .tc := ⟨.hbm, 116, rfl⟩
abbrev main_c_15 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_c_16 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_cst_17 : Ref sig .tc := ⟨.hbm, 135, rfl⟩
abbrev main_call5_v0 : Ref sig .tc := ⟨.hbm, 136, rfl⟩
abbrev main_call5_v1 : Ref sig .tc := ⟨.hbm, 137, rfl⟩
abbrev main_call5_v2 : Ref sig .tc := ⟨.hbm, 138, rfl⟩
abbrev main_v84 : Ref sig .tc := ⟨.hbm, 139, rfl⟩
abbrev main_cst_18 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_cst_19 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_cst_20 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_cst_21 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩

abbrev nD : Nat := 1
abbrev τ : Topo := Topo.v7x

variable {F : FTy → Type} [FloatOps F]
-- ==== Proof.FfnAlgebra.lean ====
/-
  The arithmetic of the feed-forward layer over the extended reals, away from any program: the two spellings of the
  logistic-weighted gate agree at a real argument, a normalised row of reals is real, and a real dot product is real.
-/
module

public import Idealize.ShloMosaic.PureOps.Ideal
public import Idealize.ShloMosaic.Lib.ValueIdxCore

@[expose] public section

noncomputable section

namespace Cert.FfnAlgebra

open Idealize.ShloMosaic

/-- The divisor of the mean: the row length, 2048. -/
abbrev rowLen : EReal := Ideal.ofBits .f32 0x45000000#32

/-- The constant added under the root. -/
abbrev eps : EReal := Ideal.ofBits .f32 0x358637BD#32

/-- One half. -/
abbrev half : EReal := Ideal.ofBits .f32 0x3F000000#32

/-- The factor a row is scaled by: the reciprocal root of its mean square plus `eps`. -/
def invRms {n : ℕ} (row : Fin n → EReal) : EReal :=
  Ideal.rsqrt (Ideal.div (∑ k, row k * row k) rowLen + eps)

/-- The gate as the kernel computes it: with `h` half the argument, `h + h · tanh h`. -/
def siluTanh (g : EReal) : EReal := half * g + half * g * Ideal.tanh (half * g)

/-- The gate as the layer states it: `g · 1 / (1 + e⁻ᵍ)`. -/
def siluExp (g : EReal) : EReal := g * Ideal.div 1 (1 + Ideal.exp (-g))

theorem half_eq : half = ((1 / 2 : ℝ) : EReal) := by
  simp [half, Ideal.ofBits, Ideal.ieee, -EReal.coe_mul]; norm_num

theorem rowLen_eq : rowLen = ((2048 : ℝ) : EReal) := by
  simp [rowLen, Ideal.ofBits, Ideal.ieee, -EReal.coe_mul]; norm_num

theorem eps_real : ∃ e : ℝ, 0 < e ∧ eps = (e : EReal) := by
  refine ⟨_, ?_, by simp [eps, Ideal.ofBits, Ideal.ieee, -EReal.coe_mul]; rfl⟩
  norm_num

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- A finite sum of reals, taken in the extended reals. -/
theorem sum_coe {n : ℕ} (r : Fin n → ℝ) : (∑ k, (r k : EReal)) = ((∑ k, r k : ℝ) : EReal) :=
  (map_sum (⟨⟨fun a : ℝ => (a : EReal), EReal.coe_zero⟩, EReal.coe_add⟩ : ℝ →+ EReal) r Finset.univ).symm

theorem IsReal.sum {n : ℕ} {f : Fin n → EReal} (h : ∀ k, IsReal (f k)) : IsReal (∑ k, f k) := by
  choose r hr using h
  exact ⟨∑ k, r k, by rw [← sum_coe]; exact Finset.sum_congr rfl fun k _ => hr k⟩

/-- A row of reals is scaled by a real: its mean square plus `eps` is positive. -/
theorem isReal_invRms {n : ℕ} {row : Fin n → EReal} (h : ∀ k, IsReal (row k)) : IsReal (invRms row) := by
  choose r hr using h
  obtain ⟨e, he, hE⟩ := eps_real
  have hs : (∑ k, row k * row k) = ((∑ k, r k * r k : ℝ) : EReal) := by
    rw [← sum_coe]
    exact Finset.sum_congr rfl fun k _ => by rw [hr k, EReal.coe_mul]
  have h0 : 0 ≤ ∑ k, r k * r k := Finset.sum_nonneg fun k _ => mul_self_nonneg _
  unfold invRms
  rw [hs, rowLen_eq, hE, Ideal.div_coe (by norm_num), ← EReal.coe_mul, ← EReal.coe_add, Ideal.rsqrt_coe]
  have hp : 0 < (∑ k, r k * r k) * (1 / 2048) + e := by positivity
  rw [if_neg (not_lt.mpr hp.le), if_neg hp.ne']
  exact ⟨_, rfl⟩

/-- The two spellings of the gate agree at a real argument: `tanh h = (eʰ - e⁻ʰ) / (eʰ + e⁻ʰ)` with `h` half of it. -/
theorem siluTanh_eq {g : EReal} (hg : IsReal g) : siluTanh g = siluExp g := by
  obtain ⟨r, rfl⟩ := hg
  unfold siluTanh siluExp
  have h1 : (1 : EReal) = ((1 : ℝ) : EReal) := rfl
  rw [half_eq, ← EReal.coe_mul, Ideal.tanh_coe, ← EReal.coe_mul, ← EReal.coe_add, ← EReal.coe_neg, Ideal.exp_coe, h1,
    ← EReal.coe_add, Ideal.div_coe (by positivity : (1 + Real.exp (-r)) ≠ 0), ← EReal.coe_mul, ← EReal.coe_mul]
  congr 1
  have hx : Real.exp (-r) = Real.exp (-(1 / 2 * r)) * Real.exp (-(1 / 2 * r)) := by
    rw [← Real.exp_add]; congr 1; ring
  have hm : Real.exp (1 / 2 * r) * Real.exp (-(1 / 2 * r)) = 1 := by rw [← Real.exp_add]; simp
  rw [Real.tanh_eq_sinh_div_cosh, Real.sinh_eq, Real.cosh_eq, hx]
  set a := Real.exp (1 / 2 * r) with ha
  set b := Real.exp (-(1 / 2 * r)) with hb
  have pa : 0 < a := Real.exp_pos _
  have pb : 0 < b := Real.exp_pos _
  have e1 : a + b ≠ 0 := (add_pos pa pb).ne'
  have e2 : 1 + b * b ≠ 0 := (by positivity : (0 : ℝ) < 1 + b * b).ne'
  field_simp
  have hab : a = 1 / b := by field_simp; exact hm
  rw [hab]
  field_simp
  ring

end Cert.FfnAlgebra

end
-- ==== Proof.FfnSpec.lean ====
/-
  The feed-forward layer as a function of its arrays, over the extended reals and away from any program: `x` rows of
  2048, the two gains, the fused gate/up weights (gate columns first), the down weights. `σ` is the spelling of the gate's
  activation.
-/
module

public import proofs.«01_k».proof.Proof.FfnAlgebra

@[expose] public section

noncomputable section

namespace Cert.FfnSpec

open Idealize.ShloMosaic Cert.FfnAlgebra

variable (σ : EReal → EReal) (x : Fin 16384 → Fin 2048 → EReal) (g : Fin 2048 → EReal) (W : Fin 2048 → Fin 11264 → EReal)
  (Wd : Fin 5632 → Fin 2048 → EReal) (gp : Fin 2048 → EReal)

/-- The normalised row. -/
def xn (s : Fin 16384) (k : Fin 2048) : EReal := x s k * invRms (x s) * g k

/-- Column `c` of the fused projection. -/
def proj (s : Fin 16384) (c : Fin 11264) : EReal := ∑ k, xn x g s k * W k c

/-- The activation that enters the down projection. -/
def act (s : Fin 16384) (c : Fin 5632) : EReal :=
  σ (proj x g W s ⟨c, by omega⟩) * proj x g W s ⟨5632 + c, by omega⟩

/-- The down projection. -/
def down (s : Fin 16384) (l : Fin 2048) : EReal := ∑ c, act σ x g W s c * Wd c l

/-- The finished row: the residual plus the normalised sum. -/
def finish (x D : Fin 2048 → EReal) (g : Fin 2048 → EReal) (l : Fin 2048) : EReal := x l + D l * invRms D * g l

/-- The layer. -/
def out (s : Fin 16384) (l : Fin 2048) : EReal := finish (x s) (down σ x g W Wd s) gp l

/-- Column block `j` of 512 of the down projection. -/
def part (s : Fin 16384) (l : Fin 2048) (j : Fin 11) : EReal :=
  ∑ q : Fin 512, act σ x g W s ⟨512 * j + q, by omega⟩ * Wd ⟨512 * j + q, by omega⟩ l

/-- The eleven column blocks together are the whole contraction. -/
theorem sum_part (s : Fin 16384) (l : Fin 2048) : ∑ j, part σ x g W Wd s l j = down σ x g W Wd s l := by
  unfold part down
  rw [← Fintype.sum_prod_type']
  exact Fintype.sum_equiv (finProdFinEquiv (m := 11) (n := 512)) _ _ fun p => by
    have e : (⟨512 * p.1 + p.2, by omega⟩ : Fin 5632) = finProdFinEquiv p := Fin.ext (by simp [finProdFinEquiv, Nat.add_comm])
    rw [e]

/-- The row's projection is a real number when its inputs are. -/
theorem isReal_proj (hx : ∀ s k, IsReal (x s k)) (hg : ∀ k, IsReal (g k)) (hW : ∀ k c, IsReal (W k c)) (s : Fin 16384) (c : Fin 11264) :
    IsReal (proj x g W s c) :=
  IsReal.sum fun k => (((hx s k).mul (isReal_invRms (hx s))).mul (hg k)).mul (hW k c)

/-- At real inputs the two spellings of the activation give one layer. -/
theorem out_eq (hx : ∀ s k, IsReal (x s k)) (hg : ∀ k, IsReal (g k)) (hW : ∀ k c, IsReal (W k c)) :
    out siluTanh x g W Wd gp = out siluExp x g W Wd gp := by
  have h : act siluTanh x g W = act siluExp x g W :=
    funext fun s => funext fun c => congrArg (· * _) (siluTanh_eq (isReal_proj x g W hx hg hW s _))
  funext s l
  unfold out down
  rw [h]

end Cert.FfnSpec

end
-- ==== Proof.FfnPayloads.lean ====
module

public import proofs.«01_k».proof.Proof.FfnSpec
public import proofs.«01_k».proof.Proof.Gen.KernelIdeal.Value
public import Idealize.ShloMosaic.Lib.Pointwise
public import Idealize.ShloMosaic.Lib.Pipeline.ValueKit.Tiles

@[expose] public section

set_option maxRecDepth 16384

noncomputable section

namespace Cert.KernelIdeal.FfnPayloads

open Cert.KernelIdeal Cert.KernelIdeal.Gen Cert.FfnAlgebra Idealize.ShloMosaic
open Cert.FfnSpec (finish)

theorem pay1_apply (x : Vec Ideal S1024x2048 .f32) (g : Vec Ideal S1x2048 .f32) (r : Fin 1024) (l : Fin 2048) :
    k0_pay1 (F := Ideal) x g (ix2 r l) = x (ix2 r l) * invRms (fun k : Fin 2048 => x (ix2 r k)) * g (ix2 0 l) := by
  pointwise [k0_pay1]
  rfl

theorem pay3_apply (o : Vec Ideal S1024x2048 .f32) (xn : Vec Ideal S1024x2048 .bf16) (wg wu : Vec Ideal S1x2048x512 .bf16)
    (wd : Vec Ideal S1x512x2048 .bf16) (r : Fin 1024) (l : Fin 2048) :
    k0_pay3 (F := Ideal) o xn wg wu wd (ix2 r l) = o (ix2 r l) + ∑ q : Fin 512,
      siluTanh (∑ k : Fin 2048, xn (ix2 r k) * wg (ix3 0 k q)) * (∑ k : Fin 2048, xn (ix2 r k) * wu (ix3 0 k q)) * wd (ix3 0 q l) := by
  pointwise [k0_pay3]
  rfl

theorem pay5_apply (xn : Vec Ideal S1024x2048 .bf16) (wg wu : Vec Ideal S1x2048x512 .bf16) (r : Fin 1024) (q : Fin 512) :
    k0_pay5 (F := Ideal) xn wg wu (ix2 r q)
      = siluTanh (∑ k : Fin 2048, xn (ix2 r k) * wg (ix3 0 k q)) * (∑ k : Fin 2048, xn (ix2 r k) * wu (ix3 0 k q)) := by
  pointwise [k0_pay5]
  rfl

theorem pay12_apply (p : FVec Ideal S256x2048 .f32) (x o : Vec Ideal S256x2048 .f32) (g : Vec Ideal S1x2048 .f32) (r : Fin 256) (l : Fin 2048) :
    k0_pay12 (F := Ideal) p x o g (ix2 r l) = x (ix2 r l) + (o (ix2 r l) + p (ix2 r l)) *
      invRms (fun k : Fin 2048 => o (ix2 r k) + p (ix2 r k)) * g (ix2 0 l) := by
  pointwise [k0_pay12]
  rfl

theorem hz : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (a2 : Memref sig .tc .vmem S1024x2048 .f32) (h2 : a2.IsWhole)
  (a3 : Memref sig .tc .vmem S1x2048 .f32) (h3 : a3.IsWhole) (a4 : Memref sig .tc .vmem S1x2048x512 .bf16) (h4 : a4.IsWhole)
  (a5 : Memref sig .tc .vmem S1x2048x512 .bf16) (h5 : a5.IsWhole) (a6 : Memref sig .tc .vmem S1x512x2048 .bf16) (h6 : a6.IsWhole)
  (a7 : Memref sig .tc .vmem S1x2048 .f32) (h7 : a7.IsWhole) (a8 : Memref sig .tc .vmem S1024x2048 .f32) (h8 : a8.IsWhole)
  (a9 : Memref sig .tc .vmem S1024x2048 .bf16) (h9 : a9.IsWhole)
  (x0 : Vec Ideal S1024x2048 .f32) (x1 : Vec Ideal S1x2048 .f32) (x2 x3 : Vec Ideal S1x2048x512 .bf16) (x4 : Vec Ideal S1x512x2048 .bf16)
  (x5 : Vec Ideal S1x2048 .f32) (xo : Vec Ideal S1024x2048 .f32) (xs : Vec Ideal S1024x2048 .bf16)

/-- A middle point adds its block's product to the running sum. -/
theorem out_B (hc0 : ¬cond0_0 i) (hc1 : cond0_1 i) (hc2 : ¬cond0_2 i) :
    out0_B_6 c i a2 h2 a3 h3 a4 h4 a5 h5 a6 h6 a7 h7 a8 h8 a9 h9 hc0 hc1 hc2 x0 x1 x2 x3 x4 x5 xo xs = k0_pay3 xo xs x2 x3 x4 := by
  unfold out0_B_6
  rw [View.read_writes_eq_canon _ _ _ (cover0_B_6 c i a2 h2 a3 h3 a4 h4 a5 h5 a6 h6 a7 h7 a8 h8 a9 h9 hc0 hc1 hc2 x0 x1 x2 x3 x4 x5 xo xs)]
  unfold kernelRun0_B
  dsimp only
  sl_unfold_words
  rw [View.canon_unit_zero hz]
  simp only [View.readAt_eq_ld, h4.read_unread, h5.read_unread, h6.read_unread, h8.read_unread, h9.read_unread, View.ld_unit_zero (S := S1024x2048) hz, View.ld_unit_zero (S := S1x2048x512) hz3,
    View.ld_unit_zero (S := S1x512x2048) hz3]

/-- The first point of a row block normalises its rows into the scratch. -/
theorem sout_A (hc0 : cond0_0 i) (hc1 : cond0_1 i) (hc2 : ¬cond0_2 i) :
    sout0_A_0 c i a2 h2 a3 h3 a4 h4 a5 h5 a6 h6 a7 h7 a8 h8 a9 h9 hc0 hc1 hc2 x0 x1 x2 x3 x4 x5 = k0_pay1 x0 x1 := by
  unfold sout0_A_0
  rw [View.read_writes_eq_canon _ _ _ (scover0_A_0 c i a2 h2 a3 h3 a4 h4 a5 h5 a6 h6 a7 h7 a8 h8 a9 h9 hc0 hc1 hc2 x0 x1 x2 x3 x4 x5)]
  unfold kernelRun0_A
  dsimp only
  sl_unfold_words
  rw [View.canon_unit_zero hz]
  simp only [View.readAt_eq_ld, h2.read_unread, h3.read_unread, View.ld_unit_zero (S := S1024x2048) hz, View.ld_unit_zero (S := S1x2048) hz]

/-- … and starts the running sum from zero. -/
theorem out_A (hc0 : cond0_0 i) (hc1 : cond0_1 i) (hc2 : ¬cond0_2 i) :
    out0_A_6 c i a2 h2 a3 h3 a4 h4 a5 h5 a6 h6 a7 h7 a8 h8 a9 h9 hc0 hc1 hc2 x0 x1 x2 x3 x4 x5 = k0_pay3 k0_pay2 (k0_pay1 x0 x1) x2 x3 x4 := by
  unfold out0_A_6
  rw [View.read_writes_eq_canon _ _ _ (cover0_A_6 c i a2 h2 a3 h3 a4 h4 a5 h5 a6 h6 a7 h7 a8 h8 a9 h9 hc0 hc1 hc2 x0 x1 x2 x3 x4 x5)]
  unfold kernelRun0_A
  dsimp only
  sl_unfold_words
  rw [View.canon_cons_unit_zero (S := S1024x2048) hz, View.readCov_unit_zero (S := S1024x2048) _ hz, View.readCov_unit_zero (S := S1024x2048) _ hz]
  simp only [View.readAt_eq_ld, h2.read_unread, h3.read_unread, h4.read_unread, h5.read_unread, h6.read_unread, View.ld_unit_zero (S := S1024x2048) hz, View.ld_unit_zero (S := S1x2048) hz, View.ld_unit_zero (S := S1x2048x512) hz3,
    View.ld_unit_zero (S := S1x512x2048) hz3]

/-! ## The last point of a row block: the finish in four row chunks -/

omit c i a2 h2 a3 h3 a4 h4 a5 h5 a6 h6 a7 h7 a8 h8 a9 h9 x0 x1 x2 x3 x4 x5 xo xs in
theorem pay3_eq (o : Vec Ideal S1024x2048 .f32) (xn : Vec Ideal S1024x2048 .bf16) (wg wu : Vec Ideal S1x2048x512 .bf16)
    (wd : Vec Ideal S1x512x2048 .bf16) (r : Fin 1024) (l : Fin 2048) :
    k0_pay3 (F := Ideal) o xn wg wu wd (ix2 r l) = o (ix2 r l) + ∑ q : Fin 512, k0_pay5 xn wg wu (ix2 r q) * wd (ix3 0 q l) := by
  rw [pay3_apply]
  simp only [pay5_apply]

variable (xn : Vec Ideal S1024x2048 .bf16) (wg wu : Vec Ideal S1x2048x512 .bf16) (wd : Vec Ideal S1x512x2048 .bf16)
  (x o : Vec Ideal S256x2048 .f32) (g : Vec Ideal S1x2048 .f32)

theorem chunk0 (r : Fin 256) (l : Fin 2048) :
    k0_pay10 (F := Ideal) x (k0_pay7 xn wg wu wd o) (k0_pay8 g) (k0_pay9 xn wg wu wd o) (ix2 r l) =
      finish (fun k => x (ix2 r k)) (fun k => o (ix2 r k) + ∑ q : Fin 512, k0_pay5 xn wg wu (ix2 ⟨r, by omega⟩ q) * wd (ix3 0 q k)) (fun k => g (ix2 0 k)) l := by
  have h7 : ∀ (r : Fin 256) (l : Fin 2048), k0_pay7 (F := Ideal) xn wg wu wd o (ix2 r l) =
      o (ix2 r l) + ∑ q : Fin 512, k0_pay5 xn wg wu (ix2 ⟨r, by omega⟩ q) * wd (ix3 0 q l) := by
    intro r l
    pointwise [k0_pay7]
  pointwise [k0_pay10, k0_pay8, k0_pay9]
  simp only [h7]
  rfl

theorem chunk1 (r : Fin 256) (l : Fin 2048) :
    k0_pay12 (F := Ideal) (k0_pay6 xn wg wu wd) x o g (ix2 r l) =
      finish (fun k => x (ix2 r k)) (fun k => o (ix2 r k) + ∑ q : Fin 512, k0_pay5 xn wg wu (ix2 ⟨256 + r, by omega⟩ q) * wd (ix3 0 q k)) (fun k => g (ix2 0 k)) l := by
  have h6 : ∀ (r : Fin 256) (l : Fin 2048), k0_pay6 (F := Ideal) xn wg wu wd (ix2 r l) =
      ∑ q : Fin 512, k0_pay5 xn wg wu (ix2 ⟨256 + r, by omega⟩ q) * wd (ix3 0 q l) := by
    intro r l
    pointwise [k0_pay6]
  rw [pay12_apply]
  simp only [h6]
  rfl

theorem chunk2 (r : Fin 256) (l : Fin 2048) :
    k0_pay15 (F := Ideal) (k0_pay11 (k0_pay5 xn wg wu) wd) x o g (ix2 r l) =
      finish (fun k => x (ix2 r k)) (fun k => o (ix2 r k) + ∑ q : Fin 512, k0_pay5 xn wg wu (ix2 ⟨512 + r, by omega⟩ q) * wd (ix3 0 q k)) (fun k => g (ix2 0 k)) l := by
  have h6 : ∀ (r : Fin 256) (l : Fin 2048), k0_pay11 (F := Ideal) (k0_pay5 xn wg wu) wd (ix2 r l) =
      ∑ q : Fin 512, k0_pay5 xn wg wu (ix2 ⟨512 + r, by omega⟩ q) * wd (ix3 0 q l) := by
    intro r l
    pointwise [k0_pay11]
  pointwise [k0_pay15]
  simp only [h6]
  rfl

theorem chunk3 (r : Fin 256) (l : Fin 2048) :
    k0_pay4 (F := Ideal) x (k0_pay16 (k0_pay13 (k0_pay5 xn wg wu)) (k0_pay14 wd) (constant S256x2048 .f32 0#32) o g) (ix2 r l) =
      finish (fun k => x (ix2 r k)) (fun k => o (ix2 r k) + ∑ q : Fin 512, k0_pay5 xn wg wu (ix2 ⟨768 + r, by omega⟩ q) * wd (ix3 0 q k)) (fun k => g (ix2 0 k)) l := by
  pointwise [k0_pay4, k0_pay16, k0_pay13, k0_pay14]
  rfl

theorem ld_chunk (X : Vec Ideal S1024x2048 .f32) (off : ℕ) (inb) (r : Fin 256) (l : Fin 2048) (r' : Fin 1024) (h : off + r.val = r'.val) :
    View.ld X (Rect.unit (s := S1024x2048) ![off, 0] ![256, 2048] inb) (ix2 r l) = X (ix2 r' l) :=
  View.ld_unit_apply_of X _ _ inb _ (ix2 r' l) (fun a => by fin_cases a <;> simp [← h])

theorem finish_congr {x x' D D' : Fin 2048 → EReal} {g : Fin 2048 → EReal} {l : Fin 2048} (hx : ∀ k, x k = x' k) (hD : ∀ k, D k = D' k) :
    finish x D g l = finish x' D' g l := by
  rw [funext hx, funext hD]

/-- The last point stores the finished rows of its block. -/
theorem out_C (hc0 : ¬cond0_0 i) (hc1 : ¬cond0_1 i) (hc2 : cond0_2 i) (r : Fin 1024) (l : Fin 2048) :
    out0_C_6 c i a2 h2 a3 h3 a4 h4 a5 h5 a6 h6 a7 h7 a8 h8 a9 h9 hc0 hc1 hc2 x0 x1 x2 x3 x4 x5 xo xs (ix2 r l) =
      finish (fun k => x0 (ix2 r k)) (fun k => k0_pay3 xo xs x2 x3 x4 (ix2 r k)) (fun k => x5 (ix2 0 k)) l := by
  unfold out0_C_6
  rw [View.read_writes_eq_canon _ _ _ (cover0_C_6 c i a2 h2 a3 h3 a4 h4 a5 h5 a6 h6 a7 h7 a8 h8 a9 h9 hc0 hc1 hc2 x0 x1 x2 x3 x4 x5 xo xs)]
  unfold kernelRun0_C
  dsimp only
  sl_unfold_words
  simp only [View.readAt_eq_ld, h2.read_unread, h4.read_unread, h5.read_unread, h6.read_unread, h7.read_unread, h8.read_unread, h9.read_unread, View.ld_unit_zero (S := S1024x2048) hz, View.ld_unit_zero (S := S1x2048) hz, View.ld_unit_zero (S := S1x2048x512) hz3,
    View.ld_unit_zero (S := S1x512x2048) hz3]
  canon_tiles y h
  all_goals
    obtain ⟨yr, yl, rfl⟩ : ∃ (yr : Fin 256) (yl : Fin 2048), y = ix2 yr yl := ⟨y 0, y 1, eq_ix2 y⟩
    simp only [ix2_0, ix2_1] at *
    obtain rfl : yl = l := Fin.ext (by omega)
    first
      | rw [chunk0]
      | rw [chunk1]
      | rw [chunk2]
      | rw [chunk3]
    simp only [pay3_eq]
  case piece0 =>
    rw [show r = ⟨768 + yr, by omega⟩ from Fin.ext h0]
    exact finish_congr (fun k => ld_chunk x0 768 _ yr k _ rfl) fun k => congrArg (· + _) (ld_chunk xo 768 _ yr k _ rfl)
  case piece1 =>
    rw [show r = ⟨512 + yr, by omega⟩ from Fin.ext h0]
    exact finish_congr (fun k => ld_chunk x0 512 _ yr k _ rfl) fun k => congrArg (· + _) (ld_chunk xo 512 _ yr k _ rfl)
  case piece2 =>
    rw [show r = ⟨256 + yr, by omega⟩ from Fin.ext h0]
    exact finish_congr (fun k => ld_chunk x0 256 _ yr k _ rfl) fun k => congrArg (· + _) (ld_chunk xo 256 _ yr k _ rfl)
  case piece3 =>
    rw [show r = ⟨yr, by omega⟩ from Fin.ext h0]
    exact finish_congr (fun k => ld_chunk x0 0 _ yr k _ (Nat.zero_add _)) fun k => congrArg (· + _) (ld_chunk xo 0 _ yr k _ (Nat.zero_add _))

end Cert.KernelIdeal.FfnPayloads

end
-- ==== Proof.FfnBlocks.lean ====
/-
  What each input window of the feed-forward kernel holds at a grid point, at an index: a block of the caller's array.
  Point `t` is column block `t % 11` of row block `t / 11`.
-/
module

public import proofs.«01_k».proof.Proof.FfnPayloads

@[expose] public section

set_option maxRecDepth 16384

noncomputable section

namespace Cert.KernelIdeal.FfnBlocks

open Cert.KernelIdeal Cert.KernelIdeal.Gen Idealize.ShloMosaic Idealize.ShloMosaic.TcCoe

variable (m : (ℓ : Loc nD τ sig) → Buf (Elt Ideal) ℓ) (c : Dev nD)

/-- The caller's arrays, by coordinates. -/
def aX (s : Fin 16384) (k : Fin 2048) : EReal := m ((c : Thread nD τ).loc main_arg0) (ix2 s k)
def aG (k : Fin 2048) : EReal := m ((c : Thread nD τ).loc main_arg1) (ix1 k)
def aW (k : Fin 2048) (n : Fin 11264) : EReal := m ((c : Thread nD τ).loc main_arg2) (ix3 0 k n)
def aD (n : Fin 5632) (l : Fin 2048) : EReal := m ((c : Thread nD τ).loc main_arg3) (ix3 0 n l)
def aP (k : Fin 2048) : EReal := m ((c : Thread nD τ).loc main_arg4) (ix1 k)

/-- The index maps, decided over the grid. -/
theorem idx_facts : ∀ t : Fin cfg0.N,
    (win0_0.index t (0 : Fin 2) = t.val / 11 ∧ win0_0.index t (1 : Fin 2) = 0)
    ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = t.val % 11)
    ∧ (win0_3.index t (0 : Fin 3) = 0 ∧ win0_3.index t (1 : Fin 3) = 0 ∧ win0_3.index t (2 : Fin 3) = 11 + t.val % 11)
    ∧ (win0_4.index t (0 : Fin 3) = 0 ∧ win0_4.index t (1 : Fin 3) = t.val % 11 ∧ win0_4.index t (2 : Fin 3) = 0)
    ∧ (win0_5.index t (0 : Fin 2) = 0 ∧ win0_5.index t (1 : Fin 2) = 0) :=
  (by decide +kernel : ∀ t : Fin grid0.N, _)

theorem lt_N (t : Fin cfg0.N) : t.val < 176 := lt_of_lt_of_eq t.isLt N_0

/-- The reshaped row of gains. -/
theorem row_cast (v : Vec Ideal S2048 .f32) (k : Fin 2048) : shapeCast S1x2048 v shapeCasts_S2048_S1x2048 (ix2 0 k) = v (ix1 k) := by
  pointwise

theorem blk0 (t : Fin cfg0.N) (r : Fin 1024) (k : Fin 2048) (s : Fin 16384) (hs : s.val = 1024 * (t.val / 11) + r.val) :
    iblk m c 0 t (ix2 r k) = aX m c s k := by
  obtain ⟨⟨e0, e1⟩, -⟩ := idx_facts t
  unfold iblk aX
  rw [View.read_apply]
  show V m c main_arg0 _ = _
  rw [V_main_arg0]
  congr 1
  funext a
  apply Fin.ext
  match a with
  | ⟨0, _⟩ => show win0_0.index t 0 * 1024 + 1 * r.val = s.val; rw [e0]; omega
  | ⟨1, _⟩ => show win0_0.index t 1 * 2048 + 1 * k.val = k.val; rw [e1]; omega

theorem blk1 (t : Fin cfg0.N) (k : Fin 2048) : iblk m c 1 t (ix2 0 k) = aG m c k := by
  obtain ⟨-, ⟨e0, e1⟩, -⟩ := idx_facts t
  unfold iblk aG
  rw [View.read_apply]
  refine Eq.trans ?_ (row_cast (m (c.tc.loc main_arg1)) k)
  show shapeCast S1x2048 (m (c.tc.loc main_arg1)) _ _ = _
  congr 1
  funext a
  apply Fin.ext
  match a with
  | ⟨0, _⟩ => show win0_1.index t 0 * 1 + 1 * 0 = 0; rw [e0]
  | ⟨1, _⟩ => show win0_1.index t 1 * 2048 + 1 * k.val = k.val; rw [e1]; omega

theorem blk2 (t : Fin cfg0.N) (k : Fin 2048) (q : Fin 512) (n : Fin 11264) (hn : n.val = 512 * (t.val % 11) + q.val) :
    iblk m c 2 t (ix3 0 k q) = aW m c k n := by
  obtain ⟨-, -, ⟨e0, e1, e2⟩, -⟩ := idx_facts t
  unfold iblk aW
  rw [View.read_apply]
  show V m c main_v0 _ = _
  show m (c.tc.loc main_arg2) _ = _
  congr 1
  funext a
  apply Fin.ext
  match a with
  | ⟨0, _⟩ => show win0_2.index t 0 * 1 + 1 * 0 = 0; rw [e0]
  | ⟨1, _⟩ => show win0_2.index t 1 * 2048 + 1 * k.val = k.val; rw [e1]; omega
  | ⟨2, _⟩ => show win0_2.index t 2 * 512 + 1 * q.val = n.val; rw [e2]; omega

theorem blk3 (t : Fin cfg0.N) (k : Fin 2048) (q : Fin 512) (n : Fin 11264) (hn : n.val = 5632 + (512 * (t.val % 11) + q.val)) :
    iblk m c 3 t (ix3 0 k q) = aW m c k n := by
  obtain ⟨-, -, -, ⟨e0, e1, e2⟩, -⟩ := idx_facts t
  unfold iblk aW
  rw [View.read_apply]
  show V m c main_v0 _ = _
  show m (c.tc.loc main_arg2) _ = _
  congr 1
  funext a
  apply Fin.ext
  match a with
  | ⟨0, _⟩ => show win0_3.index t 0 * 1 + 1 * 0 = 0; rw [e0]
  | ⟨1, _⟩ => show win0_3.index t 1 * 2048 + 1 * k.val = k.val; rw [e1]; omega
  | ⟨2, _⟩ => show win0_3.index t 2 * 512 + 1 * q.val = n.val; rw [e2]; omega

theorem blk4 (t : Fin cfg0.N) (q : Fin 512) (l : Fin 2048) (n : Fin 5632) (hn : n.val = 512 * (t.val % 11) + q.val) :
    iblk m c 4 t (ix3 0 q l) = aD m c n l := by
  obtain ⟨-, -, -, -, ⟨e0, e1, e2⟩, -⟩ := idx_facts t
  unfold iblk aD
  rw [View.read_apply]
  show V m c main_v1 _ = _
  show m (c.tc.loc main_arg3) _ = _
  congr 1
  funext a
  apply Fin.ext
  match a with
  | ⟨0, _⟩ => show win0_4.index t 0 * 1 + 1 * 0 = 0; rw [e0]
  | ⟨1, _⟩ => show win0_4.index t 1 * 512 + 1 * q.val = n.val; rw [e1]; omega
  | ⟨2, _⟩ => show win0_4.index t 2 * 2048 + 1 * l.val = l.val; rw [e2]; omega

theorem blk5 (t : Fin cfg0.N) (k : Fin 2048) : iblk m c 5 t (ix2 0 k) = aP m c k := by
  obtain ⟨-, -, -, -, -, ⟨e0, e1⟩⟩ := idx_facts t
  unfold iblk aP
  rw [View.read_apply]
  refine Eq.trans ?_ (row_cast (m (c.tc.loc main_arg4)) k)
  show shapeCast S1x2048 (m (c.tc.loc main_arg4)) _ _ = _
  congr 1
  funext a
  apply Fin.ext
  match a with
  | ⟨0, _⟩ => show win0_5.index t 0 * 1 + 1 * 0 = 0; rw [e0]
  | ⟨1, _⟩ => show win0_5.index t 1 * 2048 + 1 * k.val = k.val; rw [e1]; omega

end Cert.KernelIdeal.FfnBlocks

end
-- ==== Proof.FfnFold.lean ====
/-
  The feed-forward kernel's result array, at an index: over the eleven points of a row block the output's staging buffer
  sums the column blocks of the down projection, the scratch keeps the normalised rows, and the last point finishes.
-/
module

public import proofs.«01_k».proof.Proof.FfnBlocks

@[expose] public section

set_option maxRecDepth 16384

noncomputable section

namespace Cert.KernelIdeal.FfnFold

open Cert.KernelIdeal Cert.KernelIdeal.Gen Cert.KernelIdeal.Value Cert.KernelIdeal.FfnPayloads Cert.KernelIdeal.FfnBlocks Cert.FfnAlgebra Idealize.ShloMosaic Idealize.ShloMosaic.TcCoe
open Cert.FfnSpec (xn proj act part down finish out sum_part)

variable (m : (ℓ : Loc nD τ sig) → Buf (Elt Ideal) ℓ) (c : Dev nD)

/-- Row `r` of row block `i`. -/
abbrev row (i : Fin 16) (r : Fin 1024) : Fin 16384 := ⟨1024 * i + r, by omega⟩

/-- The grid point of row block `i` and column block `j`. -/
abbrev pt (i : Fin 16) (j : Fin 11) : Fin cfg0.N := ⟨11 * i + j, lt_of_lt_of_eq (by omega) N_0.symm⟩

/-- Column block `j` of the down projection, of the caller's arrays. -/
abbrev kpart (s : Fin 16384) (l : Fin 2048) (j : Fin 11) : EReal := part siluTanh (aX m c) (aG m c) (aW m c) (aD m c) s l j

/-- What the scratch holds: the normalised rows of the row block. -/
def IsNorm (i : Fin 16) (xs : Vec Ideal S1024x2048 .bf16) : Prop := ∀ r k, xs (ix2 r k) = xn (aX m c) (aG m c) (row i r) k

/-- The first point's scratch is the normalised rows. -/
theorem norm_of_blocks (i : Fin 16) (j : Fin 11) : IsNorm m c i (k0_pay1 (iblk m c 0 (pt i j)) (iblk m c 1 (pt i j))) := fun r k => by
  have hr : ∀ k, iblk m c 0 (pt i j) (ix2 r k) = aX m c (row i r) k := fun k =>
    blk0 m c _ r k _ (by show 1024 * i.val + r.val = 1024 * ((11 * i.val + j.val) / 11) + r.val; omega)
  rw [pay1_apply, blk1, hr]
  simp only [hr]
  rfl

/-- One point adds its column block. -/
theorem step_apply (i : Fin 16) (j : Fin 11) (o : Vec Ideal S1024x2048 .f32) (xs : Vec Ideal S1024x2048 .bf16) (h : IsNorm m c i xs) (r : Fin 1024) (l : Fin 2048) :
    k0_pay3 o xs (iblk m c 2 (pt i j)) (iblk m c 3 (pt i j)) (iblk m c 4 (pt i j)) (ix2 r l) = o (ix2 r l) + kpart m c (row i r) l j := by
  have hm : (pt i j).val % 11 = j.val := by show (11 * i.val + j.val) % 11 = _; omega
  rw [pay3_apply]
  refine congrArg (_ + ·) (Finset.sum_congr rfl fun q _ => ?_)
  rw [blk4 m c (pt i j) q l ⟨512 * j + q, by omega⟩ (by rw [hm])]
  refine congrArg (· * _) (congrArg₂ (· * ·) (congrArg siluTanh (Finset.sum_congr rfl fun k _ => ?_)) (Finset.sum_congr rfl fun k _ => ?_))
  · rw [h r k, blk2 m c (pt i j) k q ⟨512 * j + q, by omega⟩ (by rw [hm])]
  · rw [h r k, blk3 m c (pt i j) k q ⟨5632 + (512 * j + q), by omega⟩ (by rw [hm])]

theorem pay2_apply (r : Fin 1024) (l : Fin 2048) : (k0_pay2 (F := Ideal)) (ix2 r l) = 0 := by
  pointwise [k0_pay2]

/-- After column block `j` of row block `i`, before the last: the scratch is the normalised rows and the staging buffer
    the sum of the column blocks so far. -/
theorem sweep (i : Fin 16) : ∀ (n : ℕ) (hn : n < 10), IsNorm m c i (outsAt0 m c (11 * i + n) (pt i ⟨n, by omega⟩).isLt).2
      ∧ ∀ r l, (outsAt0 m c (11 * i + n) (pt i ⟨n, by omega⟩).isLt).1 (ix2 r l) = ∑ j : Fin (n + 1), kpart m c (row i r) l ⟨j, by omega⟩
  | 0, hn => by
    have e := outsAt0_A m c (pt i 0) (by show (11 * i.val + 0) % 11 = 0; omega) (by show (11 * i.val + 0) % 11 ≤ 9; omega) (by show ¬(11 * i.val + 0) % 11 = 10; omega)
    have e' : outsAt0 m c (11 * i.val + 0) (pt i ⟨0, by omega⟩).isLt = _ := e
    rw [e', out_A, sout_A]
    refine ⟨norm_of_blocks m c i 0, fun r l => ?_⟩
    dsimp only
    rw [step_apply m c i 0 _ _ (norm_of_blocks m c i 0), pay2_apply]
    simp
  | n + 1, hn => by
    obtain ⟨h1, h2⟩ := sweep i n (by omega)
    have e := outsAt0_B m c (pt i ⟨n + 1, by omega⟩) (by show ¬(11 * i.val + (n + 1)) % 11 = 0; omega) (by show (11 * i.val + (n + 1)) % 11 ≤ 9; omega) (by show ¬(11 * i.val + (n + 1)) % 11 = 10; omega)
    have e' : outsAt0 m c (11 * i.val + (n + 1)) (pt i ⟨n + 1, by omega⟩).isLt = _ := e
    rw [e', out_B]
    refine ⟨h1, fun r l => ?_⟩
    dsimp only
    refine (step_apply m c i ⟨n + 1, by omega⟩ _ _ h1 r l).trans ?_
    rw [Fin.sum_univ_castSucc]
    exact congrArg (· + _) (h2 r l)

/-- The last point of row block `i` leaves the finished rows. -/
theorem last (i : Fin 16) (r : Fin 1024) (l : Fin 2048) :
    (outsAt0 m c (11 * i + 10) (pt i 10).isLt).1 (ix2 r l) = out siluTanh (aX m c) (aG m c) (aW m c) (aD m c) (aP m c) (row i r) l := by
  obtain ⟨h1, h2⟩ := sweep m c i 9 (by omega)
  have e := outsAt0_C m c (pt i 10) (by show ¬(11 * i.val + 10) % 11 = 0; omega) (by show ¬(11 * i.val + 10) % 11 ≤ 9; omega) (by show (11 * i.val + 10) % 11 = 10; omega)
  have e' : outsAt0 m c (11 * i.val + 10) (pt i 10).isLt = _ := e
  rw [e']
  dsimp only
  rw [out_C]
  have hx : (fun k => iblk m c 0 (pt i 10) (ix2 r k)) = aX m c (row i r) :=
    funext fun k => blk0 m c _ r k _ (by show 1024 * i.val + r.val = 1024 * ((11 * i.val + 10) / 11) + r.val; omega)
  have hp : (fun k => iblk m c 5 (pt i 10) (ix2 0 k)) = aP m c := funext fun k => blk5 m c _ k
  rw [hx, hp]
  refine congrArg (fun D => finish _ D _ l) (funext fun k => ?_)
  refine (step_apply m c i 10 _ _ h1 r k).trans ?_
  rw [← sum_part, Fin.sum_univ_castSucc]
  exact congrArg (· + _) (h2 r k)

/-- The kernel's result array at an index is the layer. -/
theorem G6_apply (s : Fin 16384) (l : Fin 2048) :
    G6 m c (ix2 s l) = out siluTanh (aX m c) (aG m c) (aW m c) (aD m c) (aP m c) s l := by
  have hs : row ⟨s.val / 1024, by omega⟩ ⟨s.val % 1024, Nat.mod_lt _ (by decide)⟩ = s := Fin.ext (Nat.div_add_mod s.val 1024)
  have e := last m c ⟨s.val / 1024, by omega⟩ ⟨s.val % 1024, Nat.mod_lt _ (by decide)⟩ l
  rw [hs, outsAt0_sweep] at e
  have hp : pt6Of (ix2 s l) = 11 * (s.val / 1024) + 10 := by
    show 11 * (1 * (s.val / 1024 - 0) + 1 * (l.val / 2048 - 0)) + 10 = _; omega
  have hl : loc6Of (ix2 s l) = ix2 ⟨s.val % 1024, Nat.mod_lt _ (by decide)⟩ l := by
    funext a; apply Fin.ext
    match a with
    | ⟨0, _⟩ => rfl
    | ⟨1, _⟩ => show l.val % 2048 = l.val; omega
  unfold G6
  rw [dif_pos (by rw [hp]; exact (pt ⟨s.val / 1024, by omega⟩ 10).isLt), hl, fold0_congr m c _ _ _ _ hp]
  exact e

end Cert.KernelIdeal.FfnFold

end
-- ==== Proof.IdxExt.lean ====
/-
  Two indices with equal coordinates are equal, for literal ranks.
-/
module

public import Idealize.ShloMosaic.Lib.ValueIdxCore

@[expose] public section

namespace Cert.IdxExt

open Idealize.ShloMosaic

theorem ext1 {n0 : ℕ} {i j : (⟨1, ![n0]⟩ : Shape).Idx} (h0 : (i 0).val = (j 0).val) : i = j :=
  funext fun a => Fin.ext (by match a with | ⟨0, _⟩ => exact h0)

theorem ext2 {n0 n1 : ℕ} {i j : (⟨2, ![n0, n1]⟩ : Shape).Idx} (h0 : (i 0).val = (j 0).val) (h1 : (i 1).val = (j 1).val) : i = j :=
  funext fun a => Fin.ext (by match a with | ⟨0, _⟩ => exact h0 | ⟨1, _⟩ => exact h1)

theorem ext3 {n0 n1 n2 : ℕ} {i j : (⟨3, ![n0, n1, n2]⟩ : Shape).Idx} (h0 : (i 0).val = (j 0).val) (h1 : (i 1).val = (j 1).val)
    (h2 : (i 2).val = (j 2).val) : i = j :=
  funext fun a => Fin.ext (by match a with | ⟨0, _⟩ => exact h0 | ⟨1, _⟩ => exact h1 | ⟨2, _⟩ => exact h2)

end Cert.IdxExt
-- ==== Proof.FfnReference.lean ====
/-
  The reference's result at an index: the feed-forward layer with the logistic written out.
-/
module

public import proofs.«01_k».proof.Proof.FfnSpec
public import proofs.«01_k».proof.Proof.IdxExt
public import proofs.«01_k».proof.Proof.Gen.ReferenceIdeal.Read
public import Idealize.ShloMosaic.Lib.Pointwise

@[expose] public section

set_option maxRecDepth 16384

noncomputable section

namespace Cert.ReferenceIdeal.FfnReference

open Cert.ReferenceIdeal Cert.ReferenceIdeal.Read Cert.FfnAlgebra Cert.IdxExt Idealize.ShloMosaic
open Cert.FfnSpec (xn proj act down finish out)

variable (x0 : (⟨S16384x2048, .f32⟩ : BufTy).Contents (Elt Ideal)) (x1 : (⟨S2048, .f32⟩ : BufTy).Contents (Elt Ideal))
  (x2 : (⟨S4x2048x11264, .f32⟩ : BufTy).Contents (Elt Ideal)) (x3 : (⟨S4x5632x2048, .f32⟩ : BufTy).Contents (Elt Ideal))
  (x4 : (⟨S2048, .f32⟩ : BufTy).Contents (Elt Ideal))

/-- The arrays by coordinates. -/
abbrev rX (s : Fin 16384) (k : Fin 2048) : EReal := x0 (ix2 s k)
abbrev rV (k : Fin 2048) : EReal := x1 (ix1 k)
abbrev rW (k : Fin 2048) (n : Fin 11264) : EReal := x2 (ix3 0 k n)
abbrev rD (n : Fin 5632) (l : Fin 2048) : EReal := x3 (ix3 0 n l)

theorem zero_word : Ideal.ofBits .f32 0x00000000#32 = 0 := by simp [Ideal.ofBits, Ideal.ieee]
theorem one_word : Ideal.ofBits .f32 0x3F800000#32 = 1 := by
  rw [← EReal.coe_one]
  simp [Ideal.ofBits, Ideal.ieee, -EReal.coe_mul, -EReal.coe_one]; norm_num

/-- The factor of the first normalisation. -/
theorem v8_apply (s : Fin 16384) (k : Fin 2048) : val_main_v8 (F := Ideal) x0 (ix2 s k) = invRms (rX x0 s) := by
  rw [val_main_v8_apply, val_main_v7_apply, val_main_v6_apply, val_main_v5_apply, val_main_cst_1_apply, val_main_v4_apply, val_main_v3_apply,
    val_main_cst_0_apply, val_main_v2_apply, val_main_v1_apply, val_main_cst_apply]
  simp only [val_main_v0_apply, Ideal.ofBits_def, Ideal.addf_def, Ideal.mulf_def, Ideal.hostDivf_def, Ideal.hostUnary_rsqrt_def, zero_word, zero_add]
  unfold invRms
  refine congrArg (fun z => Ideal.rsqrt (Ideal.div z _ + _)) (Finset.sum_congr rfl fun q _ => ?_)
  rw [show idx_main_v1 (idx_main_v2 (idx_main_v8 (ix2 s k))) q = ix2 s q from ext2 rfl rfl]

/-- The normalised rows. -/
theorem v12_apply (s : Fin 16384) (k : Fin 2048) : val_main_v12 (F := Ideal) x0 x1 (ix2 s k) = xn (rX x0) (rV x1) s k := by
  rw [val_main_v12_apply, val_main_v9_apply, v8_apply, val_main_v11_apply, val_main_v10_apply,
    show idx_main_v10 (idx_main_v11 (ix2 s k)) = ix1 k from ext1 rfl]
  rfl

theorem v15_apply (s : Fin 16384) (n : Fin 11264) : val_main_v15 (F := Ideal) x0 x1 x2 (ix2 s n) = proj (rX x0) (rV x1) (rW x2) s n := by
  rw [val_main_v15_apply]
  refine Finset.sum_congr rfl fun k _ => ?_
  rw [show lidx_main_v15 (ix2 s n) k = ix2 s k from ext2 rfl rfl, v12_apply, val_main_v14_apply, val_main_v13_apply,
    show idx_main_v13 (idx_main_v14 (ridx_main_v15 (ix2 s n) k)) = ix3 0 k n from ext3 rfl
      (by show (k.val * 11264 + n.val) / 11264 % 2048 = k.val; omega) (by show (k.val * 11264 + n.val) % 11264 = n.val; omega)]

theorem v19_apply (s : Fin 16384) (n : Fin 5632) : val_main_v19 (F := Ideal) x0 x1 x2 (ix2 s n) = act siluExp (rX x0) (rV x1) (rW x2) s n := by
  have hg : val_main_v16 (F := Ideal) x0 x1 x2 (ix2 s n) = proj (rX x0) (rV x1) (rW x2) s ⟨n, by omega⟩ := by
    rw [val_main_v16_apply, show idx_main_v16 (ix2 s n) = ix2 s ⟨n, by omega⟩ from ext2 rfl rfl, v15_apply]
  have hu : val_main_v17 (F := Ideal) x0 x1 x2 (ix2 s n) = proj (rX x0) (rV x1) (rW x2) s ⟨5632 + n, by omega⟩ := by
    rw [val_main_v17_apply, show idx_main_v17 (ix2 s n) = ix2 s ⟨5632 + n, by omega⟩ from ext2 rfl rfl, v15_apply]
  rw [val_main_v19_apply, hu, val_main_v18_apply, hg, val_main_call0_v5_apply, val_main_call0_v4_apply, val_main_call0_cst_0_apply, val_main_call0_v3_apply,
    val_main_call0_v2_apply, val_main_call0_cst_apply, val_main_call0_v1_apply, val_main_call0_v0_apply, hg]
  simp only [Ideal.ofBits_def, one_word]
  rfl

theorem v22_apply (s : Fin 16384) (l : Fin 2048) :
    val_main_v22 (F := Ideal) x0 x1 x2 x3 (ix2 s l) = down siluExp (rX x0) (rV x1) (rW x2) (rD x3) s l := by
  rw [val_main_v22_apply]
  refine Finset.sum_congr rfl fun k _ => ?_
  rw [show lidx_main_v22 (ix2 s l) k = ix2 s k from ext2 rfl rfl, v19_apply, val_main_v21_apply, val_main_v20_apply,
    show idx_main_v20 (idx_main_v21 (ridx_main_v22 (ix2 s l) k)) = ix3 0 k l from ext3 rfl
      (by show (k.val * 2048 + l.val) / 2048 % 5632 = k.val; omega) (by show (k.val * 2048 + l.val) % 2048 = l.val; omega)]

/-- The factor of the second normalisation. -/
theorem v31_apply (s : Fin 16384) (k : Fin 2048) :
    val_main_v31 (F := Ideal) x0 x1 x2 x3 (ix2 s k) = invRms (down siluExp (rX x0) (rV x1) (rW x2) (rD x3) s) := by
  rw [val_main_v31_apply, val_main_v30_apply, val_main_v29_apply, val_main_v28_apply, val_main_cst_4_apply, val_main_v27_apply, val_main_v26_apply,
    val_main_cst_3_apply, val_main_v25_apply, val_main_v24_apply, val_main_cst_2_apply]
  simp only [val_main_v23_apply, Ideal.ofBits_def, Ideal.addf_def, Ideal.mulf_def, Ideal.hostDivf_def, Ideal.hostUnary_rsqrt_def, zero_word, zero_add]
  unfold invRms
  refine congrArg (fun z => Ideal.rsqrt (Ideal.div z _ + _)) (Finset.sum_congr rfl fun q _ => ?_)
  rw [show idx_main_v24 (idx_main_v25 (idx_main_v31 (ix2 s k))) q = ix2 s q from ext2 rfl rfl, v22_apply]

/-- The reference's result at an index is the layer. -/
theorem v36_apply (s : Fin 16384) (l : Fin 2048) :
    val_main_v36 (F := Ideal) x0 x1 x2 x3 x4 (ix2 s l) = out siluExp (rX x0) (rV x1) (rW x2) (rD x3) (rV x4) s l := by
  rw [val_main_v36_apply, val_main_v35_apply, val_main_v32_apply, v22_apply, v31_apply, val_main_v34_apply, val_main_v33_apply,
    show idx_main_v33 (idx_main_v34 (ix2 s l)) = ix1 l from ext1 rfl]
  rfl

end Cert.ReferenceIdeal.FfnReference

end
-- ==== Proof.FinitePre.lean ====
/-
  The precondition read: an element whose magnitude is below infinity is a real number.
-/
module

public import proofs.«01_k».proof.Defs
public import proofs.«01_k».proof.Proof.FfnAlgebra
public import Idealize.ShloMosaic.PureOps.Ideal.Laws

@[expose] public section

noncomputable section

namespace Cert.FinitePre

open Idealize.ShloMosaic Cert.FfnAlgebra Cert.Pre_finite_inputs

theorem facts : Cert.Pre_finite_inputs.Facts where
  bcast_S_S16384x2048 := by decide
  bcast_S_S2048 := by decide
  bcast_S_S4x2048x11264 := by decide

theorem inf_word : Ideal.ofBits .f32 0x7F800000#32 = ⊤ := by simp [Ideal.ofBits, Ideal.ieee]

/-- The comparison's word is one only at a real number. -/
theorem isReal_of_word (x : EReal) (h : FloatOps.cmpf (F := Ideal) (φ := .f32) .olt (FloatOps.hostAbsf (F := Ideal) (φ := .f32) x) (Ideal.ofBits .f32 0x7F800000#32) = 1#1) : IsReal x := by
  rw [inf_word] at h
  have h' : BitVec.ofBool (decide (max x (-x) < ⊤)) = 1#1 := h
  have hx : max x (-x) < ⊤ := by
    by_contra hn
    rw [decide_eq_false hn] at h'
    exact absurd h' (by decide)
  induction x with
  | bot => simp at hx
  | top => simp at hx
  | coe r => exact ⟨r, rfl⟩

attribute [local instance] facts

/-- The three arrays the precondition reads are real everywhere. -/
theorem isReal_of_fn (x : FVec Ideal S16384x2048 .f32) (g : FVec Ideal S2048 .f32) (W : FVec Ideal S4x2048x11264 .f32) (D : FVec Ideal S4x5632x2048 .f32) (p : FVec Ideal S2048 .f32)
    (h0 : (fn (F := Ideal) x g W D p).1 = fun _ => 1#1) (h1 : (fn (F := Ideal) x g W D p).2.1 = fun _ => 1#1) (h2 : (fn (F := Ideal) x g W D p).2.2 = fun _ => 1#1) :
    (∀ i, IsReal (x i)) ∧ (∀ i, IsReal (g i)) ∧ ∀ i, IsReal (W i) :=
  ⟨fun i => isReal_of_word _ (congrFun h0 i), fun i => isReal_of_word _ (congrFun h1 i), fun i => isReal_of_word _ (congrFun h2 i)⟩

end Cert.FinitePre

end
-- ==== Proof.FfnAlgebraic.lean ====
/-
  The feed-forward kernel's result array is the reference's, at finite inputs.
-/
module

public import proofs.«01_k».proof.Proof.FfnFold
public import proofs.«01_k».proof.Proof.FfnReference
public import proofs.«01_k».proof.Proof.FinitePre

@[expose] public section

noncomputable section

namespace Cert.FfnAlgebraic

open Idealize.ShloMosaic Idealize.SL.Sem Cert.FfnAlgebra
open Cert.KernelIdeal.FfnBlocks (aX aG aW aD aP)

theorem algebraic : algebraic_KernelIdeal_ReferenceIdeal_pre_finite_inputs (hKernelIdeal := Cert.KernelIdeal.Gen.facts)
    (hReferenceIdeal := Cert.ReferenceIdeal.Gen.facts) (hPre_finite_inputs := Cert.FinitePre.facts) := by
  intro m ρ m' ρ' hpre hag
  refine ⟨fun c => Cert.KernelIdeal.Value.G6 m c, Cert.KernelIdeal.Value.run m ρ, (θ_run _ _ _).mono (fun _ h c => ⟨(h c).1.trans ?_, (h c).2⟩) (Cert.ReferenceIdeal.Value.run m' ρ')⟩
  obtain ⟨h0, h1, h2⟩ := hpre c
  obtain ⟨hx, hg, hW⟩ := Cert.FinitePre.isReal_of_fn _ _ _ _ _ h0 h1 h2
  obtain ⟨e0, e1, e2, e3, e4⟩ := hag c
  rw [Cert.ReferenceIdeal.Read.val_main_v36_eq, e0, e1, e2, e3, e4]
  funext i
  obtain ⟨s, l, rfl⟩ : ∃ (s : Fin 16384) (l : Fin 2048), i = ix2 s l := ⟨i 0, i 1, eq_ix2 i⟩
  rw [Cert.ReferenceIdeal.FfnReference.v36_apply]
  refine Eq.trans ?_ (Cert.KernelIdeal.FfnFold.G6_apply m c s l).symm
  exact (congrFun (congrFun (Cert.FfnSpec.out_eq _ _ _ _ _ (fun _ _ => hx _) (fun _ => hg _) (fun _ _ => hW _)) s) l).symm

end Cert.FfnAlgebraic

end
-- ==== Proof.KvFold.lean ====
/-
  The key/value projection's kernel, at an index: the first of a row block's six points normalises the rows into a scratch,
  each point multiplies the scratch by its column block of the weights and stores its own block of the result.
  Point `t` is column block `t % 6` of row block `t / 6`.
-/
module

public import proofs.«01_k».proof.Proof.FfnSpec
public import proofs.«01_k».proof.Proof.Gen.Kernel2Ideal.Value
public import Idealize.ShloMosaic.Lib.Pointwise

@[expose] public section

set_option maxRecDepth 16384

noncomputable section

namespace Cert.Kernel2Ideal.KvFold

open Cert.Kernel2Ideal Cert.Kernel2Ideal.Gen Cert.Kernel2Ideal.Value Cert.FfnAlgebra Idealize.ShloMosaic Idealize.ShloMosaic.TcCoe
open Cert.FfnSpec (xn)

/-! ## The body's values -/

theorem pay1_apply (x : Vec Ideal S1024x2048 .f32) (g : Vec Ideal S1x2048 .f32) (r : Fin 1024) (l : Fin 2048) :
    k0_pay1 (F := Ideal) x g (ix2 r l) = x (ix2 r l) * invRms (fun k : Fin 2048 => x (ix2 r k)) * g (ix2 0 l) := by
  pointwise [k0_pay1]
  rfl

theorem pay2_apply (xs : Vec Ideal S1024x2048 .bf16) (w : Vec Ideal S1x2048x2048 .bf16) (r : Fin 1024) (l : Fin 2048) :
    k0_pay2 (F := Ideal) xs w (ix2 r l) = ∑ k : Fin 2048, xs (ix2 r k) * w (ix3 0 k l) := by
  pointwise [k0_pay2]

theorem hz : (![0, 0] : Fin 2 → Nat) = fun _ => 0 := funext fun a => by fin_cases a <;> rfl
theorem hz3 : (![0, 0, 0] : Fin 3 → Nat) = fun _ => 0 := funext fun a => by fin_cases a <;> rfl

section Points

variable (c : Dev nD) (i : grid0.Coords) (a2 : Memref sig .tc .vmem S1024x2048 .f32) (h2 : a2.IsWhole)
  (a3 : Memref sig .tc .vmem S1x2048 .f32) (h3 : a3.IsWhole) (a4 : Memref sig .tc .vmem S1x2048x2048 .bf16) (h4 : a4.IsWhole)
  (a5 : Memref sig .tc .vmem S1024x2048 .bf16) (h5 : a5.IsWhole) (a6 : Memref sig .tc .vmem S1024x2048 .bf16) (h6 : a6.IsWhole)
  (x0 : Vec Ideal S1024x2048 .f32) (x1 : Vec Ideal S1x2048 .f32) (x2 : Vec Ideal S1x2048x2048 .bf16) (xs : Vec Ideal S1024x2048 .bf16)

/-- The first point of a row block fills the scratch with its normalised rows … -/
theorem sout_A (hc0 : cond0_0 i) : sout0_A_0 c i a2 h2 a3 h3 a4 h4 a5 h5 a6 h6 hc0 x0 x1 x2 = k0_pay1 x0 x1 := by
  unfold sout0_A_0
  rw [View.read_writes_eq_canon _ _ _ (scover0_A_0 c i a2 h2 a3 h3 a4 h4 a5 h5 a6 h6 hc0 x0 x1 x2)]
  unfold kernelRun0_A
  dsimp only
  sl_unfold_words
  rw [View.canon_unit_zero hz]
  simp only [View.readAt_eq_ld, h2.read_unread, h3.read_unread, View.ld_unit_zero (S := S1024x2048) hz, View.ld_unit_zero (S := S1x2048) hz]

/-- … and multiplies them by its column block. -/
theorem out_A (hc0 : cond0_0 i) : out0_A_3 c i a2 h2 a3 h3 a4 h4 a5 h5 a6 h6 hc0 x0 x1 x2 = k0_pay2 (k0_pay1 x0 x1) x2 := by
  unfold out0_A_3
  rw [View.read_writes_eq_canon _ _ _ (cover0_A_3 c i a2 h2 a3 h3 a4 h4 a5 h5 a6 h6 hc0 x0 x1 x2)]
  unfold kernelRun0_A
  dsimp only
  sl_unfold_words
  rw [View.canon_unit_zero hz, View.readCov_unit_zero (S := S1024x2048) _ hz]
  simp only [View.readAt_eq_ld, h2.read_unread, h3.read_unread, h4.read_unread, View.ld_unit_zero (S := S1024x2048) hz, View.ld_unit_zero (S := S1x2048) hz,
    View.ld_unit_zero (S := S1x2048x2048) hz3]

/-- A later point multiplies what the scratch holds. -/
theorem out_B (hc0 : ¬cond0_0 i) : out0_B_3 c i a2 h2 a3 h3 a4 h4 a5 h5 a6 h6 hc0 x0 x1 x2 xs = k0_pay2 xs x2 := by
  unfold out0_B_3
  rw [View.read_writes_eq_canon _ _ _ (cover0_B_3 c i a2 h2 a3 h3 a4 h4 a5 h5 a6 h6 hc0 x0 x1 x2 xs)]
  unfold kernelRun0_B
  dsimp only
  sl_unfold_words
  rw [View.canon_unit_zero hz]
  simp only [View.readAt_eq_ld, h4.read_unread, h6.read_unread, View.ld_unit_zero (S := S1024x2048) hz, View.ld_unit_zero (S := S1x2048x2048) hz3]

end Points

/-! ## The input blocks -/

variable (m : (ℓ : Loc nD τ sig) → Buf (Elt Ideal) ℓ) (c : Dev nD)

/-- The caller's arrays, by coordinates. -/
def aX (s : Fin 16384) (k : Fin 2048) : EReal := m ((c : Thread nD τ).loc main_arg0) (ix2 s k)
def aG (k : Fin 2048) : EReal := m ((c : Thread nD τ).loc main_arg1) (ix1 k)
def aW (k : Fin 2048) (n : Fin 12288) : EReal := m ((c : Thread nD τ).loc main_arg2) (ix2 k n)

/-- The index maps, decided over the grid. -/
theorem idx_facts : ∀ t : Fin cfg0.N,
    (win0_0.index t (0 : Fin 2) = t.val / 6 ∧ win0_0.index t (1 : Fin 2) = 0)
    ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = t.val % 6) :=
  (by decide +kernel : ∀ t : Fin grid0.N, _)

theorem row_cast (v : Vec Ideal S2048 .f32) (k : Fin 2048) : shapeCast S1x2048 v shapeCasts_S2048_S1x2048 (ix2 0 k) = v (ix1 k) := by
  pointwise

theorem blk0 (t : Fin cfg0.N) (r : Fin 1024) (k : Fin 2048) (s : Fin 16384) (hs : s.val = 1024 * (t.val / 6) + r.val) :
    iblk m c 0 t (ix2 r k) = aX m c s k := by
  obtain ⟨⟨e0, e1⟩, -⟩ := idx_facts t
  unfold iblk aX
  rw [View.read_apply]
  show V m c main_arg0 _ = _
  rw [V_main_arg0]
  congr 1
  funext a
  apply Fin.ext
  match a with
  | ⟨0, _⟩ => show win0_0.index t 0 * 1024 + 1 * r.val = s.val; rw [e0]; omega
  | ⟨1, _⟩ => show win0_0.index t 1 * 2048 + 1 * k.val = k.val; rw [e1]; omega

theorem blk1 (t : Fin cfg0.N) (k : Fin 2048) : iblk m c 1 t (ix2 0 k) = aG m c k := by
  obtain ⟨-, ⟨e0, e1⟩, -⟩ := idx_facts t
  unfold iblk aG
  rw [View.read_apply]
  refine Eq.trans ?_ (row_cast (m (c.tc.loc main_arg1)) k)
  show shapeCast S1x2048 (m (c.tc.loc main_arg1)) _ _ = _
  congr 1
  funext a
  apply Fin.ext
  match a with
  | ⟨0, _⟩ => show win0_1.index t 0 * 1 + 1 * 0 = 0; rw [e0]
  | ⟨1, _⟩ => show win0_1.index t 1 * 2048 + 1 * k.val = k.val; rw [e1]; omega

/-- The weights with a leading axis of one. -/
theorem lead_cast (v : Vec Ideal S2048x12288 .bf16) (i : S1x2048x12288.Idx) (k : Fin 2048) (n : Fin 12288) (h1 : (i 1).val = k.val) (h2 : (i 2).val = n.val) :
    broadcastInDim S1x2048x12288 ![1, 2] bcast_S2048x12288_S1x2048x12288_1_2 v i = v (ix2 k n) :=
  broadcastInDim_apply _ _ v i (ix2 k n) (fun a => match a with
    | ⟨0, _⟩ => by show k.val = if (2048 : Nat) = 1 then 0 else (i 1).val; rw [if_neg (by decide), h1]
    | ⟨1, _⟩ => by show n.val = if (12288 : Nat) = 1 then 0 else (i 2).val; rw [if_neg (by decide), h2])

theorem blk2 (t : Fin cfg0.N) (k : Fin 2048) (q : Fin 2048) (n : Fin 12288) (hn : n.val = 2048 * (t.val % 6) + q.val) :
    iblk m c 2 t (ix3 0 k q) = aW m c k n := by
  obtain ⟨-, -, ⟨e0, e1, e2⟩⟩ := idx_facts t
  unfold iblk aW
  rw [View.read_apply]
  show V m c main_v1 _ = _
  refine lead_cast (m (c.tc.loc main_arg2)) _ k n ?_ ?_
  · show win0_2.index t 1 * 2048 + 1 * k.val = k.val; rw [e1]; omega
  · show win0_2.index t 2 * 2048 + 1 * q.val = n.val; rw [e2]; omega

/-! ## The result array -/

/-- Row `r` of row block `i`. -/
abbrev row (i : Fin 16) (r : Fin 1024) : Fin 16384 := ⟨1024 * i + r, by omega⟩

/-- The grid point of row block `i` and column block `j`. -/
abbrev pt (i : Fin 16) (j : Fin 6) : Fin cfg0.N := ⟨6 * i + j, lt_of_lt_of_eq (by omega) N_0.symm⟩

/-- What the scratch holds: the normalised rows of the row block. -/
def IsNorm (i : Fin 16) (xs : Vec Ideal S1024x2048 .bf16) : Prop := ∀ r k, xs (ix2 r k) = xn (aX m c) (aG m c) (row i r) k

/-- The projection at a row and a column. -/
def out (s : Fin 16384) (n : Fin 12288) : EReal := ∑ k, xn (aX m c) (aG m c) s k * aW m c k n

theorem norm_of_blocks (i : Fin 16) (j : Fin 6) : IsNorm m c i (k0_pay1 (iblk m c 0 (pt i j)) (iblk m c 1 (pt i j))) := fun r k => by
  have hr : ∀ k, iblk m c 0 (pt i j) (ix2 r k) = aX m c (row i r) k := fun k =>
    blk0 m c _ r k _ (by show 1024 * i.val + r.val = 1024 * ((6 * i.val + j.val) / 6) + r.val; omega)
  rw [pay1_apply, blk1, hr]
  simp only [hr]
  rfl

/-- One point's block of the result. -/
theorem step_apply (i : Fin 16) (j : Fin 6) (xs : Vec Ideal S1024x2048 .bf16) (h : IsNorm m c i xs) (r : Fin 1024) (l : Fin 2048) :
    k0_pay2 xs (iblk m c 2 (pt i j)) (ix2 r l) = out m c (row i r) ⟨2048 * j + l, by omega⟩ := by
  rw [pay2_apply]
  refine Finset.sum_congr rfl fun k _ => ?_
  rw [h r k, blk2 m c (pt i j) k l ⟨2048 * j + l, by omega⟩ (by show 2048 * j.val + l.val = 2048 * ((6 * i.val + j.val) % 6) + l.val; omega)]

/-- After every point of row block `i` the scratch is its normalised rows and the staging buffer the point's block. -/
theorem sweep (i : Fin 16) : ∀ (n : ℕ) (hn : n < 6), IsNorm m c i (outsAt0 m c (6 * i + n) (pt i ⟨n, hn⟩).isLt).2
      ∧ ∀ r l, (outsAt0 m c (6 * i + n) (pt i ⟨n, hn⟩).isLt).1 (ix2 r l) = out m c (row i r) ⟨2048 * n + l, by omega⟩
  | 0, hn => by
    have e := outsAt0_A m c (pt i 0) (by show (6 * i.val + 0) % 6 = 0; omega)
    have e' : outsAt0 m c (6 * i.val + 0) (pt i ⟨0, hn⟩).isLt = _ := e
    rw [e', out_A, sout_A]
    exact ⟨norm_of_blocks m c i 0, fun r l => step_apply m c i 0 _ (norm_of_blocks m c i 0) r l⟩
  | n + 1, hn => by
    obtain ⟨h1, -⟩ := sweep i n (by omega)
    have e := outsAt0_B m c (pt i ⟨n + 1, hn⟩) (by show ¬(6 * i.val + (n + 1)) % 6 = 0; omega)
    have e' : outsAt0 m c (6 * i.val + (n + 1)) (pt i ⟨n + 1, hn⟩).isLt = _ := e
    rw [e', out_B]
    exact ⟨h1, fun r l => step_apply m c i ⟨n + 1, hn⟩ _ h1 r l⟩

/-- The kernel's result array at an index is the projection of the normalised row. -/
theorem G3_apply (s : Fin 16384) (n : Fin 12288) : G3 m c (ix2 s n) = out m c s n := by
  have hs : row ⟨s.val / 1024, by omega⟩ ⟨s.val % 1024, Nat.mod_lt _ (by decide)⟩ = s := Fin.ext (Nat.div_add_mod s.val 1024)
  have e := (sweep m c ⟨s.val / 1024, by omega⟩ (n.val / 2048) (by omega)).2 ⟨s.val % 1024, Nat.mod_lt _ (by decide)⟩ ⟨n.val % 2048, Nat.mod_lt _ (by decide)⟩
  rw [hs, outsAt0_sweep, show (⟨2048 * (n.val / 2048) + n.val % 2048, by omega⟩ : Fin 12288) = n from Fin.ext (Nat.div_add_mod n.val 2048)] at e
  have hp : pt3Of (ix2 s n) = 6 * (s.val / 1024) + n.val / 2048 := by
    show 6 * (s.val / 1024 - 0) + 1 * (n.val / 2048 - 0) = _; omega
  have hl : loc3Of (ix2 s n) = ix2 ⟨s.val % 1024, Nat.mod_lt _ (by decide)⟩ ⟨n.val % 2048, Nat.mod_lt _ (by decide)⟩ := by
    funext a; apply Fin.ext
    match a with
    | ⟨0, _⟩ => rfl
    | ⟨1, _⟩ => rfl
  unfold G3
  rw [dif_pos (by rw [hp]; exact (pt ⟨s.val / 1024, by omega⟩ ⟨n.val / 2048, by omega⟩).isLt), hl, fold0_congr m c _ _ _ _ hp]
  exact e

end Cert.Kernel2Ideal.KvFold

end
-- ==== Proof.KvAlgebraic.lean ====
/-
  The key/value projection: the reference's result at an index, and the kernel's result array is the reference's.
-/
module

public import proofs.«01_k».proof.Proof.KvFold
public import proofs.«01_k».proof.Proof.IdxExt
public import proofs.«01_k».proof.Proof.FfnReference
public import proofs.«01_k».proof.Proof.Gen.Reference2Ideal.Read
public import proofs.«01_k».proof.Defs

@[expose] public section

set_option maxRecDepth 16384

noncomputable section

namespace Cert.Reference2Ideal.KvReference

open Cert.Reference2Ideal Cert.Reference2Ideal.Read Cert.FfnAlgebra Cert.IdxExt Idealize.ShloMosaic
open Cert.FfnSpec (xn)
open Cert.ReferenceIdeal.FfnReference (zero_word)

variable (x0 : (⟨S16384x2048, .f32⟩ : BufTy).Contents (Elt Ideal)) (x1 : (⟨S2048, .f32⟩ : BufTy).Contents (Elt Ideal))
  (x2 : (⟨S2048x12288, .f32⟩ : BufTy).Contents (Elt Ideal))

/-- The normalisation's factor. -/
theorem v8_apply (s : Fin 16384) (k : Fin 2048) : val_main_v8 (F := Ideal) x0 (ix2 s k) = invRms (fun q : Fin 2048 => x0 (ix2 s q)) := by
  rw [val_main_v8_apply, val_main_v7_apply, val_main_v6_apply, val_main_v5_apply, val_main_cst_1_apply, val_main_v4_apply, val_main_v3_apply,
    val_main_cst_0_apply, val_main_v2_apply, val_main_v1_apply, val_main_cst_apply]
  simp only [val_main_v0_apply, Ideal.ofBits_def, Ideal.addf_def, Ideal.mulf_def, Ideal.hostDivf_def, Ideal.hostUnary_rsqrt_def, zero_word, zero_add]
  unfold invRms
  refine congrArg (fun z => Ideal.rsqrt (Ideal.div z _ + _)) (Finset.sum_congr rfl fun q _ => ?_)
  rw [show idx_main_v1 (idx_main_v2 (idx_main_v8 (ix2 s k))) q = ix2 s q from ext2 rfl rfl]

/-- The reference's result at an index. -/
theorem v14_apply (s : Fin 16384) (n : Fin 12288) : val_main_v14 (F := Ideal) x0 x1 x2 (ix2 s n)
    = ∑ k : Fin 2048, xn (fun s k => x0 (ix2 s k)) (fun k => x1 (ix1 k)) s k * x2 (ix2 k n) := by
  rw [val_main_v14_apply]
  show val_main_v13 (F := Ideal) x0 x1 x2 (ix2 s n) = _
  rw [val_main_v13_apply]
  refine Finset.sum_congr rfl fun k _ => ?_
  rw [show lidx_main_v13 (ix2 s n) k = ix2 s k from ext2 rfl rfl, show ridx_main_v13 (ix2 s n) k = ix2 k n from ext2 rfl rfl,
    val_main_v12_apply, val_main_v9_apply, v8_apply, val_main_v11_apply, val_main_v10_apply,
    show idx_main_v10 (idx_main_v11 (ix2 s k)) = ix1 k from ext1 rfl]
  rfl

end Cert.Reference2Ideal.KvReference

namespace Cert.KvAlgebraic

open Idealize.ShloMosaic Idealize.SL.Sem

theorem algebraic : algebraic_Kernel2Ideal_Reference2Ideal (hKernel2Ideal := Cert.Kernel2Ideal.Gen.facts)
    (hReference2Ideal := Cert.Reference2Ideal.Gen.facts) := by
  intro m ρ m' ρ' _ hag
  refine ⟨fun c => Cert.Kernel2Ideal.Value.G3 m c, Cert.Kernel2Ideal.Value.run m ρ, (θ_run _ _ _).mono (fun _ h c => ⟨(h c).1.trans ?_, (h c).2⟩) (Cert.Reference2Ideal.Value.run m' ρ')⟩
  obtain ⟨e0, e1, e2⟩ := hag c
  rw [Cert.Reference2Ideal.Read.val_main_v14_eq, e0, e1, e2]
  funext i
  obtain ⟨s, n, rfl⟩ : ∃ (s : Fin 16384) (n : Fin 12288), i = ix2 s n := ⟨i 0, i 1, eq_ix2 i⟩
  rw [Cert.Reference2Ideal.KvReference.v14_apply]
  exact (Cert.Kernel2Ideal.KvFold.G3_apply m c s n).symm

end Cert.KvAlgebraic

end
-- ==== Proof.QFold.lean ====
/-
  The query projection's kernel, at an index: the first of a row block's three points normalises the rows into a scratch,
  each point multiplies the scratch by its column block of the weights and the scores' scale and stores its own block.
  Point `t` is column block `t % 3` of row block `t / 3`.
-/
module

public import proofs.«01_k».proof.Proof.FfnSpec
public import proofs.«01_k».proof.Proof.Gen.Kernel3Ideal.Value
public import Idealize.ShloMosaic.Lib.Pointwise

@[expose] public section

set_option maxRecDepth 16384

noncomputable section

namespace Cert.Kernel3Ideal.QFold

open Cert.Kernel3Ideal Cert.Kernel3Ideal.Gen Cert.Kernel3Ideal.Value Cert.FfnAlgebra Idealize.ShloMosaic Idealize.ShloMosaic.TcCoe
open Cert.FfnSpec (xn)

/-- The scale the scores are taken at, in base two: the printed word. -/
abbrev scale : EReal := Ideal.ofBits .f32 0x3E0293EE#32

/-! ## The body's values -/

theorem pay1_apply (x : Vec Ideal S1024x2048 .f32) (g : Vec Ideal S1x2048 .f32) (r : Fin 1024) (l : Fin 2048) :
    k0_pay1 (F := Ideal) x g (ix2 r l) = x (ix2 r l) * invRms (fun k : Fin 2048 => x (ix2 r k)) * g (ix2 0 l) := by
  pointwise [k0_pay1]
  rfl

theorem pay2_apply (xs : Vec Ideal S1024x2048 .bf16) (w : Vec Ideal S1x2048x2048 .bf16) (r : Fin 1024) (l : Fin 2048) :
    k0_pay2 (F := Ideal) xs w (ix2 r l) = (∑ k : Fin 2048, xs (ix2 r k) * w (ix3 0 k l)) * scale := by
  pointwise [k0_pay2]

theorem hz : (![0, 0] : Fin 2 → Nat) = fun _ => 0 := funext fun a => by fin_cases a <;> rfl
theorem hz3 : (![0, 0, 0] : Fin 3 → Nat) = fun _ => 0 := funext fun a => by fin_cases a <;> rfl

section Points

variable (c : Dev nD) (i : grid0.Coords) (a2 : Memref sig .tc .vmem S1024x2048 .f32) (h2 : a2.IsWhole)
  (a3 : Memref sig .tc .vmem S1x2048 .f32) (h3 : a3.IsWhole) (a4 : Memref sig .tc .vmem S1x2048x2048 .bf16) (h4 : a4.IsWhole)
  (a5 : Memref sig .tc .vmem S1024x2048 .bf16) (h5 : a5.IsWhole) (a6 : Memref sig .tc .vmem S1024x2048 .bf16) (h6 : a6.IsWhole)
  (x0 : Vec Ideal S1024x2048 .f32) (x1 : Vec Ideal S1x2048 .f32) (x2 : Vec Ideal S1x2048x2048 .bf16) (xs : Vec Ideal S1024x2048 .bf16)

/-- The first point of a row block fills the scratch with its normalised rows … -/
theorem sout_A (hc0 : cond0_0 i) : sout0_A_0 c i a2 h2 a3 h3 a4 h4 a5 h5 a6 h6 hc0 x0 x1 x2 = k0_pay1 x0 x1 := by
  unfold sout0_A_0
  rw [View.read_writes_eq_canon _ _ _ (scover0_A_0 c i a2 h2 a3 h3 a4 h4 a5 h5 a6 h6 hc0 x0 x1 x2)]
  unfold kernelRun0_A
  dsimp only
  sl_unfold_words
  rw [View.canon_unit_zero hz]
  simp only [View.readAt_eq_ld, h2.read_unread, h3.read_unread, View.ld_unit_zero (S := S1024x2048) hz, View.ld_unit_zero (S := S1x2048) hz]

/-- … and multiplies them by its column block. -/
theorem out_A (hc0 : cond0_0 i) : out0_A_3 c i a2 h2 a3 h3 a4 h4 a5 h5 a6 h6 hc0 x0 x1 x2 = k0_pay2 (k0_pay1 x0 x1) x2 := by
  unfold out0_A_3
  rw [View.read_writes_eq_canon _ _ _ (cover0_A_3 c i a2 h2 a3 h3 a4 h4 a5 h5 a6 h6 hc0 x0 x1 x2)]
  unfold kernelRun0_A
  dsimp only
  sl_unfold_words
  rw [View.canon_unit_zero hz, View.readCov_unit_zero (S := S1024x2048) _ hz]
  simp only [View.readAt_eq_ld, h2.read_unread, h3.read_unread, h4.read_unread, View.ld_unit_zero (S := S1024x2048) hz, View.ld_unit_zero (S := S1x2048) hz,
    View.ld_unit_zero (S := S1x2048x2048) hz3]

/-- A later point multiplies what the scratch holds. -/
theorem out_B (hc0 : ¬cond0_0 i) : out0_B_3 c i a2 h2 a3 h3 a4 h4 a5 h5 a6 h6 hc0 x0 x1 x2 xs = k0_pay2 xs x2 := by
  unfold out0_B_3
  rw [View.read_writes_eq_canon _ _ _ (cover0_B_3 c i a2 h2 a3 h3 a4 h4 a5 h5 a6 h6 hc0 x0 x1 x2 xs)]
  unfold kernelRun0_B
  dsimp only
  sl_unfold_words
  rw [View.canon_unit_zero hz]
  simp only [View.readAt_eq_ld, h4.read_unread, h6.read_unread, View.ld_unit_zero (S := S1024x2048) hz, View.ld_unit_zero (S := S1x2048x2048) hz3]

end Points

/-! ## The input blocks -/

variable (m : (ℓ : Loc nD τ sig) → Buf (Elt Ideal) ℓ) (c : Dev nD)

/-- The caller's arrays, by coordinates. -/
def aX (s : Fin 16384) (k : Fin 2048) : EReal := m ((c : Thread nD τ).loc main_arg0) (ix2 s k)
def aG (k : Fin 2048) : EReal := m ((c : Thread nD τ).loc main_arg1) (ix1 k)
def aW (k : Fin 2048) (n : Fin 6144) : EReal := m ((c : Thread nD τ).loc main_arg2) (ix3 0 k n)

/-- The index maps, decided over the grid. -/
theorem idx_facts : ∀ t : Fin cfg0.N,
    (win0_0.index t (0 : Fin 2) = t.val / 3 ∧ win0_0.index t (1 : Fin 2) = 0)
    ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = t.val % 3) :=
  (by decide +kernel : ∀ t : Fin grid0.N, _)

theorem row_cast (v : Vec Ideal S2048 .f32) (k : Fin 2048) : shapeCast S1x2048 v shapeCasts_S2048_S1x2048 (ix2 0 k) = v (ix1 k) := by
  pointwise

theorem blk0 (t : Fin cfg0.N) (r : Fin 1024) (k : Fin 2048) (s : Fin 16384) (hs : s.val = 1024 * (t.val / 3) + r.val) :
    iblk m c 0 t (ix2 r k) = aX m c s k := by
  obtain ⟨⟨e0, e1⟩, -⟩ := idx_facts t
  unfold iblk aX
  rw [View.read_apply]
  show V m c main_arg0 _ = _
  rw [V_main_arg0]
  congr 1
  funext a
  apply Fin.ext
  match a with
  | ⟨0, _⟩ => show win0_0.index t 0 * 1024 + 1 * r.val = s.val; rw [e0]; omega
  | ⟨1, _⟩ => show win0_0.index t 1 * 2048 + 1 * k.val = k.val; rw [e1]; omega

theorem blk1 (t : Fin cfg0.N) (k : Fin 2048) : iblk m c 1 t (ix2 0 k) = aG m c k := by
  obtain ⟨-, ⟨e0, e1⟩, -⟩ := idx_facts t
  unfold iblk aG
  rw [View.read_apply]
  refine Eq.trans ?_ (row_cast (m (c.tc.loc main_arg1)) k)
  show shapeCast S1x2048 (m (c.tc.loc main_arg1)) _ _ = _
  congr 1
  funext a
  apply Fin.ext
  match a with
  | ⟨0, _⟩ => show win0_1.index t 0 * 1 + 1 * 0 = 0; rw [e0]
  | ⟨1, _⟩ => show win0_1.index t 1 * 2048 + 1 * k.val = k.val; rw [e1]; omega

theorem blk2 (t : Fin cfg0.N) (k : Fin 2048) (q : Fin 2048) (n : Fin 6144) (hn : n.val = 2048 * (t.val % 3) + q.val) :
    iblk m c 2 t (ix3 0 k q) = aW m c k n := by
  obtain ⟨-, -, ⟨e0, e1, e2⟩⟩ := idx_facts t
  unfold iblk aW
  rw [View.read_apply]
  show V m c main_v0 _ = _
  show m (c.tc.loc main_arg2) _ = _
  congr 1
  funext a
  apply Fin.ext
  match a with
  | ⟨0, _⟩ => show win0_2.index t 0 * 1 + 1 * 0 = 0; rw [e0]
  | ⟨1, _⟩ => show win0_2.index t 1 * 2048 + 1 * k.val = k.val; rw [e1]; omega
  | ⟨2, _⟩ => show win0_2.index t 2 * 2048 + 1 * q.val = n.val; rw [e2]; omega

/-! ## The result array -/

/-- Row `r` of row block `i`. -/
abbrev row (i : Fin 16) (r : Fin 1024) : Fin 16384 := ⟨1024 * i + r, by omega⟩

/-- The grid point of row block `i` and column block `j`. -/
abbrev pt (i : Fin 16) (j : Fin 3) : Fin cfg0.N := ⟨3 * i + j, lt_of_lt_of_eq (by omega) N_0.symm⟩

/-- What the scratch holds: the normalised rows of the row block. -/
def IsNorm (i : Fin 16) (xs : Vec Ideal S1024x2048 .bf16) : Prop := ∀ r k, xs (ix2 r k) = xn (aX m c) (aG m c) (row i r) k

/-- The scaled projection at a row and a column. -/
def out (s : Fin 16384) (n : Fin 6144) : EReal := (∑ k, xn (aX m c) (aG m c) s k * aW m c k n) * scale

theorem norm_of_blocks (i : Fin 16) (j : Fin 3) : IsNorm m c i (k0_pay1 (iblk m c 0 (pt i j)) (iblk m c 1 (pt i j))) := fun r k => by
  have hr : ∀ k, iblk m c 0 (pt i j) (ix2 r k) = aX m c (row i r) k := fun k =>
    blk0 m c _ r k _ (by show 1024 * i.val + r.val = 1024 * ((3 * i.val + j.val) / 3) + r.val; omega)
  rw [pay1_apply, blk1, hr]
  simp only [hr]
  rfl

/-- One point's block of the result. -/
theorem step_apply (i : Fin 16) (j : Fin 3) (xs : Vec Ideal S1024x2048 .bf16) (h : IsNorm m c i xs) (r : Fin 1024) (l : Fin 2048) :
    k0_pay2 xs (iblk m c 2 (pt i j)) (ix2 r l) = out m c (row i r) ⟨2048 * j + l, by omega⟩ := by
  rw [pay2_apply]
  refine congrArg (· * scale) (Finset.sum_congr rfl fun k _ => ?_)
  rw [h r k, blk2 m c (pt i j) k l ⟨2048 * j + l, by omega⟩ (by show 2048 * j.val + l.val = 2048 * ((3 * i.val + j.val) % 3) + l.val; omega)]

/-- After every point of row block `i` the scratch is its normalised rows and the staging buffer the point's block. -/
theorem sweep (i : Fin 16) : ∀ (n : ℕ) (hn : n < 3), IsNorm m c i (outsAt0 m c (3 * i + n) (pt i ⟨n, hn⟩).isLt).2
      ∧ ∀ r l, (outsAt0 m c (3 * i + n) (pt i ⟨n, hn⟩).isLt).1 (ix2 r l) = out m c (row i r) ⟨2048 * n + l, by omega⟩
  | 0, hn => by
    have e := outsAt0_A m c (pt i 0) (by show (3 * i.val + 0) % 3 = 0; omega)
    have e' : outsAt0 m c (3 * i.val + 0) (pt i ⟨0, hn⟩).isLt = _ := e
    rw [e', out_A, sout_A]
    exact ⟨norm_of_blocks m c i 0, fun r l => step_apply m c i 0 _ (norm_of_blocks m c i 0) r l⟩
  | n + 1, hn => by
    obtain ⟨h1, -⟩ := sweep i n (by omega)
    have e := outsAt0_B m c (pt i ⟨n + 1, hn⟩) (by show ¬(3 * i.val + (n + 1)) % 3 = 0; omega)
    have e' : outsAt0 m c (3 * i.val + (n + 1)) (pt i ⟨n + 1, hn⟩).isLt = _ := e
    rw [e', out_B]
    exact ⟨h1, fun r l => step_apply m c i ⟨n + 1, hn⟩ _ h1 r l⟩

/-- The kernel's result array at an index is the projection of the normalised row. -/
theorem G3_apply (s : Fin 16384) (n : Fin 6144) : G3 m c (ix2 s n) = out m c s n := by
  have hs : row ⟨s.val / 1024, by omega⟩ ⟨s.val % 1024, Nat.mod_lt _ (by decide)⟩ = s := Fin.ext (Nat.div_add_mod s.val 1024)
  have e := (sweep m c ⟨s.val / 1024, by omega⟩ (n.val / 2048) (by omega)).2 ⟨s.val % 1024, Nat.mod_lt _ (by decide)⟩ ⟨n.val % 2048, Nat.mod_lt _ (by decide)⟩
  rw [hs, outsAt0_sweep, show (⟨2048 * (n.val / 2048) + n.val % 2048, by omega⟩ : Fin 6144) = n from Fin.ext (Nat.div_add_mod n.val 2048)] at e
  have hp : pt3Of (ix2 s n) = 3 * (s.val / 1024) + n.val / 2048 := by
    show 3 * (s.val / 1024 - 0) + 1 * (n.val / 2048 - 0) = _; omega
  have hl : loc3Of (ix2 s n) = ix2 ⟨s.val % 1024, Nat.mod_lt _ (by decide)⟩ ⟨n.val % 2048, Nat.mod_lt _ (by decide)⟩ := by
    funext a; apply Fin.ext
    match a with
    | ⟨0, _⟩ => rfl
    | ⟨1, _⟩ => rfl
  unfold G3
  rw [dif_pos (by rw [hp]; exact (pt ⟨s.val / 1024, by omega⟩ ⟨n.val / 2048, by omega⟩).isLt), hl, fold0_congr m c _ _ _ _ hp]
  exact e

end Cert.Kernel3Ideal.QFold

end
-- ==== Proof.QAlgebraic.lean ====
/-
  The query projection: the reference's result at an index, and the kernel's result array is the reference's.
-/
module

public import proofs.«01_k».proof.Proof.QFold
public import proofs.«01_k».proof.Proof.IdxExt
public import proofs.«01_k».proof.Proof.FfnReference
public import proofs.«01_k».proof.Proof.Gen.Reference3Ideal.Read
public import proofs.«01_k».proof.Defs

@[expose] public section

set_option maxRecDepth 16384

noncomputable section

namespace Cert.Reference3Ideal.QReference

open Cert.Reference3Ideal Cert.Reference3Ideal.Read Cert.FfnAlgebra Cert.IdxExt Idealize.ShloMosaic
open Cert.FfnSpec (xn)
open Cert.ReferenceIdeal.FfnReference (zero_word)
open Cert.Kernel3Ideal.QFold (scale)

variable (x0 : (⟨S16384x2048, .f32⟩ : BufTy).Contents (Elt Ideal)) (x1 : (⟨S2048, .f32⟩ : BufTy).Contents (Elt Ideal))
  (x2 : (⟨S2x2048x6144, .f32⟩ : BufTy).Contents (Elt Ideal))

/-- The normalisation's factor. -/
theorem v8_apply (s : Fin 16384) (k : Fin 2048) : val_main_v8 (F := Ideal) x0 (ix2 s k) = invRms (fun q : Fin 2048 => x0 (ix2 s q)) := by
  rw [val_main_v8_apply, val_main_v7_apply, val_main_v6_apply, val_main_v5_apply, val_main_cst_1_apply, val_main_v4_apply, val_main_v3_apply,
    val_main_cst_0_apply, val_main_v2_apply, val_main_v1_apply, val_main_cst_apply]
  simp only [val_main_v0_apply, Ideal.ofBits_def, Ideal.addf_def, Ideal.mulf_def, Ideal.hostDivf_def, Ideal.hostUnary_rsqrt_def, zero_word, zero_add]
  unfold invRms
  refine congrArg (fun z => Ideal.rsqrt (Ideal.div z _ + _)) (Finset.sum_congr rfl fun q _ => ?_)
  rw [show idx_main_v1 (idx_main_v2 (idx_main_v8 (ix2 s k))) q = ix2 s q from ext2 rfl rfl]

/-- The reference's result at an index. -/
theorem v18_apply (s : Fin 16384) (n : Fin 6144) : val_main_v18 (F := Ideal) x0 x1 x2 (ix2 s n)
    = (∑ k : Fin 2048, xn (fun s k => x0 (ix2 s k)) (fun k => x1 (ix1 k)) s k * x2 (ix3 0 k n)) * scale := by
  rw [val_main_v18_apply]
  show val_main_v17 (F := Ideal) x0 x1 x2 (ix2 s n) = _
  rw [val_main_v17_apply, val_main_v16_apply, val_main_cst_2_apply, val_main_v15_apply]
  refine congrArg (· * scale) (Finset.sum_congr rfl fun k _ => ?_)
  rw [show lidx_main_v15 (ix2 s n) k = ix2 s k from ext2 rfl rfl, val_main_v14_apply, val_main_v13_apply,
    show idx_main_v13 (idx_main_v14 (ridx_main_v15 (ix2 s n) k)) = ix3 0 k n from ext3 rfl
      (by show (k.val * 6144 + n.val) / 6144 % 2048 = k.val; omega) (by show (k.val * 6144 + n.val) % 6144 = n.val; omega),
    val_main_v12_apply, val_main_v9_apply, v8_apply, val_main_v11_apply, val_main_v10_apply,
    show idx_main_v10 (idx_main_v11 (ix2 s k)) = ix1 k from ext1 rfl]
  rfl

end Cert.Reference3Ideal.QReference

namespace Cert.QAlgebraic

open Idealize.ShloMosaic Idealize.SL.Sem

theorem algebraic : algebraic_Kernel3Ideal_Reference3Ideal (hKernel3Ideal := Cert.Kernel3Ideal.Gen.facts)
    (hReference3Ideal := Cert.Reference3Ideal.Gen.facts) := by
  intro m ρ m' ρ' _ hag
  refine ⟨fun c => Cert.Kernel3Ideal.Value.G3 m c, Cert.Kernel3Ideal.Value.run m ρ, (θ_run _ _ _).mono (fun _ h c => ⟨(h c).1.trans ?_, (h c).2⟩) (Cert.Reference3Ideal.Value.run m' ρ')⟩
  obtain ⟨e0, e1, e2⟩ := hag c
  rw [Cert.Reference3Ideal.Read.val_main_v18_eq, e0, e1, e2]
  funext i
  obtain ⟨s, n, rfl⟩ : ∃ (s : Fin 16384) (n : Fin 6144), i = ix2 s n := ⟨i 0, i 1, eq_ix2 i⟩
  rw [Cert.Reference3Ideal.QReference.v18_apply]
  exact (Cert.Kernel3Ideal.QFold.G3_apply m c s n).symm

end Cert.QAlgebraic

end
-- ==== Proof.OutFold.lean ====
/-
  The output projection's kernel, at an index: each of the 32 points multiplies its row block by the weights and finishes
  the rows (normalisation and residual), 128 at a time.
-/
module

public import proofs.«01_k».proof.Proof.FfnSpec
public import proofs.«01_k».proof.Proof.Gen.Kernel4Ideal.Value
public import Idealize.ShloMosaic.Lib.Pointwise
public import Idealize.ShloMosaic.Lib.Pipeline.ValueKit.Tiles

@[expose] public section

set_option maxRecDepth 16384

noncomputable section

namespace Cert.Kernel4Ideal.OutFold

open Cert.Kernel4Ideal Cert.Kernel4Ideal.Gen Cert.Kernel4Ideal.Value Cert.FfnAlgebra Idealize.ShloMosaic Idealize.ShloMosaic.TcCoe
open Cert.FfnSpec (finish)

/-! ## The body's values: each row chunk is its finished rows -/

section Chunks

variable (a : Vec Ideal S128x2048 .bf16) (w : Vec Ideal S1x2048x2048 .bf16) (x : Vec Ideal S128x2048 .f32) (g : Vec Ideal S1x2048 .f32)

/-- The finished row of a chunk, from the chunk's arrays. -/
abbrev chunkOut (r : Fin 128) (l : Fin 2048) : EReal :=
  finish (fun k => x (ix2 r k)) (fun n => ∑ k : Fin 2048, a (ix2 r k) * w (ix3 0 k n)) (fun k => g (ix2 0 k)) l

theorem chunk0 (r : Fin 128) (l : Fin 2048) : k0_pay3 (F := Ideal) a w x g (ix2 r l) = chunkOut a w x g r l := by
  pointwise [k0_pay3]
  rfl

theorem chunk1 (r : Fin 128) (l : Fin 2048) : k0_pay5 (F := Ideal) (k0_pay2 a w) x g (ix2 r l) = chunkOut a w x g r l := by
  pointwise [k0_pay5, k0_pay2]
  rfl

theorem chunk2 (r : Fin 128) (l : Fin 2048) : k0_pay7 (F := Ideal) (k0_pay4 a w) x g (ix2 r l) = chunkOut a w x g r l := by
  pointwise [k0_pay7, k0_pay4]
  rfl

theorem chunk3 (r : Fin 128) (l : Fin 2048) : k0_pay1 (F := Ideal) (k0_pay6 a w) x g (ix2 r l) = chunkOut a w x g r l := by
  pointwise [k0_pay1, k0_pay6]
  rfl

end Chunks

theorem hz : (![0, 0] : Fin 2 → Nat) = fun _ => 0 := funext fun a => by fin_cases a <;> rfl
theorem hz3 : (![0, 0, 0] : Fin 3 → Nat) = fun _ => 0 := funext fun a => by fin_cases a <;> rfl

theorem ld_chunk {φ : EltTy} (X : Vec Ideal S512x2048 φ) (off : ℕ) (inb) (r : Fin 128) (l : Fin 2048) (r' : Fin 512) (h : off + r.val = r'.val) :
    View.ld X (Rect.unit (s := S512x2048) ![off, 0] ![128, 2048] inb) (ix2 r l) = X (ix2 r' l) :=
  View.ld_unit_apply_of X _ _ inb _ (ix2 r' l) (fun a => by fin_cases a <;> simp [← h])

/-- The block a point stores is the finished rows of its blocks. -/
theorem out_apply (x0 : Vec Ideal S512x2048 .bf16) (x1 : Vec Ideal S1x2048x2048 .bf16) (x2 : Vec Ideal S1x2048 .f32) (x3 : Vec Ideal S512x2048 .f32)
    (r : Fin 512) (l : Fin 2048) : out0_4 x0 x1 x2 x3 (ix2 r l) =
      finish (fun k => x3 (ix2 r k)) (fun n => ∑ k : Fin 2048, x0 (ix2 r k) * x1 (ix3 0 k n)) (fun k => x2 (ix2 0 k)) l := by
  have key : ∀ (off : ℕ) (inb inb') (y : Fin 128), off + y.val = r.val →
      chunkOut (View.ld x0 (Rect.unit (s := S512x2048) ![off, 0] ![128, 2048] inb)) x1 (View.ld x3 (Rect.unit (s := S512x2048) ![off, 0] ![128, 2048] inb')) x2 y l
        = finish (fun k => x3 (ix2 r k)) (fun n => ∑ k : Fin 2048, x0 (ix2 r k) * x1 (ix3 0 k n)) (fun k => x2 (ix2 0 k)) l := by
    intro off inb inb' y h
    unfold chunkOut
    simp only [ld_chunk x0 off inb y _ r h, ld_chunk x3 off inb' y _ r h]
  unfold out0_4
  rw [View.ld_unit_zero (S := S1x2048x2048) hz3, View.ld_unit_zero (S := S1x2048) hz]
  canon_tiles y h
  all_goals
    obtain ⟨yr, yl, rfl⟩ : ∃ (yr : Fin 128) (yl : Fin 2048), y = ix2 yr yl := ⟨y 0, y 1, eq_ix2 y⟩
    simp only [ix2_0, ix2_1] at *
    obtain rfl : yl = l := Fin.ext (by omega)
    first
      | rw [chunk0]
      | rw [chunk1]
      | rw [chunk2]
      | rw [chunk3]
    exact key _ _ _ yr (by omega)

/-! ## The input blocks -/

variable (m : (ℓ : Loc nD τ sig) → Buf (Elt Ideal) ℓ) (c : Dev nD)

/-- The caller's arrays, by coordinates. -/
def aA (s : Fin 16384) (k : Fin 2048) : EReal := m ((c : Thread nD τ).loc main_arg0) (ix2 s k)
def aW (k : Fin 2048) (n : Fin 2048) : EReal := m ((c : Thread nD τ).loc main_arg1) (ix3 0 k n)
def aG (k : Fin 2048) : EReal := m ((c : Thread nD τ).loc main_arg2) (ix1 k)
def aX (s : Fin 16384) (k : Fin 2048) : EReal := m ((c : Thread nD τ).loc main_arg3) (ix2 s k)

/-- The index maps, decided over the grid. -/
theorem idx_facts : ∀ t : Fin cfg0.N,
    (win0_0.index t (0 : Fin 2) = t.val ∧ win0_0.index t (1 : Fin 2) = 0)
    ∧ (win0_1.index t (0 : Fin 3) = 0 ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

theorem row_cast (v : Vec Ideal S2048 .f32) (k : Fin 2048) : shapeCast S1x2048 v shapeCasts_S2048_S1x2048 (ix2 0 k) = v (ix1 k) := by
  pointwise

theorem blk0 (t : Fin cfg0.N) (r : Fin 512) (k : Fin 2048) (s : Fin 16384) (hs : s.val = 512 * t.val + r.val) :
    iblk m c 0 t (ix2 r k) = aA m c s k := by
  obtain ⟨⟨e0, e1⟩, -⟩ := idx_facts t
  unfold iblk aA
  rw [View.read_apply]
  show V m c main_arg0 _ = _
  rw [V_main_arg0]
  congr 1
  funext a
  apply Fin.ext
  match a with
  | ⟨0, _⟩ => show win0_0.index t 0 * 512 + 1 * r.val = s.val; rw [e0]; omega
  | ⟨1, _⟩ => show win0_0.index t 1 * 2048 + 1 * k.val = k.val; rw [e1]; omega

theorem blk1 (t : Fin cfg0.N) (k n : Fin 2048) : iblk m c 1 t (ix3 0 k n) = aW m c k n := by
  obtain ⟨-, ⟨e0, e1, e2⟩, -⟩ := idx_facts t
  unfold iblk aW
  rw [View.read_apply]
  show m (c.tc.loc main_arg1) _ = _
  congr 1
  funext a
  apply Fin.ext
  match a with
  | ⟨0, _⟩ => show win0_1.index t 0 * 1 + 1 * 0 = 0; rw [e0]
  | ⟨1, _⟩ => show win0_1.index t 1 * 2048 + 1 * k.val = k.val; rw [e1]; omega
  | ⟨2, _⟩ => show win0_1.index t 2 * 2048 + 1 * n.val = n.val; rw [e2]; omega

theorem blk2 (t : Fin cfg0.N) (k : Fin 2048) : iblk m c 2 t (ix2 0 k) = aG m c k := by
  obtain ⟨-, -, ⟨e0, e1⟩, -⟩ := idx_facts t
  unfold iblk aG
  rw [View.read_apply]
  refine Eq.trans ?_ (row_cast (m (c.tc.loc main_arg2)) k)
  show shapeCast S1x2048 (m (c.tc.loc main_arg2)) _ _ = _
  congr 1
  funext a
  apply Fin.ext
  match a with
  | ⟨0, _⟩ => show win0_2.index t 0 * 1 + 1 * 0 = 0; rw [e0]
  | ⟨1, _⟩ => show win0_2.index t 1 * 2048 + 1 * k.val = k.val; rw [e1]; omega

theorem blk3 (t : Fin cfg0.N) (r : Fin 512) (k : Fin 2048) (s : Fin 16384) (hs : s.val = 512 * t.val + r.val) :
    iblk m c 3 t (ix2 r k) = aX m c s k := by
  obtain ⟨-, -, -, ⟨e0, e1⟩, -⟩ := idx_facts t
  unfold iblk aX
  rw [View.read_apply]
  show V m c main_arg3 _ = _
  rw [V_main_arg3]
  congr 1
  funext a
  apply Fin.ext
  match a with
  | ⟨0, _⟩ => show win0_3.index t 0 * 512 + 1 * r.val = s.val; rw [e0]; omega
  | ⟨1, _⟩ => show win0_3.index t 1 * 2048 + 1 * k.val = k.val; rw [e1]; omega

/-! ## The result array -/

/-- The layer's result: the residual plus the normalised product. -/
def out (s : Fin 16384) (l : Fin 2048) : EReal := finish (aX m c s) (fun n => ∑ k, aA m c s k * aW m c k n) (aG m c) l

/-- Every point writes its block back. -/
theorem flush_all : ∀ t : Fin cfg0.N, (cfg0.win 4).flush t = true := (by decide +kernel : ∀ t : Fin grid0.N, _)

/-- The kernel's result array at an index. -/
theorem result_apply (s : Fin 16384) (l : Fin 2048) : (dats m 0 c).arrAt 4 cfg0.N (ix2 s l) = out m c s l := by
  let t : Fin cfg0.N := ⟨s.val / 512, lt_of_lt_of_eq (by omega) N_0.symm⟩
  let r : Fin 512 := ⟨s.val % 512, Nat.mod_lt _ (by decide)⟩
  have hs : s.val = 512 * t.val + r.val := (Nat.div_add_mod s.val 512).symm
  obtain ⟨-, -, -, -, ⟨e0, e1⟩⟩ := idx_facts t
  have e := congrFun (blocks4 m c t (flush_all t)) (ix2 r l)
  rw [flushed4, View.read_apply] at e
  have hi : ((cfg0.win 4).blk t).view.emb (ix2 r l) = ix2 s l := by
    funext a
    apply Fin.ext
    match a with
    | ⟨0, _⟩ => show win0_4.index t 0 * 512 + 1 * r.val = s.val; rw [e0]; omega
    | ⟨1, _⟩ => show win0_4.index t 1 * 2048 + 1 * l.val = l.val; rw [e1]; omega
  rw [hi] at e
  refine e.trans ?_
  show out0_4 _ _ _ _ (ix2 r l) = _
  rw [out_apply]
  simp only [blk0 m c t r _ s hs, blk1, blk2, blk3 m c t r _ s hs]
  rfl

end Cert.Kernel4Ideal.OutFold

end
-- ==== Proof.OutAlgebraic.lean ====
/-
  The output projection: the reference's result at an index, and the kernel's result array is the reference's.
-/
module

public import proofs.«01_k».proof.Proof.OutFold
public import proofs.«01_k».proof.Proof.IdxExt
public import proofs.«01_k».proof.Proof.FfnReference
public import proofs.«01_k».proof.Proof.Gen.Reference4Ideal.Read
public import proofs.«01_k».proof.Defs

@[expose] public section

set_option maxRecDepth 16384

noncomputable section

namespace Cert.Reference4Ideal.OutReference

open Cert.Reference4Ideal Cert.Reference4Ideal.Read Cert.FfnAlgebra Cert.IdxExt Idealize.ShloMosaic
open Cert.FfnSpec (finish)
open Cert.ReferenceIdeal.FfnReference (zero_word)

variable (x0 : (⟨S16384x2048, .bf16⟩ : BufTy).Contents (Elt Ideal)) (x1 : (⟨S2x2048x2048, .f32⟩ : BufTy).Contents (Elt Ideal))
  (x2 : (⟨S2048, .f32⟩ : BufTy).Contents (Elt Ideal)) (x3 : (⟨S16384x2048, .f32⟩ : BufTy).Contents (Elt Ideal))

/-- A row's product with the weights. -/
abbrev prod (s : Fin 16384) (n : Fin 2048) : EReal := ∑ k : Fin 2048, x0 (ix2 s k) * x1 (ix3 0 k n)

theorem v3_apply (s : Fin 16384) (n : Fin 2048) : val_main_v3 (F := Ideal) x0 x1 (ix2 s n) = prod x0 x1 s n := by
  rw [val_main_v3_apply]
  refine Finset.sum_congr rfl fun k _ => ?_
  rw [show lidx_main_v3 (ix2 s n) k = ix2 s k from ext2 rfl rfl, val_main_v2_apply, val_main_v1_apply,
    show idx_main_v1 (idx_main_v2 (ridx_main_v3 (ix2 s n) k)) = ix3 0 k n from ext3 rfl
      (by show (k.val * 2048 + n.val) / 2048 % 2048 = k.val; omega) (by show (k.val * 2048 + n.val) % 2048 = n.val; omega)]
  rfl

/-- The normalisation's factor. -/
theorem v12_apply (s : Fin 16384) (n : Fin 2048) : val_main_v12 (F := Ideal) x0 x1 (ix2 s n) = invRms (prod x0 x1 s) := by
  rw [val_main_v12_apply, val_main_v11_apply, val_main_v10_apply, val_main_v9_apply, val_main_cst_1_apply, val_main_v8_apply, val_main_v7_apply,
    val_main_cst_0_apply, val_main_v6_apply, val_main_v5_apply, val_main_cst_apply]
  simp only [val_main_v4_apply, Ideal.ofBits_def, Ideal.addf_def, Ideal.mulf_def, Ideal.hostDivf_def, Ideal.hostUnary_rsqrt_def, zero_word, zero_add]
  unfold invRms
  refine congrArg (fun z => Ideal.rsqrt (Ideal.div z _ + _)) (Finset.sum_congr rfl fun q _ => ?_)
  rw [show idx_main_v5 (idx_main_v6 (idx_main_v12 (ix2 s n))) q = ix2 s q from ext2 rfl rfl, v3_apply]

/-- The reference's result at an index. -/
theorem v17_apply (s : Fin 16384) (l : Fin 2048) : val_main_v17 (F := Ideal) x0 x1 x2 x3 (ix2 s l)
    = finish (fun k => x3 (ix2 s k)) (prod x0 x1 s) (fun k => x2 (ix1 k)) l := by
  rw [val_main_v17_apply, val_main_v16_apply, val_main_v13_apply, v3_apply, v12_apply, val_main_v15_apply, val_main_v14_apply,
    show idx_main_v14 (idx_main_v15 (ix2 s l)) = ix1 l from ext1 rfl]
  rfl

end Cert.Reference4Ideal.OutReference

namespace Cert.OutAlgebraic

open Idealize.ShloMosaic Idealize.SL.Sem

theorem algebraic : algebraic_Kernel4Ideal_Reference4Ideal (hKernel4Ideal := Cert.Kernel4Ideal.Gen.facts)
    (hReference4Ideal := Cert.Reference4Ideal.Gen.facts) := by
  intro m ρ m' ρ' _ hag
  refine ⟨fun c => (Cert.Kernel4Ideal.Gen.dats m 0 c).arrAt 4 Cert.Kernel4Ideal.cfg0.N, Cert.Kernel4Ideal.Value.run_blocks m ρ,
    (θ_run _ _ _).mono (fun _ h c => ⟨(h c).1.trans ?_, (h c).2⟩) (Cert.Reference4Ideal.Value.run m' ρ')⟩
  obtain ⟨e0, e1, e2, e3⟩ := hag c
  rw [Cert.Reference4Ideal.Read.val_main_v17_eq, e0, e1, e2, e3]
  funext i
  obtain ⟨s, n, rfl⟩ : ∃ (s : Fin 16384) (n : Fin 2048), i = ix2 s n := ⟨i 0, i 1, eq_ix2 i⟩
  rw [Cert.Reference4Ideal.OutReference.v17_apply]
  exact (Cert.Kernel4Ideal.OutFold.result_apply m c s n).symm

end Cert.OutAlgebraic

end
-- ==== Proof.MergeSpec.lean ====
/-
  The merge of three groups' attention, at one row of one head. A group hands over its unnormalised output and two
  statistics, the largest score in base two and the sum of the exponentials. The merge in base two of these equals the
  softmax of the natural log-sum-exps, weighting the normalised outputs.
-/
module

public import proofs.«01_k».proof.Proof.FfnAlgebra

@[expose] public section

noncomputable section

namespace Cert.MergeSpec

open Idealize.ShloMosaic

/-- A group's exponential, shifted by the largest of the three maxima. -/
abbrev expo (a b c x : EReal) : EReal := Ideal.exp2 (x - max (max a b) c)

/-- The lane of a head's maximum, and of its denominator. -/
abbrev laneM (h : Fin 16) : Fin 128 := ⟨h, by omega⟩
abbrev laneD (h : Fin 16) : Fin 128 := ⟨16 + h, by omega⟩

/-- The reciprocal of a head's merged denominator, from the three rows of statistics. -/
def invDen (a b c : Fin 128 → EReal) (h : Fin 16) : EReal :=
  Ideal.div 1 (expo (a (laneM h)) (b (laneM h)) (c (laneM h)) (a (laneM h)) * a (laneD h)
    + expo (a (laneM h)) (b (laneM h)) (c (laneM h)) (b (laneM h)) * b (laneD h)
    + expo (a (laneM h)) (b (laneM h)) (c (laneM h)) (c (laneM h)) * c (laneD h))

/-- The weight of the group whose maximum is `x`. -/
def weight (a b c : Fin 128 → EReal) (h : Fin 16) (x : EReal) : EReal :=
  expo (a (laneM h)) (b (laneM h)) (c (laneM h)) x * invDen a b c h

/-- The merged value of a head. -/
def merge (a b c : Fin 128 → EReal) (h : Fin 16) (x y z : EReal) : EReal :=
  weight a b c h (a (laneM h)) * x + weight a b c h (b (laneM h)) * y + weight a b c h (c (laneM h)) * z

/-! ## The two spellings agree at real maxima and positive denominators -/

/-- A group's share: its exponential over the sum of the weighted exponentials. -/
def share (u d : Fin 3 → ℝ) (g : Fin 3) : ℝ := (2 : ℝ) ^ u g / ∑ k, (2 : ℝ) ^ u k * d k

theorem sum_pos {u d : Fin 3 → ℝ} (hd : ∀ g, 0 < d g) : 0 < ∑ k, (2 : ℝ) ^ u k * d k :=
  Finset.sum_pos (fun k _ => mul_pos (Real.rpow_pos_of_pos two_pos _) (hd k)) Finset.univ_nonempty

theorem div_coe (x : EReal) {y : ℝ} (hy : y ≠ 0) : Ideal.div x (y : EReal) = x * ((y⁻¹ : ℝ) : EReal) := by
  unfold Ideal.div
  rw [if_neg (by exact_mod_cast hy), EReal.coe_inv]

theorem exp2_coe (r : ℝ) : Ideal.exp2 (r : EReal) = (((2 : ℝ) ^ r : ℝ) : EReal) := rfl
theorem exp_coe (r : ℝ) : Ideal.exp (r : EReal) = ((Real.exp r : ℝ) : EReal) := rfl
theorem log_coe {r : ℝ} (h : 0 < r) : Ideal.log (r : EReal) = ((Real.log r : ℝ) : EReal) := if_neg (not_le.mpr h)

/-- The kernel's weight is the share. -/
theorem weight_eq (u d : Fin 3 → ℝ) (hd : ∀ g, 0 < d g) (a b c : Fin 128 → EReal) (h : Fin 16) (g : Fin 3)
    (ea : a (laneM h) = (u 0 : EReal)) (eb : b (laneM h) = (u 1 : EReal)) (ec : c (laneM h) = (u 2 : EReal))
    (da : a (laneD h) = (d 0 : EReal)) (db : b (laneD h) = (d 1 : EReal)) (dc : c (laneD h) = (d 2 : EReal)) :
    weight a b c h (u g : EReal) = ((share u d g : ℝ) : EReal) := by
  unfold weight invDen expo
  rw [ea, eb, ec, da, db, dc]
  obtain ⟨t, ht⟩ : ∃ t : ℝ, max (max (u 0 : EReal) (u 1)) (u 2) = (t : EReal) := ⟨max (max (u 0) (u 1)) (u 2),
    by rw [EReal.coe_strictMono.monotone.map_max, EReal.coe_strictMono.monotone.map_max]⟩
  rw [ht]
  simp only [← EReal.coe_sub, exp2_coe, ← EReal.coe_mul, ← EReal.coe_add]
  have hs := sum_pos (u := u) hd
  have hp : (0 : ℝ) < 2 ^ t := Real.rpow_pos_of_pos two_pos t
  have e : (2 : ℝ) ^ (u 0 - t) * d 0 + 2 ^ (u 1 - t) * d 1 + 2 ^ (u 2 - t) * d 2 = (∑ k, (2 : ℝ) ^ u k * d k) / 2 ^ t := by
    rw [Fin.sum_univ_three]
    simp only [Real.rpow_sub two_pos]
    ring
  rw [e, div_coe _ (div_pos hs hp).ne', one_mul, ← EReal.coe_mul]
  congr 1
  unfold share
  rw [Real.rpow_sub two_pos]
  field_simp

/-- A group's log-sum-exp, from its statistics. -/
def lse (x d : EReal) : EReal := x * Ideal.log 2 + Ideal.log d

theorem two_coe : (2 : EReal) = ((2 : ℝ) : EReal) := rfl

theorem lse_coe (x : ℝ) {d : ℝ} (hd : 0 < d) : lse (x : EReal) (d : EReal) = ((x * Real.log 2 + Real.log d : ℝ) : EReal) := by
  unfold lse
  rw [two_coe, log_coe two_pos, log_coe hd, ← EReal.coe_mul, ← EReal.coe_add]

/-- The reference's weight times its normalised output is the share times the output, whatever real shift the softmax takes. -/
theorem softmax_term (u d : Fin 3 → ℝ) (hd : ∀ g, 0 < d g) (M : ℝ) (o : EReal) (g : Fin 3) :
    Ideal.div (Ideal.exp (lse (u g) (d g) - (M : EReal))) (∑ k, Ideal.exp (lse (u k) (d k) - (M : EReal))) * Ideal.div o (d g : EReal)
      = ((share u d g : ℝ) : EReal) * o := by
  have hs := sum_pos (u := u) hd
  have e : ∀ k, Ideal.exp (lse (u k) (d k) - (M : EReal)) = (((2 : ℝ) ^ u k * d k / Real.exp M : ℝ) : EReal) := fun k => by
    rw [lse_coe _ (hd k), ← EReal.coe_sub, exp_coe, Real.exp_sub, Real.exp_add, Real.exp_log (hd k), Real.rpow_def_of_pos two_pos, mul_comm (u k)]
  have es : (∑ k, Ideal.exp (lse (u k) (d k) - (M : EReal))) = (((∑ k, (2 : ℝ) ^ u k * d k) / Real.exp M : ℝ) : EReal) := by
    simp only [e]
    rw [Cert.FfnAlgebra.sum_coe, Finset.sum_div]
  rw [es, e, div_coe _ (div_pos hs (Real.exp_pos M)).ne', div_coe _ (hd g).ne', ← EReal.coe_mul, mul_comm o, ← mul_assoc, ← EReal.coe_mul]
  congr 2
  have := (hd g).ne'
  have := (Real.exp_pos M).ne'
  unfold share
  field_simp

end Cert.MergeSpec

end
-- ==== Proof.MergePayloads.lean ====
/-
  The merge's kernel body: each chunk of 128 rows merges the three groups head by head, multiplies by the weights and
  finishes the rows. Every chunk is one function of its loads.
-/
module

public import proofs.«01_k».proof.Proof.FfnSpec
public import proofs.«01_k».proof.Proof.MergeSpec
public import proofs.«01_k».proof.Proof.Gen.Kernel5Ideal.Value
public import Idealize.ShloMosaic.Lib.Pointwise
public import Idealize.ShloMosaic.Lib.Pipeline.ValueKit.Tiles

@[expose] public section

set_option maxRecDepth 16384

noncomputable section

namespace Cert.Kernel5Ideal.MergePayloads

open Cert.Kernel5Ideal Cert.Kernel5Ideal.Gen Cert.FfnAlgebra Idealize.ShloMosaic
open Cert.FfnSpec (finish)
open Cert.MergeSpec

/-- One head's column of a row-wise weight can be cut out, whichever the head. -/
theorem slices_head : ∀ h : Fin 16, S128x128.Slices ![0, h.val] S128x1 := by decide

/-- One head of the merge: each group's weight column times the group's block. -/
def head (w0 w1 w2 o0 o1 o2 : FVec Ideal S128x128 .bf16) (h : Fin 16) : FVec Ideal S128x128 .bf16 :=
  addf (addf (mulf (broadcastTo S128x128 (extractStridedSlice S128x1 ![0, h.val] w0 (slices_head h)) broadcasts_S128x1_S128x128) o0)
    (mulf (broadcastTo S128x128 (extractStridedSlice S128x1 ![0, h.val] w1 (slices_head h)) broadcasts_S128x1_S128x128) o1))
    (mulf (broadcastTo S128x128 (extractStridedSlice S128x1 ![0, h.val] w2 (slices_head h)) broadcasts_S128x1_S128x128) o2)

/-- The sixteen heads side by side. -/
def heads (w0 w1 w2 : FVec Ideal S128x128 .bf16) (o0 o1 o2 : Fin 16 → FVec Ideal S128x128 .bf16) : FVec Ideal S128x2048 .bf16 :=
  concatenate S128x2048 1 (List.ofFn fun h : Fin 16 => ⟨S128x128, head w0 w1 w2 (o0 h) (o1 h) (o2 h) h⟩)
    concatenates_S128x128_S128x128_S128x128_S128x128_S128x128_S128x128_S128x128_S128x128_S128x128_S128x128_S128x128_S128x128_S128x128_S128x128_S128x128_S128x128_S128x2048_d1

theorem head_apply (w0 w1 w2 o0 o1 o2 : FVec Ideal S128x128 .bf16) (h : Fin 16) (r d : Fin 128) :
    head w0 w1 w2 o0 o1 o2 h (ix2 r d) =
      w0 (ix2 r ⟨h, by omega⟩) * o0 (ix2 r d) + w1 (ix2 r ⟨h, by omega⟩) * o1 (ix2 r d) + w2 (ix2 r ⟨h, by omega⟩) * o2 (ix2 r d) := by
  have e : ∀ w : FVec Ideal S128x128 .bf16, broadcastTo S128x128 (extractStridedSlice S128x1 ![0, h.val] w (slices_head h)) broadcasts_S128x1_S128x128 (ix2 r d)
      = w (ix2 r ⟨h, by omega⟩) := fun w => by
    pointwise
  unfold head
  show _ * _ + _ * _ + _ * _ = _
  rw [e, e, e]

theorem heads_apply (w0 w1 w2 : FVec Ideal S128x128 .bf16) (o0 o1 o2 : Fin 16 → FVec Ideal S128x128 .bf16) (r : Fin 128) (k : Fin 2048)
    (h : Fin 16) (d : Fin 128) (hk : k.val = 128 * h + d) :
    heads w0 w1 w2 o0 o1 o2 (ix2 r k) = head w0 w1 w2 (o0 h) (o1 h) (o2 h) h (ix2 r d) := by
  unfold heads
  refine concatenate_ofFn_apply (t := S128x2048) (s₁ := S128x128) 1 (fun h : Fin 16 => head w0 w1 w2 (o0 h) (o1 h) (o2 h) h) _ rfl 128 rfl (ix2 r k) h ?_ (ix2 r d) ?_ ?_
  · show k.val / 128 = h.val
    omega
  · show d.val = k.val % 128
    omega
  · intro b hb
    match b with
    | ⟨0, _⟩ => rfl
    | ⟨1, _⟩ => exact absurd rfl hb

/-! ## The weights -/

variable (s0 s1 s2 : Vec Ideal S128x128 .f32)

/-! A group's weight, at a head's lane. -/

theorem weight0 (r : Fin 128) (h : Fin 16) : k0_pay7 (F := Ideal) s0 s1 s2 (ix2 r (laneM h)) =
    weight (fun k => s0 (ix2 r k)) (fun k => s1 (ix2 r k)) (fun k => s2 (ix2 r k)) h (s0 (ix2 r (laneM h))) := by
  have e : (⟨(h.val + 128 - 112) % 128, by omega⟩ : Fin 128) = laneD h := Fin.ext (by simp only []; omega)
  pointwise [k0_pay7, k0_pay6, k0_pay5, k0_pay4, k0_pay3, k0_pay2]
  rw [e]
  rfl

theorem weight1 (r : Fin 128) (h : Fin 16) : k0_pay8 (F := Ideal) s0 s1 s2 (ix2 r (laneM h)) =
    weight (fun k => s0 (ix2 r k)) (fun k => s1 (ix2 r k)) (fun k => s2 (ix2 r k)) h (s1 (ix2 r (laneM h))) := by
  have e : (⟨(h.val + 128 - 112) % 128, by omega⟩ : Fin 128) = laneD h := Fin.ext (by simp only []; omega)
  pointwise [k0_pay8, k0_pay6, k0_pay5, k0_pay4, k0_pay3, k0_pay2]
  rw [e]
  rfl

theorem weight2 (r : Fin 128) (h : Fin 16) : k0_pay9 (F := Ideal) s0 s1 s2 (ix2 r (laneM h)) =
    weight (fun k => s0 (ix2 r k)) (fun k => s1 (ix2 r k)) (fun k => s2 (ix2 r k)) h (s2 (ix2 r (laneM h))) := by
  have e : (⟨(h.val + 128 - 112) % 128, by omega⟩ : Fin 128) = laneD h := Fin.ext (by simp only []; omega)
  pointwise [k0_pay9, k0_pay6, k0_pay5, k0_pay4, k0_pay3, k0_pay2]
  rw [e]
  rfl

/-! ## A chunk -/

theorem inb_stats : ∀ c : Fin 4, ∀ a, (![128 * c.val, 0] : Fin 2 → ℕ) a + S128x128.size a ≤ S512x128.size a := by decide
theorem inb_head : ∀ (c : Fin 4) (h : Fin 16), ∀ a, (![128 * c.val, 128 * h.val] : Fin 2 → ℕ) a + S128x128.size a ≤ S512x2048.size a := by decide
theorem inb_rows : ∀ c : Fin 4, ∀ a, (![128 * c.val, 0] : Fin 2 → ℕ) a + S128x2048.size a ≤ S512x2048.size a := by decide

/-- A chunk's rows of the statistics, of a head of a group's output, and of the residual. -/
abbrev rStats (c : Fin 4) : Rect S512x128 := Rect.unit (s := S512x128) ![128 * c.val, 0] S128x128.size (inb_stats c)
abbrev rHead (c : Fin 4) (h : Fin 16) : Rect S512x2048 := Rect.unit (s := S512x2048) ![128 * c.val, 128 * h.val] S128x128.size (inb_head c h)
abbrev rRows (c : Fin 4) : Rect S512x2048 := Rect.unit (s := S512x2048) ![128 * c.val, 0] S128x2048.size (inb_rows c)

variable (x0 x1 x2 : Vec Ideal S512x2048 .bf16) (x3 x4 x5 : Vec Ideal S512x128 .f32) (x6 : Vec Ideal S1x2048x2048 .bf16)
  (x7 : Vec Ideal S1x2048 .f32) (x8 : Vec Ideal S512x2048 .f32)

/-- The merged heads of a chunk. -/
def mergedOf (c : Fin 4) : FVec Ideal S128x2048 .bf16 :=
  heads (k0_pay7 (View.ld x3 (rStats c)) (View.ld x4 (rStats c)) (View.ld x5 (rStats c)))
    (k0_pay8 (View.ld x3 (rStats c)) (View.ld x4 (rStats c)) (View.ld x5 (rStats c)))
    (k0_pay9 (View.ld x3 (rStats c)) (View.ld x4 (rStats c)) (View.ld x5 (rStats c)))
    (fun h => View.ld x0 (rHead c h)) (fun h => View.ld x1 (rHead c h)) (fun h => View.ld x2 (rHead c h))

/-- What a chunk stores. -/
def chunkOf (c : Fin 4) : FVec Ideal S128x2048 .f32 :=
  k0_pay66 (k0_pay29 (mergedOf x0 x1 x2 x3 x4 x5 c) (View.ld x6 r0_17)) (View.ld x8 (rRows c)) (View.ld x7 r0_36)

theorem out_chunks : out0_9 x0 x1 x2 x3 x4 x5 x6 x7 x8 = View.canon (Val := Elt Ideal) [
    ⟨r0_73, chunkOf x0 x1 x2 x3 x4 x5 x6 x7 x8 3⟩, ⟨r0_72, chunkOf x0 x1 x2 x3 x4 x5 x6 x7 x8 2⟩,
    ⟨r0_54, chunkOf x0 x1 x2 x3 x4 x5 x6 x7 x8 1⟩, ⟨r0_35, chunkOf x0 x1 x2 x3 x4 x5 x6 x7 x8 0⟩] := by
  rfl

/-- A chunk's store, at an index. -/
theorem store_apply (A : FVec Ideal S128x2048 .bf16) (w : Vec Ideal S1x2048x2048 .bf16) (x : Vec Ideal S128x2048 .f32) (g : Vec Ideal S1x2048 .f32)
    (r : Fin 128) (l : Fin 2048) : k0_pay66 (k0_pay29 A w) x g (ix2 r l) =
      finish (fun k => x (ix2 r k)) (fun n => ∑ k : Fin 2048, A (ix2 r k) * w (ix3 0 k n)) (fun k => g (ix2 0 k)) l := by
  pointwise [k0_pay66, k0_pay29]
  rfl

theorem hz : (![0, 0] : Fin 2 → Nat) = fun _ => 0 := funext fun a => by fin_cases a <;> rfl
theorem hz3 : (![0, 0, 0] : Fin 3 → Nat) = fun _ => 0 := funext fun a => by fin_cases a <;> rfl

/-- A load of rows of a two-axis buffer, at an index. -/
theorem ld_apply {φ : EltTy} {R C R' C' : ℕ} (X : Vec Ideal (⟨2, ![R, C]⟩ : Shape) φ) (a b : ℕ) (inb) (r : Fin R') (l : Fin C') (r' : Fin R) (l' : Fin C)
    (hr : a + r.val = r'.val) (hl : b + l.val = l'.val) :
    View.ld X (Rect.unit (s := (⟨2, ![R, C]⟩ : Shape)) ![a, b] ![R', C'] inb) (ix2 r l) = X (ix2 r' l') :=
  View.ld_unit_apply_of X _ _ inb _ (ix2 r' l') (fun a => by fin_cases a <;> simp [← hr, ← hl])

/-- The merged value at a row and a column of the group's width. -/
abbrev mergedRow (r : Fin 512) (k : Fin 2048) : EReal :=
  merge (fun j => x3 (ix2 r j)) (fun j => x4 (ix2 r j)) (fun j => x5 (ix2 r j)) ⟨k.val / 128, by omega⟩ (x0 (ix2 r k)) (x1 (ix2 r k)) (x2 (ix2 r k))

theorem merged_apply (c : Fin 4) (y : Fin 128) (k : Fin 2048) (r : Fin 512) (hr : r.val = 128 * c + y) :
    mergedOf x0 x1 x2 x3 x4 x5 c (ix2 y k) = mergedRow x0 x1 x2 x3 x4 x5 r k := by
  have st : ∀ (X : Vec Ideal S512x128 .f32) (j : Fin 128), View.ld X (rStats c) (ix2 y j) = X (ix2 r j) := fun X j =>
    ld_apply X _ _ _ y j r j (by omega) (by omega)
  have hd : ∀ (X : Vec Ideal S512x2048 .bf16), View.ld X (rHead c ⟨k.val / 128, by omega⟩) (ix2 y ⟨k.val % 128, by omega⟩) = X (ix2 r k) := fun X =>
    ld_apply X _ _ _ y _ r k (by omega) (by simp only []; omega)
  unfold mergedOf
  rw [heads_apply _ _ _ _ _ _ y k ⟨k.val / 128, by omega⟩ ⟨k.val % 128, by omega⟩ (by simp only []; omega), head_apply, weight0, weight1, weight2,
    hd, hd, hd]
  show merge (fun j => View.ld x3 (rStats c) (ix2 y j)) (fun j => View.ld x4 (rStats c) (ix2 y j)) (fun j => View.ld x5 (rStats c) (ix2 y j)) _ _ _ _ = _
  rw [funext (st x3), funext (st x4), funext (st x5)]

/-- The block a point stores is the finished rows of the merged outputs. -/
theorem out_apply (r : Fin 512) (l : Fin 2048) : out0_9 x0 x1 x2 x3 x4 x5 x6 x7 x8 (ix2 r l) =
      finish (fun k => x8 (ix2 r k)) (fun n => ∑ k : Fin 2048, mergedRow x0 x1 x2 x3 x4 x5 r k * x6 (ix3 0 k n)) (fun k => x7 (ix2 0 k)) l := by
  have key : ∀ (c : Fin 4) (y : Fin 128), 128 * c.val + y.val = r.val →
      chunkOf x0 x1 x2 x3 x4 x5 x6 x7 x8 c (ix2 y l) =
        finish (fun k => x8 (ix2 r k)) (fun n => ∑ k : Fin 2048, mergedRow x0 x1 x2 x3 x4 x5 r k * x6 (ix3 0 k n)) (fun k => x7 (ix2 0 k)) l := by
    intro c y h
    have hx : ∀ k : Fin 2048, View.ld x8 (rRows c) (ix2 y k) = x8 (ix2 r k) := fun k => ld_apply x8 _ _ _ y k r k h (by omega)
    unfold chunkOf
    rw [View.ld_unit_zero (S := S1x2048x2048) hz3, View.ld_unit_zero (S := S1x2048) hz, store_apply]
    simp only [hx, merged_apply x0 x1 x2 x3 x4 x5 c y _ r h.symm]
  rw [out_chunks]
  canon_tiles y h
  all_goals
    obtain ⟨yr, yl, rfl⟩ : ∃ (yr : Fin 128) (yl : Fin 2048), y = ix2 yr yl := ⟨y 0, y 1, eq_ix2 y⟩
    simp only [ix2_0, ix2_1] at *
    obtain rfl : yl = l := Fin.ext (by omega)
    refine key _ yr ?_
    first
      | exact h0.symm
      | exact (Nat.zero_add _).trans h0.symm

end Cert.Kernel5Ideal.MergePayloads

end
-- ==== Proof.MergeFold.lean ====
/-
  The merge's kernel, at an index: each of the 32 points merges its rows of the three groups, multiplies by the weights
  and finishes the rows.
-/
module

public import proofs.«01_k».proof.Proof.MergePayloads

@[expose] public section

set_option maxRecDepth 16384

noncomputable section

namespace Cert.Kernel5Ideal.MergeFold

open Cert.Kernel5Ideal Cert.Kernel5Ideal.Gen Cert.Kernel5Ideal.Value Cert.Kernel5Ideal.MergePayloads Cert.FfnAlgebra Idealize.ShloMosaic Idealize.ShloMosaic.TcCoe
open Cert.FfnSpec (finish)
open Cert.MergeSpec

variable (m : (ℓ : Loc nD τ sig) → Buf (Elt Ideal) ℓ) (c : Dev nD)

/-! The caller's arrays, by coordinates: the groups' outputs and statistics, the weights, the gain, the residual. -/

def aO0 (s : Fin 16384) (k : Fin 2048) : EReal := m ((c : Thread nD τ).loc main_arg0) (ix2 s k)
def aO1 (s : Fin 16384) (k : Fin 2048) : EReal := m ((c : Thread nD τ).loc main_arg1) (ix2 s k)
def aO2 (s : Fin 16384) (k : Fin 2048) : EReal := m ((c : Thread nD τ).loc main_arg2) (ix2 s k)
def aL0 (s : Fin 16384) (j : Fin 128) : EReal := m ((c : Thread nD τ).loc main_arg3) (ix2 s j)
def aL1 (s : Fin 16384) (j : Fin 128) : EReal := m ((c : Thread nD τ).loc main_arg4) (ix2 s j)
def aL2 (s : Fin 16384) (j : Fin 128) : EReal := m ((c : Thread nD τ).loc main_arg5) (ix2 s j)
def aW (k : Fin 2048) (n : Fin 2048) : EReal := m ((c : Thread nD τ).loc main_arg6) (ix3 0 k n)
def aG (k : Fin 2048) : EReal := m ((c : Thread nD τ).loc main_arg7) (ix1 k)
def aX (s : Fin 16384) (k : Fin 2048) : EReal := m ((c : Thread nD τ).loc main_arg8) (ix2 s k)

/-- The row-blocked windows' index maps, decided over the grid. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- The weights' and the gain's index maps. -/
theorem idx_whole : ∀ t : Fin cfg0.N,
    (win0_6.index t (0 : Fin 3) = 0 ∧ win0_6.index t (1 : Fin 3) = 0 ∧ win0_6.index t (2 : Fin 3) = 0)
    ∧ (win0_7.index t (0 : Fin 2) = 0 ∧ win0_7.index t (1 : Fin 2) = 0) :=
  (by decide +kernel : ∀ t : Fin grid0.N, _)

/-- A row block's index in its array, from the two components of its origin. -/
theorem row_emb {C a b : ℕ} {y z : (⟨2, ![16384, C]⟩ : Shape).Idx} {t r s k : ℕ} (ha : a = t) (hb : b = 0) (hs : s = 512 * t + r)
    (hy : (y 0).val = a * 512 + 1 * r ∧ (y 1).val = b * C + 1 * k) (hz : (z 0).val = s ∧ (z 1).val = k) : y = z := by
  subst ha hb
  funext i
  apply Fin.ext
  match i with
  | ⟨0, _⟩ => exact hy.1.trans (Eq.trans (by omega) hz.1.symm)
  | ⟨1, _⟩ => exact hy.2.trans (Eq.trans (by omega) hz.2.symm)

theorem row_cast (v : Vec Ideal S2048 .f32) (k : Fin 2048) : shapeCast S1x2048 v shapeCasts_S2048_S1x2048 (ix2 0 k) = v (ix1 k) := by
  pointwise

theorem blk0 (t : Fin cfg0.N) (r : Fin 512) (k : Fin 2048) (s : Fin 16384) (hs : s.val = 512 * t.val + r.val) :
    iblk m c 0 t (ix2 r k) = aO0 m c s k := by
  obtain ⟨⟨e0, e1⟩, -⟩ := idx_rows t
  unfold iblk aO0
  rw [View.read_apply]
  show V m c main_arg0 _ = _
  rw [V_main_arg0]
  refine congrArg _ (row_emb e0 e1 hs ⟨rfl, rfl⟩ ⟨rfl, rfl⟩)

theorem blk1 (t : Fin cfg0.N) (r : Fin 512) (k : Fin 2048) (s : Fin 16384) (hs : s.val = 512 * t.val + r.val) :
    iblk m c 1 t (ix2 r k) = aO1 m c s k := by
  obtain ⟨-, ⟨e0, e1⟩, -⟩ := idx_rows t
  unfold iblk aO1
  rw [View.read_apply]
  show V m c main_arg1 _ = _
  rw [V_main_arg1]
  refine congrArg _ (row_emb e0 e1 hs ⟨rfl, rfl⟩ ⟨rfl, rfl⟩)

theorem blk2 (t : Fin cfg0.N) (r : Fin 512) (k : Fin 2048) (s : Fin 16384) (hs : s.val = 512 * t.val + r.val) :
    iblk m c 2 t (ix2 r k) = aO2 m c s k := by
  obtain ⟨-, -, ⟨e0, e1⟩, -⟩ := idx_rows t
  unfold iblk aO2
  rw [View.read_apply]
  show V m c main_arg2 _ = _
  rw [V_main_arg2]
  refine congrArg _ (row_emb e0 e1 hs ⟨rfl, rfl⟩ ⟨rfl, rfl⟩)

theorem blk3 (t : Fin cfg0.N) (r : Fin 512) (k : Fin 128) (s : Fin 16384) (hs : s.val = 512 * t.val + r.val) :
    iblk m c 3 t (ix2 r k) = aL0 m c s k := by
  obtain ⟨-, -, -, ⟨e0, e1⟩, -⟩ := idx_rows t
  unfold iblk aL0
  rw [View.read_apply]
  show V m c main_arg3 _ = _
  rw [V_main_arg3]
  refine congrArg _ (row_emb e0 e1 hs ⟨rfl, rfl⟩ ⟨rfl, rfl⟩)

theorem blk4 (t : Fin cfg0.N) (r : Fin 512) (k : Fin 128) (s : Fin 16384) (hs : s.val = 512 * t.val + r.val) :
    iblk m c 4 t (ix2 r k) = aL1 m c s k := by
  obtain ⟨-, -, -, -, ⟨e0, e1⟩, -⟩ := idx_rows t
  unfold iblk aL1
  rw [View.read_apply]
  show V m c main_arg4 _ = _
  rw [V_main_arg4]
  refine congrArg _ (row_emb e0 e1 hs ⟨rfl, rfl⟩ ⟨rfl, rfl⟩)

theorem blk5 (t : Fin cfg0.N) (r : Fin 512) (k : Fin 128) (s : Fin 16384) (hs : s.val = 512 * t.val + r.val) :
    iblk m c 5 t (ix2 r k) = aL2 m c s k := by
  obtain ⟨-, -, -, -, -, ⟨e0, e1⟩, -⟩ := idx_rows t
  unfold iblk aL2
  rw [View.read_apply]
  show V m c main_arg5 _ = _
  rw [V_main_arg5]
  refine congrArg _ (row_emb e0 e1 hs ⟨rfl, rfl⟩ ⟨rfl, rfl⟩)

theorem blk8 (t : Fin cfg0.N) (r : Fin 512) (k : Fin 2048) (s : Fin 16384) (hs : s.val = 512 * t.val + r.val) :
    iblk m c 8 t (ix2 r k) = aX m c s k := by
  obtain ⟨-, -, -, -, -, -, ⟨e0, e1⟩, -⟩ := idx_rows t
  unfold iblk aX
  rw [View.read_apply]
  show V m c main_arg8 _ = _
  rw [V_main_arg8]
  refine congrArg _ (row_emb e0 e1 hs ⟨rfl, rfl⟩ ⟨rfl, rfl⟩)

theorem blk6 (t : Fin cfg0.N) (k n : Fin 2048) : iblk m c 6 t (ix3 0 k n) = aW m c k n := by
  obtain ⟨⟨e0, e1, e2⟩, -⟩ := idx_whole t
  unfold iblk aW
  rw [View.read_apply]
  show m (c.tc.loc main_arg6) _ = _
  congr 1
  funext a
  apply Fin.ext
  match a with
  | ⟨0, _⟩ => show win0_6.index t 0 * 1 + 1 * 0 = 0; rw [e0]
  | ⟨1, _⟩ => show win0_6.index t 1 * 2048 + 1 * k.val = k.val; rw [e1]; omega
  | ⟨2, _⟩ => show win0_6.index t 2 * 2048 + 1 * n.val = n.val; rw [e2]; omega

theorem blk7 (t : Fin cfg0.N) (k : Fin 2048) : iblk m c 7 t (ix2 0 k) = aG m c k := by
  obtain ⟨-, ⟨e0, e1⟩⟩ := idx_whole t
  unfold iblk aG
  rw [View.read_apply]
  refine Eq.trans ?_ (row_cast (m (c.tc.loc main_arg7)) k)
  show shapeCast S1x2048 (m (c.tc.loc main_arg7)) _ _ = _
  congr 1
  funext a
  apply Fin.ext
  match a with
  | ⟨0, _⟩ => show win0_7.index t 0 * 1 + 1 * 0 = 0; rw [e0]
  | ⟨1, _⟩ => show win0_7.index t 1 * 2048 + 1 * k.val = k.val; rw [e1]; omega

/-! ## The result array -/

/-- The merged value of a row, at a column. -/
def merged (s : Fin 16384) (k : Fin 2048) : EReal :=
  merge (aL0 m c s) (aL1 m c s) (aL2 m c s) ⟨k.val / 128, by omega⟩ (aO0 m c s k) (aO1 m c s k) (aO2 m c s k)

/-- The call's result: the residual plus the normalised product of the merged row. -/
def out (s : Fin 16384) (l : Fin 2048) : EReal := finish (aX m c s) (fun n => ∑ k, merged m c s k * aW m c k n) (aG m c) l

/-- Every point writes its block back. -/
theorem flush_all : ∀ t : Fin cfg0.N, (cfg0.win 9).flush t = true := (by decide +kernel : ∀ t : Fin grid0.N, _)

/-- The kernel's result array at an index. -/
theorem result_apply (s : Fin 16384) (l : Fin 2048) : (dats m 0 c).arrAt 9 cfg0.N (ix2 s l) = out m c s l := by
  let t : Fin cfg0.N := ⟨s.val / 512, lt_of_lt_of_eq (by omega) N_0.symm⟩
  let r : Fin 512 := ⟨s.val % 512, Nat.mod_lt _ (by decide)⟩
  have hs : s.val = 512 * t.val + r.val := (Nat.div_add_mod s.val 512).symm
  obtain ⟨-, -, -, -, -, -, -, ⟨e0, e1⟩⟩ := idx_rows t
  have e := congrFun (blocks9 m c t (flush_all t)) (ix2 r l)
  rw [flushed9, View.read_apply] at e
  have hi : ((cfg0.win 9).blk t).view.emb (ix2 r l) = ix2 s l := by
    funext a
    apply Fin.ext
    match a with
    | ⟨0, _⟩ => show win0_9.index t 0 * 512 + 1 * r.val = s.val; rw [e0]; omega
    | ⟨1, _⟩ => show win0_9.index t 1 * 2048 + 1 * l.val = l.val; rw [e1]; omega
  rw [hi] at e
  refine e.trans ?_
  show out0_9 _ _ _ _ _ _ _ _ _ (ix2 r l) = _
  rw [out_apply]
  unfold mergedRow
  simp only [blk0 m c t r _ s hs, blk1 m c t r _ s hs, blk2 m c t r _ s hs, blk3 m c t r _ s hs, blk4 m c t r _ s hs, blk5 m c t r _ s hs,
    blk6, blk7, blk8 m c t r _ s hs]
  rfl

end Cert.Kernel5Ideal.MergeFold

end
-- ==== Proof.StatsPre.lean ====
/-
  The merge's precondition read: the statistics' maxima are real and their denominators are positive reals.
-/
module

public import proofs.«01_k».proof.Proof.FinitePre
public import proofs.«01_k».proof.Proof.MergeSpec
public import Idealize.ShloMosaic.Lib.Pointwise

@[expose] public section

noncomputable section

namespace Cert.StatsPre

open Idealize.ShloMosaic Cert.FfnAlgebra Cert.FinitePre Cert.MergeSpec Cert.Pre_softmax_stats

theorem facts : Cert.Pre_softmax_stats.Facts where
  slices_S16384x128_S16384x32_0_0 := by decide
  bcast_S_S16384x32 := by decide
  slices_S16384x128_S16384x16_0_16 := by decide
  bcast_S_S16384x16 := by decide

theorem zero_word : Ideal.ofBits .f32 0x00000000#32 = 0 := by simp [Ideal.ofBits, Ideal.ieee]

/-- The comparison's word is one only at a positive value. -/
theorem pos_of_word (x : EReal) (h : FloatOps.cmpf (F := Ideal) (φ := .f32) .ogt x (Ideal.ofBits .f32 0x00000000#32) = 1#1) : 0 < x := by
  rw [zero_word] at h
  have h' : BitVec.ofBool (decide (0 < x)) = 1#1 := h
  by_contra hn
  rw [decide_eq_false hn] at h'
  exact absurd h' (by decide)

/-- What the precondition says of one group's statistics. -/
def Good (L : FVec Ideal S16384x128 .f32) : Prop :=
  ∀ (s : Fin 16384) (h : Fin 16), (∃ u : ℝ, L (ix2 s (laneM h)) = (u : EReal)) ∧ ∃ d : ℝ, 0 < d ∧ L (ix2 s (laneD h)) = (d : EReal)

attribute [local instance] facts

theorem good_of_words (L : FVec Ideal S16384x128 .f32)
    (hf : cmpf .olt (Host.absf ((extractStridedSlice S16384x32 ![0, 0] · facts.slices_S16384x128_S16384x32_0_0) L))
      (broadcastInDim S16384x32 ![] facts.bcast_S_S16384x32 (constant (F := Ideal) S_ .f32 0x7F800000#32)) = fun _ => 1#1)
    (hp : cmpf .ogt ((extractStridedSlice S16384x16 ![0, 16] · facts.slices_S16384x128_S16384x16_0_16) L)
      (broadcastInDim S16384x16 ![] facts.bcast_S_S16384x16 (constant (F := Ideal) S_ .f32 0x00000000#32)) = fun _ => 1#1) : Good L := by
  have hr : ∀ (s : Fin 16384) (j : Fin 32), IsReal (L (ix2 s ⟨j, by omega⟩)) := fun s j => by
    have e : extractStridedSlice S16384x32 ![0, 0] L facts.slices_S16384x128_S16384x32_0_0 (ix2 s j) = L (ix2 s ⟨j, by omega⟩) := by pointwise
    rw [← e]
    exact isReal_of_word _ (congrFun hf (ix2 s j))
  intro s h
  have e : extractStridedSlice S16384x16 ![0, 16] L facts.slices_S16384x128_S16384x16_0_16 (ix2 s h) = L (ix2 s (laneD h)) := by pointwise
  have hpos : 0 < L (ix2 s (laneD h)) := by
    rw [← e]
    exact pos_of_word _ (congrFun hp (ix2 s h))
  obtain ⟨u, hu⟩ := hr s ⟨h, by omega⟩
  obtain ⟨d, hd⟩ := hr s ⟨16 + h, by omega⟩
  refine ⟨⟨u, hu⟩, d, ?_, hd⟩
  have hd' : L (ix2 s (laneD h)) = (d : EReal) := hd
  rw [hd'] at hpos
  exact_mod_cast hpos

/-- The three groups' statistics are good. -/
theorem good_of_fn (o0 o1 o2 : FVec Ideal S16384x2048 .bf16) (l0 l1 l2 : FVec Ideal S16384x128 .f32) (w : FVec Ideal S2x2048x2048 .f32)
    (g : FVec Ideal S2048 .f32) (x : FVec Ideal S16384x2048 .f32)
    (h0 : (fn (F := Ideal) o0 o1 o2 l0 l1 l2 w g x).1 = fun _ => 1#1)
    (h1 : (fn (F := Ideal) o0 o1 o2 l0 l1 l2 w g x).2.1 = fun _ => 1#1)
    (h2 : (fn (F := Ideal) o0 o1 o2 l0 l1 l2 w g x).2.2.1 = fun _ => 1#1)
    (h3 : (fn (F := Ideal) o0 o1 o2 l0 l1 l2 w g x).2.2.2.1 = fun _ => 1#1)
    (h4 : (fn (F := Ideal) o0 o1 o2 l0 l1 l2 w g x).2.2.2.2.1 = fun _ => 1#1)
    (h5 : (fn (F := Ideal) o0 o1 o2 l0 l1 l2 w g x).2.2.2.2.2 = fun _ => 1#1) : Good l0 ∧ Good l1 ∧ Good l2 :=
  ⟨good_of_words l0 h0 h3, good_of_words l1 h1 h4, good_of_words l2 h2 h5⟩

end Cert.StatsPre

end
-- ==== Proof.MergeReference.lean ====
/-
  The merge's reference: its result at an index, where the statistics' maxima are real and their denominators positive.
-/
module

public import proofs.«01_k».proof.Proof.StatsPre
public import proofs.«01_k».proof.Proof.FfnSpec
public import proofs.«01_k».proof.Proof.FfnReference
public import proofs.«01_k».proof.Proof.IdxExt
public import proofs.«01_k».proof.Proof.Gen.Reference5Ideal.Read
public import Idealize.ShloMosaic.Lib.Pointwise

@[expose] public section

set_option maxRecDepth 16384

noncomputable section

namespace Cert.Reference5Ideal.MergeReference

open Cert.Reference5Ideal Cert.Reference5Ideal.Read Cert.FfnAlgebra Cert.IdxExt Cert.MergeSpec Idealize.ShloMosaic
open Cert.FfnSpec (finish)
open Cert.ReferenceIdeal.FfnReference (zero_word)
open Cert.StatsPre (Good)

theorem two_word : Ideal.ofBits .f32 0x40000000#32 = 2 := by
  rw [two_coe]; simp [Ideal.ofBits, Ideal.ieee, -EReal.coe_mul]; norm_num

theorem neg_inf_word : Ideal.ofBits .f32 0xFF800000#32 = ⊥ := by simp [Ideal.ofBits, Ideal.ieee]

variable (x0 x1 x2 : (⟨S16384x2048, .bf16⟩ : BufTy).Contents (Elt Ideal)) (x3 x4 x5 : (⟨S16384x128, .f32⟩ : BufTy).Contents (Elt Ideal))
  (x6 : (⟨S2x2048x2048, .f32⟩ : BufTy).Contents (Elt Ideal)) (x7 : (⟨S2048, .f32⟩ : BufTy).Contents (Elt Ideal))
  (x8 : (⟨S16384x2048, .f32⟩ : BufTy).Contents (Elt Ideal))

/-! ## The log-sum-exps and the normalised outputs, group by group -/

theorem v11_apply (s : Fin 16384) (h : Fin 16) : val_main_v11 (F := Ideal) x3 (ix2 s h) = lse (x3 (ix2 s (laneM h))) (x3 (ix2 s (laneD h))) := by
  rw [val_main_v11_apply, val_main_v9_apply, val_main_v10_apply, val_main_v8_apply, val_main_v7_apply, val_main_cst_apply, val_main_v0_apply, val_main_v1_apply,
    show idx_main_v0 (ix2 s h) = ix2 s (laneM h) from ext2 rfl rfl, show idx_main_v1 (ix2 s h) = ix2 s (laneD h) from ext2 rfl rfl]
  simp only [Ideal.ofBits_def, two_word]
  rfl

theorem v23_apply (s : Fin 16384) (h : Fin 16) : val_main_v23 (F := Ideal) x4 (ix2 s h) = lse (x4 (ix2 s (laneM h))) (x4 (ix2 s (laneD h))) :=
  v11_apply x4 s h

theorem v35_apply (s : Fin 16384) (h : Fin 16) : val_main_v35 (F := Ideal) x5 (ix2 s h) = lse (x5 (ix2 s (laneM h))) (x5 (ix2 s (laneD h))) :=
  v11_apply x5 s h

/-- The three statistics, and outputs, by group. -/
abbrev stat (g : Fin 3) : (⟨S16384x128, .f32⟩ : BufTy).Contents (Elt Ideal) := match g with | 0 => x3 | 1 => x4 | 2 => x5
abbrev outp (g : Fin 3) : (⟨S16384x2048, .bf16⟩ : BufTy).Contents (Elt Ideal) := match g with | 0 => x0 | 1 => x1 | 2 => x2

/-- The stacked log-sum-exps. -/
theorem v39_apply (g : Fin 3) (s : Fin 16384) (h : Fin 16) : val_main_v39 (F := Ideal) x3 x4 x5 (ix3 g s h) =
    lse (stat x3 x4 x5 g (ix2 s (laneM h))) (stat x3 x4 x5 g (ix2 s (laneD h))) := by
  have e : ∀ (f : Fin 3 → FVec Ideal S1x16384x16 .f32) (H), concatenate S3x16384x16 0 [⟨S1x16384x16, f 0⟩, ⟨S1x16384x16, f 1⟩, ⟨S1x16384x16, f 2⟩] H (ix3 g s h)
      = f g (ix3 0 s h) := fun f H => by
    refine concatenate_ofFn_apply (t := S3x16384x16) (s₁ := S1x16384x16) 0 f H rfl 1 rfl (ix3 g s h) g (Nat.div_one _) (ix3 0 s h) (Nat.mod_one _).symm ?_
    intro b hb
    match b with
    | ⟨0, _⟩ => exact absurd rfl hb
    | ⟨1, _⟩ => rfl
    | ⟨2, _⟩ => rfl
  refine (e (fun g => match g with | 0 => val_main_v36 x3 | 1 => val_main_v37 x4 | 2 => val_main_v38 x5) _).trans ?_
  match g with
  | 0 => exact (val_main_v36_apply x3 _).trans ((congrArg _ (show idx_main_v36 (ix3 0 s h) = ix2 s h from ext2 rfl rfl)).trans (v11_apply x3 s h))
  | 1 => exact (val_main_v37_apply x4 _).trans ((congrArg _ (show idx_main_v37 (ix3 0 s h) = ix2 s h from ext2 rfl rfl)).trans (v23_apply x4 s h))
  | 2 => exact (val_main_v38_apply x5 _).trans ((congrArg _ (show idx_main_v38 (ix3 0 s h) = ix2 s h from ext2 rfl rfl)).trans (v35_apply x5 s h))

/-- The softmax's shift is real. -/
theorem v42_real (h3 : Good x3) (h4 : Good x4) (h5 : Good x5) (s : Fin 16384) (h : Fin 16) :
    ∃ M : ℝ, val_main_v42 (F := Ideal) x3 x4 x5 (ix2 s h) = (M : EReal) := by
  have hl : ∀ g : Fin 3, ∃ r : ℝ, val_main_v39 (F := Ideal) x3 x4 x5 (ix3 g s h) = (r : EReal) := fun g => by
    have hg : Good (stat x3 x4 x5 g) := match g with | 0 => h3 | 1 => h4 | 2 => h5
    obtain ⟨⟨u, hu⟩, d, hd, hd'⟩ := hg s h
    rw [v39_apply, hu, hd', lse_coe u hd]
    exact ⟨_, rfl⟩
  obtain ⟨r0, e0⟩ := hl 0
  obtain ⟨r1, e1⟩ := hl 1
  obtain ⟨r2, e2⟩ := hl 2
  have hR : S3x16384x16.Reduces [0] S16384x16 := by decide
  have hm : val_main_v40 (F := Ideal) x3 x4 x5 (ix2 s h) = max (r0 : EReal) (max (r1 : EReal) (max (r2 : EReal) ⊥)) := by
    unfold val_main_v40
    rw [Host.reduce_eq_fold_single _ _ _ _ hR]
    have hi : ∀ g : Fin 3, hR.lift (ix2 s h) g = ix3 g s h := fun g => ext3 rfl rfl rfl
    have hf : (val_main_v39 (F := Ideal) x3 x4 x5 ∘ hR.lift (ix2 s h)) = fun g : Fin 3 => val_main_v39 (F := Ideal) x3 x4 x5 (ix3 g s h) :=
      funext fun g => congrArg _ (hi g)
    rw [hf, val_main_cst_2_apply, ← e0, ← e1, ← e2, ← neg_inf_word]
    rfl
  rw [val_main_v42_apply, val_main_v41_apply, val_main_cst_3_apply, hm]
  simp only [Ideal.ofBits_def, Ideal.maximumf_def, neg_inf_word, bot_le, max_eq_left, max_eq_right]
  exact ⟨max r0 (max r1 r2), by rw [EReal.coe_strictMono.monotone.map_max, EReal.coe_strictMono.monotone.map_max]⟩

theorem v45_apply (g : Fin 3) (s : Fin 16384) (h : Fin 16) (M : ℝ) (hM : val_main_v42 (F := Ideal) x3 x4 x5 (ix2 s h) = (M : EReal)) :
    val_main_v46 (F := Ideal) x3 x4 x5 (ix3 g s h) =
      Ideal.exp (lse (stat x3 x4 x5 g (ix2 s (laneM h))) (stat x3 x4 x5 g (ix2 s (laneD h))) - (M : EReal)) := by
  rw [val_main_v46_apply, val_main_v45_apply, val_main_v44_apply, val_main_v43_apply, v39_apply,
    show idx_main_v43 (idx_main_v44 (ix3 g s h)) = ix2 s h from ext2 rfl rfl, hM]
  rfl

/-- The softmax's weight. -/
theorem v50_apply (g : Fin 3) (s : Fin 16384) (h : Fin 16) (M : ℝ) (hM : val_main_v42 (F := Ideal) x3 x4 x5 (ix2 s h) = (M : EReal)) :
    val_main_v50 (F := Ideal) x3 x4 x5 (ix3 g s h) =
      Ideal.div (Ideal.exp (lse (stat x3 x4 x5 g (ix2 s (laneM h))) (stat x3 x4 x5 g (ix2 s (laneD h))) - (M : EReal)))
        (∑ k, Ideal.exp (lse (stat x3 x4 x5 k (ix2 s (laneM h))) (stat x3 x4 x5 k (ix2 s (laneD h))) - (M : EReal))) := by
  rw [val_main_v50_apply, v45_apply x3 x4 x5 g s h M hM, val_main_v49_apply, val_main_v48_apply, val_main_v47_apply, val_main_cst_4_apply]
  simp only [Ideal.ofBits_def, Ideal.hostDivf_def, zero_word, zero_add]
  refine congrArg _ (Finset.sum_congr rfl fun k _ => ?_)
  rw [show idx_main_v47 (idx_main_v48 (idx_main_v49 (ix3 g s h))) k = ix3 k s h from ext3 rfl rfl rfl, v45_apply x3 x4 x5 k s h M hM]

/-- A group's normalised output. -/
theorem v6_apply (s : Fin 16384) (h : Fin 16) (d : Fin 128) (k : Fin 2048) (hk : k.val = 128 * h + d) :
    val_main_v6 (F := Ideal) x0 x3 (ix3 s h d) = Ideal.div (x0 (ix2 s k)) (x3 (ix2 s (laneD h))) := by
  rw [val_main_v6_apply, val_main_v3_apply, val_main_v2_apply, val_main_v5_apply, val_main_v4_apply, val_main_v1_apply,
    show idx_main_v1 (idx_main_v4 (idx_main_v5 (ix3 s h d))) = ix2 s (laneD h) from ext2 rfl rfl,
    show idx_main_v3 (ix3 s h d) = ix2 s k from ext2
      (by show ((s.val * 16 + h.val) * 128 + d.val) / 2048 = s.val; omega) (by show ((s.val * 16 + h.val) * 128 + d.val) % 2048 = k.val; omega)]
  rfl

/-- The stacked normalised outputs. -/
theorem v55_apply (g : Fin 3) (s : Fin 16384) (h : Fin 16) (d : Fin 128) (k : Fin 2048) (hk : k.val = 128 * h + d) :
    val_main_v55 (F := Ideal) x0 x1 x2 x3 x4 x5 (ix4 g s h d) = Ideal.div (outp x0 x1 x2 g (ix2 s k)) (stat x3 x4 x5 g (ix2 s (laneD h))) := by
  have e : ∀ (f : Fin 3 → FVec Ideal S1x16384x16x128 .f32) (H),
      concatenate S3x16384x16x128 0 [⟨S1x16384x16x128, f 0⟩, ⟨S1x16384x16x128, f 1⟩, ⟨S1x16384x16x128, f 2⟩] H (ix4 g s h d) = f g (ix4 0 s h d) := fun f H => by
    refine concatenate_ofFn_apply (t := S3x16384x16x128) (s₁ := S1x16384x16x128) 0 f H rfl 1 rfl (ix4 g s h d) g (Nat.div_one _) (ix4 0 s h d) (Nat.mod_one _).symm ?_
    intro b hb
    match b with
    | ⟨0, _⟩ => exact absurd rfl hb
    | ⟨1, _⟩ => rfl
    | ⟨2, _⟩ => rfl
    | ⟨3, _⟩ => rfl
  refine (e (fun g => match g with | 0 => val_main_v52 x0 x3 | 1 => val_main_v53 x1 x4 | 2 => val_main_v54 x2 x5) _).trans ?_
  match g with
  | 0 => exact (val_main_v52_apply x0 x3 _).trans ((congrArg _ (show idx_main_v52 (ix4 0 s h d) = ix3 s h d from ext3 rfl rfl rfl)).trans (v6_apply x0 x3 s h d k hk))
  | 1 => exact (val_main_v53_apply x1 x4 _).trans ((congrArg _ (show idx_main_v53 (ix4 0 s h d) = ix3 s h d from ext3 rfl rfl rfl)).trans (v6_apply x1 x4 s h d k hk))
  | 2 => exact (val_main_v54_apply x2 x5 _).trans ((congrArg _ (show idx_main_v54 (ix4 0 s h d) = ix3 s h d from ext3 rfl rfl rfl)).trans (v6_apply x2 x5 s h d k hk))

/-! ## The merged row -/

/-- The merged value, as the kernel spells it. -/
abbrev mergedAt (s : Fin 16384) (k : Fin 2048) : EReal :=
  merge (fun j => x3 (ix2 s j)) (fun j => x4 (ix2 s j)) (fun j => x5 (ix2 s j)) ⟨k.val / 128, by omega⟩ (x0 (ix2 s k)) (x1 (ix2 s k)) (x2 (ix2 s k))

theorem v59_apply (h3 : Good x3) (h4 : Good x4) (h5 : Good x5) (s : Fin 16384) (k : Fin 2048) :
    val_main_v59 (F := Ideal) x0 x1 x2 x3 x4 x5 (ix2 s k) = mergedAt x0 x1 x2 x3 x4 x5 s k := by
  obtain ⟨h, d, hk⟩ : ∃ (h : Fin 16) (d : Fin 128), k.val = 128 * h + d := ⟨⟨k.val / 128, by omega⟩, ⟨k.val % 128, by omega⟩, by simp only []; omega⟩
  have hh : (⟨k.val / 128, by omega⟩ : Fin 16) = h := Fin.ext (by simp only []; omega)
  obtain ⟨M, hM⟩ := v42_real x3 x4 x5 h3 h4 h5 s h
  have hg : ∀ g : Fin 3, Good (stat x3 x4 x5 g) := fun g => match g with | 0 => h3 | 1 => h4 | 2 => h5
  choose u hu using fun g => (hg g s h).1
  choose d' hd hd' using fun g => (hg g s h).2
  rw [val_main_v59_apply, show idx_main_v59 (ix2 s k) = ix3 s h d from ext3
      (by show (s.val * 2048 + k.val) / 2048 = s.val; omega) (by show (s.val * 2048 + k.val) / 128 % 16 = h.val; omega)
      (by show (s.val * 2048 + k.val) % 128 = d.val; omega), val_main_v58_apply, val_main_cst_5_apply]
  have ht : ∀ g : Fin 3, val_main_v57 (F := Ideal) x0 x1 x2 x3 x4 x5 (ix4 g s h d) = ((share u d' g : ℝ) : EReal) * outp x0 x1 x2 g (ix2 s k) := fun g => by
    rw [val_main_v57_apply, val_main_v56_apply, val_main_v51_apply, v55_apply x0 x1 x2 x3 x4 x5 g s h d k hk,
      show idx_main_v51 (idx_main_v56 (ix4 g s h d)) = ix3 g s h from ext3 rfl rfl rfl, v50_apply x3 x4 x5 g s h M hM]
    simp only [hu, hd']
    exact softmax_term u d' hd M _ g
  have hi : ∀ g : Fin 3, idx_main_v58 (ix3 s h d) g = ix4 g s h d := fun g => by
    funext a
    match a with
    | ⟨0, _⟩ => rfl
    | ⟨1, _⟩ => rfl
    | ⟨2, _⟩ => rfl
    | ⟨3, _⟩ => rfl
  simp only [hi, ht, Ideal.ofBits_def, zero_word, zero_add, Fin.sum_univ_three]
  unfold mergedAt merge
  rw [hh]
  have w := weight_eq u d' hd (fun j => x3 (ix2 s j)) (fun j => x4 (ix2 s j)) (fun j => x5 (ix2 s j)) h
  have w' := fun g => w g (hu 0) (hu 1) (hu 2) (hd' 0) (hd' 1) (hd' 2)
  rw [← w' 0, ← w' 1, ← w' 2, ← hu 0, ← hu 1, ← hu 2]

/-! ## The product, the normalisation and the residual -/

/-- A merged row's product with the weights. -/
abbrev prod (s : Fin 16384) (n : Fin 2048) : EReal := ∑ k : Fin 2048, mergedAt x0 x1 x2 x3 x4 x5 s k * x6 (ix3 0 k n)

variable (h3 : Good x3) (h4 : Good x4) (h5 : Good x5)
include h3 h4 h5

theorem v62_apply (s : Fin 16384) (n : Fin 2048) : val_main_v62 (F := Ideal) x0 x1 x2 x3 x4 x5 x6 (ix2 s n) = prod x0 x1 x2 x3 x4 x5 x6 s n := by
  rw [val_main_v62_apply]
  refine Finset.sum_congr rfl fun k _ => ?_
  rw [show lidx_main_v62 (ix2 s n) k = ix2 s k from ext2 rfl rfl, v59_apply x0 x1 x2 x3 x4 x5 h3 h4 h5, val_main_v61_apply, val_main_v60_apply,
    show idx_main_v60 (idx_main_v61 (ridx_main_v62 (ix2 s n) k)) = ix3 0 k n from ext3 rfl
      (by show (k.val * 2048 + n.val) / 2048 % 2048 = k.val; omega) (by show (k.val * 2048 + n.val) % 2048 = n.val; omega)]

/-- The normalisation's factor. -/
theorem v71_apply (s : Fin 16384) (n : Fin 2048) : val_main_v71 (F := Ideal) x0 x1 x2 x3 x4 x5 x6 (ix2 s n) = invRms (prod x0 x1 x2 x3 x4 x5 x6 s) := by
  have hv : ∀ q, val_main_v62 (F := Ideal) x0 x1 x2 x3 x4 x5 x6 (idx_main_v64 (idx_main_v65 (idx_main_v71 (ix2 s n))) q) = prod x0 x1 x2 x3 x4 x5 x6 s q := fun q => by
    rw [show idx_main_v64 (idx_main_v65 (idx_main_v71 (ix2 s n))) q = ix2 s q from ext2 rfl rfl, v62_apply x0 x1 x2 x3 x4 x5 x6 h3 h4 h5]
  rw [val_main_v71_apply, val_main_v70_apply, val_main_v69_apply, val_main_v68_apply, val_main_cst_8_apply, val_main_v67_apply, val_main_v66_apply,
    val_main_cst_7_apply, val_main_v65_apply, val_main_v64_apply, val_main_cst_6_apply]
  simp only [val_main_v63_apply, Ideal.ofBits_def, Ideal.addf_def, Ideal.mulf_def, Ideal.hostDivf_def, Ideal.hostUnary_rsqrt_def, zero_word, zero_add]
  simp only [hv]
  rfl

/-- The reference's result at an index. -/
theorem v76_apply (s : Fin 16384) (l : Fin 2048) : val_main_v76 (F := Ideal) x0 x1 x2 x3 x4 x5 x6 x7 x8 (ix2 s l)
    = finish (fun k => x8 (ix2 s k)) (prod x0 x1 x2 x3 x4 x5 x6 s) (fun k => x7 (ix1 k)) l := by
  rw [val_main_v76_apply, val_main_v75_apply, val_main_v72_apply, v62_apply x0 x1 x2 x3 x4 x5 x6 h3 h4 h5, v71_apply x0 x1 x2 x3 x4 x5 x6 h3 h4 h5,
    val_main_v74_apply, val_main_v73_apply, show idx_main_v73 (idx_main_v74 (ix2 s l)) = ix1 l from ext1 rfl]
  rfl

end Cert.Reference5Ideal.MergeReference

end
-- ==== Proof.MergeAlgebraic.lean ====
/-
  The merge: the kernel's result array is the reference's, where the statistics are those of a softmax.
-/
module

public import proofs.«01_k».proof.Proof.MergeFold
public import proofs.«01_k».proof.Proof.MergeReference
public import proofs.«01_k».proof.Defs

@[expose] public section

set_option maxRecDepth 16384

noncomputable section

namespace Cert.MergeAlgebraic

open Idealize.ShloMosaic Idealize.SL.Sem

theorem algebraic : algebraic_Kernel5Ideal_Reference5Ideal_pre_softmax_stats (hKernel5Ideal := Cert.Kernel5Ideal.Gen.facts)
    (hReference5Ideal := Cert.Reference5Ideal.Gen.facts) (hPre_softmax_stats := Cert.StatsPre.facts) := by
  intro m ρ m' ρ' hpre hag
  refine ⟨fun c => (Cert.Kernel5Ideal.Gen.dats m 0 c).arrAt 9 Cert.Kernel5Ideal.cfg0.N, Cert.Kernel5Ideal.Value.run_blocks m ρ,
    (θ_run _ _ _).mono (fun _ h c => ⟨(h c).1.trans ?_, (h c).2⟩) (Cert.Reference5Ideal.Value.run m' ρ')⟩
  obtain ⟨e0, e1, e2, e3, e4, e5, e6, e7, e8⟩ := hag c
  obtain ⟨p0, p1, p2, p3, p4, p5⟩ := hpre c
  obtain ⟨h3, h4, h5⟩ := Cert.StatsPre.good_of_fn _ _ _ _ _ _ _ _ _ p0 p1 p2 p3 p4 p5
  rw [Cert.Reference5Ideal.Read.val_main_v76_eq, e0, e1, e2, e3, e4, e5, e6, e7, e8]
  funext i
  obtain ⟨s, n, rfl⟩ : ∃ (s : Fin 16384) (n : Fin 2048), i = ix2 s n := ⟨i 0, i 1, eq_ix2 i⟩
  rw [Cert.Reference5Ideal.MergeReference.v76_apply _ _ _ _ _ _ _ _ _ h3 h4 h5]
  exact (Cert.Kernel5Ideal.MergeFold.result_apply m c s n).symm

end Cert.MergeAlgebraic

end
-- ==== Proof.AttBody.lean ====
/-
  The attention body: what one grid step leaves in its output blocks and in the bias scratch, in closed form.
-/
module

public import proofs.«01_k».proof.Proof.Gen.Kernel6Ideal.Value
public import Idealize.ShloMosaic.Lib.Pointwise
public import Idealize.ShloMosaic.Lib.Pipeline.ValueKit.Tiles

@[expose] public section

set_option maxRecDepth 16384

noncomputable section

namespace Cert.Kernel6Ideal.AttBody

open Cert.Kernel6Ideal Cert.Kernel6Ideal.Gen Idealize.ShloMosaic

/-! ### One head -/

theorem slices_tile (n : ℕ) (h : n < 8) : S1x1024x128.Slices ![0, 128 * n, 0] S1x128x128 := by
  refine ⟨rfl, fun a => ?_⟩
  fin_cases a
  · exact Nat.le_refl _
  · show 128 * n + 128 ≤ 1024
    omega
  · exact Nat.le_refl _

/-- Tile `n` of a head's block: 128 positions. -/
def tile (x : Vec Ideal S1x1x1024x128 .bf16) (n : Fin 8) : FVec Ideal S128x128 .bf16 :=
  shapeCast S128x128 (extractStridedSlice S1x128x128 ![0, 128 * n.val, 0]
    (shapeCast S1x1024x128 x shapeCasts_S1x1x1024x128_S1x1024x128) (slices_tile n.val n.isLt)) shapeCasts_S1x128x128_S128x128

/-- The tile before tile `n`: of the block before for the first. -/
def prev (p : Vec Ideal S1x1x128x128 .bf16) (x : Vec Ideal S1x1x1024x128 .bf16) : Fin 8 → FVec Ideal S128x128 .bf16
  | ⟨0, _⟩ => shapeCast S128x128 (shapeCast S1x128x128 p shapeCasts_S1x1x128x128_S1x128x128) shapeCasts_S1x128x128_S128x128
  | ⟨n + 1, h⟩ => tile x ⟨n, by omega⟩

/-- The bias of tile `n`: the first has a table of its own. -/
def biasOf (b1 b0 : Vec Ideal S1x1x128x256 .f32) : Fin 8 → FVec Ideal S128x256 .f32
  | ⟨0, _⟩ => shapeCast S128x256 b1 shapeCasts_S1x1x128x256_S128x256
  | ⟨_ + 1, _⟩ => shapeCast S128x256 b0 shapeCasts_S1x1x128x256_S128x256

def both (a b : FVec Ideal S128x128 .bf16) : FVec Ideal S256x128 .bf16 :=
  concatenate S256x128 0 [⟨S128x128, a⟩, ⟨S128x128, b⟩] concatenates_S128x128_S128x128_S256x128_d0

/-- The scores of a tile. -/
def score (q kp kc : FVec Ideal S128x128 .bf16) (b : FVec Ideal S128x256 .f32) : FVec Ideal S128x256 .f32 :=
  addf (matmul dot_S128x128_S256x128_S128x256_1_1_0_0_n_n none q (both kp kc) (constant S128x256 .f32 0x00000000#32)) b

def colMax (s : FVec Ideal S128x256 .f32) : FVec Ideal S128x1 .f32 :=
  shapeCast S128x1 (multiReduction .maximumf [1] S128 s 0xFF800000#32 reduces_S128x256_S128 (.inl rfl) rfl) shapeCasts_S128_S128x1

def probs (s : FVec Ideal S128x256 .f32) : FVec Ideal S128x256 .bf16 :=
  truncf .bf16 (exp2 (subf s (broadcastTo S128x256 (colMax s) broadcasts_S128x1_S128x256))) bitsLt_bf16_f32

/-- The weighted values and, beside them, the sums of the weights. -/
def weighted (s : FVec Ideal S128x256 .f32) (vp vc : FVec Ideal S128x128 .bf16) : FVec Ideal S128x256 .f32 :=
  matmul dot_S128x256_S256x256_S128x256_1_0_0_1_n_n none (probs s)
    (concatenate S256x256 1 [⟨S256x128, both vp vc⟩, ⟨S256x128, k0_pay260⟩] concatenates_S256x128_S256x128_S256x256_d1)
    (constant S128x256 .f32 0x00000000#32)

def numTile (s : FVec Ideal S128x256 .f32) (vp vc : FVec Ideal S128x128 .bf16) : FVec Ideal S128x128 .f32 :=
  extractStridedSlice S128x128 ![0, 0] (weighted s vp vc) slices_S128x256_o0_0_S128x128
def denTile (s : FVec Ideal S128x256 .f32) (vp vc : FVec Ideal S128x128 .bf16) : FVec Ideal S128x128 .f32 :=
  extractStridedSlice S128x128 ![0, 128] (weighted s vp vc) slices_S128x256_o0_128_S128x128

/-- What one head reads. -/
structure Head where
  q : Vec Ideal S1x1x1024x128 .bf16
  kp : Vec Ideal S1x1x128x128 .bf16
  kc : Vec Ideal S1x1x1024x128 .bf16
  vp : Vec Ideal S1x1x128x128 .bf16
  vc : Vec Ideal S1x1x1024x128 .bf16
  b1 : Vec Ideal S1x1x128x256 .f32
  b0 : Vec Ideal S1x1x128x256 .f32

def Head.score (H : Head) (n : Fin 8) : FVec Ideal S128x256 .f32 :=
  AttBody.score (tile H.q n) (prev H.kp H.kc n) (tile H.kc n) (biasOf H.b1 H.b0 n)
def Head.num (H : Head) (n : Fin 8) : FVec Ideal S128x128 .f32 := numTile (H.score n) (prev H.vp H.vc n) (tile H.vc n)
def Head.den (H : Head) (n : Fin 8) : FVec Ideal S128x128 .f32 := denTile (H.score n) (prev H.vp H.vc n) (tile H.vc n)

def eight (f : Fin 8 → FVec Ideal S128x128 .f32) : FVec Ideal S1x1024x128 .f32 :=
  concatenate S1x1024x128 1 [⟨S1x128x128, shapeCast S1x128x128 (f 0) shapeCasts_S128x128_S1x128x128⟩,
    ⟨S1x128x128, shapeCast S1x128x128 (f 1) shapeCasts_S128x128_S1x128x128⟩,
    ⟨S1x128x128, shapeCast S1x128x128 (f 2) shapeCasts_S128x128_S1x128x128⟩,
    ⟨S1x128x128, shapeCast S1x128x128 (f 3) shapeCasts_S128x128_S1x128x128⟩,
    ⟨S1x128x128, shapeCast S1x128x128 (f 4) shapeCasts_S128x128_S1x128x128⟩,
    ⟨S1x128x128, shapeCast S1x128x128 (f 5) shapeCasts_S128x128_S1x128x128⟩,
    ⟨S1x128x128, shapeCast S1x128x128 (f 6) shapeCasts_S128x128_S1x128x128⟩,
    ⟨S1x128x128, shapeCast S1x128x128 (f 7) shapeCasts_S128x128_S1x128x128⟩]
    concatenates_S1x128x128_S1x128x128_S1x128x128_S1x128x128_S1x128x128_S1x128x128_S1x128x128_S1x128x128_S1x1024x128_d1

/-- A head's stored output. -/
def Head.out (H : Head) : Vec Ideal S1x1x1024x128 .bf16 :=
  shapeCast S1x1x1024x128 (truncf .bf16 (eight H.num) bitsLt_bf16_f32) shapeCasts_S1x1024x128_S1x1x1024x128

/-- A tile's statistics after `k` heads: head `h`'s maximum in lane `h`, its denominator in lane `16 + h`. -/
def stats (sc : Fin 16 → FVec Ideal S128x256 .f32) (dn : Fin 16 → FVec Ideal S128x128 .f32) : ℕ → FVec Ideal S128x128 .f32
  | 0 => broadcast S128x128 (Scalar.ofBits .f32 0x00000000#32)
  | k + 1 =>
    select (cmpi .eq (iota .tc S128x128 32 [1] iota_S128x128_d1_w32) (broadcast S128x128 (BitVec.ofNat 32 k)))
      (broadcastTo S128x128 (shapeCast S128x1 (colMax (sc ⟨k % 16, Nat.mod_lt _ (by decide)⟩)) shapeCasts_S128x1_S128x1) broadcasts_S128x1_S128x128)
      (select (cmpi .eq (iota .tc S128x128 32 [1] iota_S128x128_d1_w32) (broadcast S128x128 (BitVec.ofNat 32 (16 + k))))
        (dn ⟨k % 16, Nat.mod_lt _ (by decide)⟩) (stats sc dn k))

def statsOut (Hs : Fin 16 → Head) : Vec Ideal S1x1x1024x128 .f32 :=
  shapeCast S1x1x1024x128 (eight fun n => stats (fun h => (Hs h).score n) (fun h => (Hs h).den n) 16) shapeCasts_S1x1024x128_S1x1x1024x128

/-! ### The grid step's loads -/

theorem inb_wide (h : Fin 16) : ∀ a, (![0, 0, 0, 128 * h.val] : Fin 4 → ℕ) a + S1x1x1024x128.size a ≤ S1x1x1024x2048.size a := by
  intro a
  have := h.isLt
  fin_cases a
  · exact Nat.le_refl _
  · exact Nat.le_refl _
  · exact Nat.le_refl _
  · show 128 * h.val + 128 ≤ 2048
    omega

theorem inb_before (h : Fin 16) : ∀ a, (![0, 0, 0, 128 * h.val] : Fin 4 → ℕ) a + S1x1x128x128.size a ≤ S1x1x128x2048.size a := by
  intro a
  have := h.isLt
  fin_cases a
  · exact Nat.le_refl _
  · exact Nat.le_refl _
  · exact Nat.le_refl _
  · show 128 * h.val + 128 ≤ 2048
    omega

theorem inb_bias (k : Fin 2) (h : Fin 16) : ∀ a, (![k.val, h.val, 0, 0] : Fin 4 → ℕ) a + S1x1x128x256.size a ≤ S2x16x128x256.size a := by
  intro a
  have := h.isLt
  have := k.isLt
  fin_cases a
  · show k.val + 1 ≤ 2
    omega
  · show h.val + 1 ≤ 16
    omega
  · exact Nat.le_refl _
  · exact Nat.le_refl _

def rectWide (h : Fin 16) : Rect S1x1x1024x2048 := Rect.unit ![0, 0, 0, 128 * h.val] S1x1x1024x128.size (inb_wide h)
def rectBefore (h : Fin 16) : Rect S1x1x128x2048 := Rect.unit ![0, 0, 0, 128 * h.val] S1x1x128x128.size (inb_before h)
def rectBias (k : Fin 2) (h : Fin 16) : Rect S2x16x128x256 := Rect.unit ![k.val, h.val, 0, 0] S1x1x128x256.size (inb_bias k h)

/-- The load of the first tile's bias: the table its word of the grid step names. -/
def firstOff (i : grid0.Coords) (h : Fin 16) : Fin 4 → ℕ :=
  ![(Scalar.indexCast (Scalar.select (Scalar.cmpi .eq (BitVec.ofNat 32 (i 1).val) 0#32) 1#32 0#32)).toNat, h.val, 0, 0]

theorem firstOff_eq (i : grid0.Coords) (h : Fin 16) : firstOff i h = ![(1 : Fin 2).val, h.val, 0, 0] := by
  have : (i 1).val = 0 := Nat.lt_one_iff.mp (i 1).isLt
  unfold firstOff
  rw [this]
  rfl

theorem inb_first (i : grid0.Coords) (h : Fin 16) : ∀ a, firstOff i h a + S1x1x128x256.size a ≤ S2x16x128x256.size a := by
  rw [firstOff_eq]
  exact inb_bias 1 h

def rectFirst (i : grid0.Coords) (h : Fin 16) : Rect S2x16x128x256 := Rect.unit (firstOff i h) S1x1x128x256.size (inb_first i h)

def rectStats : Rect S1x1x1024x128 := Rect.unit ![0, 0, 0, 0] S1x1x1024x128.size (fun a => by fin_cases a <;> exact Nat.le_refl _)

/-! ### The bias scratch -/

/-- The bias after `k` buckets: bucket `t` takes the table's entry, scaled; elsewhere the mask. -/
def biasUpTo (tab : ℕ → Elt Ideal .f32) (bk : IVec S128x256 32) : ℕ → FVec Ideal S128x256 .f32
  | 0 => broadcast S128x256 (Named.named κ "mask" 0xF149F2CA#32)
  | t + 1 => select (cmpi .eq bk (broadcast S128x256 (BitVec.ofNat 32 t)))
      (broadcast S128x256 (Scalar.mulf (tab t) (Named.named κ "log2e" 0x3FB8AA3B#32))) (biasUpTo tab bk t)

def bias0 (tab : ℕ → Elt Ideal .f32) (bk : Vec Ideal S128x256 .i32) : FVec Ideal S128x256 .f32 :=
  biasUpTo tab (shapeCast S128x256 bk shapeCasts_S128x256_S128x256) 32

/-- The first tile's bias: the keys before the sequence masked. -/
def bias1 (tab : ℕ → Elt Ideal .f32) (bk : Vec Ideal S128x256 .i32) : FVec Ideal S128x256 .f32 :=
  select (cmpi .slt (iota .tc S128x256 32 [1] iota_S128x256_d1_w32) (broadcast S128x256 128#32))
    (broadcast S128x256 (Named.named κ "mask" 0xF149F2CA#32)) (bias0 tab bk)

theorem inb_tab (n : ℕ) (h : Fin 16) : ∀ a, (![n % 32, 32 + h.val] : Fin 2 → ℕ) a + S1x1.size a ≤ S32x48.size a := by
  intro a
  have := h.isLt
  have := Nat.mod_lt n (show 0 < 32 by decide)
  fin_cases a
  · show n % 32 + 1 ≤ 32
    omega
  · show 32 + h.val + 1 ≤ 48
    omega

def rectTab (n : ℕ) (h : Fin 16) : Rect S32x48 := Rect.unit ![n % 32, 32 + h.val] S1x1.size (inb_tab n h)
def rectBucket : Rect S128x256 := Rect.unit ![0, 0] S128x256.size (fun a => by fin_cases a <;> exact Nat.le_refl _)

def biasPieces (tab : Fin 16 → ℕ → Elt Ideal .f32) (bk : Vec Ideal S128x256 .i32) : List (View.Piece (Elt Ideal) S2x16x128x256 .f32) :=
  [15, 14, 13, 12, 11, 10, 9, 8, 7, 6, 5, 4, 3, 2, 1, 0].flatMap fun h =>
    [⟨rectBias 1 h, shapeCast S1x1x128x256 (bias1 (tab h) bk) shapeCasts_S128x256_S1x1x128x256⟩,
     ⟨rectBias 0 h, shapeCast S1x1x128x256 (bias0 (tab h) bk) shapeCasts_S128x256_S1x1x128x256⟩]

variable (c : Dev nD) (i : grid0.Coords) (a2 : Memref sig .tc .smem S32x48 .f32) (h2 : a2.IsWhole)
  (a3 : Memref sig .tc .vmem S128x256 .i32) (h3 : a3.IsWhole) (a4 : Memref sig .tc .vmem S1x1x1024x2048 .bf16) (h4 : a4.IsWhole)
  (a5 : Memref sig .tc .vmem S1x1x128x2048 .bf16) (h5 : a5.IsWhole) (a6 : Memref sig .tc .vmem S1x1x1024x2048 .bf16) (h6 : a6.IsWhole)
  (a7 : Memref sig .tc .vmem S1x1x128x2048 .bf16) (h7 : a7.IsWhole) (a8 : Memref sig .tc .vmem S1x1x1024x2048 .bf16) (h8 : a8.IsWhole)
  (a9 : Memref sig .tc .vmem S1x1x1024x2048 .bf16) (h9 : a9.IsWhole) (a10 : Memref sig .tc .vmem S1x1x1024x128 .f32) (h10 : a10.IsWhole)
  (a11 : Memref sig .tc .vmem S2x16x128x256 .f32) (h11 : a11.IsWhole)
  (x0 : Vec Ideal S32x48 .f32) (x1 : Vec Ideal S128x256 .i32) (x2 : Vec Ideal S1x1x1024x2048 .bf16) (x3 : Vec Ideal S1x1x128x2048 .bf16)
  (x4 : Vec Ideal S1x1x1024x2048 .bf16) (x5 : Vec Ideal S1x1x128x2048 .bf16) (x6 : Vec Ideal S1x1x1024x2048 .bf16)
  (xs : Vec Ideal S2x16x128x256 .f32)

/-- Head `h`'s loads, its biases given. -/
def loads (B1 B0 : Fin 16 → Vec Ideal S1x1x128x256 .f32) (h : Fin 16) : Head where
  q := View.readAt (Elt Ideal) a4.view (rectWide h).toLoadRect (h4.unread x2)
  kp := View.readAt (Elt Ideal) a5.view (rectBefore h).toLoadRect (h5.unread x3)
  kc := View.readAt (Elt Ideal) a6.view (rectWide h).toLoadRect (h6.unread x4)
  vp := View.readAt (Elt Ideal) a7.view (rectBefore h).toLoadRect (h7.unread x5)
  vc := View.readAt (Elt Ideal) a8.view (rectWide h).toLoadRect (h8.unread x6)
  b1 := B1 h
  b0 := B0 h

/-- The sixteen heads' stores. -/
def pieces (Hs : Fin 16 → Head) : List (View.Piece (Elt Ideal) S1x1x1024x2048 .bf16) :=
  [15, 14, 13, 12, 11, 10, 9, 8, 7, 6, 5, 4, 3, 2, 1, 0].map fun h => ⟨rectWide h, (Hs h).out⟩

theorem pieces7_B (hc : ¬cond0_0 i) :
    (kernelRun0_B c i a2 h2 a3 h3 a4 h4 a5 h5 a6 h6 a7 h7 a8 h8 a9 h9 a10 h10 a11 h11 hc x0 x1 x2 x3 x4 x5 x6 xs).1
      = pieces (loads a4 h4 a5 h5 a6 h6 a7 h7 a8 h8 x2 x3 x4 x5 x6
          (fun h => View.readAt (Elt Ideal) a11.view (rectFirst i h).toLoadRect (h11.unread xs))
          (fun h => View.readAt (Elt Ideal) a11.view (rectBias 0 h).toLoadRect (h11.unread xs))) := by
  sl_kernel_rfl

theorem pieces8_B (hc : ¬cond0_0 i) :
    (kernelRun0_B c i a2 h2 a3 h3 a4 h4 a5 h5 a6 h6 a7 h7 a8 h8 a9 h9 a10 h10 a11 h11 hc x0 x1 x2 x3 x4 x5 x6 xs).2.1
      = [⟨rectStats, statsOut (loads a4 h4 a5 h5 a6 h6 a7 h7 a8 h8 x2 x3 x4 x5 x6
          (fun h => View.readAt (Elt Ideal) a11.view (rectFirst i h).toLoadRect (h11.unread xs))
          (fun h => View.readAt (Elt Ideal) a11.view (rectBias 0 h).toLoadRect (h11.unread xs)))⟩] := by
  sl_kernel_rfl

theorem pieces0_A (hc : cond0_0 i) :
    (kernelRun0_A c i a2 h2 a3 h3 a4 h4 a5 h5 a6 h6 a7 h7 a8 h8 a9 h9 a10 h10 a11 h11 hc x0 x1 x2 x3 x4 x5 x6).2.2.1
      = biasPieces (fun h n => View.readAt (Elt Ideal) a2.view (rectTab n h).toLoadRect (h2.unread x0) (Shape.Idx.first (s := S1x1) (by decide)))
          (View.readAt (Elt Ideal) a3.view rectBucket.toLoadRect (h3.unread x1)) := by
  sl_kernel_rfl

theorem pieces7_A (hc : cond0_0 i) :
    (kernelRun0_A c i a2 h2 a3 h3 a4 h4 a5 h5 a6 h6 a7 h7 a8 h8 a9 h9 a10 h10 a11 h11 hc x0 x1 x2 x3 x4 x5 x6).1
      = pieces (loads a4 h4 a5 h5 a6 h6 a7 h7 a8 h8 x2 x3 x4 x5 x6
          (fun h => a11.view.readCov (kernelRun0_A c i a2 h2 a3 h3 a4 h4 a5 h5 a6 h6 a7 h7 a8 h8 a9 h9 a10 h10 a11 h11 hc x0 x1 x2 x3 x4 x5 x6).2.2.1 (rectFirst i h).toLoadRect)
          (fun h => a11.view.readCov (kernelRun0_A c i a2 h2 a3 h3 a4 h4 a5 h5 a6 h6 a7 h7 a8 h8 a9 h9 a10 h10 a11 h11 hc x0 x1 x2 x3 x4 x5 x6).2.2.1 (rectBias 0 h).toLoadRect)) := by
  sl_kernel_rfl

theorem pieces8_A (hc : cond0_0 i) :
    (kernelRun0_A c i a2 h2 a3 h3 a4 h4 a5 h5 a6 h6 a7 h7 a8 h8 a9 h9 a10 h10 a11 h11 hc x0 x1 x2 x3 x4 x5 x6).2.1
      = [⟨rectStats, statsOut (loads a4 h4 a5 h5 a6 h6 a7 h7 a8 h8 x2 x3 x4 x5 x6
          (fun h => a11.view.readCov (kernelRun0_A c i a2 h2 a3 h3 a4 h4 a5 h5 a6 h6 a7 h7 a8 h8 a9 h9 a10 h10 a11 h11 hc x0 x1 x2 x3 x4 x5 x6).2.2.1 (rectFirst i h).toLoadRect)
          (fun h => a11.view.readCov (kernelRun0_A c i a2 h2 a3 h3 a4 h4 a5 h5 a6 h6 a7 h7 a8 h8 a9 h9 a10 h10 a11 h11 hc x0 x1 x2 x3 x4 x5 x6).2.2.1 (rectBias 0 h).toLoadRect))⟩] := by
  sl_kernel_rfl

end Cert.Kernel6Ideal.AttBody

end
-- ==== Proof.AttSpec.lean ====
/-
  One row of the attention, over the extended reals: the softmax's numerator and denominator in base e, and the same in
  base two from scores divided by the logarithm of two.
-/
module

public import proofs.«01_k».proof.Proof.MergeSpec

@[expose] public section

noncomputable section

namespace Cert.AttSpec

open Idealize.ShloMosaic

/-- One over the logarithm of two. -/
abbrev L : EReal := (((Real.log 2)⁻¹ : ℝ) : EReal)

theorem L_real_pos : 0 < (Real.log 2)⁻¹ := inv_pos.mpr (Real.log_pos (by norm_num))
theorem L_pos : 0 < L := EReal.coe_pos.mpr L_real_pos

theorem mul_add_of_pos {x : ℝ} (hx : 0 < x) (a b : EReal) : (x : EReal) * (a + b) = x * a + x * b :=
  EReal.left_distrib_of_nonneg_of_ne_top (EReal.coe_nonneg.mpr hx.le) (EReal.coe_ne_top x) a b

theorem mul_sum_of_pos {x : ℝ} (hx : 0 < x) {n : ℕ} (f : Fin n → EReal) : (x : EReal) * ∑ k, f k = ∑ k, (x : EReal) * f k := by
  induction n with
  | zero => simp
  | succ n ih => rw [Fin.sum_univ_castSucc, Fin.sum_univ_castSucc, mul_add_of_pos hx, ih]

theorem L_mul_bot : L * ⊥ = ⊥ := EReal.coe_mul_bot_of_pos L_real_pos
theorem L_mul_top : L * ⊤ = ⊤ := EReal.coe_mul_top_of_pos L_real_pos

theorem L_mono : Monotone fun a : EReal => L * a := fun _ _ h => mul_le_mul_of_nonneg_left h L_pos.le

/-- The greatest entry of a row. -/
def top (s : Fin 256 → EReal) : EReal := Finset.univ.fold max ⊥ s

theorem top_scaled (s : Fin 256 → EReal) : top (fun j => L * s j) = L * top s := by
  unfold top
  have h : ∀ F : Finset (Fin 256), F.fold max ⊥ (fun j => L * s j) = L * F.fold max ⊥ s := by
    intro F
    induction F using Finset.induction_on with
    | empty => exact L_mul_bot.symm
    | insert a F ha ih => rw [Finset.fold_insert ha, Finset.fold_insert ha, ih]; exact (L_mono.map_max).symm
  exact h _

theorem exp2_scaled (a : EReal) : Ideal.exp2 (L * a) = Ideal.exp a := by
  induction a using EReal.rec with
  | bot => rw [L_mul_bot]; rfl
  | top => rw [L_mul_top]; rfl
  | coe r =>
    rw [← EReal.coe_mul]
    show ((Real.rpow 2 ((Real.log 2)⁻¹ * r) : ℝ) : EReal) = ((Real.exp r : ℝ) : EReal)
    congr 1
    show (2 : ℝ) ^ ((Real.log 2)⁻¹ * r) = Real.exp r
    rw [Real.rpow_def_of_pos (by norm_num), ← mul_assoc, mul_inv_cancel₀ (Real.log_pos (by norm_num)).ne', one_mul]

theorem scaled_sub (a b : EReal) : L * a - L * b = L * (a - b) := by
  rw [sub_eq_add_neg, sub_eq_add_neg, mul_add_of_pos L_real_pos, mul_comm _ (-b), EReal.neg_mul, mul_comm b]

/-- A row's softmax numerators. -/
def p (s : Fin 256 → EReal) (j : Fin 256) : EReal := Ideal.exp (s j - top s)

/-- The unnormalised weighted sum of the values, and the denominator. -/
def num (s v : Fin 256 → EReal) : EReal := ∑ j, v j * p s j
def den (s : Fin 256 → EReal) : EReal := ∑ j, p s j

theorem p_masked {s : Fin 256 → EReal} {j : Fin 256} (h : s j = ⊥) : p s j = 0 := by
  unfold p; rw [h, sub_eq_add_neg, EReal.bot_add]; rfl

theorem p_scaled (s : Fin 256 → EReal) (j : Fin 256) : Ideal.exp2 (L * s j - top fun j => L * s j) = p s j := by
  rw [top_scaled, scaled_sub, exp2_scaled]; rfl

theorem den_scaled (s : Fin 256 → EReal) : ∑ j, Ideal.exp2 (L * s j - top fun j => L * s j) = den s :=
  Finset.sum_congr rfl fun j _ => p_scaled s j

theorem num_scaled (s v v' : Fin 256 → EReal) (h : ∀ j, s j = ⊥ ∨ v' j = v j) :
    ∑ j, Ideal.exp2 (L * s j - top fun j => L * s j) * v' j = num s v := by
  refine Finset.sum_congr rfl fun j _ => ?_
  rw [p_scaled, mul_comm]
  rcases h j with h | h
  · rw [p_masked h, mul_zero, mul_zero]
  · rw [h]

end Cert.AttSpec

end
-- ==== Proof.AttElements.lean ====
/-
  The attention body, element by element.
-/
module

public import proofs.«01_k».proof.Proof.AttBody
public import proofs.«01_k».proof.Proof.AttSpec
public import Idealize.ShloMosaic.Lib.Pipeline.ValueKit.Geometry

@[expose] public section

set_option maxRecDepth 16384

noncomputable section

namespace Cert.Kernel6Ideal.AttElements

open Cert.Kernel6Ideal Cert.Kernel6Ideal.Gen Cert.Kernel6Ideal.AttBody Idealize.ShloMosaic
open Cert.AttSpec (top)

theorem tile_apply (x : Vec Ideal S1x1x1024x128 .bf16) (n : Fin 8) (i d : Fin 128) :
    tile x n (ix2 i d) = x (ix4 0 0 (⟨128 * n.val + i.val, by omega⟩ : Fin 1024) d) := by
  pointwise [tile]

theorem before_apply (x : Vec Ideal S1x1x128x128 .bf16) (i d : Fin 128) :
    shapeCast S128x128 (shapeCast S1x128x128 x shapeCasts_S1x1x128x128_S1x128x128) shapeCasts_S1x128x128_S128x128 (ix2 i d)
      = x (ix4 0 0 i d) := by
  pointwise

theorem bias_apply (b : Vec Ideal S1x1x128x256 .f32) (i : Fin 128) (j : Fin 256) :
    shapeCast S128x256 b shapeCasts_S1x1x128x256_S128x256 (ix2 i j) = b (ix4 0 0 i j) := by
  pointwise

/-- Row `j` of two tiles, one above the other. -/
def pick (a b : FVec Ideal S128x128 .bf16) (j : Fin 256) (d : Fin 128) : EReal :=
  if h : j.val < 128 then a (ix2 ⟨j.val, h⟩ d) else b (ix2 ⟨j.val - 128, by omega⟩ d)

theorem both_apply (a b : FVec Ideal S128x128 .bf16) (j : Fin 256) (d : Fin 128) : both a b (ix2 j d) = pick a b j d := by
  pointwise [both, pick]

theorem score_apply (q kp kc : FVec Ideal S128x128 .bf16) (b : FVec Ideal S128x256 .f32) (i : Fin 128) (j : Fin 256) :
    score q kp kc b (ix2 i j) = (∑ k : Fin 128, q (ix2 i k) * pick kp kc j k) + b (ix2 i j) := by
  simp only [← both_apply]
  pointwise [score]

theorem colMax_apply (s : FVec Ideal S128x256 .f32) (i : Fin 128) : colMax s (ix2 i 0) = top fun j : Fin 256 => s (ix2 i j) := by
  pointwise [colMax, top]
  rfl

theorem probs_apply (s : FVec Ideal S128x256 .f32) (i : Fin 128) (j : Fin 256) :
    probs s (ix2 i j) = Ideal.exp2 (s (ix2 i j) - top fun j : Fin 256 => s (ix2 i j)) := by
  rw [← colMax_apply]
  pointwise [probs]
  rfl

theorem numTile_apply (s : FVec Ideal S128x256 .f32) (vp vc : FVec Ideal S128x128 .bf16) (i d : Fin 128) :
    numTile s vp vc (ix2 i d) = ∑ j : Fin 256, Ideal.exp2 (s (ix2 i j) - top fun j : Fin 256 => s (ix2 i j)) * pick vp vc j d := by
  simp only [← probs_apply, ← both_apply]
  pointwise [numTile, weighted]

theorem denTile_apply (s : FVec Ideal S128x256 .f32) (vp vc : FVec Ideal S128x128 .bf16) (i d : Fin 128) :
    denTile s vp vc (ix2 i d) = ∑ j : Fin 256, Ideal.exp2 (s (ix2 i j) - top fun j : Fin 256 => s (ix2 i j)) := by
  simp only [← probs_apply]
  pointwise [denTile, weighted, k0_pay260]

theorem eight_apply (f : Fin 8 → FVec Ideal S128x128 .f32) (n : Fin 8) (i d : Fin 128) (r : Fin 1024) (hr : r.val = 128 * n.val + i.val) :
    eight f (ix3 0 r d) = f n (ix2 i d) := by
  have e : shapeCast S1x128x128 (f n) shapeCasts_S128x128_S1x128x128 (ix3 0 i d) = f n (ix2 i d) := by pointwise
  rw [← e]
  unfold eight
  refine concatenate_ofFn_apply (t := S1x1024x128) (s₁ := S1x128x128) 1
    (fun n : Fin 8 => shapeCast S1x128x128 (f n) shapeCasts_S128x128_S1x128x128) _ rfl 128 rfl (ix3 0 r d) n ?_ (ix3 0 i d) ?_ ?_
  · show r.val / 128 = n.val
    omega
  · show i.val = r.val % 128
    omega
  · intro b hb
    match b with
    | ⟨0, _⟩ => rfl
    | ⟨1, _⟩ => exact absurd rfl hb
    | ⟨2, _⟩ => rfl

theorem out_apply (H : Head) (n : Fin 8) (i d : Fin 128) (r : Fin 1024) (hr : r.val = 128 * n.val + i.val) :
    H.out (ix4 0 0 r d) = H.num n (ix2 i d) := by
  rw [← eight_apply H.num n i d r hr]
  pointwise [Head.out]

theorem stats_apply (sc : Fin 16 → FVec Ideal S128x256 .f32) (dn : Fin 16 → FVec Ideal S128x128 .f32) (i l : Fin 128) : ∀ k : ℕ, k ≤ 16 →
    stats sc dn k (ix2 i l) = if l.val < k then colMax (sc ⟨l.val % 16, by omega⟩) (ix2 i 0)
      else if 16 ≤ l.val ∧ l.val < 16 + k then dn ⟨l.val % 16, by omega⟩ (ix2 i l) else 0
  | 0, _ => by
    rw [if_neg (by omega), if_neg (by omega)]
    pointwise [stats]
  | k + 1, hk => by
    have ih := stats_apply sc dn i l k (by omega)
    pointwise [stats]
    rw [ih]
    have hl := l.isLt
    by_cases h1 : l.val = k
    · rw [(WordCmp.cmpi_eq_ofNat_eq_one_iff (w := 32) (by omega) (by omega)).mpr h1, ValueIdx.select_one, if_pos (by omega)]
      have : (⟨k % 16, Nat.mod_lt _ (by decide)⟩ : Fin 16) = ⟨l.val % 16, by omega⟩ := Fin.ext (by show k % 16 = l.val % 16; rw [h1])
      rw [this]
    · rw [(WordCmp.cmpi_eq_ofNat_eq_zero_iff (w := 32) (by omega) (by omega)).mpr h1, ValueIdx.select_zero]
      by_cases h2 : l.val = 16 + k
      · rw [(WordCmp.cmpi_eq_ofNat_eq_one_iff (w := 32) (by omega) (by omega)).mpr h2, ValueIdx.select_one, if_neg (by omega), if_pos (by omega)]
        have : (⟨k % 16, Nat.mod_lt _ (by decide)⟩ : Fin 16) = ⟨l.val % 16, by omega⟩ := Fin.ext (by show k % 16 = l.val % 16; omega)
        rw [this]
      · rw [(WordCmp.cmpi_eq_ofNat_eq_zero_iff (w := 32) (by omega) (by omega)).mpr h2, ValueIdx.select_zero]
        by_cases h3 : l.val < k
        · rw [if_pos h3, if_pos (by omega)]
        · rw [if_neg h3, if_neg (show ¬ l.val < k + 1 by omega)]
          by_cases h4 : 16 ≤ l.val ∧ l.val < 16 + k
          · rw [if_pos h4, if_pos (by omega)]
          · rw [if_neg h4, if_neg (by omega)]

theorem statsOut_apply (Hs : Fin 16 → Head) (n : Fin 8) (i l : Fin 128) (r : Fin 1024) (hr : r.val = 128 * n.val + i.val) :
    statsOut Hs (ix4 0 0 r l) = if l.val < 16 then colMax ((Hs ⟨l.val % 16, by omega⟩).score n) (ix2 i 0)
      else if l.val < 32 then (Hs ⟨l.val % 16, by omega⟩).den n (ix2 i l) else 0 := by
  have e : statsOut Hs (ix4 0 0 r l) = eight (fun n => stats (fun h => (Hs h).score n) (fun h => (Hs h).den n) 16) (ix3 0 r l) := by pointwise [statsOut]
  rw [e, eight_apply _ n i l r hr, stats_apply _ _ i l 16 (by omega)]
  split_ifs <;> first | rfl | omega

/-! ### The bias -/

theorem mask_eq : (Named.named κ "mask" 0xF149F2CA#32 : Ideal .f32) = (⊥ : EReal) := rfl
theorem log2e_eq : (Named.named κ "log2e" 0x3FB8AA3B#32 : Ideal .f32) = AttSpec.L := rfl

theorem biasUpTo_apply (tab : ℕ → Elt Ideal .f32) (bk : IVec S128x256 32) (i : Fin 128) (j : Fin 256) : ∀ k : ℕ, k ≤ 32 →
    biasUpTo tab bk k (ix2 i j) = if (bk (ix2 i j)).toNat < k then tab (bk (ix2 i j)).toNat * AttSpec.L else (⊥ : EReal)
  | 0, _ => by
    rw [if_neg (by omega)]
    rfl
  | k + 1, hk => by
    have ih := biasUpTo_apply tab bk i j k (by omega)
    show Scalar.select (IntOp.cmpi .eq (bk (ix2 i j)) (BitVec.ofNat 32 k)) (tab k * AttSpec.L : EReal) (biasUpTo tab bk k (ix2 i j)) = _
    rw [ih]
    by_cases h : bk (ix2 i j) = BitVec.ofNat 32 k
    · have hk : (bk (ix2 i j)).toNat = k := by rw [h, BitVec.toNat_ofNat]; omega
      rw [show IntOp.cmpi .eq (bk (ix2 i j)) (BitVec.ofNat 32 k) = 1#1 from by rw [WordCmp.cmpi_eq_eq, decide_eq_true h]; rfl,
        ValueIdx.select_one, hk, if_pos (Nat.lt_succ_self k)]
    · have hk : (bk (ix2 i j)).toNat ≠ k := fun e => h (by rw [← e]; simp)
      rw [show IntOp.cmpi .eq (bk (ix2 i j)) (BitVec.ofNat 32 k) = 0#1 from by rw [WordCmp.cmpi_eq_eq, decide_eq_false h]; rfl,
        ValueIdx.select_zero]
      by_cases h2 : (bk (ix2 i j)).toNat < k
      · rw [if_pos h2, if_pos (by omega)]
      · rw [if_neg h2, if_neg (by omega)]

theorem bias0_apply (tab : ℕ → Elt Ideal .f32) (bk : Vec Ideal S128x256 .i32) (i : Fin 128) (j : Fin 256) :
    bias0 tab bk (ix2 i j) = if (bk (ix2 i j)).toNat < 32 then tab (bk (ix2 i j)).toNat * AttSpec.L else (⊥ : EReal) := by
  have e : shapeCast S128x256 bk shapeCasts_S128x256_S128x256 (ix2 i j) = bk (ix2 i j) := by pointwise
  unfold bias0
  rw [biasUpTo_apply _ _ i j 32 (by omega), e]

theorem bias1_apply (tab : ℕ → Elt Ideal .f32) (bk : Vec Ideal S128x256 .i32) (i : Fin 128) (j : Fin 256) :
    bias1 tab bk (ix2 i j) = if j.val < 128 then (⊥ : EReal) else bias0 tab bk (ix2 i j) := by
  pointwise [bias1]
  have hj := j.isLt
  by_cases h : j.val < 128
  · rw [(WordCmp.cmpi_slt_ofNat_eq_one_iff (w := 32) (by omega) (by omega)).mpr h, ValueIdx.select_one, if_pos h]
    rfl
  · rw [(WordCmp.cmpi_slt_ofNat_eq_zero_iff (w := 32) (by omega) (by omega)).mpr (by omega), ValueIdx.select_zero, if_neg h]

/-! ### The blocks a grid step leaves -/

/-- Pieces that agree at an index leave their common value there. -/
theorem canon_of_agree {s : Shape} {e : EltTy} (y : s.Idx) (v : Elt Ideal e) : ∀ L : List (View.Piece (Elt Ideal) s e),
    (∃ p ∈ L, y ∈ p.1.set) → (∀ p ∈ L, ∀ x, p.1.emb x = y → p.2 x = v) → View.canon L y = v
  | [], h, _ => by obtain ⟨p, hp, _⟩ := h; cases hp
  | ⟨r, w⟩ :: L, h, hv => by
    by_cases hy : y ∈ r.set
    · obtain ⟨x, hx⟩ := r.exists_idx_of_mem hy
      have hx : r.emb x = y := hx
      rw [← hx, View.canon_cons_emb]
      exact hv _ (List.mem_cons_self) x hx
    · rw [View.canon_cons_of_not_mem _ _ hy]
      refine canon_of_agree y v L ?_ fun p hp => hv p (List.mem_cons_of_mem _ hp)
      obtain ⟨p, hp, hyp⟩ := h
      rcases List.mem_cons.mp hp with rfl | hp
      · exact absurd hyp hy
      · exact ⟨p, hp, hyp⟩

theorem mem_heads : ∀ h : Fin 16, h ∈ ([15, 14, 13, 12, 11, 10, 9, 8, 7, 6, 5, 4, 3, 2, 1, 0] : List (Fin 16)) := by decide

theorem mem_emb {s : Shape} (r : Rect s) (x : r.shape.Idx) : r.emb x ∈ r.set := by
  rw [← Rect.map_emb_univ]
  exact Finset.mem_map_of_mem _ (Finset.mem_univ _)

theorem wide_emb (h : Fin 16) (x : S1x1x1024x128.Idx) (a : Fin 4) :
    ((rectWide h).emb x a).val = (![0, 0, 0, 128 * h.val] : Fin 4 → ℕ) a + (x a).val :=
  ValueKit.rect_emb_unit_val (s := S1x1x1024x2048) (![0, 0, 0, 128 * h.val] : Fin 4 → ℕ) S1x1x1024x128.size (inb_wide h) x a

theorem canon_pieces (Hs : Fin 16 → Head) (h : Fin 16) (r : Fin 1024) (d : Fin 128) (l : Fin 2048) (hl : l.val = 128 * h.val + d.val) :
    View.canon (pieces Hs) (ix4 0 0 r l) = (Hs h).out (ix4 0 0 r d) := by
  have he : (rectWide h).emb (ix4 0 0 r d) = ix4 0 0 r l := by
    funext a
    apply Fin.ext
    refine (wide_emb h _ a).trans ?_
    match a with
    | ⟨0, _⟩ => rfl
    | ⟨1, _⟩ => rfl
    | ⟨2, _⟩ => exact Nat.zero_add _
    | ⟨3, _⟩ => exact hl.symm
  apply canon_of_agree
  · refine ⟨⟨rectWide h, (Hs h).out⟩, List.mem_map.mpr ⟨h, mem_heads h, rfl⟩, ?_⟩
    rw [← he]
    exact mem_emb (rectWide h) _
  · intro p hp x hx
    obtain ⟨h', -, rfl⟩ := List.mem_map.mp hp
    change S1x1x1024x128.Idx at x
    have e2 : 0 + (x 2).val = r.val := (wide_emb h' x 2).symm.trans (congrArg (fun y : S1x1x1024x2048.Idx => (y 2).val) hx)
    have e3 : 128 * h'.val + (x 3).val = l.val := (wide_emb h' x 3).symm.trans (congrArg (fun y : S1x1x1024x2048.Idx => (y 3).val) hx)
    have hx3 : (x 3).val < 128 := (x 3).isLt
    obtain rfl : h' = h := Fin.ext (by omega)
    show (Hs h').out x = _
    congr 1
    funext a
    apply Fin.ext
    match a with
    | ⟨0, _⟩ => exact Nat.lt_one_iff.mp (x 0).isLt
    | ⟨1, _⟩ => exact Nat.lt_one_iff.mp (x 1).isLt
    | ⟨2, _⟩ => show (x 2).val = r.val; omega
    | ⟨3, _⟩ => show (x 3).val = d.val; omega

theorem bias_emb (k : Fin 2) (h : Fin 16) (x : S1x1x128x256.Idx) (a : Fin 4) :
    ((rectBias k h).emb x a).val = (![k.val, h.val, 0, 0] : Fin 4 → ℕ) a + (x a).val :=
  ValueKit.rect_emb_unit_val (s := S2x16x128x256) (![k.val, h.val, 0, 0] : Fin 4 → ℕ) S1x1x128x256.size (inb_bias k h) x a

/-- The bias scratch after the first grid step. -/
theorem canon_biasPieces (tab : Fin 16 → ℕ → Elt Ideal .f32) (bk : Vec Ideal S128x256 .i32) (k : Fin 2) (h : Fin 16) (i : Fin 128) (j : Fin 256) :
    View.canon (biasPieces tab bk) (ix4 k h i j) = (if k.val = 1 then bias1 (tab h) bk else bias0 (tab h) bk) (ix2 i j) := by
  have hc : ∀ (f : FVec Ideal S128x256 .f32) (x : S1x1x128x256.Idx), shapeCast S1x1x128x256 f shapeCasts_S128x256_S1x1x128x256 x = f (ix2 (x 2) (x 3)) := by
    intro f x
    rw [eq_ix4 x]
    pointwise
  have he : (rectBias k h).emb (ix4 0 0 i j) = ix4 k h i j := by
    funext a
    apply Fin.ext
    refine (bias_emb k h _ a).trans ?_
    match a with
    | ⟨0, _⟩ => rfl
    | ⟨1, _⟩ => rfl
    | ⟨2, _⟩ => exact Nat.zero_add _
    | ⟨3, _⟩ => exact Nat.zero_add _
  apply canon_of_agree
  · refine ⟨⟨rectBias k h, shapeCast S1x1x128x256 (if k.val = 1 then bias1 (tab h) bk else bias0 (tab h) bk) shapeCasts_S128x256_S1x1x128x256⟩, List.mem_flatMap.mpr ⟨h, mem_heads h, ?_⟩, ?_⟩
    · match k with
      | ⟨0, _⟩ => exact List.mem_cons_of_mem _ (List.mem_cons_self)
      | ⟨1, _⟩ => exact List.mem_cons_self
    · rw [← he]
      exact mem_emb (rectBias k h) _
  · have key : ∀ (k' : Fin 2) (h' : Fin 16) (x : S1x1x128x256.Idx), (rectBias k' h').emb x = ix4 k h i j →
        shapeCast S1x1x128x256 (if k'.val = 1 then bias1 (tab h') bk else bias0 (tab h') bk) shapeCasts_S128x256_S1x1x128x256 x
          = (if k.val = 1 then bias1 (tab h) bk else bias0 (tab h) bk) (ix2 i j) := by
      intro k' h' x hx
      have e0 : k'.val + (x 0).val = k.val := (bias_emb k' h' x 0).symm.trans (congrArg (fun y : S2x16x128x256.Idx => (y 0).val) hx)
      have e1 : h'.val + (x 1).val = h.val := (bias_emb k' h' x 1).symm.trans (congrArg (fun y : S2x16x128x256.Idx => (y 1).val) hx)
      have e2 : 0 + (x 2).val = i.val := (bias_emb k' h' x 2).symm.trans (congrArg (fun y : S2x16x128x256.Idx => (y 2).val) hx)
      have e3 : 0 + (x 3).val = j.val := (bias_emb k' h' x 3).symm.trans (congrArg (fun y : S2x16x128x256.Idx => (y 3).val) hx)
      have h0 : (x 0).val < 1 := (x 0).isLt
      have h1 : (x 1).val < 1 := (x 1).isLt
      obtain rfl : k' = k := Fin.ext (by omega)
      obtain rfl : h' = h := Fin.ext (by omega)
      rw [hc]
      have t2 : (x 2 : Fin 128) = i := Fin.ext ((Nat.zero_add _).symm.trans e2)
      have t3 : (x 3 : Fin 256) = j := Fin.ext ((Nat.zero_add _).symm.trans e3)
      exact congrArg₂ (fun (a : Fin 128) (b : Fin 256) => (if k'.val = 1 then bias1 (tab h') bk else bias0 (tab h') bk) (ix2 a b)) t2 t3
    intro p hp x hx
    obtain ⟨h', -, hp⟩ := List.mem_flatMap.mp hp
    rcases List.mem_cons.mp hp with rfl | hp
    · exact key 1 h' x hx
    · obtain rfl := List.mem_singleton.mp hp
      exact key 0 h' x hx

/-! ### What each case leaves -/

/-- The heads a grid step reads: its blocks, and the biases of the scratch. -/
def headsOf (B : Vec Ideal S2x16x128x256 .f32) (x2 : Vec Ideal S1x1x1024x2048 .bf16) (x3 : Vec Ideal S1x1x128x2048 .bf16)
    (x4 : Vec Ideal S1x1x1024x2048 .bf16) (x5 : Vec Ideal S1x1x128x2048 .bf16) (x6 : Vec Ideal S1x1x1024x2048 .bf16) (h : Fin 16) : Head where
  q := View.ld x2 (rectWide h)
  kp := View.ld x3 (rectBefore h)
  kc := View.ld x4 (rectWide h)
  vp := View.ld x5 (rectBefore h)
  vc := View.ld x6 (rectWide h)
  b1 := View.ld B (rectBias 1 h)
  b0 := View.ld B (rectBias 0 h)

variable (c : Dev nD) (i : grid0.Coords) (a2 : Memref sig .tc .smem S32x48 .f32) (h2 : a2.IsWhole)
  (a3 : Memref sig .tc .vmem S128x256 .i32) (h3 : a3.IsWhole) (a4 : Memref sig .tc .vmem S1x1x1024x2048 .bf16) (h4 : a4.IsWhole)
  (a5 : Memref sig .tc .vmem S1x1x128x2048 .bf16) (h5 : a5.IsWhole) (a6 : Memref sig .tc .vmem S1x1x1024x2048 .bf16) (h6 : a6.IsWhole)
  (a7 : Memref sig .tc .vmem S1x1x128x2048 .bf16) (h7 : a7.IsWhole) (a8 : Memref sig .tc .vmem S1x1x1024x2048 .bf16) (h8 : a8.IsWhole)
  (a9 : Memref sig .tc .vmem S1x1x1024x2048 .bf16) (h9 : a9.IsWhole) (a10 : Memref sig .tc .vmem S1x1x1024x128 .f32) (h10 : a10.IsWhole)
  (a11 : Memref sig .tc .vmem S2x16x128x256 .f32) (h11 : a11.IsWhole)
  (x0 : Vec Ideal S32x48 .f32) (x1 : Vec Ideal S128x256 .i32) (x2 : Vec Ideal S1x1x1024x2048 .bf16) (x3 : Vec Ideal S1x1x128x2048 .bf16)
  (x4 : Vec Ideal S1x1x1024x2048 .bf16) (x5 : Vec Ideal S1x1x128x2048 .bf16) (x6 : Vec Ideal S1x1x1024x2048 .bf16)
  (xs : Vec Ideal S2x16x128x256 .f32)

theorem ld_first (X : Vec Ideal S2x16x128x256 .f32) (h : Fin 16) :
    (View.ld X (rectFirst i h) : S1x1x128x256.Idx → EReal) = View.ld X (rectBias 1 h) := by
  funext x
  refine View.ld_unit_apply_of X (firstOff i h) S1x1x128x256.size (inb_first i h) x ((rectBias 1 h).emb x) fun a => ?_
  exact (bias_emb 1 h x a).trans (congrArg (· + (x a).val) (congrFun (firstOff_eq i h) a).symm)

theorem loads_eq (B1 B0 : Fin 16 → Vec Ideal S1x1x128x256 .f32) (h1 : ∀ h, B1 h = View.ld xs (rectFirst i h)) (h0 : ∀ h, B0 h = View.ld xs (rectBias 0 h)) :
    loads a4 h4 a5 h5 a6 h6 a7 h7 a8 h8 x2 x3 x4 x5 x6 B1 B0 = headsOf xs x2 x3 x4 x5 x6 := by
  funext h
  unfold loads headsOf
  rw [h1 h, h0 h, ld_first]
  simp only [View.readAt_eq_ld, h4.read_unread, h5.read_unread, h6.read_unread, h7.read_unread, h8.read_unread]

theorem out_B_7 (hc : ¬cond0_0 i) (h : Fin 16) (r : Fin 1024) (d : Fin 128) (l : Fin 2048) (hl : l.val = 128 * h.val + d.val) :
    out0_B_7 c i a2 h2 a3 h3 a4 h4 a5 h5 a6 h6 a7 h7 a8 h8 a9 h9 a10 h10 a11 h11 hc x0 x1 x2 x3 x4 x5 x6 xs (ix4 0 0 r l)
      = (headsOf xs x2 x3 x4 x5 x6 h).out (ix4 0 0 r d) := by
  unfold out0_B_7
  rw [View.read_writes_junk_eq_canon, pieces7_B, canon_pieces _ h r d l hl]
  exact congrArg (fun H : Fin 16 → Head => (H h).out (ix4 0 0 r d)) (loads_eq i a4 h4 a5 h5 a6 h6 a7 h7 a8 h8 x2 x3 x4 x5 x6 xs _ _
    (fun h => by rw [View.readAt_eq_ld, h11.read_unread]) fun h => by rw [View.readAt_eq_ld, h11.read_unread])

theorem stats_hz : (![0, 0, 0, 0] : Fin 4 → ℕ) = fun _ => 0 := funext fun a => by fin_cases a <;> rfl

theorem canon_stats (w : Vec Ideal S1x1x1024x128 .f32) : View.canon [(⟨rectStats, w⟩ : View.Piece (Elt Ideal) S1x1x1024x128 .f32)] = w := by
  funext y
  have he : rectStats.emb y = y := by
    funext a
    apply Fin.ext
    refine (ValueKit.rect_emb_unit_val _ _ _ y a).trans ?_
    exact (congrArg (· + (y a).val) (congrFun stats_hz a)).trans (Nat.zero_add _)
  conv_lhs => rw [← he]
  exact View.canon_cons_emb rectStats w [] y

theorem out_B_8 (hc : ¬cond0_0 i) :
    out0_B_8 c i a2 h2 a3 h3 a4 h4 a5 h5 a6 h6 a7 h7 a8 h8 a9 h9 a10 h10 a11 h11 hc x0 x1 x2 x3 x4 x5 x6 xs
      = statsOut (headsOf xs x2 x3 x4 x5 x6) := by
  unfold out0_B_8
  rw [View.read_writes_junk_eq_canon, pieces8_B, canon_stats]
  exact congrArg (statsOut) (loads_eq i a4 h4 a5 h5 a6 h6 a7 h7 a8 h8 x2 x3 x4 x5 x6 xs _ _
    (fun h => by rw [View.readAt_eq_ld, h11.read_unread]) fun h => by rw [View.readAt_eq_ld, h11.read_unread])

/-- The biases the first grid step computes. -/
def biasOf6 (x0 : Vec Ideal S32x48 .f32) (x1 : Vec Ideal S128x256 .i32) : Vec Ideal S2x16x128x256 .f32 :=
  View.canon (biasPieces (fun h n => x0 (ix2 ⟨n % 32, Nat.mod_lt _ (by decide)⟩ ⟨32 + h.val, by omega⟩)) x1)

theorem scratch_pieces (hc : cond0_0 i) :
    (kernelRun0_A c i a2 h2 a3 h3 a4 h4 a5 h5 a6 h6 a7 h7 a8 h8 a9 h9 a10 h10 a11 h11 hc x0 x1 x2 x3 x4 x5 x6).2.2.1
      = biasPieces (fun h n => x0 (ix2 ⟨n % 32, Nat.mod_lt _ (by decide)⟩ ⟨32 + h.val, by omega⟩)) x1 := by
  rw [pieces0_A]
  congr 1
  · funext h n
    rw [View.readAt_eq_ld, h2.read_unread]
    refine View.ld_unit_apply_of x0 ![n % 32, 32 + h.val] S1x1.size (inb_tab n h) _ _ fun a => ?_
    match a with
    | ⟨0, _⟩ => rfl
    | ⟨1, _⟩ => rfl
  · rw [View.readAt_eq_ld, h3.read_unread]
    funext y
    refine View.ld_unit_apply_of x1 ![0, 0] S128x256.size _ y y fun a => ?_
    match a with
    | ⟨0, _⟩ => exact (Nat.zero_add _).symm
    | ⟨1, _⟩ => exact (Nat.zero_add _).symm

theorem sout_A (hc : cond0_0 i) :
    sout0_A_0 c i a2 h2 a3 h3 a4 h4 a5 h5 a6 h6 a7 h7 a8 h8 a9 h9 a10 h10 a11 h11 hc x0 x1 x2 x3 x4 x5 x6 = biasOf6 x0 x1 := by
  unfold sout0_A_0
  rw [View.read_writes_junk_eq_canon, scratch_pieces]
  rfl

theorem out_A_7 (hc : cond0_0 i) (h : Fin 16) (r : Fin 1024) (d : Fin 128) (l : Fin 2048) (hl : l.val = 128 * h.val + d.val) :
    out0_A_7 c i a2 h2 a3 h3 a4 h4 a5 h5 a6 h6 a7 h7 a8 h8 a9 h9 a10 h10 a11 h11 hc x0 x1 x2 x3 x4 x5 x6 (ix4 0 0 r l)
      = (headsOf (biasOf6 x0 x1) x2 x3 x4 x5 x6 h).out (ix4 0 0 r d) := by
  unfold out0_A_7
  rw [View.read_writes_junk_eq_canon, pieces7_A, canon_pieces _ h r d l hl, scratch_pieces]
  exact congrArg (fun H : Fin 16 → Head => (H h).out (ix4 0 0 r d)) (loads_eq i a4 h4 a5 h5 a6 h6 a7 h7 a8 h8 x2 x3 x4 x5 x6 (biasOf6 x0 x1) _ _
    (fun h => View.readCov_eq_canon' _ _ _) fun h => View.readCov_eq_canon' _ _ _)

theorem out_A_8 (hc : cond0_0 i) :
    out0_A_8 c i a2 h2 a3 h3 a4 h4 a5 h5 a6 h6 a7 h7 a8 h8 a9 h9 a10 h10 a11 h11 hc x0 x1 x2 x3 x4 x5 x6
      = statsOut (headsOf (biasOf6 x0 x1) x2 x3 x4 x5 x6) := by
  unfold out0_A_8
  rw [View.read_writes_junk_eq_canon, pieces8_A, canon_stats, scratch_pieces]
  exact congrArg (statsOut) (loads_eq i a4 h4 a5 h5 a6 h6 a7 h7 a8 h8 x2 x3 x4 x5 x6 (biasOf6 x0 x1) _ _
    (fun h => View.readCov_eq_canon' _ _ _) fun h => View.readCov_eq_canon' _ _ _)

end Cert.Kernel6Ideal.AttElements

end
-- ==== Proof.AttBucket.lean ====
/-
  The relative-position buckets: inside the band of 128 positions back, a bucket is a number below 32.
-/
module

public import proofs.«01_k».proof.Proof.AttSpec
public import Idealize.ShloMosaic.Lib.Pointwise

@[expose] public section

noncomputable section

namespace Cert.AttSpec

open Idealize.ShloMosaic

/-- The distance from key `j` of the two tiles back to query `i`, as a word. -/
def rel (i : Fin 128) (j : Fin 256) : BitVec 32 :=
  IntOp.subi (IntOp.addi (BitVec.ofNat 32 i.val) 128#32) (BitVec.ofNat 32 j.val)

/-- Whether a distance is in the band. -/
def banded (r : BitVec 32) : BitVec 1 := IntOp.andi (IntOp.cmpi .sge r 0#32) (IntOp.cmpi .sle r 128#32)

/-- The distance, clipped to the band, in positions of the undilated sequence. -/
def dist (r : BitVec 32) : BitVec 32 := IntOp.muli (IntOp.minsi 128#32 (IntOp.maxsi 0#32 r)) 16#32

/-- The logarithmic buckets' offset of a distance. -/
def logOffset (d : BitVec 32) : EReal :=
  Ideal.div (Ideal.log (Ideal.div (FloatOps.sitofp (F := Ideal) .f32 (IntOp.maxsi d 1#32)) (Ideal.ofBits .f32 0x41800000#32))) (Ideal.ofBits .f32 0x409B43D5#32) * Ideal.ofBits .f32 0x41800000#32

/-- The bucket of a distance. -/
def t5 (d : BitVec 32) : BitVec 32 :=
  Scalar.select (IntOp.cmpi .slt d 16#32) d (IntOp.minsi (IntOp.addi 16#32 (Ideal.fptosi 32 (logOffset d))) 31#32)

def bucket (i : Fin 128) (j : Fin 256) : BitVec 32 := t5 (dist (rel i j))

theorem rel_cases : ∀ i : Fin 128, ∀ j : Fin 256, ∃ z : Fin 512, rel i j = BitVec.ofInt 32 ((z.val : ℤ) - 255) := by
  intro i j
  have hi := i.isLt
  have hj := j.isLt
  refine ⟨⟨i.val + 383 - j.val, by omega⟩, ?_⟩
  apply BitVec.eq_of_toNat_eq
  simp only [rel, IntOp.subi, IntOp.addi, BitVec.toNat_sub, BitVec.toNat_add, BitVec.toNat_ofNat, BitVec.toNat_ofInt]
  omega

theorem band_cases : ∀ z : Fin 512, banded (BitVec.ofInt 32 ((z.val : ℤ) - 255)) = 1#1 →
    ∃ c : Fin 129, dist (BitVec.ofInt 32 ((z.val : ℤ) - 255)) = BitVec.ofNat 32 (16 * c.val) := by decide +kernel

theorem sixteen_word : Ideal.ofBits .f32 0x41800000#32 = ((16 : ℝ) : EReal) := by
  simp [Ideal.ofBits, Ideal.ieee, -EReal.coe_mul]; norm_num

theorem log128_word : ∃ q : ℝ, 1 ≤ q ∧ Ideal.ofBits .f32 0x409B43D5#32 = (q : EReal) := by
  refine ⟨_, ?_, by simp [Ideal.ofBits, Ideal.ieee, -EReal.coe_mul]; rfl⟩
  norm_num

theorem logOffset_cases (c : ℕ) (h1 : 1 ≤ c) (h2 : c ≤ 128) :
    ∃ y : ℝ, 0 ≤ y ∧ y < 2100 ∧ logOffset (BitVec.ofNat 32 (16 * c)) = (y : EReal) := by
  obtain ⟨q, hq, hw⟩ := log128_word
  have hd : (IntOp.maxsi (BitVec.ofNat 32 (16 * c)) 1#32).toInt = 16 * (c : ℤ) := by
    have : ∀ c : Fin 129, 1 ≤ c.val → (IntOp.maxsi (BitVec.ofNat 32 (16 * c.val)) 1#32).toInt = 16 * (c.val : ℤ) := by
      decide +kernel
    exact this ⟨c, by omega⟩ h1
  have hc : (1 : ℝ) ≤ c := by exact_mod_cast h1
  have hc2 : (c : ℝ) ≤ 128 := by exact_mod_cast h2
  have hlog : 0 ≤ Real.log c := Real.log_nonneg hc
  have hlog2 : Real.log c ≤ 127 := by
    have := Real.log_le_sub_one_of_pos (x := (c : ℝ)) (by linarith)
    linarith
  have hqi : 0 < q⁻¹ := inv_pos.mpr (by linarith)
  have hqi1 : q⁻¹ ≤ 1 := inv_le_one_of_one_le₀ hq
  refine ⟨Real.log c * q⁻¹ * 16, by positivity, ?_, ?_⟩
  · have := mul_le_mul hlog2 hqi1 hqi.le (by norm_num)
    linarith
  · unfold logOffset
    rw [sixteen_word, hw]
    have hs : (FloatOps.sitofp (F := Ideal) .f32 (IntOp.maxsi (BitVec.ofNat 32 (16 * c)) 1#32) : EReal) = ((16 * c : ℝ) : EReal) := by
      show (((IntOp.maxsi (BitVec.ofNat 32 (16 * c)) 1#32).toInt : ℝ) : EReal) = _
      rw [hd]; push_cast; rfl
    rw [hs]
    have h16 : Ideal.div ((16 * c : ℝ) : EReal) ((16 : ℝ) : EReal) = ((c : ℝ) : EReal) := by
      unfold Ideal.div
      rw [if_neg (by norm_cast), ← EReal.coe_inv, ← EReal.coe_mul]
      congr 1
      field_simp
    rw [h16]
    have hl : Ideal.log ((c : ℝ) : EReal) = ((Real.log c : ℝ) : EReal) := by
      show (if (c : ℝ) ≤ 0 then (⊥ : EReal) else _) = _
      rw [if_neg (by linarith)]
    rw [hl]
    unfold Ideal.div
    rw [if_neg (by norm_cast; linarith), ← EReal.coe_inv, ← EReal.coe_mul, ← EReal.coe_mul]

/-- In the band the bucket is below 32. -/
theorem bucket_lt (i : Fin 128) (j : Fin 256) (hb : banded (rel i j) = 1#1) :
    ∃ n : Fin 32, bucket i j = BitVec.ofNat 32 n.val := by
  obtain ⟨z, hz⟩ := rel_cases i j
  unfold bucket
  rw [hz] at hb ⊢
  obtain ⟨c, hc⟩ := band_cases z hb
  rw [hc]
  unfold t5
  by_cases h0 : c.val = 0
  · rw [h0]
    exact ⟨0, rfl⟩
  · obtain ⟨y, hy0, hy1, hy⟩ := logOffset_cases c.val (by omega) (by omega)
    have hcond : IntOp.cmpi .slt (BitVec.ofNat 32 (16 * c.val)) 16#32 = 0#1 := by
      have : ∀ c : Fin 129, c.val ≠ 0 → IntOp.cmpi .slt (BitVec.ofNat 32 (16 * c.val)) 16#32 = 0#1 := by decide +kernel
      exact this c h0
    rw [hcond, hy]
    have hf : 0 ≤ ⌊y⌋ := Int.floor_nonneg.mpr hy0
    have hf2 : ⌊y⌋ < 2100 := by
      have := Int.floor_le y
      exact_mod_cast lt_of_le_of_lt this hy1
    have hfp : Ideal.fptosi 32 (y : EReal) = BitVec.ofNat 32 ⌊y⌋.toNat := by
      unfold Ideal.fptosi
      rw [Ideal.toIntClamped_coe, if_pos hy0]
      apply BitVec.eq_of_toNat_eq
      simp only [BitVec.toNat_ofInt, BitVec.toNat_ofNat]
      norm_num
      omega
    rw [hfp]
    have hm : ∀ n : Fin 2100, IntOp.minsi (IntOp.addi 16#32 (BitVec.ofNat 32 n.val)) 31#32 = BitVec.ofNat 32 (min (16 + n.val) 31) := by decide +kernel
    refine ⟨⟨min (16 + ⌊y⌋.toNat) 31, by omega⟩, ?_⟩
    exact hm ⟨⌊y⌋.toNat, by omega⟩

end Cert.AttSpec

end
-- ==== Proof.AttLayer.lean ====
/-
  The attention of one group, as a function of the caller's arrays: residue `r` of the sequence, tile `n` of 128
  positions, head `h`, query `i` of the tile, key `j` of the tile before and the tile itself.
-/
module

public import proofs.«01_k».proof.Proof.AttBucket

@[expose] public section

noncomputable section

namespace Cert.AttSpec

open Idealize.ShloMosaic

/-- Position `p` of residue `r` is row `16 p + r`. -/
abbrev at16 (r : Fin 16) (p : Fin 1024) : Fin 16384 := ⟨16 * p + r, by omega⟩

/-- The scores' scale, as the word both programs hold. -/
abbrev scale : EReal := Ideal.ofBits .f32 0x3DB504F3#32

theorem scale_word : ∃ e : ℝ, 0 < e ∧ scale = (e : EReal) := by
  refine ⟨_, ?_, by simp [scale, Ideal.ofBits, Ideal.ieee, -EReal.coe_mul]; rfl⟩
  norm_num

theorem two_word : Ideal.ofBits .f32 0x40000000#32 = ((2 : ℝ) : EReal) := by
  simp [Ideal.ofBits, Ideal.ieee, -EReal.coe_mul]; norm_num

/-- Dividing by the logarithm of two. -/
theorem div_log_two (x : EReal) : Ideal.div x (Ideal.log (Ideal.ofBits .f32 0x40000000#32)) = L * x := by
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  have h0 : Real.log 2 ≠ 0 := (Real.log_pos (by norm_num)).ne'
  rw [two_word, hl]
  unfold Ideal.div
  rw [if_neg (by exact_mod_cast h0), ← EReal.coe_inv, mul_comm]

/-- The key at column `j` of tile `n`'s two tiles. -/
abbrev keyPos (n : Fin 8) (j : Fin 256) : Fin 1024 := ⟨128 * n + j - 128, by omega⟩
abbrev queryPos (n : Fin 8) (i : Fin 128) : Fin 1024 := ⟨128 * n + i, by omega⟩

abbrev qCol (h : Fin 16) (d : Fin 128) : Fin 6144 := ⟨4096 + (128 * h + d), by omega⟩
abbrev kCol (h : Fin 16) (d : Fin 128) : Fin 12288 := ⟨4096 + (128 * h + d), by omega⟩
abbrev vCol (h : Fin 16) (d : Fin 128) : Fin 12288 := ⟨10240 + (128 * h + d), by omega⟩

/-- Whether the query attends to the key: in the band, and not before the sequence. -/
abbrev seen (n : Fin 8) (i : Fin 128) (j : Fin 256) : Prop := banded (rel i j) = 1#1 ∧ (n ≠ 0 ∨ 128 ≤ j.val)

variable (q : Fin 16384 → Fin 6144 → EReal) (kv : Fin 16384 → Fin 12288 → EReal) (tab : Fin 32 → Fin 48 → EReal)

def biasAt (h : Fin 16) (i : Fin 128) (j : Fin 256) : EReal := tab ⟨(bucket i j).toNat % 32, Nat.mod_lt _ (by decide)⟩ ⟨32 + h, by omega⟩

def dotAt (r : Fin 16) (n : Fin 8) (h : Fin 16) (i : Fin 128) (j : Fin 256) : EReal :=
  ∑ k : Fin 128, q (at16 r (queryPos n i)) (qCol h k) * kv (at16 r (keyPos n j)) (kCol h k)

def scoreAt (r : Fin 16) (n : Fin 8) (h : Fin 16) (i : Fin 128) (j : Fin 256) : EReal :=
  if seen n i j then dotAt q kv r n h i j * scale + biasAt tab h i j else ⊥

/-- The unnormalised output. -/
def outAt (r : Fin 16) (n : Fin 8) (h : Fin 16) (i d : Fin 128) : EReal :=
  num (scoreAt q kv tab r n h i) fun j => kv (at16 r (keyPos n j)) (vCol h d)

/-- The statistics: the heads' maxima in units of the logarithm of two, the heads' denominators, zeros. -/
def statAt (r : Fin 16) (n : Fin 8) (i l : Fin 128) : EReal :=
  if l.val < 16 then L * top (scoreAt q kv tab r n ⟨l.val % 16, Nat.mod_lt _ (by decide)⟩ i)
  else if l.val < 32 then den (scoreAt q kv tab r n ⟨l.val % 16, Nat.mod_lt _ (by decide)⟩ i) else 0

/-- A sum of products with scaled queries, plus a scaled bias. -/
theorem scaled_score (a b : Fin 128 → EReal) (z : EReal) :
    (∑ k, Ideal.div (a k * scale) (Ideal.log (Ideal.ofBits .f32 0x40000000#32)) * b k) + z * L = L * ((∑ k, a k * b k) * scale + z) := by
  obtain ⟨e, he, hs⟩ := scale_word
  rw [mul_add_of_pos L_real_pos, mul_comm z, hs, mul_comm _ (e : EReal), mul_sum_of_pos he, mul_sum_of_pos L_real_pos]
  refine congrArg (· + _) (Finset.sum_congr rfl fun k _ => ?_)
  rw [div_log_two, mul_assoc, mul_comm (a k), mul_assoc]

end Cert.AttSpec

end
-- ==== Proof.AttHost.lean ====
/-
  What the host hands the attention kernel: the scaled queries and the keys and values in residue-major order, and the
  relative-position bucket of every pair of positions of two tiles.
-/
module

public import proofs.«01_k».proof.Proof.Gen.Kernel6Ideal.Value
public import proofs.«01_k».proof.Proof.AttLayer
public import proofs.«01_k».proof.Proof.IdxExt

@[expose] public section

set_option maxRecDepth 16384

noncomputable section

namespace Cert.Kernel6Ideal.AttHost

open Cert.Kernel6Ideal Cert.Kernel6Ideal.Gen Cert.Kernel6Ideal.Value Idealize.ShloMosaic Idealize.ShloMosaic.TcCoe
open Cert.AttSpec

variable (m : (ℓ : Loc nD τ sig) → Buf (Elt Ideal) ℓ) (c : Dev nD)

/-! ### The arrays -/

/-- The queries, residue by residue, scaled. -/
def hostQ (x : Vec Ideal S16384x6144 .f32) : Vec Ideal S1x16x1024x6144 .bf16 :=
  shapeCast S1x16x1024x6144 (truncf (F := Ideal) .bf16 (Host.divf (F := Ideal) (φ := .f32)
    (mulf (F := Ideal) (φ := .f32) (shapeCast S16384x6144 (transpose S16x1024x6144 [1, 0, 2] (shapeCast S1024x16x6144 x shapeCasts_S16384x6144_S1024x16x6144)
        transposes_S1024x16x6144_S16x1024x6144_1_0_2) shapeCasts_S16x1024x6144_S16384x6144)
      (broadcastInDim S16384x6144 ![] bcast_S_S16384x6144 (constant (F := Ideal) S_ .f32 0x3DB504F3#32)))
    (broadcastInDim S16384x6144 ![] bcast_S_S16384x6144 (Host.log (F := Ideal) (φ := .f32) (constant (F := Ideal) S_ .f32 0x40000000#32)))) bitsLt_bf16_f32) shapeCasts_S16384x6144_S1x16x1024x6144

/-- The keys and values, residue by residue. -/
def hostKV (x : Vec Ideal S16384x12288 .f32) : Vec Ideal S1x16x1024x12288 .bf16 :=
  shapeCast S1x16x1024x12288 (truncf (F := Ideal) .bf16 (shapeCast S16384x12288 (transpose S16x1024x12288 [1, 0, 2]
    (shapeCast S1024x16x12288 x shapeCasts_S16384x12288_S1024x16x12288) transposes_S1024x16x12288_S16x1024x12288_1_0_2)
    shapeCasts_S16x1024x12288_S16384x12288) bitsLt_bf16_f32) shapeCasts_S16384x12288_S1x16x1024x12288

theorem host_q : V m c main_v56 = hostQ (m (c.tc.loc main_arg0)) := by sl_kernel_rfl
theorem host_kp : V m c main_v57 = hostKV (m (c.tc.loc main_arg1)) := by sl_kernel_rfl
theorem host_kc : V m c main_v58 = hostKV (m (c.tc.loc main_arg1)) := by sl_kernel_rfl
theorem host_vp : V m c main_v59 = hostKV (m (c.tc.loc main_arg1)) := by sl_kernel_rfl
theorem host_vc : V m c main_v60 = hostKV (m (c.tc.loc main_arg1)) := by sl_kernel_rfl

theorem hostKV_apply (x : Vec Ideal S16384x12288 .f32) (r : Fin 16) (p : Fin 1024) (l : Fin 12288) :
    hostKV x (ix4 0 r p l) = x (ix2 (at16 r p) l) := by
  pointwise [hostKV]
  exact congrArg (fun s => x (ix2 s l)) (Fin.ext (congrArg (· + r.val) (mul_comm p.val 16)))

theorem hostQ_apply (x : Vec Ideal S16384x6144 .f32) (r : Fin 16) (p : Fin 1024) (l : Fin 6144) :
    hostQ x (ix4 0 r p l) = Ideal.div (x (ix2 (at16 r p) l) * scale) (Ideal.log (Ideal.ofBits .f32 0x40000000#32)) := by
  pointwise [hostQ]
  exact congrArg (fun s => Ideal.div (x (ix2 s l) * scale) _) (Fin.ext (congrArg (· + r.val) (mul_comm p.val 16)))

/-! ### The buckets -/

/-- One number for every position of a tile. -/
abbrev tile32 (w : Vec Ideal S_ .i32) : Vec Ideal S128 .i32 := broadcastInDim S128 ![] bcast_S_S128 w
abbrev tile1 (w : Vec Ideal S_ .i1) : Vec Ideal S128 .i1 := broadcastInDim S128 ![] bcast_S_S128 w
abbrev pair32 (w : Vec Ideal S_ .i32) : Vec Ideal S128x256 .i32 := broadcastInDim S128x256 ![] bcast_S_S128x256 w
abbrev pairF (w : BitVec 32) : FVec Ideal S128x256 .f32 := broadcastInDim S128x256 ![] bcast_S_S128x256 (constant (F := Ideal) S_ .f32 w)

/-- The remainder with the divisor's sign. -/
def pyRem (x : Vec Ideal S128 .i32) (y : Vec Ideal S_ .i32) : Vec Ideal S128 .i32 :=
  let d : Vec Ideal S_ .i32 := select (cmpi .eq y (constantI S_ 32 0#32)) (constantI S_ 32 1#32) y
  let r := Host.remsi x (tile32 d)
  select (andi (cmpi .ne (cmpi .slt r (tile32 (constantI S_ 32 0#32))) (tile1 (cmpi .slt d (constantI S_ 32 0#32))))
    (cmpi .ne r (tile32 (constantI S_ 32 0#32)))) (addi r (tile32 d)) r

/-- The quotient rounded down. -/
def pyDiv (x : Vec Ideal S128 .i32) (y : Vec Ideal S_ .i32) : Vec Ideal S128 .i32 :=
  let q := Host.divsi x (tile32 y)
  select (andi (cmpi .ne (signi x) (tile32 (signi y))) (cmpi .ne (Host.remsi x (tile32 y)) (tile32 (constantI S_ 32 0#32))))
    (subi q (tile32 (constantI S_ 32 1#32))) q

/-- A tile position's offset in the undilated block. -/
def hostOff : Vec Ideal S128 .i32 :=
  addi (muli (pyRem (iotaInDim S128 32 0) (constantI S_ 32 128#32)) (tile32 (constantI S_ 32 1#32))) (pyDiv (iotaInDim S128 32 0) (constantI S_ 32 128#32))

def hostRel (off : Vec Ideal S128 .i32) : Vec Ideal S128x256 .i32 :=
  subi (broadcastInDim S128x256 ![0, 1] bcast_S128x1_S128x256_0_1 (addi (broadcastInDim S128x1 ![0] bcast_S128_S128x1_0 off)
      (broadcastInDim S128x1 ![] bcast_S_S128x1 (constantI S_ 32 128#32))))
    (broadcastInDim S128x256 ![0, 1] bcast_S1x256_S128x256_0_1 (broadcastInDim S1x256 ![1] bcast_S256_S1x256_1
      (concatenate S256 0 [⟨S128, off⟩, ⟨S128, addi off (tile32 (constantI S_ 32 128#32))⟩] concatenates_S128_S128_S256_d0)))

def hostT5 (d : Vec Ideal S128x256 .i32) : Vec Ideal S128x256 .i32 :=
  select (cmpi .slt d (pair32 (constantI S_ 32 16#32))) d
    (minsi (addi (pair32 (constantI S_ 32 16#32)) (fptosi (F := Ideal) 32 (mulf (F := Ideal) (φ := .f32) (Host.divf (F := Ideal) (Host.log (F := Ideal) (Host.divf (F := Ideal)
      (sitofp (F := Ideal) .f32 (maxsi d (pair32 (constantI S_ 32 1#32)))) (pairF 0x41800000#32))) (pairF 0x409B43D5#32)) (pairF 0x41800000#32)))) (pair32 (constantI S_ 32 31#32)))

def hostBucket (r : Vec Ideal S128x256 .i32) : Vec Ideal S128x256 .i32 :=
  select (andi (cmpi .sge r (pair32 (constantI S_ 32 0#32))) (cmpi .sle r (pair32 (constantI S_ 32 128#32))))
    (hostT5 (muli (minsi (pair32 (constantI S_ 32 128#32)) (maxsi (pair32 (constantI S_ 32 0#32)) r)) (pair32 (constantI S_ 32 16#32))))
    (pair32 (constantI S_ 32 4294967295#32))

theorem host_bucket : V m c main_v55 = hostBucket (hostRel hostOff) := by sl_kernel_rfl

theorem off_apply : ∀ i : Fin 128, hostOff (ix1 i) = BitVec.ofNat 32 i.val := by decide +kernel

theorem rel_apply (off : Vec Ideal S128 .i32) (h : ∀ i : Fin 128, off (ix1 i) = BitVec.ofNat 32 i.val) (i : Fin 128) (j : Fin 256) :
    hostRel off (ix2 i j) = rel i j := by
  pointwise [hostRel]
  unfold rel
  simp only [h]
  refine congrArg (IntOp.subi _) ?_
  split_ifs with hj
  · rfl
  · rw [IntOp.addi, ← BitVec.ofNat_add]
    exact congrArg (BitVec.ofNat 32) (by omega)

theorem bucket_apply (r : Vec Ideal S128x256 .i32) (i : Fin 128) (j : Fin 256) :
    hostBucket r (ix2 i j) = Scalar.select (banded (r (ix2 i j))) (t5 (dist (r (ix2 i j)))) 4294967295#32 := by
  pointwise [hostBucket, hostT5, banded, t5, AttSpec.dist, logOffset]
  rfl

end Cert.Kernel6Ideal.AttHost

end
-- ==== Proof.AttFold.lean ====
/-
  The attention kernel's result arrays, at an index: the first of the sixteen points leaves the biases in the scratch,
  and every point computes one residue's sixteen heads.
-/
module

public import proofs.«01_k».proof.Proof.AttElements
public import proofs.«01_k».proof.Proof.AttHost

@[expose] public section

set_option maxRecDepth 16384

noncomputable section

namespace Cert.Kernel6Ideal.AttFold

open Cert.Kernel6Ideal Cert.Kernel6Ideal.Gen Cert.Kernel6Ideal.Value Cert.Kernel6Ideal.AttBody Cert.Kernel6Ideal.AttElements Cert.Kernel6Ideal.AttHost
open Idealize.ShloMosaic Idealize.ShloMosaic.TcCoe
open Cert.AttSpec (top at16 keyPos queryPos qCol kCol vCol seen biasAt dotAt scoreAt outAt statAt rel bucket banded)

variable (m : (ℓ : Loc nD τ sig) → Buf (Elt Ideal) ℓ) (c : Dev nD)

def aQ (s : Fin 16384) (l : Fin 6144) : EReal := m ((c : Thread nD τ).loc main_arg0) (ix2 s l)
def aKV (s : Fin 16384) (l : Fin 12288) : EReal := m ((c : Thread nD τ).loc main_arg1) (ix2 s l)
def aT (a : Fin 32) (b : Fin 48) : EReal := m ((c : Thread nD τ).loc main_arg2) (ix2 a b)

/-! ### The blocks -/

theorem idx_blocks : ∀ t : Fin cfg0.N,
    (win0_2.index t (0 : Fin 4) = 0 ∧ win0_2.index t (1 : Fin 4) = t.val ∧ win0_2.index t (2 : Fin 4) = 0 ∧ win0_2.index t (3 : Fin 4) = 2)
    ∧ (win0_3.index t (0 : Fin 4) = 0 ∧ win0_3.index t (1 : Fin 4) = t.val ∧ win0_3.index t (2 : Fin 4) = 0 ∧ win0_3.index t (3 : Fin 4) = 2)
    ∧ (win0_4.index t (0 : Fin 4) = 0 ∧ win0_4.index t (1 : Fin 4) = t.val ∧ win0_4.index t (2 : Fin 4) = 0 ∧ win0_4.index t (3 : Fin 4) = 2)
    ∧ (win0_5.index t (0 : Fin 4) = 0 ∧ win0_5.index t (1 : Fin 4) = t.val ∧ win0_5.index t (2 : Fin 4) = 0 ∧ win0_5.index t (3 : Fin 4) = 5)
    ∧ (win0_6.index t (0 : Fin 4) = 0 ∧ win0_6.index t (1 : Fin 4) = t.val ∧ win0_6.index t (2 : Fin 4) = 0 ∧ win0_6.index t (3 : Fin 4) = 5)
    ∧ (win0_7.index t (0 : Fin 4) = 0 ∧ win0_7.index t (1 : Fin 4) = t.val ∧ win0_7.index t (2 : Fin 4) = 0 ∧ win0_7.index t (3 : Fin 4) = 0)
    ∧ (win0_8.index t (0 : Fin 4) = 0 ∧ win0_8.index t (1 : Fin 4) = t.val ∧ win0_8.index t (2 : Fin 4) = 0 ∧ win0_8.index t (3 : Fin 4) = 0) :=
  (by decide +kernel : ∀ t : Fin grid0.N, _)

theorem idx_whole : ∀ t : Fin cfg0.N,
    (win0_0.index t (0 : Fin 2) = 0 ∧ win0_0.index t (1 : Fin 2) = 0) ∧ (win0_1.index t (0 : Fin 2) = 0 ∧ win0_1.index t (1 : Fin 2) = 0) :=
  (by decide +kernel : ∀ t : Fin grid0.N, _)

/-- The grid point of residue `r`. -/
abbrev pt (r : Fin 16) : Fin cfg0.N := ⟨r.val, lt_of_lt_of_eq r.isLt N_0.symm⟩

/-- A block's index in its array. -/
theorem block_emb {R C B W : ℕ} {y z : (⟨4, ![1, 16, R, C]⟩ : Shape).Idx} {i0 i1 i2 i3 r p l g : ℕ} (h0 : i0 = 0) (h1 : i1 = r) (h2 : i2 = 0) (h3 : i3 = g)
    (hy : (y 0).val = i0 * 1 + 1 * 0 ∧ (y 1).val = i1 * 1 + 1 * 0 ∧ (y 2).val = i2 * B + 1 * p ∧ (y 3).val = i3 * W + 1 * l)
    (hz : (z 0).val = 0 ∧ (z 1).val = r ∧ (z 2).val = p ∧ (z 3).val = g * W + l) : y = z := by
  subst h0 h1 h2 h3
  funext i
  apply Fin.ext
  match i with
  | ⟨0, _⟩ => exact hy.1.trans hz.1.symm
  | ⟨1, _⟩ => exact hy.2.1.trans (Eq.trans (by omega) hz.2.1.symm)
  | ⟨2, _⟩ => exact hy.2.2.1.trans (Eq.trans (by omega) hz.2.2.1.symm)
  | ⟨3, _⟩ => exact hy.2.2.2.trans (Eq.trans (by omega) hz.2.2.2.symm)

theorem blk2 (r : Fin 16) (p : Fin 1024) (l : Fin 2048) :
    iblk m c 2 (pt r) (ix4 0 0 p l)
      = Ideal.div (aQ m c (at16 r p) ⟨2 * 2048 + l, by omega⟩ * AttSpec.scale) (Ideal.log (Ideal.ofBits .f32 0x40000000#32)) := by
  obtain ⟨⟨e0, e1, e2, e3⟩, -⟩ := idx_blocks (pt r)
  unfold iblk
  rw [View.read_apply]
  refine Eq.trans ?_ (hostQ_apply (m (c.tc.loc main_arg0)) r p ⟨2 * 2048 + l, by omega⟩)
  show V m c main_v56 _ = _
  rw [host_q]
  exact congrArg _ (block_emb e0 e1 e2 e3 ⟨rfl, rfl, rfl, rfl⟩ ⟨rfl, rfl, rfl, rfl⟩)

theorem blk3 (r : Fin 16) (p : Fin 128) (l : Fin 2048) :
    iblk m c 3 (pt r) (ix4 0 0 p l) = aKV m c (at16 r ⟨p, by omega⟩) ⟨2 * 2048 + l, by omega⟩ := by
  obtain ⟨-, ⟨e0, e1, e2, e3⟩, -⟩ := idx_blocks (pt r)
  unfold iblk
  rw [View.read_apply]
  refine Eq.trans ?_ (hostKV_apply (m (c.tc.loc main_arg1)) r ⟨p, by omega⟩ ⟨2 * 2048 + l, by omega⟩)
  show V m c main_v57 _ = _
  rw [host_kp]
  exact congrArg _ (block_emb e0 e1 e2 e3 ⟨rfl, rfl, rfl, rfl⟩ ⟨rfl, rfl, rfl, rfl⟩)

theorem blk4 (r : Fin 16) (p : Fin 1024) (l : Fin 2048) :
    iblk m c 4 (pt r) (ix4 0 0 p l) = aKV m c (at16 r p) ⟨2 * 2048 + l, by omega⟩ := by
  obtain ⟨-, -, ⟨e0, e1, e2, e3⟩, -⟩ := idx_blocks (pt r)
  unfold iblk
  rw [View.read_apply]
  refine Eq.trans ?_ (hostKV_apply (m (c.tc.loc main_arg1)) r p ⟨2 * 2048 + l, by omega⟩)
  show V m c main_v58 _ = _
  rw [host_kc]
  exact congrArg _ (block_emb e0 e1 e2 e3 ⟨rfl, rfl, rfl, rfl⟩ ⟨rfl, rfl, rfl, rfl⟩)

theorem blk5 (r : Fin 16) (p : Fin 128) (l : Fin 2048) :
    iblk m c 5 (pt r) (ix4 0 0 p l) = aKV m c (at16 r ⟨p, by omega⟩) ⟨5 * 2048 + l, by omega⟩ := by
  obtain ⟨-, -, -, ⟨e0, e1, e2, e3⟩, -⟩ := idx_blocks (pt r)
  unfold iblk
  rw [View.read_apply]
  refine Eq.trans ?_ (hostKV_apply (m (c.tc.loc main_arg1)) r ⟨p, by omega⟩ ⟨5 * 2048 + l, by omega⟩)
  show V m c main_v59 _ = _
  rw [host_vp]
  exact congrArg _ (block_emb e0 e1 e2 e3 ⟨rfl, rfl, rfl, rfl⟩ ⟨rfl, rfl, rfl, rfl⟩)

theorem blk6 (r : Fin 16) (p : Fin 1024) (l : Fin 2048) :
    iblk m c 6 (pt r) (ix4 0 0 p l) = aKV m c (at16 r p) ⟨5 * 2048 + l, by omega⟩ := by
  obtain ⟨-, -, -, -, ⟨e0, e1, e2, e3⟩, -⟩ := idx_blocks (pt r)
  unfold iblk
  rw [View.read_apply]
  refine Eq.trans ?_ (hostKV_apply (m (c.tc.loc main_arg1)) r p ⟨5 * 2048 + l, by omega⟩)
  show V m c main_v60 _ = _
  rw [host_vc]
  exact congrArg _ (block_emb e0 e1 e2 e3 ⟨rfl, rfl, rfl, rfl⟩ ⟨rfl, rfl, rfl, rfl⟩)

theorem blk0 (t : Fin cfg0.N) (a : Fin 32) (b : Fin 48) : iblk m c 0 t (ix2 a b) = aT m c a b := by
  obtain ⟨⟨e0, e1⟩, -⟩ := idx_whole t
  unfold iblk aT
  rw [View.read_apply]
  show V m c main_arg2 _ = _
  rw [V_main_arg2]
  congr 1
  funext x
  apply Fin.ext
  match x with
  | ⟨0, _⟩ => show win0_0.index t 0 * 32 + 1 * a.val = a.val; rw [e0]; omega
  | ⟨1, _⟩ => show win0_0.index t 1 * 48 + 1 * b.val = b.val; rw [e1]; omega

theorem blk1 (t : Fin cfg0.N) (i : Fin 128) (j : Fin 256) :
    iblk m c 1 t (ix2 i j) = Scalar.select (banded (rel i j)) (bucket i j) 4294967295#32 := by
  obtain ⟨-, ⟨e0, e1⟩⟩ := idx_whole t
  unfold iblk bucket
  rw [View.read_apply, ← rel_apply hostOff off_apply i j]
  refine Eq.trans ?_ (bucket_apply (hostRel hostOff) i j)
  show V m c main_v55 _ = _
  rw [host_bucket]
  congr 1
  funext x
  apply Fin.ext
  match x with
  | ⟨0, _⟩ => show win0_1.index t 0 * 128 + 1 * i.val = i.val; rw [e0]; omega
  | ⟨1, _⟩ => show win0_1.index t 1 * 256 + 1 * j.val = j.val; rw [e1]; omega

/-! ### The biases -/

/-- What the scratch holds: in the band the table's entry, scaled; elsewhere, and before the sequence for the first
    tile, nothing. -/
def IsBias (B : Vec Ideal S2x16x128x256 .f32) : Prop := ∀ (k : Fin 2) (h : Fin 16) (i : Fin 128) (j : Fin 256),
  B (ix4 k h i j) = if banded (rel i j) = 1#1 ∧ (k = 0 ∨ 128 ≤ j.val) then biasAt (aT m c) h i j * AttSpec.L else (⊥ : EReal)

theorem isBias (t : Fin cfg0.N) : IsBias m c (biasOf6 (iblk m c 0 t) (iblk m c 1 t)) := by
  intro k h i j
  have h0 : ∀ tab : ℕ → EReal, (∀ n, tab n = aT m c ⟨n % 32, Nat.mod_lt _ (by decide)⟩ ⟨32 + h.val, by omega⟩) →
      bias0 tab (iblk m c 1 t) (ix2 i j) = if banded (rel i j) = 1#1 then biasAt (aT m c) h i j * AttSpec.L else (⊥ : EReal) := by
    intro tab ht
    rw [bias0_apply, blk1]
    by_cases hb : banded (rel i j) = 1#1
    · obtain ⟨n, hn⟩ := AttSpec.bucket_lt i j hb
      rw [hb, ValueIdx.select_one, if_pos rfl, ht, if_pos]
      · rfl
      · rw [hn, BitVec.toNat_ofNat]
        have := n.isLt
        omega
    · have hz : banded (rel i j) = 0#1 := by
        rcases (by decide : ∀ b : BitVec 1, b = 0#1 ∨ b = 1#1) (banded (rel i j)) with h | h
        · exact h
        · exact absurd h hb
      rw [hz, ValueIdx.select_zero, if_neg (by decide), if_neg (by decide)]
  unfold biasOf6
  rw [canon_biasPieces]
  have hk : k = 0 ∨ k = 1 := by omega
  rcases hk with rfl | rfl
  · rw [if_neg (by decide), h0 _ (fun n => blk0 m c t _ _)]
    simp
  · show bias1 _ _ (ix2 i j) = _
    rw [bias1_apply, h0 _ (fun n => blk0 m c t _ _)]
    by_cases hj : j.val < 128
    · rw [if_pos hj, if_neg]
      rintro ⟨-, h | h⟩
      · exact absurd h (by decide)
      · omega
    · rw [if_neg hj]
      have : 128 ≤ j.val := by omega
      simp [this]

/-! ### One head of one residue -/

variable (B : Vec Ideal S2x16x128x256 .f32)

/-- The heads of residue `r`, over a scratch. -/
abbrev headsAt (r : Fin 16) : Fin 16 → Head :=
  headsOf B (iblk m c 2 (pt r)) (iblk m c 3 (pt r)) (iblk m c 4 (pt r)) (iblk m c 5 (pt r)) (iblk m c 6 (pt r))

theorem wide_ld (X : Vec Ideal S1x1x1024x2048 .bf16) (h : Fin 16) (p : Fin 1024) (d : Fin 128) :
    View.ld X (rectWide h) (ix4 0 0 p d) = X (ix4 0 0 p ⟨128 * h + d, by omega⟩) := by
  refine View.ld_unit_apply_of X _ S1x1x1024x128.size (inb_wide h) (ix4 0 0 p d) _ fun a => ?_
  match a with
  | ⟨0, _⟩ => rfl
  | ⟨1, _⟩ => rfl
  | ⟨2, _⟩ => exact (Nat.zero_add _).symm
  | ⟨3, _⟩ => rfl

theorem before_ld (X : Vec Ideal S1x1x128x2048 .bf16) (h : Fin 16) (p d : Fin 128) :
    View.ld X (rectBefore h) (ix4 0 0 p d) = X (ix4 0 0 p ⟨128 * h + d, by omega⟩) := by
  refine View.ld_unit_apply_of X _ S1x1x128x128.size (inb_before h) (ix4 0 0 p d) _ fun a => ?_
  match a with
  | ⟨0, _⟩ => rfl
  | ⟨1, _⟩ => rfl
  | ⟨2, _⟩ => exact (Nat.zero_add _).symm
  | ⟨3, _⟩ => rfl

theorem bias_ld (k : Fin 2) (h : Fin 16) (i : Fin 128) (j : Fin 256) : View.ld B (rectBias k h) (ix4 0 0 i j) = B (ix4 k h i j) := by
  refine View.ld_unit_apply_of B _ S1x1x128x256.size (inb_bias k h) (ix4 0 0 i j) _ fun a => ?_
  match a with
  | ⟨0, _⟩ => rfl
  | ⟨1, _⟩ => rfl
  | ⟨2, _⟩ => exact (Nat.zero_add _).symm
  | ⟨3, _⟩ => exact (Nat.zero_add _).symm

/-- A seen key's row, of the tile before or the tile itself. -/
theorem pick_key (p : Vec Ideal S1x1x128x128 .bf16) (x : Vec Ideal S1x1x1024x128 .bf16) (n : Fin 8) (j : Fin 256) (d : Fin 128) (hj : n ≠ 0 ∨ 128 ≤ j.val) :
    pick (prev p x n) (tile x n) j d = x (ix4 0 0 (keyPos n j) d) := by
  unfold pick
  by_cases h : j.val < 128
  · rw [dif_pos h]
    match n, hj with
    | ⟨0, _⟩, hj =>
      rcases hj with hj | hj
      · exact absurd rfl hj
      · omega
    | ⟨n + 1, hn⟩, _ =>
      show tile x ⟨n, by omega⟩ (ix2 ⟨j.val, h⟩ d) = _
      rw [tile_apply]
      exact congrArg (fun p => x (ix4 0 0 p d)) (Fin.ext (by show 128 * n + j.val = 128 * (n + 1) + j.val - 128; omega))
  · rw [dif_neg h, tile_apply]
    exact congrArg (fun p => x (ix4 0 0 p d)) (Fin.ext (by show 128 * n.val + (j.val - 128) = 128 * n.val + j.val - 128; omega))

theorem bias_tile (hB : IsBias m c B) (h : Fin 16) (n : Fin 8) (i : Fin 128) (j : Fin 256) :
    biasOf (View.ld B (rectBias 1 h)) (View.ld B (rectBias 0 h)) n (ix2 i j)
      = if seen n i j then biasAt (aT m c) h i j * AttSpec.L else (⊥ : EReal) := by
  match n with
  | ⟨0, _⟩ =>
    show shapeCast S128x256 (View.ld B (rectBias 1 h)) shapeCasts_S1x1x128x256_S128x256 (ix2 i j) = _
    refine (bias_apply (View.ld B (rectBias 1 h)) i j).trans ((bias_ld B 1 h i j).trans ((hB 1 h i j).trans ?_))
    refine if_congr (and_congr_right fun _ => ?_) rfl rfl
    exact or_congr (iff_of_false (by decide) fun h => h rfl) Iff.rfl
  | ⟨n + 1, hn⟩ =>
    show shapeCast S128x256 (View.ld B (rectBias 0 h)) shapeCasts_S1x1x128x256_S128x256 (ix2 i j) = _
    refine (bias_apply (View.ld B (rectBias 0 h)) i j).trans ((bias_ld B 0 h i j).trans ((hB 0 h i j).trans ?_))
    refine if_congr (and_congr_right fun _ => ?_) rfl rfl
    exact or_congr (iff_of_true rfl fun h => absurd (congrArg Fin.val h) (Nat.succ_ne_zero n)) Iff.rfl

/-- The kernel's scores are the layer's, in units of the logarithm of two. -/
theorem score_at (hB : IsBias m c B) (r h : Fin 16) (n : Fin 8) (i : Fin 128) (j : Fin 256) :
    (headsAt m c B r h).score n (ix2 i j) = AttSpec.L * scoreAt (aQ m c) (aKV m c) (aT m c) r n h i j := by
  unfold Head.score
  rw [score_apply]
  show _ + biasOf (View.ld B (rectBias 1 h)) (View.ld B (rectBias 0 h)) n (ix2 i j) = _
  rw [bias_tile m c B hB]
  unfold scoreAt
  by_cases hs : seen n i j
  · rw [if_pos hs, if_pos hs]
    refine Eq.trans ?_ (AttSpec.scaled_score _ _ _)
    refine congrArg (· + _) (Finset.sum_congr rfl fun k _ => congrArg₂ (fun a b : EReal => a * b) ?_ ?_)
    · rw [tile_apply]
      refine (wide_ld _ h _ k).trans ((blk2 m c r _ _).trans ?_)
      rfl
    · rw [pick_key _ _ n j k hs.2]
      refine (wide_ld _ h _ k).trans ((blk4 m c r _ _).trans ?_)
      rfl
  · rw [if_neg hs, if_neg hs, AttSpec.L_mul_bot, EReal.add_bot]

theorem num_at (hB : IsBias m c B) (r h : Fin 16) (n : Fin 8) (i d : Fin 128) :
    (headsAt m c B r h).num n (ix2 i d) = outAt (aQ m c) (aKV m c) (aT m c) r n h i d := by
  unfold Head.num
  rw [numTile_apply]
  simp only [score_at m c B hB]
  refine AttSpec.num_scaled _ _ _ fun j => ?_
  by_cases hs : seen n i j
  · right
    rw [pick_key _ _ n j d hs.2]
    refine (wide_ld _ h _ d).trans ((blk6 m c r _ _).trans ?_)
    rfl
  · left
    exact if_neg hs

theorem den_at (hB : IsBias m c B) (r h : Fin 16) (n : Fin 8) (i l : Fin 128) :
    (headsAt m c B r h).den n (ix2 i l) = AttSpec.den (scoreAt (aQ m c) (aKV m c) (aT m c) r n h i) := by
  unfold Head.den
  rw [denTile_apply]
  simp only [score_at m c B hB]
  exact AttSpec.den_scaled _

theorem max_at (hB : IsBias m c B) (r h : Fin 16) (n : Fin 8) (i : Fin 128) :
    colMax ((headsAt m c B r h).score n) (ix2 i 0) = AttSpec.L * top (scoreAt (aQ m c) (aKV m c) (aT m c) r n h i) := by
  rw [colMax_apply]
  simp only [score_at m c B hB]
  exact AttSpec.top_scaled _

/-! ### The points -/

/-- What a point leaves: its residue's outputs and statistics, and the biases. -/
def Left (r : Fin 16) (o : Vec Ideal S1x1x1024x2048 .bf16 × Vec Ideal S1x1x1024x128 .f32 × Vec Ideal S2x16x128x256 .f32) : Prop :=
  (∀ (n : Fin 8) (h : Fin 16) (i d : Fin 128), o.1 (ix4 0 0 (queryPos n i) ⟨128 * h + d, by omega⟩) = outAt (aQ m c) (aKV m c) (aT m c) r n h i d)
  ∧ (∀ (n : Fin 8) (i l : Fin 128), o.2.1 (ix4 0 0 (queryPos n i) l) = statAt (aQ m c) (aKV m c) (aT m c) r n i l)
  ∧ IsBias m c o.2.2

theorem stats_at (hB : IsBias m c B) (r : Fin 16) (n : Fin 8) (i l : Fin 128) :
    statsOut (headsAt m c B r) (ix4 0 0 (queryPos n i) l) = statAt (aQ m c) (aKV m c) (aT m c) r n i l := by
  rw [statsOut_apply _ n i l _ rfl]
  unfold statAt
  rw [max_at m c B hB, den_at m c B hB]

theorem out_at (hB : IsBias m c B) (r h : Fin 16) (n : Fin 8) (i d : Fin 128) :
    (headsAt m c B r h).out (ix4 0 0 (queryPos n i) d) = outAt (aQ m c) (aKV m c) (aT m c) r n h i d := by
  rw [out_apply _ n i d _ rfl, num_at m c B hB]

theorem sweep : ∀ (n : ℕ) (hn : n < 16), Left m c ⟨n, hn⟩ (outsAt0 m c n (pt ⟨n, hn⟩).isLt)
  | 0, hn => by
    have e := outsAt0_A m c (pt 0) rfl
    have e' : outsAt0 m c 0 (pt ⟨0, hn⟩).isLt = _ := e
    rw [e']
    have hB := isBias m c (pt 0)
    refine ⟨fun n h i d => ?_, fun n i l => ?_, ?_⟩
    · dsimp only
      rw [out_A_7 _ _ _ _ _ _ _ _ _ _ _ _ _ _ _ _ _ _ _ _ _ _ _ _ _ _ _ _ _ _ h _ d _ rfl]
      exact out_at m c _ hB 0 h n i d
    · dsimp only
      rw [out_A_8]
      exact stats_at m c _ hB 0 n i l
    · dsimp only
      rw [sout_A]
      exact hB
  | n + 1, hn => by
    obtain ⟨-, -, hB⟩ := sweep n (by omega)
    have e := outsAt0_B m c (pt ⟨n + 1, hn⟩) (by show ¬(n + 1) % 16 = 0; omega)
    have e' : outsAt0 m c (n + 1) (pt ⟨n + 1, hn⟩).isLt = _ := e
    rw [e']
    refine ⟨fun n' h i d => ?_, fun n' i l => ?_, ?_⟩
    · dsimp only
      rw [out_B_7 _ _ _ _ _ _ _ _ _ _ _ _ _ _ _ _ _ _ _ _ _ _ _ _ _ _ _ _ _ _ _ h _ d _ rfl]
      exact out_at m c _ hB ⟨n + 1, hn⟩ h n' i d
    · dsimp only
      rw [out_B_8]
      exact stats_at m c _ hB ⟨n + 1, hn⟩ n' i l
    · exact hB

/-! ### The arrays -/

theorem G7_apply (r : Fin 16) (n : Fin 8) (h : Fin 16) (i d : Fin 128) :
    G7 m c (ix4 0 r (queryPos n i) ⟨128 * h + d, by omega⟩) = outAt (aQ m c) (aKV m c) (aT m c) r n h i d := by
  have e := (sweep m c r.val r.isLt).1 n h i d
  rw [outsAt0_sweep] at e
  have hp : pt7Of (ix4 0 r (queryPos n i) ⟨128 * h + d, by omega⟩) = r.val := by
    show 16 * (0 / 1 - 0) + 1 * (r.val / 1 - 0) + 1 * ((128 * n.val + i.val) / 1024 - 0) + 1 * ((128 * h.val + d.val) / 2048 - 0) = _; omega
  have hl : loc7Of (ix4 0 r (queryPos n i) ⟨128 * h + d, by omega⟩) = ix4 0 0 (queryPos n i) ⟨128 * h + d, by omega⟩ := by
    funext a; apply Fin.ext
    match a with
    | ⟨0, _⟩ => rfl
    | ⟨1, _⟩ => show r.val % 1 = 0; omega
    | ⟨2, _⟩ => show (128 * n.val + i.val) % 1024 = 128 * n.val + i.val; omega
    | ⟨3, _⟩ => show (128 * h.val + d.val) % 2048 = 128 * h.val + d.val; omega
  unfold G7
  rw [dif_pos (by rw [hp]; exact (pt r).isLt), hl, fold0_congr m c _ _ _ _ hp]
  exact e

theorem G8_apply (r : Fin 16) (n : Fin 8) (i l : Fin 128) :
    G8 m c (ix4 0 r (queryPos n i) l) = statAt (aQ m c) (aKV m c) (aT m c) r n i l := by
  have e := (sweep m c r.val r.isLt).2.1 n i l
  rw [outsAt0_sweep] at e
  have hp : pt8Of (ix4 0 r (queryPos n i) l) = r.val := by
    show 16 * (0 / 1 - 0) + 1 * (r.val / 1 - 0) + 1 * ((128 * n.val + i.val) / 1024 - 0) + 1 * (l.val / 128 - 0) = _; omega
  have hl : loc8Of (ix4 0 r (queryPos n i) l) = ix4 0 0 (queryPos n i) l := by
    funext a; apply Fin.ext
    match a with
    | ⟨0, _⟩ => rfl
    | ⟨1, _⟩ => show r.val % 1 = 0; omega
    | ⟨2, _⟩ => show (128 * n.val + i.val) % 1024 = 128 * n.val + i.val; omega
    | ⟨3, _⟩ => show l.val % 128 = l.val; omega
  unfold G8
  rw [dif_pos (by rw [hp]; exact (pt r).isLt), hl, fold0_congr m c _ _ _ _ hp]
  exact e

end Cert.Kernel6Ideal.AttFold

end
-- ==== Proof.AttReference.lean ====
/-
  The reference's attention, at an index.
-/
module

public import proofs.«01_k».proof.Proof.Gen.Reference6Ideal.Read
public import proofs.«01_k».proof.Proof.AttLayer
public import proofs.«01_k».proof.Proof.IdxExt
public import Idealize.ShloMosaic.Lib.KernelVsHost

@[expose] public section

set_option maxRecDepth 16384

noncomputable section

namespace Cert.Reference6Ideal.AttReference

open Cert.Reference6Ideal Cert.Reference6Ideal.Read Cert.IdxExt Cert.AttSpec Idealize.ShloMosaic

variable (x0 : (⟨S16384x6144, .f32⟩ : BufTy).Contents (Elt Ideal)) (x1 : (⟨S16384x12288, .f32⟩ : BufTy).Contents (Elt Ideal))
  (x2 : (⟨S32x48, .f32⟩ : BufTy).Contents (Elt Ideal))

theorem ext5 {a b c d e : ℕ} {p q : (⟨5, ![a, b, c, d, e]⟩ : Shape).Idx} (h0 : p 0 = q 0) (h1 : p 1 = q 1) (h2 : p 2 = q 2) (h3 : p 3 = q 3)
    (h4 : p 4 = q 4) : p = q := by
  funext x
  match x with
  | ⟨0, _⟩ => exact h0
  | ⟨1, _⟩ => exact h1
  | ⟨2, _⟩ => exact h2
  | ⟨3, _⟩ => exact h3
  | ⟨4, _⟩ => exact h4

theorem ext4 {a b c d : ℕ} {p q : (⟨4, ![a, b, c, d]⟩ : Shape).Idx} (h0 : p 0 = q 0) (h1 : p 1 = q 1) (h2 : p 2 = q 2) (h3 : p 3 = q 3) : p = q := by
  funext x
  match x with
  | ⟨0, _⟩ => exact h0
  | ⟨1, _⟩ => exact h1
  | ⟨2, _⟩ => exact h2
  | ⟨3, _⟩ => exact h3

theorem neg_inf_word : Ideal.ofBits .f32 0xFF800000#32 = ⊥ := by simp [Ideal.ofBits, Ideal.ieee]

/-! ### The arrays, residue by residue -/

theorem token (i : Fin 128) (r : Fin 16) (n : Fin 8) : (n.val * 128 + i.val) * 16 + r.val = 16 * (128 * n.val + i.val) + r.val := by omega

theorem lane (b : ℕ) (h : Fin 16) (k : Fin 128) : b + h.val * 128 + k.val = b + (128 * h.val + k.val) := by omega

theorem q_apply (r : Fin 16) (n : Fin 8) (i : Fin 128) (h : Fin 16) (k : Fin 128) :
    val_main_v11 (F := Ideal) x0 (ix5 r n i h k) = x0 (ix2 (at16 r (queryPos n i)) (qCol h k)) := by
  pointwise [val_main_v11, val_main_v10, val_main_v9, val_main_v2, val_main_v1, val_main_v0]
  exact congrArg x0 (ext2 (token i r n) (lane 4096 h k))

theorem k_apply (r : Fin 16) (n : Fin 8) (i : Fin 128) (h : Fin 16) (k : Fin 128) :
    val_main_v14 (F := Ideal) x1 (ix5 r n i h k) = x1 (ix2 (at16 r (queryPos n i)) (kCol h k)) := by
  pointwise [val_main_v14, val_main_v13, val_main_v12, val_main_v5, val_main_v4, val_main_v3]
  exact congrArg x1 (ext2 (token i r n) (lane 4096 h k))

theorem v_apply (r : Fin 16) (n : Fin 8) (i : Fin 128) (h : Fin 16) (k : Fin 128) :
    val_main_v20 (F := Ideal) x1 (ix5 r n i h k) = x1 (ix2 (at16 r (queryPos n i)) (vCol h k)) := by
  pointwise [val_main_v20, val_main_v19, val_main_v18, val_main_v7, val_main_v6, val_main_v3]
  exact congrArg x1 (ext2 (token i r n) (lane 10240 h k))

theorem window_row {p p' : Fin 1024} (l : Fin 12288) (r : Fin 16) (hp : p = p') : x1 (ix2 (at16 r p) l) = x1 (ix2 (at16 r p') l) := by
  rw [hp]

theorem keys_apply (r : Fin 16) (n : Fin 8) (j : Fin 256) (h : Fin 16) (k : Fin 128) (hj : n ≠ 0 ∨ 128 ≤ j.val) :
    val_main_v17 (F := Ideal) x1 (ix5 r n j h k) = x1 (ix2 (at16 r (keyPos n j)) (kCol h k)) := by
  have hn : n ≠ 0 → 1 ≤ n.val := fun hn => Nat.one_le_iff_ne_zero.mpr fun he => hn (Fin.ext he)
  have hn8 := n.isLt
  pointwise [val_main_v17, val_main_v16, val_main_v15]
  split
  · rename_i hlt
    have h1 : 1 ≤ n.val := hn (hj.resolve_right (by omega))
    rw [dif_pos ⟨⟨h1, by omega⟩, hlt⟩]
    refine (k_apply x1 r _ _ h k).trans (window_row x1 _ r (Fin.ext ?_))
    show 128 * (n.val - 1) + j.val = 128 * n.val + j.val - 128
    omega
  · refine (k_apply x1 r _ _ h k).trans (window_row x1 _ r (Fin.ext ?_))
    show 128 * n.val + (j.val - 128) = 128 * n.val + j.val - 128
    omega

theorem values_apply (r : Fin 16) (n : Fin 8) (j : Fin 256) (h : Fin 16) (k : Fin 128) (hj : n ≠ 0 ∨ 128 ≤ j.val) :
    val_main_v23 (F := Ideal) x1 (ix5 r n j h k) = x1 (ix2 (at16 r (keyPos n j)) (vCol h k)) := by
  have hn : n ≠ 0 → 1 ≤ n.val := fun hn => Nat.one_le_iff_ne_zero.mpr fun he => hn (Fin.ext he)
  have hn8 := n.isLt
  pointwise [val_main_v23, val_main_v22, val_main_v21]
  split
  · rename_i hlt
    have h1 : 1 ≤ n.val := hn (hj.resolve_right (by omega))
    rw [dif_pos ⟨⟨h1, by omega⟩, hlt⟩]
    refine (v_apply x1 r _ _ h k).trans (window_row x1 _ r (Fin.ext ?_))
    show 128 * (n.val - 1) + j.val = 128 * n.val + j.val - 128
    omega
  · refine (v_apply x1 r _ _ h k).trans (window_row x1 _ r (Fin.ext ?_))
    show 128 * n.val + (j.val - 128) = 128 * n.val + j.val - 128
    omega

/-! ### The bias -/

theorem rel_apply (i : Fin 128) (j : Fin 256) : val_main_v35 (F := Ideal) (ix2 i j) = rel i j := by
  pointwise [val_main_v35, val_main_v34, val_main_v33, val_main_v32, val_main_v31, val_main_v30, val_main_v29, val_main_v28, val_main_v27, val_main_c_1]
  rfl

theorem bucket_apply (i : Fin 128) (j : Fin 256) : val_main_v61 (F := Ideal) (ix2 i j) = bucket i j := by
  unfold bucket
  rw [← rel_apply]
  rfl

theorem valid_apply (n : Fin 8) (i : Fin 128) (j : Fin 256) : val_main_v79 (F := Ideal) (ix3 n i j) = IntOp.andi (banded (rel i j)) (IntOp.cmpi .sge (IntOp.addi (IntOp.subi (IntOp.muli (BitVec.ofNat 32 n.val) 128#32) 128#32) (BitVec.ofNat 32 j.val)) 0#32) := by
  rw [← rel_apply]
  rfl

theorem key_pos (n : Fin 8) (j : Fin 256) :
    IntOp.cmpi .sge (IntOp.addi (IntOp.subi (IntOp.muli (BitVec.ofNat 32 n.val) 128#32) 128#32) (BitVec.ofNat 32 j.val)) 0#32 = 1#1
      ↔ n ≠ 0 ∨ 128 ≤ j.val := by
  revert n j
  decide +kernel

theorem and_bit (a b : BitVec 1) : IntOp.andi a b = 1#1 ↔ a = 1#1 ∧ b = 1#1 := by
  revert a b
  decide

theorem valid_iff (n : Fin 8) (i : Fin 128) (j : Fin 256) : val_main_v79 (F := Ideal) (ix3 n i j) = 1#1 ↔ seen n i j := by
  rw [valid_apply, and_bit, key_pos]

/-! ### The table's rows -/

/-- One row of the table per query and key: the row at the start index, read signed and clamped into the table. -/
theorem gather_rows (x : S32x16.Idx → EReal) (idx : IVec S128x256x1 32) (i : Fin 128) (j : Fin 256) (h : Fin 16) (q : Fin 32)
    (hq : min (idx (ix3 i j 0)).toInt.toNat 31 = q.val) :
    Host.gather gather_S32x16_S128x256x1_S128x256x16_2_0_n_n_0_2_116 x idx (ix3 i j h)
      = x (ix2 q h) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S32x16_S128x256x1_S128x256x16_2_0_n_n_0_2_116.startIndexMap from List.mem_singleton.mpr rfl)]
    refine Eq.trans (b := min (idx (ix3 i j 0)).toInt.toNat 31) ?_ hq
    exact congrArg (fun y => min (idx y).toInt.toNat 31) (ext3 rfl rfl rfl)
  · unfold GatherDims.start
    rw [dif_neg (show (1 : Fin 2) ∉ gather_S32x16_S128x256x1_S128x256x16_2_0_n_n_0_2_116.startIndexMap from fun hm => absurd (List.mem_singleton.mp hm) (by decide))]
    unfold GatherDims.offCoord
    rw [dif_pos (by decide +kernel)]
    exact (Nat.zero_add _).trans rfl

theorem word_of_bucket (b : Fin 32) : Scalar.select (IntOp.cmpi .slt (BitVec.ofNat 32 b.val) 0#32) (IntOp.addi (BitVec.ofNat 32 b.val) 32#32) (BitVec.ofNat 32 b.val) = BitVec.ofNat 32 b.val
    ∧ IntOp.andi (IntOp.cmpi .sge (BitVec.ofNat 32 b.val) 0#32) (IntOp.cmpi .sle (BitVec.ofNat 32 b.val) 31#32) = 1#1
    ∧ min (BitVec.ofNat 32 b.val).toInt.toNat 31 = (BitVec.ofNat 32 b.val).toNat % 32 := by
  revert b
  decide +kernel

theorem table_apply (a : Fin 32) (h : Fin 16) : val_main_v8 (F := Ideal) x2 (ix2 a h) = x2 (ix2 a ⟨32 + h.val, by omega⟩) := by
  pointwise [val_main_v8]

theorem bias_apply (h : Fin 16) (i : Fin 128) (j : Fin 256) (hb : banded (rel i j) = 1#1) :
    val_main_v62 (F := Ideal) x2 (ix3 i j h) = biasAt (fun a b => x2 (ix2 a b)) h i j := by
  obtain ⟨b, hbk⟩ := bucket_lt i j hb
  have hw := bucket_apply i j
  rw [hbk] at hw
  have h4 : val_main_call4_v5 (F := Ideal) (ix3 i j 0) = BitVec.ofNat 32 b.val := by
    pointwise [val_main_call4_v5, val_main_call4_v4, val_main_call4_v3, val_main_call4_v2, val_main_call4_c_0, val_main_call4_v1, val_main_call4_v0, val_main_call4_c]
    rw [hw]
    exact (word_of_bucket b).1
  have h11 : val_main_call4_v11 (F := Ideal) (ix3 i j 0) = 1#1 := by
    pointwise [val_main_call4_v11, val_main_call4_v10, val_main_call4_v9, val_main_call4_v8, val_main_call4_v7, val_main_call4_v6, val_main_call4_c_1, val_main_call4_c_2]
    rw [h4]
    exact (word_of_bucket b).2.1
  have h12 : val_main_call4_v12 (F := Ideal) (ix2 i j) = 1#1 := by
    pointwise [val_main_call4_v12, val_main_call4_c_3]
    rw [show (Finset.univ : Finset (Fin 1)) = {0} from rfl, Finset.fold_singleton, h11]
    rfl
  pointwise [val_main_v62, val_main_call4_v14, val_main_call4_v13]
  rw [h12, ValueIdx.select_one, gather_rows _ _ i j h ⟨(bucket i j).toNat % 32, Nat.mod_lt _ (by decide)⟩ ?_, table_apply]
  · rfl
  · rw [h4, hbk]
    exact (word_of_bucket b).2.2

theorem dot_apply (r : Fin 16) (n : Fin 8) (h : Fin 16) (i : Fin 128) (j : Fin 256) (hj : n ≠ 0 ∨ 128 ≤ j.val) :
    val_main_v24 (F := Ideal) x0 x1 (ix5 r n h i j) = dotAt (fun s l => x0 (ix2 s l)) (fun s l => x1 (ix2 s l)) r n h i j := by
  rw [val_main_v24_apply]
  refine Finset.sum_congr rfl fun k _ => ?_
  rw [show lidx_main_v24 (ix5 r n h i j) k = ix5 r n i h k from ext5 rfl rfl rfl rfl rfl,
    show ridx_main_v24 (ix5 r n h i j) k = ix5 r n j h k from ext5 rfl rfl rfl rfl rfl, q_apply, keys_apply x1 r n j h k hj]

theorem score_apply (r : Fin 16) (n : Fin 8) (h : Fin 16) (i : Fin 128) (j : Fin 256) :
    val_main_v84 (F := Ideal) x0 x1 x2 (ix5 r n h i j)
      = scoreAt (fun s l => x0 (ix2 s l)) (fun s l => x1 (ix2 s l)) (fun a b => x2 (ix2 a b)) r n h i j := by
  pointwise [val_main_v84, val_main_call5_v1, val_main_call5_v0, val_main_v83, val_main_v82, val_main_v81, val_main_v80, val_main_v63, val_main_v26, val_main_v25, val_main_call5_v2, val_main_cst_17, val_main_cst]
  unfold scoreAt
  by_cases hs : seen n i j
  · rw [if_pos hs, (valid_iff n i j).mpr hs, ValueIdx.select_one, dot_apply x0 x1 r n h i j hs.2, bias_apply x2 h i j hs.1]
  · rw [if_neg hs, ValueIdx.eq_zero_of_ne_one (mt (valid_iff n i j).mp hs), ValueIdx.select_zero]
    exact neg_inf_word

theorem max_apply (r : Fin 16) (n : Fin 8) (h : Fin 16) (i : Fin 128) :
    val_main_v85 (F := Ideal) x0 x1 x2 (ix4 r n h i)
      = top (scoreAt (fun s l => x0 (ix2 s l)) (fun s l => x1 (ix2 s l)) (fun a b => x2 (ix2 a b)) r n h i) := by
  pointwise [val_main_v85, val_main_cst_18]
  rw [neg_inf_word]
  exact congrArg (fun f => Finset.fold max ⊥ f Finset.univ) (funext fun j => score_apply x0 x1 x2 r n h i j)

/-! ### The weights, their sum and the values -/

theorem weight_apply (r : Fin 16) (n : Fin 8) (h : Fin 16) (i : Fin 128) (j : Fin 256) :
    val_main_v89 (F := Ideal) x0 x1 x2 (ix5 r n h i j)
      = p (scoreAt (fun s l => x0 (ix2 s l)) (fun s l => x1 (ix2 s l)) (fun a b => x2 (ix2 a b)) r n h i) j := by
  pointwise [val_main_v89, val_main_v88, val_main_v87, val_main_v86]
  rw [score_apply, max_apply]
  rfl

theorem den_apply (r : Fin 16) (n : Fin 8) (h : Fin 16) (i : Fin 128) :
    val_main_v90 (F := Ideal) x0 x1 x2 (ix4 r n h i)
      = den (scoreAt (fun s l => x0 (ix2 s l)) (fun s l => x1 (ix2 s l)) (fun a b => x2 (ix2 a b)) r n h i) := by
  rw [val_main_v90_apply, val_main_cst_19_apply, Ideal.ofBits_def, show Ideal.ofBits .f32 0x00000000#32 = 0 from by simp [Ideal.ofBits, Ideal.ieee], zero_add]
  refine Finset.sum_congr rfl fun k _ => ?_
  rw [show idx_main_v90 (ix4 r n h i) k = ix5 r n h i k from ext5 rfl rfl rfl rfl rfl, weight_apply]

theorem num_apply (r : Fin 16) (n : Fin 8) (h : Fin 16) (i d : Fin 128) :
    val_main_v91 (F := Ideal) x0 x1 x2 (ix5 r n h d i)
      = outAt (fun s l => x0 (ix2 s l)) (fun s l => x1 (ix2 s l)) (fun a b => x2 (ix2 a b)) r n h i d := by
  rw [val_main_v91_apply]
  unfold outAt num
  refine Finset.sum_congr rfl fun k _ => ?_
  rw [show lidx_main_v91 (ix5 r n h d i) k = ix5 r n k h d from ext5 rfl rfl rfl rfl rfl,
    show ridx_main_v91 (ix5 r n h d i) k = ix5 r n h i k from ext5 rfl rfl rfl rfl rfl, weight_apply]
  by_cases hs : seen n i k
  · rw [values_apply x1 r n k h d hs.2]
  · rw [p_masked (show scoreAt _ _ _ r n h i k = ⊥ from if_neg hs), mul_zero, mul_zero]

/-! ### The two results -/

theorem out_apply (r : Fin 16) (n : Fin 8) (h : Fin 16) (i d : Fin 128) :
    val_main_v101 (F := Ideal) x0 x1 x2 (ix4 0 r (queryPos n i) ⟨128 * h.val + d.val, by omega⟩)
      = outAt (fun s l => x0 (ix2 s l)) (fun s l => x1 (ix2 s l)) (fun a b => x2 (ix2 a b)) r n h i d := by
  rw [val_main_v101_apply, val_main_v100_apply]
  refine Eq.trans (congrArg (val_main_v92 (F := Ideal) x0 x1 x2) (show _ = ix5 r n i h d from ext5 (Fin.ext ?_) (Fin.ext ?_) (Fin.ext ?_) (Fin.ext ?_) (Fin.ext ?_))) ?_
  · show (((0 * 16 + r.val) * 1024 + (128 * n.val + i.val)) * 2048 + (128 * h.val + d.val)) / 2097152 = r.val
    omega
  · show (((0 * 16 + r.val) * 1024 + (128 * n.val + i.val)) * 2048 + (128 * h.val + d.val)) / 262144 % 8 = n.val
    omega
  · show (((0 * 16 + r.val) * 1024 + (128 * n.val + i.val)) * 2048 + (128 * h.val + d.val)) / 2048 % 128 = i.val
    omega
  · show (((0 * 16 + r.val) * 1024 + (128 * n.val + i.val)) * 2048 + (128 * h.val + d.val)) / 128 % 16 = h.val
    omega
  · show (((0 * 16 + r.val) * 1024 + (128 * n.val + i.val)) * 2048 + (128 * h.val + d.val)) % 128 = d.val
    omega
  pointwise [val_main_v92]
  exact num_apply x0 x1 x2 r n h i d

theorem lanes_apply (r : Fin 16) (n : Fin 8) (i l : Fin 128) :
    val_main_v99 (F := Ideal) x0 x1 x2 (ix4 r n i l)
      = if h : l.val < 16 then val_main_v96 (F := Ideal) x0 x1 x2 (ix4 r n i ⟨l.val, h⟩)
        else if h : l.val - 16 < 16 then val_main_v97 (F := Ideal) x0 x1 x2 (ix4 r n i ⟨l.val - 16, h⟩)
        else val_main_v98 (F := Ideal) (ix4 r n i ⟨l.val - 16 - 16, by omega⟩) := by
  pointwise [val_main_v99]

theorem log_max_apply (r : Fin 16) (n : Fin 8) (i : Fin 128) (h : Fin 16) :
    val_main_v96 (F := Ideal) x0 x1 x2 (ix4 r n i h)
      = L * top (scoreAt (fun s l => x0 (ix2 s l)) (fun s l => x1 (ix2 s l)) (fun a b => x2 (ix2 a b)) r n h i) := by
  pointwise [val_main_v96, val_main_v95, val_main_v94, val_main_v93, val_main_cst_20]
  rw [max_apply]
  exact div_log_two _

theorem stat_apply (r : Fin 16) (n : Fin 8) (i l : Fin 128) :
    val_main_v102 (F := Ideal) x0 x1 x2 (ix4 0 r (queryPos n i) l)
      = statAt (fun s l => x0 (ix2 s l)) (fun s l => x1 (ix2 s l)) (fun a b => x2 (ix2 a b)) r n i l := by
  rw [val_main_v102_apply]
  refine Eq.trans (congrArg (val_main_v99 (F := Ideal) x0 x1 x2) (show _ = ix4 r n i l from ext4 (Fin.ext ?_) (Fin.ext ?_) (Fin.ext ?_) (Fin.ext ?_))) ?_
  · show (((0 * 16 + r.val) * 1024 + (128 * n.val + i.val)) * 128 + l.val) / 131072 = r.val
    omega
  · show (((0 * 16 + r.val) * 1024 + (128 * n.val + i.val)) * 128 + l.val) / 16384 % 8 = n.val
    omega
  · show (((0 * 16 + r.val) * 1024 + (128 * n.val + i.val)) * 128 + l.val) / 128 % 128 = i.val
    omega
  · show (((0 * 16 + r.val) * 1024 + (128 * n.val + i.val)) * 128 + l.val) % 128 = l.val
    omega
  have hl := l.isLt
  rw [lanes_apply]
  unfold statAt
  by_cases h : l.val < 16
  · rw [dif_pos h, if_pos h]
    refine (log_max_apply x0 x1 x2 r n i _).trans ?_
    exact congrArg (fun q : Fin 16 => L * top (scoreAt _ _ _ r n q i)) (Fin.ext (Nat.mod_eq_of_lt h).symm)
  · rw [dif_neg h, if_neg h]
    by_cases h2 : l.val < 32
    · rw [dif_pos (show l.val - 16 < 16 by omega), if_pos h2]
      pointwise [val_main_v97]
      refine (den_apply x0 x1 x2 r n _ i).trans ?_
      refine congrArg (fun q : Fin 16 => den (scoreAt _ _ _ r n q i)) (Fin.ext ?_)
      show l.val - 16 = l.val % 16
      omega
    · rw [dif_neg (show ¬l.val - 16 < 16 by omega), if_neg h2]
      pointwise [val_main_v98, val_main_cst_21]

end Cert.Reference6Ideal.AttReference

end
-- ==== Proof.AttAlgebraic.lean ====
/-
  The attention of one group: the kernel's two result arrays are the reference's.
-/
module

public import proofs.«01_k».proof.Proof.AttFold
public import proofs.«01_k».proof.Proof.AttReference
public import proofs.«01_k».proof.Defs
public import Idealize.ShloMosaic.Lib.Quiescent

@[expose] public section

noncomputable section

namespace Cert.AttAlgebraic

open Cert.AttSpec Idealize.ShloMosaic Idealize.SL.Sem

/-- An index of the values' array: residue, block, query, head and lane. -/
theorem out_index (i : (⟨4, ![1, 16, 1024, 2048]⟩ : Shape).Idx) :
    ∃ (r : Fin 16) (n : Fin 8) (q : Fin 128) (h : Fin 16) (d : Fin 128), i = ix4 0 r (queryPos n q) ⟨128 * h.val + d.val, by omega⟩ := by
  have h2 : (i 2).val < 1024 := (i 2).isLt
  have h3 : (i 3).val < 2048 := (i 3).isLt
  refine ⟨i 1, ⟨(i 2).val / 128, by omega⟩, ⟨(i 2).val % 128, by omega⟩, ⟨(i 3).val / 128, by omega⟩, ⟨(i 3).val % 128, by omega⟩, ?_⟩
  refine Cert.Reference6Ideal.AttReference.ext4 (Subsingleton.elim (α := Fin 1) _ _) rfl (Fin.ext ?_) (Fin.ext ?_)
  · exact (Nat.div_add_mod (i 2).val 128).symm
  · exact (Nat.div_add_mod (i 3).val 128).symm

/-- An index of the statistics' array. -/
theorem stat_index (i : (⟨4, ![1, 16, 1024, 128]⟩ : Shape).Idx) :
    ∃ (r : Fin 16) (n : Fin 8) (q : Fin 128) (l : Fin 128), i = ix4 0 r (queryPos n q) l := by
  have h2 : (i 2).val < 1024 := (i 2).isLt
  refine ⟨i 1, ⟨(i 2).val / 128, by omega⟩, ⟨(i 2).val % 128, by omega⟩, i 3, ?_⟩
  exact Cert.Reference6Ideal.AttReference.ext4 (Subsingleton.elim (α := Fin 1) _ _) rfl (Fin.ext (Nat.div_add_mod (i 2).val 128).symm) rfl

theorem algebraic : algebraic_Kernel6Ideal_Reference6Ideal (hKernel6Ideal := Cert.Kernel6Ideal.Gen.facts)
    (hReference6Ideal := Cert.Reference6Ideal.Gen.facts) := by
  intro m ρ m' ρ' _ hag
  refine ⟨fun c => Cert.Kernel6Ideal.Value.G7 m c, fun c => Cert.Kernel6Ideal.Value.G8 m c, Cert.Kernel6Ideal.Value.run m ρ,
    (θ_run _ _ _).mono (fun _ h c => ⟨(h c).1.trans ?_, (h c).2.1.trans ?_, (h c).2.2⟩) (Cert.Reference6Ideal.Value.run m' ρ')⟩
  · obtain ⟨e0, e1, e2⟩ := hag c
    rw [Cert.Reference6Ideal.Read.val_main_v101_eq, e0, e1, e2]
    funext i
    obtain ⟨r, n, q, h, d, rfl⟩ := out_index i
    exact (Cert.Reference6Ideal.AttReference.out_apply _ _ _ r n h q d).trans (Cert.Kernel6Ideal.AttFold.G7_apply m c r n h q d).symm
  · obtain ⟨e0, e1, e2⟩ := hag c
    rw [Cert.Reference6Ideal.Read.val_main_v102_eq, e0, e1, e2]
    funext i
    obtain ⟨r, n, q, l, rfl⟩ := stat_index i
    exact (Cert.Reference6Ideal.AttReference.stat_apply _ _ _ r n q l).trans (Cert.Kernel6Ideal.AttFold.G8_apply m c r n q l).symm

/-- The two named constants stand for their exact values. -/
theorem preserves : preserves_Kernel6_Kernel6Ideal :=
  ⟨IdealRules.named_const.statement Cert.Kernel6Ideal.κ "mask" .f32 0xF149F2CA#32 ⊥ rfl,
    IdealRules.named_const.statement Cert.Kernel6Ideal.κ "log2e" .f32 0x3FB8AA3B#32 (((Real.log 2)⁻¹ : ℝ) : EReal) rfl⟩

/-- The reference runs, keeps its arguments and ends quiescent. -/
theorem reference_quiescent : quiescent_Reference6Ideal (hReference6Ideal := Cert.Reference6Ideal.Gen.facts) := fun m ρ _ =>
  (θ_run Cert.Reference6Ideal.defs _ _).mono (fun r h => ⟨fun c => (h c).2.2, sem_eq_zero_of_no_sems (by decide) r.2⟩)
    (Cert.Reference6Ideal.Value.run (F := Ideal) m ρ)

end Cert.AttAlgebraic

end
-- ==== Proof.PermAlgebraic.lean ====
/-
  The two row permutations: to residue order and back. Each point of the grid moves one block of 32 rows of each residue
  class, and the kernel's result array is the reference's transpose.
-/
module

public import proofs.«01_k».proof.Proof.IdxExt
public import proofs.«01_k».proof.Proof.Gen.Kernel7Ideal.Frame
public import proofs.«01_k».proof.Proof.Gen.Kernel8Ideal.Value
public import proofs.«01_k».proof.Proof.Gen.Reference7Ideal.Read
public import proofs.«01_k».proof.Proof.Gen.Reference8Ideal.Read
public import proofs.«01_k».proof.Defs
public import Idealize.ShloMosaic.Lib.Pointwise
public import Idealize.ShloMosaic.Lib.Pipeline.Value
public import Idealize.ShloMosaic.Lib.Quiescent

@[expose] public section

set_option maxRecDepth 16384

noncomputable section

open Idealize.ShloMosaic Idealize.ShloMosaic.TcCoe

theorem Cert.PermZero2 : (![0, 0] : Fin 2 → Nat) = fun _ => 0 := funext fun a => by fin_cases a <;> rfl
theorem Cert.PermZero3 : (![0, 0, 0] : Fin 3 → Nat) = fun _ => 0 := funext fun a => by fin_cases a <;> rfl

namespace Cert.Kernel7Ideal.Perm

open Cert.Kernel7Ideal Cert.Kernel7Ideal.Gen Cert.IdxExt Idealize.SL.Sem

/-- What the body stores: row `16 p + r` of its block goes to residue `r`'s row `p`. -/
theorem moved (x : Vec Ideal S512x2048 .f32) (r : Fin 16) (p : Fin 32) (l : Fin 2048) :
    k0_pay1 x (ix3 r p l) = x (ix2 ⟨16 * p.val + r.val, by omega⟩ l) := by
  show transpose S16x32x2048 [1, 0, 2] (shapeCast S32x16x2048 x shapeCasts_S512x2048_S32x16x2048)
    transposes_S32x16x2048_p1_0_2_S16x32x2048 (ix3 r p l) = _
  refine (transpose_apply [1, 0, 2] _ _ (ix3 r p l) (ix3 p r l) ?_).trans ?_
  · intro b
    match b with
    | ⟨0, _⟩ => rfl
    | ⟨1, _⟩ => rfl
    | ⟨2, _⟩ => rfl
  · refine shapeCast_apply _ _ _ (ix2 ⟨16 * p.val + r.val, by omega⟩ l) ?_
    rw [Shape.rowMajor_val_two, Shape.rowMajor_val_three]
    show (16 * p.val + r.val) * 2048 + l.val = (p.val * 16 + r.val) * 2048 + l.val
    omega

theorem block_apply (x : Vec Ideal S512x2048 .f32) (r : Fin 16) (p : Fin 32) (l : Fin 2048) :
    out0_1 x (ix3 r p l) = x (ix2 ⟨16 * p.val + r.val, by omega⟩ l) := by
  unfold out0_1
  rw [View.ld_unit_zero (S := S512x2048) PermZero2]
  refine (View.canon_apply_of_pieces (k0_pay1 x) _ ?_ (ix3 r p l) (cover0_1 _ _)).trans (moved x r p l)
  intro pc hpc
  obtain rfl := List.mem_singleton.mp hpc
  intro y
  refine congrArg (k0_pay1 x) (funext fun a => Fin.ext ?_)
  match a with
  | ⟨0, _⟩ => show (y 0).val = 0 + 1 * (y 0).val; omega
  | ⟨1, _⟩ => show (y 1).val = 0 + 1 * (y 1).val; omega
  | ⟨2, _⟩ => show (y 2).val = 0 + 1 * (y 2).val; omega

variable (m : (ℓ : Loc nD τ sig) → Buf (Elt Ideal) ℓ) (c : Dev nD)

theorem idx_facts : ∀ t : Fin cfg0.N,
    (win0_0.index t (0 : Fin 2) = t.val ∧ win0_0.index t (1 : Fin 2) = 0)
    ∧ (win0_1.index t (0 : Fin 3) = 0 ∧ win0_1.index t (1 : Fin 3) = t.val ∧ win0_1.index t (2 : Fin 3) = 0) :=
  (by decide +kernel : ∀ t : Fin grid0.N, _)

theorem blk0 (t : Fin cfg0.N) (q : Fin 512) (l : Fin 2048) (s : Fin 16384) (hs : s.val = 512 * t.val + q.val) :
    iblk m c 0 t (ix2 q l) = m ((c : Thread nD τ).loc main_arg0) (ix2 s l) := by
  obtain ⟨⟨e0, e1⟩, -⟩ := idx_facts t
  unfold iblk
  rw [View.read_apply]
  show V m c main_arg0 _ = _
  rw [V_main_arg0]
  congr 1
  funext a
  apply Fin.ext
  match a with
  | ⟨0, _⟩ => show win0_0.index t 0 * 512 + 1 * q.val = s.val; rw [e0]; omega
  | ⟨1, _⟩ => show win0_0.index t 1 * 2048 + 1 * l.val = l.val; rw [e1]; omega

theorem flush_all : ∀ t : Fin cfg0.N, (cfg0.win 1).flush t = true := (by decide +kernel : ∀ t : Fin grid0.N, _)

theorem index_injective : ∀ t t' : Fin cfg0.N, win0_1.index t = win0_1.index t' → t = t' :=
  (by decide +kernel : ∀ t t' : Fin grid0.N, win0_1.index t = win0_1.index t' → t = t')

/-- No two points write the same rows, so the result keeps what each point wrote. -/
theorem written (t : Fin cfg0.N) :
    ((cfg0.win 1).blk t).view.read (Elt Ideal) ((dats m 0 c).arrAt 1 cfg0.N)
      = (cfg0.win 1).cut (grid0.coords t) (out0_1 (iblk m c 0 t)) := by
  refine ((dats m 0 c).read_blk_arrAt_eq_flushed 1 ?_ cfg0.N t t.isLt (flush_all t)).trans ?_
  · exact fun u v _ _ hne => (cfg0.win 1).disjoint_blk fun h => hne (index_injective u v h)
  · show (cfg0.win 1).cut (grid0.coords t) ((dats m 0 c).after 1 t) = _
    rw [after0_1]

/-- The run leaves the array that the points wrote, and the argument as it was. -/
theorem run (ρ : Dev nD → PrngReg) : θ_run defs (onTc (τ := τ) (main (F := Ideal))) ⟨m, fun _ => 0, ρ⟩ fun r => ∀ c : Dev nD,
    r.2.mem ((c : Thread nD τ).loc main_v0) = (dats m 0 c).arrAt 1 cfg0.N
    ∧ r.2.mem ((c : Thread nD τ).loc main_arg0) = m ((c : Thread nD τ).loc main_arg0) :=
  (θ_run defs _ _).mono
    (fun _ h c => ⟨(h c).1 1, ((h c).1 0).trans (((dats m 0 c).arrAt_in 0 rfl _).trans ((A_eq m c 0).trans (V_main_arg0 m c)))⟩)
    (run_main m ρ)

/-- Residue `r`'s row `p` is row `16 p + r` of the argument. -/
theorem result_apply (r : Fin 16) (p : Fin 1024) (l : Fin 2048) :
    (dats m 0 c).arrAt 1 cfg0.N (ix3 r p l) = m ((c : Thread nD τ).loc main_arg0) (ix2 ⟨16 * p.val + r.val, by omega⟩ l) := by
  let t : Fin cfg0.N := ⟨p.val / 32, lt_of_lt_of_eq (by omega) N_0.symm⟩
  let q : Fin 32 := ⟨p.val % 32, Nat.mod_lt _ (by decide)⟩
  have hp : p.val = 32 * t.val + q.val := (Nat.div_add_mod p.val 32).symm
  obtain ⟨-, ⟨e0, e1, e2⟩⟩ := idx_facts t
  have e := congrFun (written m c t) (ix3 r q l)
  rw [View.read_apply] at e
  have hi : ((cfg0.win 1).blk t).view.emb (ix3 r q l) = ix3 r p l := by
    funext a
    apply Fin.ext
    match a with
    | ⟨0, _⟩ => show win0_1.index t 0 * 16 + 1 * r.val = r.val; rw [e0]; omega
    | ⟨1, _⟩ => show win0_1.index t 1 * 32 + 1 * q.val = p.val; rw [e1]; omega
    | ⟨2, _⟩ => show win0_1.index t 2 * 2048 + 1 * l.val = l.val; rw [e2]; omega
  rw [hi] at e
  refine e.trans ?_
  show out0_1 _ (ix3 r q l) = _
  rw [block_apply]
  exact blk0 m c t _ l _ (by show 16 * p.val + r.val = 512 * t.val + (16 * q.val + r.val); omega)

end Cert.Kernel7Ideal.Perm

namespace Cert.Kernel8Ideal.Perm

open Cert.Kernel8Ideal Cert.Kernel8Ideal.Gen Cert.Kernel8Ideal.Value Cert.IdxExt

theorem block_apply (x : Vec Ideal S16x32x2048 .f32) (p : Fin 32) (r : Fin 16) (l : Fin 2048) :
    out0_1 x (ix2 ⟨16 * p.val + r.val, by omega⟩ l) = x (ix3 r p l) := by
  unfold out0_1
  rw [View.ld_unit_zero (S := S16x32x2048) PermZero3, canon1_eq]
  exact congrArg x (ext3 (by show (16 * p.val + r.val) % 16 = r.val; omega) (by show (16 * p.val + r.val) / 16 = p.val; omega) rfl)

variable (m : (ℓ : Loc nD τ sig) → Buf (Elt Ideal) ℓ) (c : Dev nD)

theorem idx_facts : ∀ t : Fin cfg0.N,
    (win0_0.index t (0 : Fin 3) = 0 ∧ win0_0.index t (1 : Fin 3) = t.val ∧ win0_0.index t (2 : Fin 3) = 0)
    ∧ (win0_1.index t (0 : Fin 2) = t.val ∧ win0_1.index t (1 : Fin 2) = 0) :=
  (by decide +kernel : ∀ t : Fin grid0.N, _)

theorem rows_cast (v : Vec Ideal S16384x2048 .f32) (r : Fin 16) (p : Fin 1024) (l : Fin 2048) :
    shapeCast S16x1024x2048 v shapeCasts_S16384x2048_S16x1024x2048 (ix3 r p l) = v (ix2 ⟨1024 * r.val + p.val, by omega⟩ l) := by
  refine shapeCast_apply v _ _ _ ?_
  rw [Shape.rowMajor_val_two, Shape.rowMajor_val_three]
  show (1024 * r.val + p.val) * 2048 + l.val = (r.val * 1024 + p.val) * 2048 + l.val
  omega

theorem blk0 (t : Fin cfg0.N) (r : Fin 16) (q : Fin 32) (l : Fin 2048) (p : Fin 1024) (hp : p.val = 32 * t.val + q.val) :
    iblk m c 0 t (ix3 r q l) = m ((c : Thread nD τ).loc main_arg0) (ix2 ⟨1024 * r.val + p.val, by omega⟩ l) := by
  obtain ⟨⟨e0, e1, e2⟩, -⟩ := idx_facts t
  unfold iblk
  rw [View.read_apply]
  refine Eq.trans ?_ (rows_cast (m (c.tc.loc main_arg0)) r p l)
  show shapeCast S16x1024x2048 (m (c.tc.loc main_arg0)) _ _ = _
  congr 1
  funext a
  apply Fin.ext
  match a with
  | ⟨0, _⟩ => show win0_0.index t 0 * 16 + 1 * r.val = r.val; rw [e0]; omega
  | ⟨1, _⟩ => show win0_0.index t 1 * 32 + 1 * q.val = p.val; rw [e1]; omega
  | ⟨2, _⟩ => show win0_0.index t 2 * 2048 + 1 * l.val = l.val; rw [e2]; omega

theorem flush_all : ∀ t : Fin cfg0.N, (cfg0.win 1).flush t = true := (by decide +kernel : ∀ t : Fin grid0.N, _)

/-- Row `16 p + r` is residue `r`'s row `p` of the argument. -/
theorem result_apply (r : Fin 16) (p : Fin 1024) (l : Fin 2048) :
    (dats m 0 c).arrAt 1 cfg0.N (ix2 ⟨16 * p.val + r.val, by omega⟩ l)
      = m ((c : Thread nD τ).loc main_arg0) (ix2 ⟨1024 * r.val + p.val, by omega⟩ l) := by
  let t : Fin cfg0.N := ⟨p.val / 32, lt_of_lt_of_eq (by omega) N_0.symm⟩
  let q : Fin 32 := ⟨p.val % 32, Nat.mod_lt _ (by decide)⟩
  have hp : p.val = 32 * t.val + q.val := (Nat.div_add_mod p.val 32).symm
  obtain ⟨-, ⟨e0, e1⟩⟩ := idx_facts t
  have e := congrFun (blocks1 m c t (flush_all t)) (ix2 ⟨16 * q.val + r.val, by omega⟩ l)
  rw [flushed1, View.read_apply] at e
  have hi : ((cfg0.win 1).blk t).view.emb (ix2 ⟨16 * q.val + r.val, by omega⟩ l) = ix2 ⟨16 * p.val + r.val, by omega⟩ l := by
    funext a
    apply Fin.ext
    match a with
    | ⟨0, _⟩ => show win0_1.index t 0 * 512 + 1 * (16 * q.val + r.val) = 16 * p.val + r.val; rw [e0]; omega
    | ⟨1, _⟩ => show win0_1.index t 1 * 2048 + 1 * l.val = l.val; rw [e1]; omega
  rw [hi] at e
  refine e.trans ?_
  show out0_1 _ (ix2 _ l) = _
  rw [block_apply]
  exact blk0 m c t r q l p hp

end Cert.Kernel8Ideal.Perm

namespace Cert.PermAlgebraic

open Cert.IdxExt Idealize.SL.Sem

theorem algebraic7 : algebraic_Kernel7Ideal_Reference7Ideal (hKernel7Ideal := Cert.Kernel7Ideal.Gen.facts)
    (hReference7Ideal := Cert.Reference7Ideal.Gen.facts) := by
  intro m ρ m' ρ' _ hag
  refine ⟨_, Cert.Kernel7Ideal.Perm.run m ρ, (θ_run _ _ _).mono (fun _ h c => ⟨(h c).1.trans ?_, (h c).2⟩) (Cert.Reference7Ideal.Value.run m' ρ')⟩
  rw [Cert.Reference7Ideal.Read.val_main_v1_eq, hag c]
  funext i
  obtain ⟨r, p, l, rfl⟩ : ∃ (r : Fin 16) (p : Fin 1024) (l : Fin 2048), i = ix3 r p l := ⟨i 0, i 1, i 2, eq_ix3 i⟩
  rw [Cert.Kernel7Ideal.Perm.result_apply, Cert.Reference7Ideal.Read.val_main_v1_apply, Cert.Reference7Ideal.Read.val_main_v0_apply]
  refine congrArg _ (ext2 ?_ ?_)
  · show ((p.val * 16 + r.val) * 2048 + l.val) / 2048 = 16 * p.val + r.val
    omega
  · show ((p.val * 16 + r.val) * 2048 + l.val) % 2048 = l.val
    omega

theorem algebraic8 : algebraic_Kernel8Ideal_Reference8Ideal (hKernel8Ideal := Cert.Kernel8Ideal.Gen.facts)
    (hReference8Ideal := Cert.Reference8Ideal.Gen.facts) := by
  intro m ρ m' ρ' _ hag
  refine ⟨_, Cert.Kernel8Ideal.Value.run_blocks m ρ, (θ_run _ _ _).mono (fun _ h c => ⟨(h c).1.trans ?_, (h c).2⟩) (Cert.Reference8Ideal.Value.run m' ρ')⟩
  rw [Cert.Reference8Ideal.Read.val_main_v2_eq, hag c]
  funext i
  obtain ⟨s, l, rfl⟩ : ∃ (s : Fin 16384) (l : Fin 2048), i = ix2 s l := ⟨i 0, i 1, eq_ix2 i⟩
  obtain ⟨r, p, rfl⟩ : ∃ (r : Fin 16) (p : Fin 1024), s = ⟨16 * p.val + r.val, by omega⟩ :=
    ⟨⟨s.val % 16, by omega⟩, ⟨s.val / 16, by omega⟩, Fin.ext (Nat.div_add_mod s.val 16).symm⟩
  rw [Cert.Kernel8Ideal.Perm.result_apply, Cert.Reference8Ideal.Read.val_main_v2_apply, Cert.Reference8Ideal.Read.val_main_v1_apply, Cert.Reference8Ideal.Read.val_main_v0_apply]
  refine congrArg _ (ext2 ?_ ?_)
  · show (((((16 * p.val + r.val) * 2048 + l.val) / 2048 % 16) * 1024 + ((16 * p.val + r.val) * 2048 + l.val) / 32768) * 2048 + ((16 * p.val + r.val) * 2048 + l.val) % 2048) / 2048 = 1024 * r.val + p.val
    omega
  · show (((((16 * p.val + r.val) * 2048 + l.val) / 2048 % 16) * 1024 + ((16 * p.val + r.val) * 2048 + l.val) / 32768) * 2048 + ((16 * p.val + r.val) * 2048 + l.val) % 2048) % 2048 = l.val
    omega

theorem reference7_quiescent : quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

theorem reference8_quiescent : quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

end Cert.PermAlgebraic

end
-- ==== Proof.MidBody.lean ====
/-
  The middle group's attention body: what one grid step leaves in its output blocks and in the bias scratch, in closed
  form. A tile is 32 rows of each of the four classes; the arithmetic of a tile is the third group's.
-/
module

public import proofs.«01_k».proof.Proof.AttBody
public import proofs.«01_k».proof.Proof.Gen.Kernel9Ideal.Value

@[expose] public section

set_option maxRecDepth 16384

noncomputable section

namespace Cert.Kernel9Ideal.MidBody

open Cert.Kernel9Ideal Cert.Kernel9Ideal.Gen Idealize.ShloMosaic
open Cert.Kernel6Ideal.AttBody (colMax probs weighted numTile denTile stats bias0 bias1 rectBias rectBucket biasPieces)

/-! ### One head -/

theorem slices_tile (n : ℕ) (h : n < 8) : S4x256x128.Slices ![0, 32 * n, 0] S4x32x128 := by
  refine ⟨rfl, fun a => ?_⟩
  fin_cases a
  · exact Nat.le_refl _
  · show 32 * n + 32 ≤ 256
    omega
  · exact Nat.le_refl _

/-- Tile `n` of a head's block: 32 rows of each class. -/
def tile (x : Vec Ideal S4x1x256x128 .bf16) (n : Fin 8) : FVec Ideal S128x128 .bf16 :=
  shapeCast S128x128 (extractStridedSlice S4x32x128 ![0, 32 * n.val, 0]
    (shapeCast S4x256x128 x shapeCasts_S4x1x256x128_S4x256x128) (slices_tile n.val n.isLt)) shapeCasts_S4x32x128_S128x128

/-- The tile before tile `n`: of the block before for the first. -/
def prev (p : Vec Ideal S4x1x32x128 .bf16) (x : Vec Ideal S4x1x256x128 .bf16) : Fin 8 → FVec Ideal S128x128 .bf16
  | ⟨0, _⟩ => shapeCast S128x128 (shapeCast S4x32x128 p shapeCasts_S4x1x32x128_S4x32x128) shapeCasts_S4x32x128_S128x128
  | ⟨n + 1, h⟩ => tile x ⟨n, by omega⟩

/-- What one head reads. -/
structure Head where
  q : Vec Ideal S4x1x256x128 .bf16
  kp : Vec Ideal S4x1x32x128 .bf16
  kc : Vec Ideal S4x1x256x128 .bf16
  vp : Vec Ideal S4x1x32x128 .bf16
  vc : Vec Ideal S4x1x256x128 .bf16
  b1 : Vec Ideal S1x1x128x256 .f32
  b0 : Vec Ideal S1x1x128x256 .f32

def Head.score (H : Head) (n : Fin 8) : FVec Ideal S128x256 .f32 :=
  Kernel6Ideal.AttBody.score (tile H.q n) (prev H.kp H.kc n) (tile H.kc n) (Kernel6Ideal.AttBody.biasOf H.b1 H.b0 n)
def Head.num (H : Head) (n : Fin 8) : FVec Ideal S128x128 .f32 := numTile (H.score n) (prev H.vp H.vc n) (tile H.vc n)
def Head.den (H : Head) (n : Fin 8) : FVec Ideal S128x128 .f32 := denTile (H.score n) (prev H.vp H.vc n) (tile H.vc n)

def eight (f : Fin 8 → FVec Ideal S128x128 .f32) : FVec Ideal S4x256x128 .f32 :=
  concatenate S4x256x128 1 [⟨S4x32x128, shapeCast S4x32x128 (f 0) shapeCasts_S128x128_S4x32x128⟩,
    ⟨S4x32x128, shapeCast S4x32x128 (f 1) shapeCasts_S128x128_S4x32x128⟩,
    ⟨S4x32x128, shapeCast S4x32x128 (f 2) shapeCasts_S128x128_S4x32x128⟩,
    ⟨S4x32x128, shapeCast S4x32x128 (f 3) shapeCasts_S128x128_S4x32x128⟩,
    ⟨S4x32x128, shapeCast S4x32x128 (f 4) shapeCasts_S128x128_S4x32x128⟩,
    ⟨S4x32x128, shapeCast S4x32x128 (f 5) shapeCasts_S128x128_S4x32x128⟩,
    ⟨S4x32x128, shapeCast S4x32x128 (f 6) shapeCasts_S128x128_S4x32x128⟩,
    ⟨S4x32x128, shapeCast S4x32x128 (f 7) shapeCasts_S128x128_S4x32x128⟩]
    concatenates_S4x32x128_S4x32x128_S4x32x128_S4x32x128_S4x32x128_S4x32x128_S4x32x128_S4x32x128_S4x256x128_d1

/-- A head's stored output. -/
def Head.out (H : Head) : Vec Ideal S4x1x256x128 .bf16 :=
  shapeCast S4x1x256x128 (truncf .bf16 (eight H.num) bitsLt_bf16_f32) shapeCasts_S4x256x128_S4x1x256x128

def statsOut (Hs : Fin 16 → Head) : Vec Ideal S4x1x256x128 .f32 :=
  shapeCast S4x1x256x128 (eight fun n => stats (fun h => (Hs h).score n) (fun h => (Hs h).den n) 16) shapeCasts_S4x256x128_S4x1x256x128

/-! ### The grid step's loads -/

theorem inb_wide (h : Fin 16) : ∀ a, (![0, 0, 0, 128 * h.val] : Fin 4 → ℕ) a + S4x1x256x128.size a ≤ S4x1x256x2048.size a := by
  intro a
  have := h.isLt
  fin_cases a
  · exact Nat.le_refl _
  · exact Nat.le_refl _
  · exact Nat.le_refl _
  · show 128 * h.val + 128 ≤ 2048
    omega

theorem inb_before (h : Fin 16) : ∀ a, (![0, 0, 0, 128 * h.val] : Fin 4 → ℕ) a + S4x1x32x128.size a ≤ S4x1x32x2048.size a := by
  intro a
  have := h.isLt
  fin_cases a
  · exact Nat.le_refl _
  · exact Nat.le_refl _
  · exact Nat.le_refl _
  · show 128 * h.val + 128 ≤ 2048
    omega

def rectWide (h : Fin 16) : Rect S4x1x256x2048 := Rect.unit ![0, 0, 0, 128 * h.val] S4x1x256x128.size (inb_wide h)
def rectBefore (h : Fin 16) : Rect S4x1x32x2048 := Rect.unit ![0, 0, 0, 128 * h.val] S4x1x32x128.size (inb_before h)

/-- Which bias the first tile of a step takes: at the first step the one that masks the keys before the sequence. -/
def firstBias (i : grid0.Coords) : Fin 2 := if (i 1).val = 0 then 1 else 0

/-- The load of the first tile's bias: the table its word of the grid step names. -/
def firstOff (i : grid0.Coords) (h : Fin 16) : Fin 4 → ℕ :=
  ![(Scalar.indexCast (Scalar.select (Scalar.cmpi .eq (BitVec.ofNat 32 (i 1).val) 0#32) 1#32 0#32)).toNat, h.val, 0, 0]

theorem first_word : ∀ s : Fin 4, (Scalar.indexCast (Scalar.select (Scalar.cmpi .eq (BitVec.ofNat 32 s.val) 0#32) 1#32 0#32)).toNat
    = (if s.val = 0 then (1 : Fin 2) else 0).val := by decide +kernel

theorem firstOff_eq (i : grid0.Coords) (h : Fin 16) : firstOff i h = ![(firstBias i).val, h.val, 0, 0] :=
  congrArg (fun n : ℕ => (![n, h.val, 0, 0] : Fin 4 → ℕ)) (first_word (i 1))

theorem inb_first (i : grid0.Coords) (h : Fin 16) : ∀ a, firstOff i h a + S1x1x128x256.size a ≤ S2x16x128x256.size a := by
  rw [firstOff_eq]
  exact Kernel6Ideal.AttBody.inb_bias (firstBias i) h

def rectFirst (i : grid0.Coords) (h : Fin 16) : Rect S2x16x128x256 := Rect.unit (firstOff i h) S1x1x128x256.size (inb_first i h)

def rectStats : Rect S4x1x256x128 := Rect.unit ![0, 0, 0, 0] S4x1x256x128.size (fun a => by fin_cases a <;> exact Nat.le_refl _)

theorem inb_tab (n : ℕ) (h : Fin 16) : ∀ a, (![n % 32, 16 + h.val] : Fin 2 → ℕ) a + S1x1.size a ≤ S32x48.size a := by
  intro a
  have := h.isLt
  have := Nat.mod_lt n (show 0 < 32 by decide)
  fin_cases a
  · show n % 32 + 1 ≤ 32
    omega
  · show 16 + h.val + 1 ≤ 48
    omega

def rectTab (n : ℕ) (h : Fin 16) : Rect S32x48 := Rect.unit ![n % 32, 16 + h.val] S1x1.size (inb_tab n h)

variable (c : Dev nD) (i : grid0.Coords) (a2 : Memref sig .tc .smem S32x48 .f32) (h2 : a2.IsWhole)
  (a3 : Memref sig .tc .vmem S128x256 .i32) (h3 : a3.IsWhole) (a4 : Memref sig .tc .vmem S4x1x256x2048 .bf16) (h4 : a4.IsWhole)
  (a5 : Memref sig .tc .vmem S4x1x32x2048 .bf16) (h5 : a5.IsWhole) (a6 : Memref sig .tc .vmem S4x1x256x2048 .bf16) (h6 : a6.IsWhole)
  (a7 : Memref sig .tc .vmem S4x1x32x2048 .bf16) (h7 : a7.IsWhole) (a8 : Memref sig .tc .vmem S4x1x256x2048 .bf16) (h8 : a8.IsWhole)
  (a9 : Memref sig .tc .vmem S4x1x256x2048 .bf16) (h9 : a9.IsWhole) (a10 : Memref sig .tc .vmem S4x1x256x128 .f32) (h10 : a10.IsWhole)
  (a11 : Memref sig .tc .vmem S2x16x128x256 .f32) (h11 : a11.IsWhole)
  (x0 : Vec Ideal S32x48 .f32) (x1 : Vec Ideal S128x256 .i32) (x2 : Vec Ideal S4x1x256x2048 .bf16) (x3 : Vec Ideal S4x1x32x2048 .bf16)
  (x4 : Vec Ideal S4x1x256x2048 .bf16) (x5 : Vec Ideal S4x1x32x2048 .bf16) (x6 : Vec Ideal S4x1x256x2048 .bf16)
  (xs : Vec Ideal S2x16x128x256 .f32)

/-- Head `h`'s loads, its biases given. -/
def loads (B1 B0 : Fin 16 → Vec Ideal S1x1x128x256 .f32) (h : Fin 16) : Head where
  q := View.readAt (Elt Ideal) a4.view (rectWide h).toLoadRect (h4.unread x2)
  kp := View.readAt (Elt Ideal) a5.view (rectBefore h).toLoadRect (h5.unread x3)
  kc := View.readAt (Elt Ideal) a6.view (rectWide h).toLoadRect (h6.unread x4)
  vp := View.readAt (Elt Ideal) a7.view (rectBefore h).toLoadRect (h7.unread x5)
  vc := View.readAt (Elt Ideal) a8.view (rectWide h).toLoadRect (h8.unread x6)
  b1 := B1 h
  b0 := B0 h

/-- The sixteen heads' stores. -/
def pieces (Hs : Fin 16 → Head) : List (View.Piece (Elt Ideal) S4x1x256x2048 .bf16) :=
  [15, 14, 13, 12, 11, 10, 9, 8, 7, 6, 5, 4, 3, 2, 1, 0].map fun h => ⟨rectWide h, (Hs h).out⟩

theorem pieces7_B (hc : ¬cond0_0 i) :
    (kernelRun0_B c i a2 h2 a3 h3 a4 h4 a5 h5 a6 h6 a7 h7 a8 h8 a9 h9 a10 h10 a11 h11 hc x0 x1 x2 x3 x4 x5 x6 xs).1
      = pieces (loads a4 h4 a5 h5 a6 h6 a7 h7 a8 h8 x2 x3 x4 x5 x6
          (fun h => View.readAt (Elt Ideal) a11.view (rectFirst i h).toLoadRect (h11.unread xs))
          (fun h => View.readAt (Elt Ideal) a11.view (rectBias 0 h).toLoadRect (h11.unread xs))) := by
  sl_kernel_rfl

theorem pieces8_B (hc : ¬cond0_0 i) :
    (kernelRun0_B c i a2 h2 a3 h3 a4 h4 a5 h5 a6 h6 a7 h7 a8 h8 a9 h9 a10 h10 a11 h11 hc x0 x1 x2 x3 x4 x5 x6 xs).2.1
      = [⟨rectStats, statsOut (loads a4 h4 a5 h5 a6 h6 a7 h7 a8 h8 x2 x3 x4 x5 x6
          (fun h => View.readAt (Elt Ideal) a11.view (rectFirst i h).toLoadRect (h11.unread xs))
          (fun h => View.readAt (Elt Ideal) a11.view (rectBias 0 h).toLoadRect (h11.unread xs)))⟩] := by
  sl_kernel_rfl

theorem pieces0_A (hc : cond0_0 i) :
    (kernelRun0_A c i a2 h2 a3 h3 a4 h4 a5 h5 a6 h6 a7 h7 a8 h8 a9 h9 a10 h10 a11 h11 hc x0 x1 x2 x3 x4 x5 x6).2.2.1
      = biasPieces (fun h n => View.readAt (Elt Ideal) a2.view (rectTab n h).toLoadRect (h2.unread x0) (Shape.Idx.first (s := S1x1) (by decide)))
          (View.readAt (Elt Ideal) a3.view rectBucket.toLoadRect (h3.unread x1)) := by
  sl_kernel_rfl

theorem pieces7_A (hc : cond0_0 i) :
    (kernelRun0_A c i a2 h2 a3 h3 a4 h4 a5 h5 a6 h6 a7 h7 a8 h8 a9 h9 a10 h10 a11 h11 hc x0 x1 x2 x3 x4 x5 x6).1
      = pieces (loads a4 h4 a5 h5 a6 h6 a7 h7 a8 h8 x2 x3 x4 x5 x6
          (fun h => a11.view.readCov (kernelRun0_A c i a2 h2 a3 h3 a4 h4 a5 h5 a6 h6 a7 h7 a8 h8 a9 h9 a10 h10 a11 h11 hc x0 x1 x2 x3 x4 x5 x6).2.2.1 (rectFirst i h).toLoadRect)
          (fun h => a11.view.readCov (kernelRun0_A c i a2 h2 a3 h3 a4 h4 a5 h5 a6 h6 a7 h7 a8 h8 a9 h9 a10 h10 a11 h11 hc x0 x1 x2 x3 x4 x5 x6).2.2.1 (rectBias 0 h).toLoadRect)) := by
  sl_kernel_rfl

theorem pieces8_A (hc : cond0_0 i) :
    (kernelRun0_A c i a2 h2 a3 h3 a4 h4 a5 h5 a6 h6 a7 h7 a8 h8 a9 h9 a10 h10 a11 h11 hc x0 x1 x2 x3 x4 x5 x6).2.1
      = [⟨rectStats, statsOut (loads a4 h4 a5 h5 a6 h6 a7 h7 a8 h8 x2 x3 x4 x5 x6
          (fun h => a11.view.readCov (kernelRun0_A c i a2 h2 a3 h3 a4 h4 a5 h5 a6 h6 a7 h7 a8 h8 a9 h9 a10 h10 a11 h11 hc x0 x1 x2 x3 x4 x5 x6).2.2.1 (rectFirst i h).toLoadRect)
          (fun h => a11.view.readCov (kernelRun0_A c i a2 h2 a3 h3 a4 h4 a5 h5 a6 h6 a7 h7 a8 h8 a9 h9 a10 h10 a11 h11 hc x0 x1 x2 x3 x4 x5 x6).2.2.1 (rectBias 0 h).toLoadRect))⟩] := by
  sl_kernel_rfl

end Cert.Kernel9Ideal.MidBody

end
-- ==== Proof.MidElements.lean ====
/-
  The middle group's attention body, element by element.
-/
module

public import proofs.«01_k».proof.Proof.MidBody
public import proofs.«01_k».proof.Proof.AttElements

@[expose] public section

set_option maxRecDepth 16384

noncomputable section

namespace Cert.Kernel9Ideal.MidElements

open Cert.Kernel9Ideal Cert.Kernel9Ideal.Gen Cert.Kernel9Ideal.MidBody Idealize.ShloMosaic
open Cert.Kernel6Ideal.AttBody (colMax numTile denTile stats rectBias biasPieces bias0 bias1)
open Cert.Kernel6Ideal.AttElements (canon_of_agree mem_heads mem_emb bias_emb stats_hz stats_apply)

theorem row_of (i : Fin 128) : i.val / 32 * 32 + i.val % 32 = i.val := by omega

theorem tile_apply (x : Vec Ideal S4x1x256x128 .bf16) (n : Fin 8) (i d : Fin 128) :
    tile x n (ix2 i d) = x (ix4 (⟨i.val / 32, by omega⟩ : Fin 4) 0 (⟨32 * n.val + i.val % 32, by omega⟩ : Fin 256) d) := by
  pointwise [tile]

theorem before_apply (x : Vec Ideal S4x1x32x128 .bf16) (i d : Fin 128) :
    shapeCast S128x128 (shapeCast S4x32x128 x shapeCasts_S4x1x32x128_S4x32x128) shapeCasts_S4x32x128_S128x128 (ix2 i d)
      = x (ix4 (⟨i.val / 32, by omega⟩ : Fin 4) 0 (⟨i.val % 32, by omega⟩ : Fin 32) d) := by
  pointwise

theorem eight_apply (f : Fin 8 → FVec Ideal S128x128 .f32) (n : Fin 8) (i d : Fin 128) (k : Fin 4) (r : Fin 256) (hk : k.val = i.val / 32)
    (hr : r.val = 32 * n.val + i.val % 32) : eight f (ix3 k r d) = f n (ix2 i d) := by
  have e : shapeCast S4x32x128 (f n) shapeCasts_S128x128_S4x32x128 (ix3 k (⟨i.val % 32, by omega⟩ : Fin 32) d) = f n (ix2 i d) := by
    pointwise
    refine congrArg (fun y => f n (ix2 y d)) (Fin.ext ?_)
    show k.val * 32 + i.val % 32 = i.val
    omega
  rw [← e]
  unfold eight
  refine concatenate_ofFn_apply (t := S4x256x128) (s₁ := S4x32x128) 1
    (fun n : Fin 8 => shapeCast S4x32x128 (f n) shapeCasts_S128x128_S4x32x128) _ rfl 32 rfl (ix3 k r d) n ?_ (ix3 k (⟨i.val % 32, by omega⟩ : Fin 32) d) ?_ ?_
  · show r.val / 32 = n.val
    omega
  · show i.val % 32 = r.val % 32
    omega
  · intro b hb
    match b with
    | ⟨0, _⟩ => rfl
    | ⟨1, _⟩ => exact absurd rfl hb
    | ⟨2, _⟩ => rfl

theorem out_apply (H : Head) (n : Fin 8) (i d : Fin 128) (k : Fin 4) (r : Fin 256) (hk : k.val = i.val / 32) (hr : r.val = 32 * n.val + i.val % 32) :
    H.out (ix4 k 0 r d) = H.num n (ix2 i d) := by
  rw [← eight_apply H.num n i d k r hk hr]
  pointwise [Head.out]

theorem statsOut_apply (Hs : Fin 16 → Head) (n : Fin 8) (i l : Fin 128) (k : Fin 4) (r : Fin 256) (hk : k.val = i.val / 32) (hr : r.val = 32 * n.val + i.val % 32) :
    statsOut Hs (ix4 k 0 r l) = if l.val < 16 then colMax ((Hs ⟨l.val % 16, by omega⟩).score n) (ix2 i 0)
      else if l.val < 32 then (Hs ⟨l.val % 16, by omega⟩).den n (ix2 i l) else 0 := by
  have e : statsOut Hs (ix4 k 0 r l) = eight (fun n => stats (fun h => (Hs h).score n) (fun h => (Hs h).den n) 16) (ix3 k r l) := by pointwise [statsOut]
  rw [e, eight_apply _ n i l k r hk hr, stats_apply _ _ i l 16 (by omega)]
  split_ifs <;> first | rfl | omega

/-! ### The blocks a grid step leaves -/

theorem wide_emb (h : Fin 16) (x : S4x1x256x128.Idx) (a : Fin 4) :
    ((rectWide h).emb x a).val = (![0, 0, 0, 128 * h.val] : Fin 4 → ℕ) a + (x a).val :=
  ValueKit.rect_emb_unit_val (s := S4x1x256x2048) (![0, 0, 0, 128 * h.val] : Fin 4 → ℕ) S4x1x256x128.size (inb_wide h) x a

theorem canon_pieces (Hs : Fin 16 → Head) (h : Fin 16) (k : Fin 4) (r : Fin 256) (d : Fin 128) (l : Fin 2048) (hl : l.val = 128 * h.val + d.val) :
    View.canon (pieces Hs) (ix4 k 0 r l) = (Hs h).out (ix4 k 0 r d) := by
  have he : (rectWide h).emb (ix4 k 0 r d) = ix4 k 0 r l := by
    funext a
    apply Fin.ext
    refine (wide_emb h _ a).trans ?_
    match a with
    | ⟨0, _⟩ => exact Nat.zero_add _
    | ⟨1, _⟩ => rfl
    | ⟨2, _⟩ => exact Nat.zero_add _
    | ⟨3, _⟩ => exact hl.symm
  apply canon_of_agree
  · refine ⟨⟨rectWide h, (Hs h).out⟩, List.mem_map.mpr ⟨h, mem_heads h, rfl⟩, ?_⟩
    rw [← he]
    exact mem_emb (rectWide h) _
  · intro p hp x hx
    obtain ⟨h', -, rfl⟩ := List.mem_map.mp hp
    change S4x1x256x128.Idx at x
    have e0 : 0 + (x 0).val = k.val := (wide_emb h' x 0).symm.trans (congrArg (fun y : S4x1x256x2048.Idx => (y 0).val) hx)
    have e2 : 0 + (x 2).val = r.val := (wide_emb h' x 2).symm.trans (congrArg (fun y : S4x1x256x2048.Idx => (y 2).val) hx)
    have e3 : 128 * h'.val + (x 3).val = l.val := (wide_emb h' x 3).symm.trans (congrArg (fun y : S4x1x256x2048.Idx => (y 3).val) hx)
    have hx3 : (x 3).val < 128 := (x 3).isLt
    obtain rfl : h' = h := Fin.ext (by omega)
    show (Hs h').out x = _
    congr 1
    funext a
    apply Fin.ext
    match a with
    | ⟨0, _⟩ => show (x 0).val = k.val; omega
    | ⟨1, _⟩ => exact Nat.lt_one_iff.mp (x 1).isLt
    | ⟨2, _⟩ => show (x 2).val = r.val; omega
    | ⟨3, _⟩ => show (x 3).val = d.val; omega

/-! ### What each case leaves -/

/-- The heads a grid step reads: its blocks, and the biases of the scratch. -/
def headsOf (b : Fin 2) (B : Vec Ideal S2x16x128x256 .f32) (x2 : Vec Ideal S4x1x256x2048 .bf16) (x3 : Vec Ideal S4x1x32x2048 .bf16)
    (x4 : Vec Ideal S4x1x256x2048 .bf16) (x5 : Vec Ideal S4x1x32x2048 .bf16) (x6 : Vec Ideal S4x1x256x2048 .bf16) (h : Fin 16) : Head where
  q := View.ld x2 (rectWide h)
  kp := View.ld x3 (rectBefore h)
  kc := View.ld x4 (rectWide h)
  vp := View.ld x5 (rectBefore h)
  vc := View.ld x6 (rectWide h)
  b1 := View.ld B (rectBias b h)
  b0 := View.ld B (rectBias 0 h)

variable (c : Dev nD) (i : grid0.Coords) (a2 : Memref sig .tc .smem S32x48 .f32) (h2 : a2.IsWhole)
  (a3 : Memref sig .tc .vmem S128x256 .i32) (h3 : a3.IsWhole) (a4 : Memref sig .tc .vmem S4x1x256x2048 .bf16) (h4 : a4.IsWhole)
  (a5 : Memref sig .tc .vmem S4x1x32x2048 .bf16) (h5 : a5.IsWhole) (a6 : Memref sig .tc .vmem S4x1x256x2048 .bf16) (h6 : a6.IsWhole)
  (a7 : Memref sig .tc .vmem S4x1x32x2048 .bf16) (h7 : a7.IsWhole) (a8 : Memref sig .tc .vmem S4x1x256x2048 .bf16) (h8 : a8.IsWhole)
  (a9 : Memref sig .tc .vmem S4x1x256x2048 .bf16) (h9 : a9.IsWhole) (a10 : Memref sig .tc .vmem S4x1x256x128 .f32) (h10 : a10.IsWhole)
  (a11 : Memref sig .tc .vmem S2x16x128x256 .f32) (h11 : a11.IsWhole)
  (x0 : Vec Ideal S32x48 .f32) (x1 : Vec Ideal S128x256 .i32) (x2 : Vec Ideal S4x1x256x2048 .bf16) (x3 : Vec Ideal S4x1x32x2048 .bf16)
  (x4 : Vec Ideal S4x1x256x2048 .bf16) (x5 : Vec Ideal S4x1x32x2048 .bf16) (x6 : Vec Ideal S4x1x256x2048 .bf16)
  (xs : Vec Ideal S2x16x128x256 .f32)

theorem ld_first (X : Vec Ideal S2x16x128x256 .f32) (h : Fin 16) :
    (View.ld X (rectFirst i h) : S1x1x128x256.Idx → EReal) = View.ld X (rectBias (firstBias i) h) := by
  funext x
  refine View.ld_unit_apply_of X (firstOff i h) S1x1x128x256.size (inb_first i h) x ((rectBias (firstBias i) h).emb x) fun a => ?_
  exact (bias_emb (firstBias i) h x a).trans (congrArg (· + (x a).val) (congrFun (firstOff_eq i h) a).symm)

theorem loads_eq (B1 B0 : Fin 16 → Vec Ideal S1x1x128x256 .f32) (h1 : ∀ h, B1 h = View.ld xs (rectFirst i h)) (h0 : ∀ h, B0 h = View.ld xs (rectBias 0 h)) :
    loads a4 h4 a5 h5 a6 h6 a7 h7 a8 h8 x2 x3 x4 x5 x6 B1 B0 = headsOf (firstBias i) xs x2 x3 x4 x5 x6 := by
  funext h
  unfold loads headsOf
  rw [h1 h, h0 h, ld_first]
  simp only [View.readAt_eq_ld, h4.read_unread, h5.read_unread, h6.read_unread, h7.read_unread, h8.read_unread]

theorem out_B_7 (hc : ¬cond0_0 i) (h : Fin 16) (k : Fin 4) (r : Fin 256) (d : Fin 128) (l : Fin 2048) (hl : l.val = 128 * h.val + d.val) :
    out0_B_7 c i a2 h2 a3 h3 a4 h4 a5 h5 a6 h6 a7 h7 a8 h8 a9 h9 a10 h10 a11 h11 hc x0 x1 x2 x3 x4 x5 x6 xs (ix4 k 0 r l)
      = (headsOf (firstBias i) xs x2 x3 x4 x5 x6 h).out (ix4 k 0 r d) := by
  unfold out0_B_7
  rw [View.read_writes_junk_eq_canon, pieces7_B, canon_pieces _ h k r d l hl]
  exact congrArg (fun H : Fin 16 → Head => (H h).out (ix4 k 0 r d)) (loads_eq i a4 h4 a5 h5 a6 h6 a7 h7 a8 h8 x2 x3 x4 x5 x6 xs _ _
    (fun h => by rw [View.readAt_eq_ld, h11.read_unread]) fun h => by rw [View.readAt_eq_ld, h11.read_unread])

theorem canon_stats (w : Vec Ideal S4x1x256x128 .f32) : View.canon [(⟨rectStats, w⟩ : View.Piece (Elt Ideal) S4x1x256x128 .f32)] = w := by
  funext y
  have he : rectStats.emb y = y := by
    funext a
    apply Fin.ext
    refine (ValueKit.rect_emb_unit_val _ _ _ y a).trans ?_
    exact (congrArg (· + (y a).val) (congrFun stats_hz a)).trans (Nat.zero_add _)
  conv_lhs => rw [← he]
  exact View.canon_cons_emb rectStats w [] y

theorem out_B_8 (hc : ¬cond0_0 i) :
    out0_B_8 c i a2 h2 a3 h3 a4 h4 a5 h5 a6 h6 a7 h7 a8 h8 a9 h9 a10 h10 a11 h11 hc x0 x1 x2 x3 x4 x5 x6 xs
      = statsOut (headsOf (firstBias i) xs x2 x3 x4 x5 x6) := by
  unfold out0_B_8
  rw [View.read_writes_junk_eq_canon, pieces8_B, canon_stats]
  exact congrArg (statsOut) (loads_eq i a4 h4 a5 h5 a6 h6 a7 h7 a8 h8 x2 x3 x4 x5 x6 xs _ _
    (fun h => by rw [View.readAt_eq_ld, h11.read_unread]) fun h => by rw [View.readAt_eq_ld, h11.read_unread])

/-- The biases the first grid step computes. -/
def biasOf9 (x0 : Vec Ideal S32x48 .f32) (x1 : Vec Ideal S128x256 .i32) : Vec Ideal S2x16x128x256 .f32 :=
  View.canon (biasPieces (fun h n => x0 (ix2 ⟨n % 32, Nat.mod_lt _ (by decide)⟩ ⟨16 + h.val, by omega⟩)) x1)

theorem scratch_pieces (hc : cond0_0 i) :
    (kernelRun0_A c i a2 h2 a3 h3 a4 h4 a5 h5 a6 h6 a7 h7 a8 h8 a9 h9 a10 h10 a11 h11 hc x0 x1 x2 x3 x4 x5 x6).2.2.1
      = biasPieces (fun h n => x0 (ix2 ⟨n % 32, Nat.mod_lt _ (by decide)⟩ ⟨16 + h.val, by omega⟩)) x1 := by
  rw [pieces0_A]
  congr 1
  · funext h n
    rw [View.readAt_eq_ld, h2.read_unread]
    refine View.ld_unit_apply_of x0 ![n % 32, 16 + h.val] S1x1.size (inb_tab n h) _ _ fun a => ?_
    match a with
    | ⟨0, _⟩ => rfl
    | ⟨1, _⟩ => rfl
  · rw [View.readAt_eq_ld, h3.read_unread]
    funext y
    refine View.ld_unit_apply_of x1 ![0, 0] S128x256.size _ y y fun a => ?_
    match a with
    | ⟨0, _⟩ => exact (Nat.zero_add _).symm
    | ⟨1, _⟩ => exact (Nat.zero_add _).symm

theorem sout_A (hc : cond0_0 i) :
    sout0_A_0 c i a2 h2 a3 h3 a4 h4 a5 h5 a6 h6 a7 h7 a8 h8 a9 h9 a10 h10 a11 h11 hc x0 x1 x2 x3 x4 x5 x6 = biasOf9 x0 x1 := by
  unfold sout0_A_0
  rw [View.read_writes_junk_eq_canon, scratch_pieces]
  rfl

theorem out_A_7 (hc : cond0_0 i) (h : Fin 16) (k : Fin 4) (r : Fin 256) (d : Fin 128) (l : Fin 2048) (hl : l.val = 128 * h.val + d.val) :
    out0_A_7 c i a2 h2 a3 h3 a4 h4 a5 h5 a6 h6 a7 h7 a8 h8 a9 h9 a10 h10 a11 h11 hc x0 x1 x2 x3 x4 x5 x6 (ix4 k 0 r l)
      = (headsOf (firstBias i) (biasOf9 x0 x1) x2 x3 x4 x5 x6 h).out (ix4 k 0 r d) := by
  unfold out0_A_7
  rw [View.read_writes_junk_eq_canon, pieces7_A, canon_pieces _ h k r d l hl, scratch_pieces]
  exact congrArg (fun H : Fin 16 → Head => (H h).out (ix4 k 0 r d)) (loads_eq i a4 h4 a5 h5 a6 h6 a7 h7 a8 h8 x2 x3 x4 x5 x6 (biasOf9 x0 x1) _ _
    (fun h => View.readCov_eq_canon' _ _ _) fun h => View.readCov_eq_canon' _ _ _)

theorem out_A_8 (hc : cond0_0 i) :
    out0_A_8 c i a2 h2 a3 h3 a4 h4 a5 h5 a6 h6 a7 h7 a8 h8 a9 h9 a10 h10 a11 h11 hc x0 x1 x2 x3 x4 x5 x6
      = statsOut (headsOf (firstBias i) (biasOf9 x0 x1) x2 x3 x4 x5 x6) := by
  unfold out0_A_8
  rw [View.read_writes_junk_eq_canon, pieces8_A, canon_stats, scratch_pieces]
  exact congrArg (statsOut) (loads_eq i a4 h4 a5 h5 a6 h6 a7 h7 a8 h8 x2 x3 x4 x5 x6 (biasOf9 x0 x1) _ _
    (fun h => View.readCov_eq_canon' _ _ _) fun h => View.readCov_eq_canon' _ _ _)

end Cert.Kernel9Ideal.MidElements

end
-- ==== Proof.AttOrder.lean ====
/-
  Two facts for the groups whose tiles the kernel holds in another order: the bucket of any distance of the band is one of
  the thirty-two, and a row's maximum and sums over its keys do not see the keys' order.
-/
module

public import proofs.«01_k».proof.Proof.AttLayer

@[expose] public section

noncomputable section

namespace Cert.AttSpec

open Idealize.ShloMosaic

/-! ### The buckets -/

theorem logOffset_real (v : Fin 2049) (h1 : 16 ≤ v.val) : ∃ y : ℝ, 0 ≤ y ∧ y < 2100 ∧ logOffset (BitVec.ofNat 32 v.val) = (y : EReal) := by
  obtain ⟨q, hq, hw⟩ := log128_word
  have hd : (IntOp.maxsi (BitVec.ofNat 32 v.val) 1#32).toInt = (v.val : ℤ) := by
    have : ∀ v : Fin 2049, 16 ≤ v.val → (IntOp.maxsi (BitVec.ofNat 32 v.val) 1#32).toInt = (v.val : ℤ) := by decide +kernel
    exact this v h1
  have hc : (16 : ℝ) ≤ v.val := by exact_mod_cast h1
  have hc2 : (v.val : ℝ) ≤ 2048 := by exact_mod_cast Nat.lt_succ_iff.mp v.isLt
  have hpos : (0 : ℝ) < v.val / 16 := by linarith
  have hlog : 0 ≤ Real.log (v.val / 16) := Real.log_nonneg (by linarith)
  have hlog2 : Real.log (v.val / 16) ≤ 127 := by
    have := Real.log_le_sub_one_of_pos hpos
    linarith
  have hqi : 0 < q⁻¹ := inv_pos.mpr (by linarith)
  have hqi1 : q⁻¹ ≤ 1 := inv_le_one_of_one_le₀ hq
  refine ⟨Real.log (v.val / 16) * q⁻¹ * 16, by positivity, ?_, ?_⟩
  · have := mul_le_mul hlog2 hqi1 hqi.le (by norm_num)
    linarith
  · unfold logOffset
    rw [sixteen_word, hw]
    have hs : (FloatOps.sitofp (F := Ideal) .f32 (IntOp.maxsi (BitVec.ofNat 32 v.val) 1#32) : EReal) = ((v.val : ℝ) : EReal) := by
      show (((IntOp.maxsi (BitVec.ofNat 32 v.val) 1#32).toInt : ℝ) : EReal) = _
      rw [hd]; push_cast; rfl
    have h4 : Ideal.div ((v.val : ℝ) : EReal) ((16 : ℝ) : EReal) = ((v.val / 16 : ℝ) : EReal) := by
      unfold Ideal.div
      rw [if_neg (by norm_cast), ← EReal.coe_inv, ← EReal.coe_mul]
      rfl
    have hl : Ideal.log ((v.val / 16 : ℝ) : EReal) = ((Real.log (v.val / 16) : ℝ) : EReal) := by
      show (if (v.val / 16 : ℝ) ≤ 0 then (⊥ : EReal) else _) = _
      rw [if_neg (by linarith)]
    rw [hs, h4, hl]
    unfold Ideal.div
    rw [if_neg (by norm_cast; linarith), ← EReal.coe_inv, ← EReal.coe_mul, ← EReal.coe_mul]

/-- A distance up to 2048 has one of the thirty-two buckets. -/
theorem t5_lt (v : Fin 2049) : ∃ n : Fin 32, t5 (BitVec.ofNat 32 v.val) = BitVec.ofNat 32 n.val := by
  unfold t5
  by_cases h0 : v.val < 16
  · have hcond : ∀ v : Fin 2049, v.val < 16 → IntOp.cmpi .slt (BitVec.ofNat 32 v.val) 16#32 = 1#1 := by decide +kernel
    rw [hcond v h0, ValueIdx.select_one]
    exact ⟨⟨v.val, by omega⟩, rfl⟩
  · obtain ⟨y, hy0, hy1, hy⟩ := logOffset_real v (by omega)
    have hcond : ∀ v : Fin 2049, ¬v.val < 16 → IntOp.cmpi .slt (BitVec.ofNat 32 v.val) 16#32 = 0#1 := by decide +kernel
    rw [hcond v h0, hy]
    have hf : 0 ≤ ⌊y⌋ := Int.floor_nonneg.mpr hy0
    have hf2 : ⌊y⌋ < 2100 := by
      have := Int.floor_le y
      exact_mod_cast lt_of_le_of_lt this hy1
    have hfp : Ideal.fptosi 32 (y : EReal) = BitVec.ofNat 32 ⌊y⌋.toNat := by
      unfold Ideal.fptosi
      rw [Ideal.toIntClamped_coe, if_pos hy0]
      apply BitVec.eq_of_toNat_eq
      simp only [BitVec.toNat_ofInt, BitVec.toNat_ofNat]
      norm_num
      omega
    rw [hfp]
    have hm : ∀ n : Fin 2100, IntOp.minsi (IntOp.addi 16#32 (BitVec.ofNat 32 n.val)) 31#32 = BitVec.ofNat 32 (min (16 + n.val) 31) := by decide +kernel
    exact ⟨⟨min (16 + ⌊y⌋.toNat) 31, by omega⟩, hm ⟨⌊y⌋.toNat, by omega⟩⟩

/-- The distance, clipped to the band, in positions of the undilated sequence. -/
def distBy (dilation r : BitVec 32) : BitVec 32 := IntOp.muli (IntOp.minsi 128#32 (IntOp.maxsi 0#32 r)) dilation

/-! ### The order of the keys -/

variable (e : Fin 256 ≃ Fin 256)

theorem top_order (s : Fin 256 → EReal) : top (fun j => s (e j)) = top s := by
  unfold top
  conv_rhs => rw [← Finset.map_univ_equiv e]
  rw [Finset.fold_map]
  rfl

theorem p_order (s : Fin 256 → EReal) (j : Fin 256) : p (fun j => s (e j)) j = p s (e j) := by
  unfold p
  rw [top_order]

theorem den_order (s : Fin 256 → EReal) : den (fun j => s (e j)) = den s := by
  unfold den
  rw [← Equiv.sum_comp e (p s)]
  exact Finset.sum_congr rfl fun j _ => p_order e s j

theorem num_order (s v : Fin 256 → EReal) : num (fun j => s (e j)) (fun j => v (e j)) = num s v := by
  unfold num
  rw [← Equiv.sum_comp e fun j => v j * p s j]
  exact Finset.sum_congr rfl fun j _ => congrArg _ (p_order e s j)

end Cert.AttSpec

end
-- ==== Proof.MidLayer.lean ====
/-
  The middle group's attention, as a function of the caller's arrays: residue `r` of the four, tile `n` of 128 positions,
  head `h`, query `i` of the tile, key `j` of the tile before and the tile itself. The kernel holds a tile's positions in
  another order; the row's maximum and sums do not see it.
-/
module

public import proofs.«01_k».proof.Proof.AttOrder

@[expose] public section

noncomputable section

namespace Cert.MidSpec

open Idealize.ShloMosaic
open Cert.AttSpec (rel banded t5 L scale num den top)

/-! ### The buckets -/

def dist (r : BitVec 32) : BitVec 32 := AttSpec.distBy 4#32 r

def bucket (i : Fin 128) (j : Fin 256) : BitVec 32 := t5 (dist (rel i j))

theorem band_cases : ∀ z : Fin 512, banded (BitVec.ofInt 32 ((z.val : ℤ) - 255)) = 1#1 →
    ∃ c : Fin 2049, dist (BitVec.ofInt 32 ((z.val : ℤ) - 255)) = BitVec.ofNat 32 c.val := by
  have h : ∀ z : Fin 512, banded (BitVec.ofInt 32 ((z.val : ℤ) - 255)) = 1#1 →
      ∃ c : Fin 129, dist (BitVec.ofInt 32 ((z.val : ℤ) - 255)) = BitVec.ofNat 32 (4 * c.val) := by decide +kernel
  intro z hz
  obtain ⟨c, hc⟩ := h z hz
  exact ⟨⟨4 * c.val, by omega⟩, hc⟩

/-- In the band the bucket is below 32. -/
theorem bucket_lt (i : Fin 128) (j : Fin 256) (hb : banded (rel i j) = 1#1) :
    ∃ n : Fin 32, bucket i j = BitVec.ofNat 32 n.val := by
  obtain ⟨z, hz⟩ := AttSpec.rel_cases i j
  unfold bucket
  rw [hz] at hb ⊢
  obtain ⟨c, hc⟩ := band_cases z hb
  rw [hc]
  exact AttSpec.t5_lt c

/-! ### The layer -/

/-- Position `p` of residue `r` is row `4 p + r`. -/
abbrev at4 (r : Fin 4) (p : Fin 4096) : Fin 16384 := ⟨4 * p + r, by omega⟩

/-- The key at column `j` of tile `n`'s two tiles. -/
abbrev keyPos (n : Fin 32) (j : Fin 256) : Fin 4096 := ⟨128 * n + j - 128, by omega⟩
abbrev queryPos (n : Fin 32) (i : Fin 128) : Fin 4096 := ⟨128 * n + i, by omega⟩

abbrev qCol (h : Fin 16) (d : Fin 128) : Fin 6144 := ⟨2048 + (128 * h + d), by omega⟩
abbrev kCol (h : Fin 16) (d : Fin 128) : Fin 12288 := ⟨2048 + (128 * h + d), by omega⟩
abbrev vCol (h : Fin 16) (d : Fin 128) : Fin 12288 := ⟨8192 + (128 * h + d), by omega⟩

/-- Whether the query attends to the key: in the band, and not before the sequence. -/
abbrev seen (n : Fin 32) (i : Fin 128) (j : Fin 256) : Prop := banded (rel i j) = 1#1 ∧ (n ≠ 0 ∨ 128 ≤ j.val)

variable (q : Fin 16384 → Fin 6144 → EReal) (kv : Fin 16384 → Fin 12288 → EReal) (tab : Fin 32 → Fin 48 → EReal)

def biasAt (h : Fin 16) (i : Fin 128) (j : Fin 256) : EReal := tab ⟨(bucket i j).toNat % 32, Nat.mod_lt _ (by decide)⟩ ⟨16 + h, by omega⟩

def dotAt (r : Fin 4) (n : Fin 32) (h : Fin 16) (i : Fin 128) (j : Fin 256) : EReal :=
  ∑ k : Fin 128, q (at4 r (queryPos n i)) (qCol h k) * kv (at4 r (keyPos n j)) (kCol h k)

def scoreAt (r : Fin 4) (n : Fin 32) (h : Fin 16) (i : Fin 128) (j : Fin 256) : EReal :=
  if seen n i j then dotAt q kv r n h i j * scale + biasAt tab h i j else ⊥

/-- The unnormalised output. -/
def outAt (r : Fin 4) (n : Fin 32) (h : Fin 16) (i d : Fin 128) : EReal :=
  num (scoreAt q kv tab r n h i) fun j => kv (at4 r (keyPos n j)) (vCol h d)

/-- The statistics: the heads' maxima in units of the logarithm of two, the heads' denominators, zeros. -/
def statAt (r : Fin 4) (n : Fin 32) (i l : Fin 128) : EReal :=
  if l.val < 16 then L * top (scoreAt q kv tab r n ⟨l.val % 16, Nat.mod_lt _ (by decide)⟩ i)
  else if l.val < 32 then den (scoreAt q kv tab r n ⟨l.val % 16, Nat.mod_lt _ (by decide)⟩ i) else 0

/-! ### The order of a tile -/

/-- Row `i` of the kernel's tile is position `off i`: four classes of 32 rows, interleaved. -/
abbrev off (i : Fin 128) : Fin 128 := ⟨(i.val % 32) * 4 + i.val / 32, by omega⟩

def interleave (j : Fin 256) : Fin 256 := ⟨128 * (j.val / 128) + ((j.val % 32) * 4 + j.val % 128 / 32), by omega⟩
def gathered (u : Fin 256) : Fin 256 := ⟨128 * (u.val / 128) + ((u.val % 4) * 32 + u.val % 128 / 4), by omega⟩

theorem gathered_interleave : ∀ j : Fin 256, gathered (interleave j) = j := by decide +kernel
theorem interleave_gathered : ∀ u : Fin 256, interleave (gathered u) = u := by decide +kernel

/-- The same of two tiles. -/
def two : Fin 256 ≃ Fin 256 := ⟨interleave, gathered, gathered_interleave, interleave_gathered⟩

theorem two_val (j : Fin 256) : (two j).val = 128 * (j.val / 128) + ((j.val % 32) * 4 + j.val % 128 / 32) := rfl

end Cert.MidSpec

end
-- ==== Proof.MidHost.lean ====
/-
  What the host hands the middle group's attention kernel: the scaled queries and the keys and values in residue-major order of sixteen
  classes, and the relative-position bucket of every pair of positions of two tiles.
-/
module

public import proofs.«01_k».proof.Proof.Gen.Kernel9Ideal.Value
public import proofs.«01_k».proof.Proof.MidLayer
public import proofs.«01_k».proof.Proof.IdxExt

@[expose] public section

set_option maxRecDepth 16384

noncomputable section

namespace Cert.Kernel9Ideal.MidHost

open Cert.Kernel9Ideal Cert.Kernel9Ideal.Gen Cert.Kernel9Ideal.Value Idealize.ShloMosaic Idealize.ShloMosaic.TcCoe
open Cert.MidSpec
open Cert.AttSpec (scale rel banded t5 logOffset)

variable (m : (ℓ : Loc nD τ sig) → Buf (Elt Ideal) ℓ) (c : Dev nD)

/-! ### The arrays -/

/-- The queries, residue by residue, scaled. -/
def hostQ (x : Vec Ideal S16384x6144 .f32) : Vec Ideal S4x4x1024x6144 .bf16 :=
  shapeCast S4x4x1024x6144 (truncf (F := Ideal) .bf16 (Host.divf (F := Ideal) (φ := .f32)
    (mulf (F := Ideal) (φ := .f32) (shapeCast S16384x6144 (transpose S16x1024x6144 [1, 0, 2] (shapeCast S1024x16x6144 x shapeCasts_S16384x6144_S1024x16x6144)
        transposes_S1024x16x6144_S16x1024x6144_1_0_2) shapeCasts_S16x1024x6144_S16384x6144)
      (broadcastInDim S16384x6144 ![] bcast_S_S16384x6144 (constant (F := Ideal) S_ .f32 0x3DB504F3#32)))
    (broadcastInDim S16384x6144 ![] bcast_S_S16384x6144 (Host.log (F := Ideal) (φ := .f32) (constant (F := Ideal) S_ .f32 0x40000000#32)))) bitsLt_bf16_f32) shapeCasts_S16384x6144_S4x4x1024x6144

/-- The keys and values, residue by residue. -/
def hostKV (x : Vec Ideal S16384x12288 .f32) : Vec Ideal S4x4x1024x12288 .bf16 :=
  shapeCast S4x4x1024x12288 (truncf (F := Ideal) .bf16 (shapeCast S16384x12288 (transpose S16x1024x12288 [1, 0, 2]
    (shapeCast S1024x16x12288 x shapeCasts_S16384x12288_S1024x16x12288) transposes_S1024x16x12288_S16x1024x12288_1_0_2)
    shapeCasts_S16x1024x12288_S16384x12288) bitsLt_bf16_f32) shapeCasts_S16384x12288_S4x4x1024x12288

theorem host_q : V m c main_v56 = hostQ (m (c.tc.loc main_arg0)) := by sl_kernel_rfl
theorem host_kp : V m c main_v57 = hostKV (m (c.tc.loc main_arg1)) := by sl_kernel_rfl
theorem host_kc : V m c main_v58 = hostKV (m (c.tc.loc main_arg1)) := by sl_kernel_rfl
theorem host_vp : V m c main_v59 = hostKV (m (c.tc.loc main_arg1)) := by sl_kernel_rfl
theorem host_vc : V m c main_v60 = hostKV (m (c.tc.loc main_arg1)) := by sl_kernel_rfl

/-- Row `p` of class `k` of residue `r` is position `4 p + k` of the residue. -/
theorem hostKV_apply (x : Vec Ideal S16384x12288 .f32) (k r : Fin 4) (p : Fin 1024) (u : Fin 4096) (hu : u.val = 4 * p.val + k.val) (l : Fin 12288) :
    hostKV x (ix4 k r p l) = x (ix2 (at4 r u) l) := by
  pointwise [hostKV]
  exact congrArg (fun s => x (ix2 s l)) (Fin.ext (by show p.val * 16 + (k.val * 4096 + r.val * 1024 + p.val) / 1024 = 4 * u.val + r.val; omega))

theorem hostQ_apply (x : Vec Ideal S16384x6144 .f32) (k r : Fin 4) (p : Fin 1024) (u : Fin 4096) (hu : u.val = 4 * p.val + k.val) (l : Fin 6144) :
    hostQ x (ix4 k r p l) = Ideal.div (x (ix2 (at4 r u) l) * scale) (Ideal.log (Ideal.ofBits .f32 0x40000000#32)) := by
  pointwise [hostQ]
  exact congrArg (fun s => Ideal.div (x (ix2 s l) * scale) _) (Fin.ext (by show p.val * 16 + (k.val * 4096 + r.val * 1024 + p.val) / 1024 = 4 * u.val + r.val; omega))

/-! ### The buckets -/

/-- One number for every position of a tile. -/
abbrev tile32 (w : Vec Ideal S_ .i32) : Vec Ideal S128 .i32 := broadcastInDim S128 ![] bcast_S_S128 w
abbrev tile1 (w : Vec Ideal S_ .i1) : Vec Ideal S128 .i1 := broadcastInDim S128 ![] bcast_S_S128 w
abbrev pair32 (w : Vec Ideal S_ .i32) : Vec Ideal S128x256 .i32 := broadcastInDim S128x256 ![] bcast_S_S128x256 w
abbrev pairF (w : BitVec 32) : FVec Ideal S128x256 .f32 := broadcastInDim S128x256 ![] bcast_S_S128x256 (constant (F := Ideal) S_ .f32 w)

/-- The remainder with the divisor's sign. -/
def pyRem (x : Vec Ideal S128 .i32) (y : Vec Ideal S_ .i32) : Vec Ideal S128 .i32 :=
  let d : Vec Ideal S_ .i32 := select (cmpi .eq y (constantI S_ 32 0#32)) (constantI S_ 32 1#32) y
  let r := Host.remsi x (tile32 d)
  select (andi (cmpi .ne (cmpi .slt r (tile32 (constantI S_ 32 0#32))) (tile1 (cmpi .slt d (constantI S_ 32 0#32))))
    (cmpi .ne r (tile32 (constantI S_ 32 0#32)))) (addi r (tile32 d)) r

/-- The quotient rounded down. -/
def pyDiv (x : Vec Ideal S128 .i32) (y : Vec Ideal S_ .i32) : Vec Ideal S128 .i32 :=
  let q := Host.divsi x (tile32 y)
  select (andi (cmpi .ne (signi x) (tile32 (signi y))) (cmpi .ne (Host.remsi x (tile32 y)) (tile32 (constantI S_ 32 0#32))))
    (subi q (tile32 (constantI S_ 32 1#32))) q

/-- A tile row's place in the sequence's tile, by the number of rows of a class and of classes. -/
def hostOff (rows classes : BitVec 32) : Vec Ideal S128 .i32 :=
  addi (muli (pyRem (iotaInDim S128 32 0) (constantI S_ 32 rows)) (tile32 (constantI S_ 32 classes))) (pyDiv (iotaInDim S128 32 0) (constantI S_ 32 rows))

def hostRel (o : Vec Ideal S128 .i32) : Vec Ideal S128x256 .i32 :=
  subi (broadcastInDim S128x256 ![0, 1] bcast_S128x1_S128x256_0_1 (addi (broadcastInDim S128x1 ![0] bcast_S128_S128x1_0 o)
      (broadcastInDim S128x1 ![] bcast_S_S128x1 (constantI S_ 32 128#32))))
    (broadcastInDim S128x256 ![0, 1] bcast_S1x256_S128x256_0_1 (broadcastInDim S1x256 ![1] bcast_S256_S1x256_1
      (concatenate S256 0 [⟨S128, o⟩, ⟨S128, addi o (tile32 (constantI S_ 32 128#32))⟩] concatenates_S128_S128_S256_d0)))

def hostT5 (d : Vec Ideal S128x256 .i32) : Vec Ideal S128x256 .i32 :=
  select (cmpi .slt d (pair32 (constantI S_ 32 16#32))) d
    (minsi (addi (pair32 (constantI S_ 32 16#32)) (fptosi (F := Ideal) 32 (mulf (F := Ideal) (φ := .f32) (Host.divf (F := Ideal) (Host.log (F := Ideal) (Host.divf (F := Ideal)
      (sitofp (F := Ideal) .f32 (maxsi d (pair32 (constantI S_ 32 1#32)))) (pairF 0x41800000#32))) (pairF 0x409B43D5#32)) (pairF 0x41800000#32)))) (pair32 (constantI S_ 32 31#32)))

def hostBucket (dilation : BitVec 32) (r : Vec Ideal S128x256 .i32) : Vec Ideal S128x256 .i32 :=
  select (andi (cmpi .sge r (pair32 (constantI S_ 32 0#32))) (cmpi .sle r (pair32 (constantI S_ 32 128#32))))
    (hostT5 (muli (minsi (pair32 (constantI S_ 32 128#32)) (maxsi (pair32 (constantI S_ 32 0#32)) r)) (pair32 (constantI S_ 32 dilation))))
    (pair32 (constantI S_ 32 4294967295#32))

theorem host_bucket : V m c main_v55 = hostBucket 4#32 (hostRel (hostOff 32#32 4#32)) := by sl_kernel_rfl

theorem off_apply : ∀ i : Fin 128, hostOff 32#32 4#32 (ix1 i) = BitVec.ofNat 32 (off i).val := by decide +kernel

theorem two_low (j : Fin 256) (h : j.val < 128) : (two j).val = (off ⟨j.val, h⟩).val := by
  rw [two_val]
  show 128 * (j.val / 128) + (j.val % 32 * 4 + j.val % 128 / 32) = j.val % 32 * 4 + j.val / 32
  omega

theorem two_high (j : Fin 256) (h : ¬j.val < 128) : (two j).val = (off ⟨j.val - 128, by omega⟩).val + 128 := by
  rw [two_val]
  show 128 * (j.val / 128) + (j.val % 32 * 4 + j.val % 128 / 32) = (j.val - 128) % 32 * 4 + (j.val - 128) / 32 + 128
  omega

/-- The relative positions of two tiles whose rows stand in the order `o`, the keys in the order `e`. -/
theorem rel_of_order (f : Vec Ideal S128 .i32) (o : Fin 128 → Fin 128) (e : Fin 256 → Fin 256) (h : ∀ i : Fin 128, f (ix1 i) = BitVec.ofNat 32 (o i).val)
    (hl : ∀ (j : Fin 256) (h : j.val < 128), (e j).val = (o ⟨j.val, h⟩).val)
    (hr : ∀ (j : Fin 256) (h : ¬j.val < 128), (e j).val = (o ⟨j.val - 128, by omega⟩).val + 128) (i : Fin 128) (j : Fin 256) :
    hostRel f (ix2 i j) = rel (o i) (e j) := by
  pointwise [hostRel]
  unfold rel
  simp only [h]
  refine congrArg (IntOp.subi _) ?_
  split_ifs with hj
  · exact congrArg (BitVec.ofNat 32) (hl j hj).symm
  · rw [IntOp.addi, ← BitVec.ofNat_add]
    exact congrArg (BitVec.ofNat 32) (hr j hj).symm
  · rename_i h0
    exact absurd rfl h0

theorem rel_apply (i : Fin 128) (j : Fin 256) : hostRel (hostOff 32#32 4#32) (ix2 i j) = rel (off i) (two j) :=
  rel_of_order _ off two off_apply two_low two_high i j

theorem bucket_of_rel (dilation : BitVec 32) (r : Vec Ideal S128x256 .i32) (i : Fin 128) (j : Fin 256) :
    hostBucket dilation r (ix2 i j) = Scalar.select (banded (r (ix2 i j))) (t5 (AttSpec.distBy dilation (r (ix2 i j)))) 4294967295#32 := by
  pointwise [hostBucket, hostT5, banded, t5, AttSpec.distBy, logOffset]
  rfl

end Cert.Kernel9Ideal.MidHost

end
-- ==== Proof.MidFold.lean ====
/-
  The middle group's result arrays, at an index: the first of the sixteen points leaves the biases in the scratch, and
  every point computes eight tiles of one residue's sixteen heads.
-/
module

public import proofs.«01_k».proof.Proof.MidElements
public import proofs.«01_k».proof.Proof.MidHost

@[expose] public section

set_option maxRecDepth 16384

noncomputable section

namespace Cert.Kernel9Ideal.MidFold

open Cert.Kernel9Ideal Cert.Kernel9Ideal.Gen Cert.Kernel9Ideal.Value Cert.Kernel9Ideal.MidBody Cert.Kernel9Ideal.MidElements Cert.Kernel9Ideal.MidHost
open Idealize.ShloMosaic Idealize.ShloMosaic.TcCoe
open Cert.Kernel6Ideal.AttBody (colMax biasOf bias0 bias1 rectBias inb_bias)
open Cert.Kernel6Ideal.AttElements (pick score_apply numTile_apply denTile_apply colMax_apply bias_apply bias0_apply bias1_apply canon_biasPieces)
open Cert.AttSpec (top rel banded)
open Cert.MidSpec (at4 keyPos queryPos qCol kCol vCol seen biasAt dotAt scoreAt outAt statAt bucket off two)

variable (m : (ℓ : Loc nD τ sig) → Buf (Elt Ideal) ℓ) (c : Dev nD)

def aQ (s : Fin 16384) (l : Fin 6144) : EReal := m ((c : Thread nD τ).loc main_arg0) (ix2 s l)
def aKV (s : Fin 16384) (l : Fin 12288) : EReal := m ((c : Thread nD τ).loc main_arg1) (ix2 s l)
def aT (a : Fin 32) (b : Fin 48) : EReal := m ((c : Thread nD τ).loc main_arg2) (ix2 a b)

/-! ### The blocks -/

theorem idx_blocks : ∀ t : Fin cfg0.N,
    (win0_2.index t (0 : Fin 4) = 0 ∧ win0_2.index t (1 : Fin 4) = t.val / 4 ∧ win0_2.index t (2 : Fin 4) = t.val % 4 ∧ win0_2.index t (3 : Fin 4) = 1)
    ∧ (win0_3.index t (0 : Fin 4) = 0 ∧ win0_3.index t (1 : Fin 4) = t.val / 4 ∧ win0_3.index t (2 : Fin 4) = t.val % 4 * 8 - 1 ∧ win0_3.index t (3 : Fin 4) = 1)
    ∧ (win0_4.index t (0 : Fin 4) = 0 ∧ win0_4.index t (1 : Fin 4) = t.val / 4 ∧ win0_4.index t (2 : Fin 4) = t.val % 4 ∧ win0_4.index t (3 : Fin 4) = 1)
    ∧ (win0_5.index t (0 : Fin 4) = 0 ∧ win0_5.index t (1 : Fin 4) = t.val / 4 ∧ win0_5.index t (2 : Fin 4) = t.val % 4 * 8 - 1 ∧ win0_5.index t (3 : Fin 4) = 4)
    ∧ (win0_6.index t (0 : Fin 4) = 0 ∧ win0_6.index t (1 : Fin 4) = t.val / 4 ∧ win0_6.index t (2 : Fin 4) = t.val % 4 ∧ win0_6.index t (3 : Fin 4) = 4) :=
  (by decide +kernel : ∀ t : Fin grid0.N, _)

theorem idx_whole : ∀ t : Fin cfg0.N,
    (win0_0.index t (0 : Fin 2) = 0 ∧ win0_0.index t (1 : Fin 2) = 0) ∧ (win0_1.index t (0 : Fin 2) = 0 ∧ win0_1.index t (1 : Fin 2) = 0) :=
  (by decide +kernel : ∀ t : Fin grid0.N, _)

theorem point_lt (t : Fin cfg0.N) : t.val < 16 := lt_of_lt_of_eq t.isLt N_0

/-- A grid point's residue, and its tile `n`. -/
abbrev res (t : Fin cfg0.N) : Fin 4 := ⟨t.val / 4, by have := point_lt t; omega⟩
abbrev tileOf (t : Fin cfg0.N) (n : Fin 8) : Fin 32 := ⟨8 * (t.val % 4) + n.val, by omega⟩

theorem firstBias_eq : ∀ t : Fin cfg0.N, firstBias (grid0.coords t) = if t.val % 4 = 0 then 1 else 0 :=
  (by decide +kernel : ∀ t : Fin grid0.N, _)

/-- A block's index in its array. -/
theorem block_emb {K D R C B W : ℕ} {y z : (⟨4, ![K, D, R, C]⟩ : Shape).Idx} {i0 i1 i2 i3 k r b p l g : ℕ} (h0 : i0 = 0) (h1 : i1 = r) (h2 : i2 = b) (h3 : i3 = g)
    (hy : (y 0).val = i0 * K + 1 * k ∧ (y 1).val = i1 * 1 + 1 * 0 ∧ (y 2).val = i2 * B + 1 * p ∧ (y 3).val = i3 * W + 1 * l)
    (hz : (z 0).val = k ∧ (z 1).val = r ∧ (z 2).val = b * B + p ∧ (z 3).val = g * W + l) : y = z := by
  subst h0 h1 h2 h3
  funext i
  apply Fin.ext
  match i with
  | ⟨0, _⟩ => exact hy.1.trans (Eq.trans (by rw [Nat.zero_mul]; omega) hz.1.symm)
  | ⟨1, _⟩ => exact hy.2.1.trans (Eq.trans (by omega) hz.2.1.symm)
  | ⟨2, _⟩ => exact hy.2.2.1.trans (Eq.trans (by omega) hz.2.2.1.symm)
  | ⟨3, _⟩ => exact hy.2.2.2.trans (Eq.trans (by omega) hz.2.2.2.symm)

theorem row_lt (t : Fin cfg0.N) (p : Fin 256) : t.val % 4 * 256 + p.val < 1024 := by omega
theorem before_lt (t : Fin cfg0.N) (p : Fin 32) : (t.val % 4 * 8 - 1) * 32 + p.val < 1024 := by omega

theorem blk2 (t : Fin cfg0.N) (k : Fin 4) (p : Fin 256) (l : Fin 2048) (u : Fin 4096) (hu : u.val = 4 * (t.val % 4 * 256 + p.val) + k.val) :
    iblk m c 2 t (ix4 k 0 p l) = Ideal.div (aQ m c (at4 (res t) u) ⟨1 * 2048 + l, by omega⟩ * AttSpec.scale) (Ideal.log (Ideal.ofBits .f32 0x40000000#32)) := by
  obtain ⟨⟨e0, e1, e2, e3⟩, -⟩ := idx_blocks t
  unfold iblk
  rw [View.read_apply]
  refine Eq.trans ?_ (hostQ_apply (m (c.tc.loc main_arg0)) k (res t) ⟨t.val % 4 * 256 + p.val, row_lt t p⟩ u hu ⟨1 * 2048 + l, by omega⟩)
  show V m c main_v56 _ = _
  rw [host_q]
  exact congrArg _ (block_emb e0 e1 e2 e3 ⟨rfl, rfl, rfl, rfl⟩ ⟨rfl, rfl, rfl, rfl⟩)

theorem blk3 (t : Fin cfg0.N) (k : Fin 4) (p : Fin 32) (l : Fin 2048) (u : Fin 4096) (hu : u.val = 4 * ((t.val % 4 * 8 - 1) * 32 + p.val) + k.val) :
    iblk m c 3 t (ix4 k 0 p l) = aKV m c (at4 (res t) u) ⟨1 * 2048 + l, by omega⟩ := by
  obtain ⟨-, ⟨e0, e1, e2, e3⟩, -⟩ := idx_blocks t
  unfold iblk
  rw [View.read_apply]
  refine Eq.trans ?_ (hostKV_apply (m (c.tc.loc main_arg1)) k (res t) ⟨(t.val % 4 * 8 - 1) * 32 + p.val, before_lt t p⟩ u hu ⟨1 * 2048 + l, by omega⟩)
  show V m c main_v57 _ = _
  rw [host_kp]
  exact congrArg _ (block_emb e0 e1 e2 e3 ⟨rfl, rfl, rfl, rfl⟩ ⟨rfl, rfl, rfl, rfl⟩)

theorem blk4 (t : Fin cfg0.N) (k : Fin 4) (p : Fin 256) (l : Fin 2048) (u : Fin 4096) (hu : u.val = 4 * (t.val % 4 * 256 + p.val) + k.val) :
    iblk m c 4 t (ix4 k 0 p l) = aKV m c (at4 (res t) u) ⟨1 * 2048 + l, by omega⟩ := by
  obtain ⟨-, -, ⟨e0, e1, e2, e3⟩, -⟩ := idx_blocks t
  unfold iblk
  rw [View.read_apply]
  refine Eq.trans ?_ (hostKV_apply (m (c.tc.loc main_arg1)) k (res t) ⟨t.val % 4 * 256 + p.val, row_lt t p⟩ u hu ⟨1 * 2048 + l, by omega⟩)
  show V m c main_v58 _ = _
  rw [host_kc]
  exact congrArg _ (block_emb e0 e1 e2 e3 ⟨rfl, rfl, rfl, rfl⟩ ⟨rfl, rfl, rfl, rfl⟩)

theorem blk5 (t : Fin cfg0.N) (k : Fin 4) (p : Fin 32) (l : Fin 2048) (u : Fin 4096) (hu : u.val = 4 * ((t.val % 4 * 8 - 1) * 32 + p.val) + k.val) :
    iblk m c 5 t (ix4 k 0 p l) = aKV m c (at4 (res t) u) ⟨4 * 2048 + l, by omega⟩ := by
  obtain ⟨-, -, -, ⟨e0, e1, e2, e3⟩, -⟩ := idx_blocks t
  unfold iblk
  rw [View.read_apply]
  refine Eq.trans ?_ (hostKV_apply (m (c.tc.loc main_arg1)) k (res t) ⟨(t.val % 4 * 8 - 1) * 32 + p.val, before_lt t p⟩ u hu ⟨4 * 2048 + l, by omega⟩)
  show V m c main_v59 _ = _
  rw [host_vp]
  exact congrArg _ (block_emb e0 e1 e2 e3 ⟨rfl, rfl, rfl, rfl⟩ ⟨rfl, rfl, rfl, rfl⟩)

theorem blk6 (t : Fin cfg0.N) (k : Fin 4) (p : Fin 256) (l : Fin 2048) (u : Fin 4096) (hu : u.val = 4 * (t.val % 4 * 256 + p.val) + k.val) :
    iblk m c 6 t (ix4 k 0 p l) = aKV m c (at4 (res t) u) ⟨4 * 2048 + l, by omega⟩ := by
  obtain ⟨-, -, -, -, ⟨e0, e1, e2, e3⟩⟩ := idx_blocks t
  unfold iblk
  rw [View.read_apply]
  refine Eq.trans ?_ (hostKV_apply (m (c.tc.loc main_arg1)) k (res t) ⟨t.val % 4 * 256 + p.val, row_lt t p⟩ u hu ⟨4 * 2048 + l, by omega⟩)
  show V m c main_v60 _ = _
  rw [host_vc]
  exact congrArg _ (block_emb e0 e1 e2 e3 ⟨rfl, rfl, rfl, rfl⟩ ⟨rfl, rfl, rfl, rfl⟩)

theorem blk0 (t : Fin cfg0.N) (a : Fin 32) (b : Fin 48) : iblk m c 0 t (ix2 a b) = aT m c a b := by
  obtain ⟨⟨e0, e1⟩, -⟩ := idx_whole t
  unfold iblk aT
  rw [View.read_apply]
  show V m c main_arg2 _ = _
  rw [V_main_arg2]
  congr 1
  funext x
  apply Fin.ext
  match x with
  | ⟨0, _⟩ => show win0_0.index t 0 * 32 + 1 * a.val = a.val; rw [e0]; omega
  | ⟨1, _⟩ => show win0_0.index t 1 * 48 + 1 * b.val = b.val; rw [e1]; omega

theorem blk1 (t : Fin cfg0.N) (i : Fin 128) (j : Fin 256) :
    iblk m c 1 t (ix2 i j) = Scalar.select (banded (rel (off i) (two j))) (bucket (off i) (two j)) 4294967295#32 := by
  obtain ⟨-, ⟨e0, e1⟩⟩ := idx_whole t
  unfold iblk bucket
  rw [View.read_apply, ← rel_apply i j]
  refine Eq.trans ?_ (bucket_of_rel 4#32 (hostRel (hostOff 32#32 4#32)) i j)
  show V m c main_v55 _ = _
  rw [host_bucket]
  congr 1
  funext x
  apply Fin.ext
  match x with
  | ⟨0, _⟩ => show win0_1.index t 0 * 128 + 1 * i.val = i.val; rw [e0]; omega
  | ⟨1, _⟩ => show win0_1.index t 1 * 256 + 1 * j.val = j.val; rw [e1]; omega

/-! ### The biases -/

/-- What the scratch holds: in the band the table's entry, scaled; elsewhere, and before the sequence for the first
    tile, nothing. -/
def IsBias (B : Vec Ideal S2x16x128x256 .f32) : Prop := ∀ (k : Fin 2) (h : Fin 16) (i : Fin 128) (j : Fin 256),
  B (ix4 k h i j) = if banded (rel (off i) (two j)) = 1#1 ∧ (k = 0 ∨ 128 ≤ j.val) then biasAt (aT m c) h (off i) (two j) * AttSpec.L else (⊥ : EReal)

theorem isBias (t : Fin cfg0.N) : IsBias m c (biasOf9 (iblk m c 0 t) (iblk m c 1 t)) := by
  intro k h i j
  have h0 : ∀ tab : ℕ → EReal, (∀ n, tab n = aT m c ⟨n % 32, Nat.mod_lt _ (by decide)⟩ ⟨16 + h.val, by omega⟩) →
      bias0 tab (iblk m c 1 t) (ix2 i j) = if banded (rel (off i) (two j)) = 1#1 then biasAt (aT m c) h (off i) (two j) * AttSpec.L else (⊥ : EReal) := by
    intro tab ht
    rw [bias0_apply, blk1]
    by_cases hb : banded (rel (off i) (two j)) = 1#1
    · obtain ⟨n, hn⟩ := MidSpec.bucket_lt (off i) (two j) hb
      rw [hb, ValueIdx.select_one, if_pos rfl, ht, if_pos]
      · rfl
      · rw [hn, BitVec.toNat_ofNat]
        have := n.isLt
        omega
    · have hz : banded (rel (off i) (two j)) = 0#1 := by
        rcases (by decide : ∀ b : BitVec 1, b = 0#1 ∨ b = 1#1) (banded (rel (off i) (two j))) with h | h
        · exact h
        · exact absurd h hb
      rw [hz, ValueIdx.select_zero, if_neg (by decide), if_neg (by decide)]
  unfold biasOf9
  rw [canon_biasPieces]
  have hk : k = 0 ∨ k = 1 := by omega
  rcases hk with rfl | rfl
  · rw [if_neg (by decide), h0 _ (fun n => blk0 m c t _ _)]
    simp
  · show bias1 _ _ (ix2 i j) = _
    rw [bias1_apply, h0 _ (fun n => blk0 m c t _ _)]
    by_cases hj : j.val < 128
    · rw [if_pos hj, if_neg]
      rintro ⟨-, h | h⟩
      · exact absurd h (by decide)
      · omega
    · rw [if_neg hj]
      have : 128 ≤ j.val := by omega
      simp [this]

/-! ### One head of one point -/

variable (B : Vec Ideal S2x16x128x256 .f32)

/-- The heads of point `t`, over a scratch. -/
abbrev headsAt (t : Fin cfg0.N) : Fin 16 → Head :=
  headsOf (firstBias (grid0.coords t)) B (iblk m c 2 t) (iblk m c 3 t) (iblk m c 4 t) (iblk m c 5 t) (iblk m c 6 t)

theorem wide_ld (X : Vec Ideal S4x1x256x2048 .bf16) (h : Fin 16) (k : Fin 4) (p : Fin 256) (d : Fin 128) :
    View.ld X (rectWide h) (ix4 k 0 p d) = X (ix4 k 0 p ⟨128 * h + d, by omega⟩) := by
  refine View.ld_unit_apply_of X _ S4x1x256x128.size (inb_wide h) (ix4 k 0 p d) _ fun a => ?_
  match a with
  | ⟨0, _⟩ => exact (Nat.zero_add _).symm
  | ⟨1, _⟩ => rfl
  | ⟨2, _⟩ => exact (Nat.zero_add _).symm
  | ⟨3, _⟩ => rfl

theorem before_ld (X : Vec Ideal S4x1x32x2048 .bf16) (h : Fin 16) (k : Fin 4) (p : Fin 32) (d : Fin 128) :
    View.ld X (rectBefore h) (ix4 k 0 p d) = X (ix4 k 0 p ⟨128 * h + d, by omega⟩) := by
  refine View.ld_unit_apply_of X _ S4x1x32x128.size (inb_before h) (ix4 k 0 p d) _ fun a => ?_
  match a with
  | ⟨0, _⟩ => exact (Nat.zero_add _).symm
  | ⟨1, _⟩ => rfl
  | ⟨2, _⟩ => exact (Nat.zero_add _).symm
  | ⟨3, _⟩ => rfl

theorem bias_ld (k : Fin 2) (h : Fin 16) (i : Fin 128) (j : Fin 256) : View.ld B (rectBias k h) (ix4 0 0 i j) = B (ix4 k h i j) := by
  refine View.ld_unit_apply_of B _ S1x1x128x256.size (inb_bias k h) (ix4 0 0 i j) _ fun a => ?_
  match a with
  | ⟨0, _⟩ => rfl
  | ⟨1, _⟩ => rfl
  | ⟨2, _⟩ => exact (Nat.zero_add _).symm
  | ⟨3, _⟩ => exact (Nat.zero_add _).symm

/-- A seen key's row, of the tile before or the tile itself. -/
theorem pick_key (F : Fin 4096 → EReal) (p : Vec Ideal S4x1x32x128 .bf16) (x : Vec Ideal S4x1x256x128 .bf16) (t : Fin cfg0.N) (n : Fin 8) (j : Fin 256) (d : Fin 128)
    (hx : ∀ (k : Fin 4) (q : Fin 256) (u : Fin 4096), u.val = 4 * (t.val % 4 * 256 + q.val) + k.val → x (ix4 k 0 q d) = F u)
    (hp : ∀ (k : Fin 4) (q : Fin 32) (u : Fin 4096), u.val = 4 * ((t.val % 4 * 8 - 1) * 32 + q.val) + k.val → p (ix4 k 0 q d) = F u)
    (hj : tileOf t n ≠ 0 ∨ 128 ≤ (two j).val) :
    pick (prev p x n) (tile x n) j d = F (keyPos (tileOf t n) (two j)) := by
  unfold pick
  by_cases h : j.val < 128
  · rw [dif_pos h]
    have e : (two j).val = j.val % 32 * 4 + j.val / 32 := two_low j h
    have hT : tileOf t n ≠ 0 := hj.resolve_right (by omega)
    have hT : 8 * (t.val % 4) + n.val ≠ 0 := fun h => hT (Fin.ext h)
    match n, hT with
    | ⟨0, _⟩, hT =>
      refine (before_apply p ⟨j.val, h⟩ d).trans (hp _ _ _ ?_)
      show 128 * (8 * (t.val % 4) + 0) + (two j).val - 128 = 4 * ((t.val % 4 * 8 - 1) * 32 + j.val % 32) + j.val / 32
      have : 8 * (t.val % 4) + 0 ≠ 0 := hT
      omega
    | ⟨n + 1, hn⟩, _ =>
      show tile x ⟨n, by omega⟩ (ix2 ⟨j.val, h⟩ d) = _
      rw [tile_apply]
      refine hx _ _ _ ?_
      show 128 * (8 * (t.val % 4) + (n + 1)) + (two j).val - 128 = 4 * (t.val % 4 * 256 + (32 * n + j.val % 32)) + j.val / 32
      omega
  · have e : (two j).val = (j.val - 128) % 32 * 4 + (j.val - 128) / 32 + 128 := two_high j h
    rw [dif_neg h, tile_apply]
    refine hx _ _ _ ?_
    show 128 * (8 * (t.val % 4) + n.val) + (two j).val - 128 = 4 * (t.val % 4 * 256 + (32 * n.val + (j.val - 128) % 32)) + (j.val - 128) / 32
    omega

theorem low_iff (j : Fin 256) : 128 ≤ j.val ↔ 128 ≤ (two j).val := by
  by_cases h : j.val < 128
  · have e : (two j).val = j.val % 32 * 4 + j.val / 32 := two_low j h
    omega
  · have e : (two j).val = (j.val - 128) % 32 * 4 + (j.val - 128) / 32 + 128 := two_high j h
    omega

theorem bias_tile (hB : IsBias m c B) (t : Fin cfg0.N) (h : Fin 16) (n : Fin 8) (i : Fin 128) (j : Fin 256) :
    biasOf (View.ld B (rectBias (firstBias (grid0.coords t)) h)) (View.ld B (rectBias 0 h)) n (ix2 i j)
      = if seen (tileOf t n) (off i) (two j) then biasAt (aT m c) h (off i) (two j) * AttSpec.L else (⊥ : EReal) := by
  match n with
  | ⟨0, _⟩ =>
    show shapeCast S128x256 (View.ld B (rectBias (firstBias (grid0.coords t)) h)) shapeCasts_S1x1x128x256_S128x256 (ix2 i j) = _
    refine (bias_apply (View.ld B (rectBias (firstBias (grid0.coords t)) h)) i j).trans ((bias_ld B _ h i j).trans ((hB _ h i j).trans ?_))
    refine if_congr (and_congr_right fun _ => or_congr ?_ (low_iff j)) rfl rfl
    rw [firstBias_eq]
    by_cases ht : t.val % 4 = 0
    · rw [if_pos ht]
      refine iff_of_false (by decide) fun h => h (Fin.ext ?_)
      show 8 * (t.val % 4) + 0 = 0
      omega
    · rw [if_neg ht]
      refine iff_of_true rfl fun h => ?_
      have h : 8 * (t.val % 4) + 0 = 0 := congrArg Fin.val h
      omega
  | ⟨n + 1, hn⟩ =>
    show shapeCast S128x256 (View.ld B (rectBias 0 h)) shapeCasts_S1x1x128x256_S128x256 (ix2 i j) = _
    refine (bias_apply (View.ld B (rectBias 0 h)) i j).trans ((bias_ld B 0 h i j).trans ((hB 0 h i j).trans ?_))
    refine if_congr (and_congr_right fun _ => or_congr ?_ (low_iff j)) rfl rfl
    refine iff_of_true rfl fun h => ?_
    have h : 8 * (t.val % 4) + (n + 1) = 0 := congrArg Fin.val h
    omega

/-- The kernel's scores are the layer's, in units of the logarithm of two, in the kernel's order of a tile. -/
theorem score_at (hB : IsBias m c B) (t : Fin cfg0.N) (h : Fin 16) (n : Fin 8) (i : Fin 128) (j : Fin 256) :
    (headsAt m c B t h).score n (ix2 i j) = AttSpec.L * scoreAt (aQ m c) (aKV m c) (aT m c) (res t) (tileOf t n) h (off i) (two j) := by
  unfold Head.score
  rw [score_apply]
  show _ + biasOf (View.ld B (rectBias (firstBias (grid0.coords t)) h)) (View.ld B (rectBias 0 h)) n (ix2 i j) = _
  rw [bias_tile m c B hB]
  unfold scoreAt
  by_cases hs : seen (tileOf t n) (off i) (two j)
  · rw [if_pos hs, if_pos hs]
    refine Eq.trans ?_ (AttSpec.scaled_score _ _ _)
    refine congrArg (· + _) (Finset.sum_congr rfl fun k _ => congrArg₂ (fun a b : EReal => a * b) ?_ ?_)
    · rw [tile_apply]
      refine (wide_ld _ h _ _ k).trans ((blk2 m c t _ _ _ (queryPos (tileOf t n) (off i)) ?_).trans ?_)
      · show 128 * (8 * (t.val % 4) + n.val) + (i.val % 32 * 4 + i.val / 32) = 4 * (t.val % 4 * 256 + (32 * n.val + i.val % 32)) + i.val / 32
        omega
      · rfl
    · refine pick_key (fun u => aKV m c (at4 (res t) u) (kCol h k)) _ _ t n j k (fun a q u hu => ?_) (fun a q u hu => ?_) hs.2
      · refine (wide_ld _ h _ _ k).trans ((blk4 m c t _ _ _ u hu).trans ?_)
        rfl
      · refine (before_ld _ h _ _ k).trans ((blk3 m c t _ _ _ u hu).trans ?_)
        rfl
  · rw [if_neg hs, if_neg hs, AttSpec.L_mul_bot, EReal.add_bot]

theorem num_at (hB : IsBias m c B) (t : Fin cfg0.N) (h : Fin 16) (n : Fin 8) (i d : Fin 128) :
    (headsAt m c B t h).num n (ix2 i d) = outAt (aQ m c) (aKV m c) (aT m c) (res t) (tileOf t n) h (off i) d := by
  unfold Head.num
  rw [numTile_apply]
  simp only [score_at m c B hB]
  refine (AttSpec.num_scaled (fun j => scoreAt (aQ m c) (aKV m c) (aT m c) (res t) (tileOf t n) h (off i) (two j))
    (fun j => aKV m c (at4 (res t) (keyPos (tileOf t n) (two j))) (vCol h d)) _ fun j => ?_).trans (AttSpec.num_order two _ fun u => aKV m c (at4 (res t) (keyPos (tileOf t n) u)) (vCol h d))
  by_cases hs : seen (tileOf t n) (off i) (two j)
  · right
    refine pick_key (fun u => aKV m c (at4 (res t) u) (vCol h d)) _ _ t n j d (fun a q u hu => ?_) (fun a q u hu => ?_) hs.2
    · refine (wide_ld _ h _ _ d).trans ((blk6 m c t _ _ _ u hu).trans ?_)
      rfl
    · refine (before_ld _ h _ _ d).trans ((blk5 m c t _ _ _ u hu).trans ?_)
      rfl
  · left
    exact if_neg hs

theorem den_at (hB : IsBias m c B) (t : Fin cfg0.N) (h : Fin 16) (n : Fin 8) (i l : Fin 128) :
    (headsAt m c B t h).den n (ix2 i l) = AttSpec.den (scoreAt (aQ m c) (aKV m c) (aT m c) (res t) (tileOf t n) h (off i)) := by
  unfold Head.den
  rw [denTile_apply]
  simp only [score_at m c B hB]
  exact (AttSpec.den_scaled _).trans (AttSpec.den_order two _)

theorem max_at (hB : IsBias m c B) (t : Fin cfg0.N) (h : Fin 16) (n : Fin 8) (i : Fin 128) :
    colMax ((headsAt m c B t h).score n) (ix2 i 0) = AttSpec.L * top (scoreAt (aQ m c) (aKV m c) (aT m c) (res t) (tileOf t n) h (off i)) := by
  rw [colMax_apply]
  simp only [score_at m c B hB]
  exact (AttSpec.top_scaled _).trans (congrArg (AttSpec.L * ·) (AttSpec.top_order two _))

/-! ### The points -/

/-- A tile's row `i` in its point's block. -/
abbrev cls (i : Fin 128) : Fin 4 := ⟨i.val / 32, by omega⟩
abbrev row (n : Fin 8) (i : Fin 128) : Fin 256 := ⟨32 * n.val + i.val % 32, by omega⟩

/-- What a point leaves: its tiles' outputs and statistics, and the biases. -/
def Left (t : Fin cfg0.N) (o : Vec Ideal S4x1x256x2048 .bf16 × Vec Ideal S4x1x256x128 .f32 × Vec Ideal S2x16x128x256 .f32) : Prop :=
  (∀ (n : Fin 8) (h : Fin 16) (i d : Fin 128), o.1 (ix4 (cls i) 0 (row n i) ⟨128 * h + d, by omega⟩)
    = outAt (aQ m c) (aKV m c) (aT m c) (res t) (tileOf t n) h (off i) d)
  ∧ (∀ (n : Fin 8) (i l : Fin 128), o.2.1 (ix4 (cls i) 0 (row n i) l) = statAt (aQ m c) (aKV m c) (aT m c) (res t) (tileOf t n) (off i) l)
  ∧ IsBias m c o.2.2

theorem stats_at (hB : IsBias m c B) (t : Fin cfg0.N) (n : Fin 8) (i l : Fin 128) :
    statsOut (headsAt m c B t) (ix4 (cls i) 0 (row n i) l) = statAt (aQ m c) (aKV m c) (aT m c) (res t) (tileOf t n) (off i) l := by
  rw [statsOut_apply _ n i l _ _ rfl rfl]
  unfold statAt
  rw [max_at m c B hB, den_at m c B hB]

theorem out_at (hB : IsBias m c B) (t : Fin cfg0.N) (h : Fin 16) (n : Fin 8) (i d : Fin 128) :
    (headsAt m c B t h).out (ix4 (cls i) 0 (row n i) d) = outAt (aQ m c) (aKV m c) (aT m c) (res t) (tileOf t n) h (off i) d := by
  rw [out_apply _ n i d _ _ rfl rfl, num_at m c B hB]

theorem sweep : ∀ (n : ℕ) (hn : n < cfg0.N), Left m c ⟨n, hn⟩ (outsAt0 m c n hn)
  | 0, hn => by
    have e := outsAt0_A m c ⟨0, hn⟩ rfl
    have e' : outsAt0 m c 0 hn = _ := e
    rw [e']
    have hB := isBias m c ⟨0, hn⟩
    refine ⟨fun n h i d => ?_, fun n i l => ?_, ?_⟩
    · dsimp only
      rw [out_A_7 _ _ _ _ _ _ _ _ _ _ _ _ _ _ _ _ _ _ _ _ _ _ _ _ _ _ _ _ _ _ h _ _ d _ rfl]
      exact out_at m c _ hB ⟨0, hn⟩ h n i d
    · dsimp only
      rw [out_A_8]
      exact stats_at m c _ hB ⟨0, hn⟩ n i l
    · dsimp only
      rw [sout_A]
      exact hB
  | n + 1, hn => by
    obtain ⟨-, -, hB⟩ := sweep n (by omega)
    have e := outsAt0_B m c ⟨n + 1, hn⟩ (by have := point_lt ⟨n + 1, hn⟩; show ¬(n + 1) % 16 = 0; have : n + 1 < 16 := this; omega)
    have e' : outsAt0 m c (n + 1) hn = _ := e
    rw [e']
    refine ⟨fun n' h i d => ?_, fun n' i l => ?_, ?_⟩
    · dsimp only
      rw [out_B_7 _ _ _ _ _ _ _ _ _ _ _ _ _ _ _ _ _ _ _ _ _ _ _ _ _ _ _ _ _ _ _ h _ _ d _ rfl]
      exact out_at m c _ hB ⟨n + 1, hn⟩ h n' i d
    · dsimp only
      rw [out_B_8]
      exact stats_at m c _ hB ⟨n + 1, hn⟩ n' i l
    · exact hB

/-! ### The arrays -/

/-- The point and the tile's row of row `p` of class `k` of residue `r`. -/
abbrev pt (r : Fin 4) (p : Fin 1024) : Fin cfg0.N := ⟨4 * r.val + p.val / 256, lt_of_lt_of_eq (show _ < 16 by omega) N_0.symm⟩
abbrev tileRow (k : Fin 4) (p : Fin 1024) : Fin 128 := ⟨32 * k.val + p.val % 32, by omega⟩
abbrev tileNo (p : Fin 1024) : Fin 8 := ⟨p.val / 32 % 8, by omega⟩

theorem res_pt (r : Fin 4) (p : Fin 1024) : res (pt r p) = r := Fin.ext (by show (4 * r.val + p.val / 256) / 4 = r.val; omega)
theorem tile_pt (r : Fin 4) (p : Fin 1024) : tileOf (pt r p) (tileNo p) = ⟨p.val / 32, by omega⟩ :=
  Fin.ext (by show 8 * ((4 * r.val + p.val / 256) % 4) + p.val / 32 % 8 = p.val / 32; omega)
theorem off_row (k : Fin 4) (p : Fin 1024) : off (tileRow k p) = ⟨4 * (p.val % 32) + k.val, by omega⟩ :=
  Fin.ext (by show (32 * k.val + p.val % 32) % 32 * 4 + (32 * k.val + p.val % 32) / 32 = 4 * (p.val % 32) + k.val; omega)

theorem G7_apply (k r : Fin 4) (p : Fin 1024) (h : Fin 16) (d : Fin 128) :
    G7 m c (ix4 k r p ⟨128 * h + d, by omega⟩) = outAt (aQ m c) (aKV m c) (aT m c) r ⟨p.val / 32, by omega⟩ h ⟨4 * (p.val % 32) + k.val, by omega⟩ d := by
  have e := (sweep m c (pt r p).val (pt r p).isLt).1 (tileNo p) h (tileRow k p) d
  rw [outsAt0_sweep] at e
  have hp : pt7Of (ix4 k r p ⟨128 * h + d, by omega⟩) = (pt r p).val := by
    show 16 * (k.val / 4 - 0) + 4 * (r.val / 1 - 0) + 1 * (p.val / 256 - 0) + 1 * ((128 * h.val + d.val) / 2048 - 0) = 4 * r.val + p.val / 256; omega
  have hl : loc7Of (ix4 k r p ⟨128 * h + d, by omega⟩) = ix4 (cls (tileRow k p)) 0 (row (tileNo p) (tileRow k p)) ⟨128 * h + d, by omega⟩ := by
    funext a; apply Fin.ext
    match a with
    | ⟨0, _⟩ => show k.val % 4 = (32 * k.val + p.val % 32) / 32; omega
    | ⟨1, _⟩ => show r.val % 1 = 0; omega
    | ⟨2, _⟩ => show p.val % 256 = 32 * (p.val / 32 % 8) + (32 * k.val + p.val % 32) % 32; omega
    | ⟨3, _⟩ => show (128 * h.val + d.val) % 2048 = 128 * h.val + d.val; omega
  unfold G7
  rw [dif_pos (by rw [hp]; exact (pt r p).isLt), hl, fold0_congr m c _ _ _ _ hp]
  refine e.trans ?_
  show outAt _ _ _ (res (pt r p)) (tileOf (pt r p) (tileNo p)) h (off (tileRow k p)) d = _
  rw [res_pt, tile_pt, off_row]

theorem G8_apply (k r : Fin 4) (p : Fin 1024) (l : Fin 128) :
    G8 m c (ix4 k r p l) = statAt (aQ m c) (aKV m c) (aT m c) r ⟨p.val / 32, by omega⟩ ⟨4 * (p.val % 32) + k.val, by omega⟩ l := by
  have e := (sweep m c (pt r p).val (pt r p).isLt).2.1 (tileNo p) (tileRow k p) l
  rw [outsAt0_sweep] at e
  have hp : pt8Of (ix4 k r p l) = (pt r p).val := by
    show 16 * (k.val / 4 - 0) + 4 * (r.val / 1 - 0) + 1 * (p.val / 256 - 0) + 1 * (l.val / 128 - 0) = 4 * r.val + p.val / 256; omega
  have hl : loc8Of (ix4 k r p l) = ix4 (cls (tileRow k p)) 0 (row (tileNo p) (tileRow k p)) l := by
    funext a; apply Fin.ext
    match a with
    | ⟨0, _⟩ => show k.val % 4 = (32 * k.val + p.val % 32) / 32; omega
    | ⟨1, _⟩ => show r.val % 1 = 0; omega
    | ⟨2, _⟩ => show p.val % 256 = 32 * (p.val / 32 % 8) + (32 * k.val + p.val % 32) % 32; omega
    | ⟨3, _⟩ => show l.val % 128 = l.val; omega
  unfold G8
  rw [dif_pos (by rw [hp]; exact (pt r p).isLt), hl, fold0_congr m c _ _ _ _ hp]
  refine e.trans ?_
  show statAt _ _ _ (res (pt r p)) (tileOf (pt r p) (tileNo p)) (off (tileRow k p)) l = _
  rw [res_pt, tile_pt, off_row]

end Cert.Kernel9Ideal.MidFold

end
-- ==== Proof.MidReference.lean ====
/-
  The reference's attention of the middle group, at an index.
-/
module

public import proofs.«01_k».proof.Proof.Gen.Reference9Ideal.Read
public import proofs.«01_k».proof.Proof.MidLayer
public import proofs.«01_k».proof.Proof.AttReference
public import proofs.«01_k».proof.Proof.IdxExt
public import Idealize.ShloMosaic.Lib.KernelVsHost

@[expose] public section

set_option maxRecDepth 16384

noncomputable section

namespace Cert.Reference9Ideal.MidReference

open Cert.Reference9Ideal Cert.Reference9Ideal.Read Cert.IdxExt Idealize.ShloMosaic
open Cert.Reference6Ideal.AttReference (ext4 ext5 neg_inf_word and_bit word_of_bucket)
open Cert.AttSpec (rel banded L scale num den top p p_masked div_log_two)
open Cert.MidSpec

variable (x0 : (⟨S16384x6144, .f32⟩ : BufTy).Contents (Elt Ideal)) (x1 : (⟨S16384x12288, .f32⟩ : BufTy).Contents (Elt Ideal))
  (x2 : (⟨S32x48, .f32⟩ : BufTy).Contents (Elt Ideal))

/-! ### The arrays, residue by residue -/

theorem token (i : Fin 128) (r : Fin 4) (n : Fin 32) : (n.val * 128 + i.val) * 4 + r.val = 4 * (128 * n.val + i.val) + r.val := by omega

theorem lane (b : ℕ) (h : Fin 16) (k : Fin 128) : b + h.val * 128 + k.val = b + (128 * h.val + k.val) := by omega

theorem q_apply (r : Fin 4) (n : Fin 32) (i : Fin 128) (h : Fin 16) (k : Fin 128) :
    val_main_v11 (F := Ideal) x0 (ix5 r n i h k) = x0 (ix2 (at4 r (queryPos n i)) (qCol h k)) := by
  pointwise [val_main_v11, val_main_v10, val_main_v9, val_main_v2, val_main_v1, val_main_v0]
  exact congrArg x0 (ext2 (token i r n) (lane 2048 h k))

theorem k_apply (r : Fin 4) (n : Fin 32) (i : Fin 128) (h : Fin 16) (k : Fin 128) :
    val_main_v14 (F := Ideal) x1 (ix5 r n i h k) = x1 (ix2 (at4 r (queryPos n i)) (kCol h k)) := by
  pointwise [val_main_v14, val_main_v13, val_main_v12, val_main_v5, val_main_v4, val_main_v3]
  exact congrArg x1 (ext2 (token i r n) (lane 2048 h k))

theorem v_apply (r : Fin 4) (n : Fin 32) (i : Fin 128) (h : Fin 16) (k : Fin 128) :
    val_main_v20 (F := Ideal) x1 (ix5 r n i h k) = x1 (ix2 (at4 r (queryPos n i)) (vCol h k)) := by
  pointwise [val_main_v20, val_main_v19, val_main_v18, val_main_v7, val_main_v6, val_main_v3]
  exact congrArg x1 (ext2 (token i r n) (lane 8192 h k))

theorem window_row {p p' : Fin 4096} (l : Fin 12288) (r : Fin 4) (hp : p = p') : x1 (ix2 (at4 r p) l) = x1 (ix2 (at4 r p') l) := by
  rw [hp]

theorem keys_apply (r : Fin 4) (n : Fin 32) (j : Fin 256) (h : Fin 16) (k : Fin 128) (hj : n ≠ 0 ∨ 128 ≤ j.val) :
    val_main_v17 (F := Ideal) x1 (ix5 r n j h k) = x1 (ix2 (at4 r (keyPos n j)) (kCol h k)) := by
  have hn : n ≠ 0 → 1 ≤ n.val := fun hn => Nat.one_le_iff_ne_zero.mpr fun he => hn (Fin.ext he)
  have hn32 := n.isLt
  pointwise [val_main_v17, val_main_v16, val_main_v15]
  split
  · rename_i hlt
    have h1 : 1 ≤ n.val := hn (hj.resolve_right (by omega))
    rw [dif_pos ⟨⟨h1, by omega⟩, hlt⟩]
    refine (k_apply x1 r _ _ h k).trans (window_row x1 _ r (Fin.ext ?_))
    show 128 * (n.val - 1) + j.val = 128 * n.val + j.val - 128
    omega
  · refine (k_apply x1 r _ _ h k).trans (window_row x1 _ r (Fin.ext ?_))
    show 128 * n.val + (j.val - 128) = 128 * n.val + j.val - 128
    omega

theorem values_apply (r : Fin 4) (n : Fin 32) (j : Fin 256) (h : Fin 16) (k : Fin 128) (hj : n ≠ 0 ∨ 128 ≤ j.val) :
    val_main_v23 (F := Ideal) x1 (ix5 r n j h k) = x1 (ix2 (at4 r (keyPos n j)) (vCol h k)) := by
  have hn : n ≠ 0 → 1 ≤ n.val := fun hn => Nat.one_le_iff_ne_zero.mpr fun he => hn (Fin.ext he)
  have hn32 := n.isLt
  pointwise [val_main_v23, val_main_v22, val_main_v21]
  split
  · rename_i hlt
    have h1 : 1 ≤ n.val := hn (hj.resolve_right (by omega))
    rw [dif_pos ⟨⟨h1, by omega⟩, hlt⟩]
    refine (v_apply x1 r _ _ h k).trans (window_row x1 _ r (Fin.ext ?_))
    show 128 * (n.val - 1) + j.val = 128 * n.val + j.val - 128
    omega
  · refine (v_apply x1 r _ _ h k).trans (window_row x1 _ r (Fin.ext ?_))
    show 128 * n.val + (j.val - 128) = 128 * n.val + j.val - 128
    omega

/-! ### The bias -/

theorem rel_apply (i : Fin 128) (j : Fin 256) : val_main_v35 (F := Ideal) (ix2 i j) = rel i j := by
  pointwise [val_main_v35, val_main_v34, val_main_v33, val_main_v32, val_main_v31, val_main_v30, val_main_v29, val_main_v28, val_main_v27, val_main_c_1]
  rfl

theorem bucket_apply (i : Fin 128) (j : Fin 256) : val_main_v61 (F := Ideal) (ix2 i j) = bucket i j := by
  unfold bucket
  rw [← rel_apply]
  rfl

theorem valid_apply (n : Fin 32) (i : Fin 128) (j : Fin 256) : val_main_v79 (F := Ideal) (ix3 n i j) = IntOp.andi (banded (rel i j)) (IntOp.cmpi .sge (IntOp.addi (IntOp.subi (IntOp.muli (BitVec.ofNat 32 n.val) 128#32) 128#32) (BitVec.ofNat 32 j.val)) 0#32) := by
  rw [← rel_apply]
  rfl

theorem key_pos (n : Fin 32) (j : Fin 256) :
    IntOp.cmpi .sge (IntOp.addi (IntOp.subi (IntOp.muli (BitVec.ofNat 32 n.val) 128#32) 128#32) (BitVec.ofNat 32 j.val)) 0#32 = 1#1
      ↔ n ≠ 0 ∨ 128 ≤ j.val := by
  revert n j
  decide +kernel

theorem valid_iff (n : Fin 32) (i : Fin 128) (j : Fin 256) : val_main_v79 (F := Ideal) (ix3 n i j) = 1#1 ↔ seen n i j := by
  rw [valid_apply, and_bit, key_pos]

/-! ### The table's rows -/

/-- One row of the table per query and key: the row at the start index, read signed and clamped into the table. -/
theorem gather_rows (x : S32x16.Idx → EReal) (idx : IVec S128x256x1 32) (i : Fin 128) (j : Fin 256) (h : Fin 16) (q : Fin 32)
    (hq : min (idx (ix3 i j 0)).toInt.toNat 31 = q.val) :
    Host.gather gather_S32x16_S128x256x1_S128x256x16_2_0_n_n_0_2_116 x idx (ix3 i j h)
      = x (ix2 q h) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S32x16_S128x256x1_S128x256x16_2_0_n_n_0_2_116.startIndexMap from List.mem_singleton.mpr rfl)]
    refine Eq.trans (b := min (idx (ix3 i j 0)).toInt.toNat 31) ?_ hq
    exact congrArg (fun y => min (idx y).toInt.toNat 31) (ext3 rfl rfl rfl)
  · unfold GatherDims.start
    rw [dif_neg (show (1 : Fin 2) ∉ gather_S32x16_S128x256x1_S128x256x16_2_0_n_n_0_2_116.startIndexMap from fun hm => absurd (List.mem_singleton.mp hm) (by decide))]
    unfold GatherDims.offCoord
    rw [dif_pos (by decide +kernel)]
    exact (Nat.zero_add _).trans rfl

theorem table_apply (a : Fin 32) (h : Fin 16) : val_main_v8 (F := Ideal) x2 (ix2 a h) = x2 (ix2 a ⟨16 + h.val, by omega⟩) := by
  pointwise [val_main_v8]

theorem bias_apply (h : Fin 16) (i : Fin 128) (j : Fin 256) (hb : banded (rel i j) = 1#1) :
    val_main_v62 (F := Ideal) x2 (ix3 i j h) = biasAt (fun a b => x2 (ix2 a b)) h i j := by
  obtain ⟨b, hbk⟩ := bucket_lt i j hb
  have hw := bucket_apply i j
  rw [hbk] at hw
  have h4 : val_main_call4_v5 (F := Ideal) (ix3 i j 0) = BitVec.ofNat 32 b.val := by
    pointwise [val_main_call4_v5, val_main_call4_v4, val_main_call4_v3, val_main_call4_v2, val_main_call4_c_0, val_main_call4_v1, val_main_call4_v0, val_main_call4_c]
    rw [hw]
    exact (word_of_bucket b).1
  have h11 : val_main_call4_v11 (F := Ideal) (ix3 i j 0) = 1#1 := by
    pointwise [val_main_call4_v11, val_main_call4_v10, val_main_call4_v9, val_main_call4_v8, val_main_call4_v7, val_main_call4_v6, val_main_call4_c_1, val_main_call4_c_2]
    rw [h4]
    exact (word_of_bucket b).2.1
  have h12 : val_main_call4_v12 (F := Ideal) (ix2 i j) = 1#1 := by
    pointwise [val_main_call4_v12, val_main_call4_c_3]
    rw [show (Finset.univ : Finset (Fin 1)) = {0} from rfl, Finset.fold_singleton, h11]
    rfl
  pointwise [val_main_v62, val_main_call4_v14, val_main_call4_v13]
  rw [h12, ValueIdx.select_one, gather_rows _ _ i j h ⟨(bucket i j).toNat % 32, Nat.mod_lt _ (by decide)⟩ ?_, table_apply]
  · rfl
  · rw [h4, hbk]
    exact (word_of_bucket b).2.2

theorem dot_apply (r : Fin 4) (n : Fin 32) (h : Fin 16) (i : Fin 128) (j : Fin 256) (hj : n ≠ 0 ∨ 128 ≤ j.val) :
    val_main_v24 (F := Ideal) x0 x1 (ix5 r n h i j) = dotAt (fun s l => x0 (ix2 s l)) (fun s l => x1 (ix2 s l)) r n h i j := by
  rw [val_main_v24_apply]
  refine Finset.sum_congr rfl fun k _ => ?_
  rw [show lidx_main_v24 (ix5 r n h i j) k = ix5 r n i h k from ext5 rfl rfl rfl rfl rfl,
    show ridx_main_v24 (ix5 r n h i j) k = ix5 r n j h k from ext5 rfl rfl rfl rfl rfl, q_apply, keys_apply x1 r n j h k hj]

theorem score_apply (r : Fin 4) (n : Fin 32) (h : Fin 16) (i : Fin 128) (j : Fin 256) :
    val_main_v84 (F := Ideal) x0 x1 x2 (ix5 r n h i j)
      = scoreAt (fun s l => x0 (ix2 s l)) (fun s l => x1 (ix2 s l)) (fun a b => x2 (ix2 a b)) r n h i j := by
  pointwise [val_main_v84, val_main_call5_v1, val_main_call5_v0, val_main_v83, val_main_v82, val_main_v81, val_main_v80, val_main_v63, val_main_v26, val_main_v25, val_main_call5_v2, val_main_cst_17, val_main_cst]
  unfold scoreAt
  by_cases hs : seen n i j
  · rw [if_pos hs, (valid_iff n i j).mpr hs, ValueIdx.select_one, dot_apply x0 x1 r n h i j hs.2, bias_apply x2 h i j hs.1]
  · rw [if_neg hs, ValueIdx.eq_zero_of_ne_one (mt (valid_iff n i j).mp hs), ValueIdx.select_zero]
    exact neg_inf_word

theorem max_apply (r : Fin 4) (n : Fin 32) (h : Fin 16) (i : Fin 128) :
    val_main_v85 (F := Ideal) x0 x1 x2 (ix4 r n h i)
      = top (scoreAt (fun s l => x0 (ix2 s l)) (fun s l => x1 (ix2 s l)) (fun a b => x2 (ix2 a b)) r n h i) := by
  pointwise [val_main_v85, val_main_cst_18]
  rw [neg_inf_word]
  exact congrArg (fun f => Finset.fold max ⊥ f Finset.univ) (funext fun j => score_apply x0 x1 x2 r n h i j)

/-! ### The weights, their sum and the values -/

theorem weight_apply (r : Fin 4) (n : Fin 32) (h : Fin 16) (i : Fin 128) (j : Fin 256) :
    val_main_v89 (F := Ideal) x0 x1 x2 (ix5 r n h i j)
      = p (scoreAt (fun s l => x0 (ix2 s l)) (fun s l => x1 (ix2 s l)) (fun a b => x2 (ix2 a b)) r n h i) j := by
  pointwise [val_main_v89, val_main_v88, val_main_v87, val_main_v86]
  rw [score_apply, max_apply]
  rfl

theorem den_apply (r : Fin 4) (n : Fin 32) (h : Fin 16) (i : Fin 128) :
    val_main_v90 (F := Ideal) x0 x1 x2 (ix4 r n h i)
      = den (scoreAt (fun s l => x0 (ix2 s l)) (fun s l => x1 (ix2 s l)) (fun a b => x2 (ix2 a b)) r n h i) := by
  rw [val_main_v90_apply, val_main_cst_19_apply, Ideal.ofBits_def, show Ideal.ofBits .f32 0x00000000#32 = 0 from by simp [Ideal.ofBits, Ideal.ieee], zero_add]
  refine Finset.sum_congr rfl fun k _ => ?_
  rw [show idx_main_v90 (ix4 r n h i) k = ix5 r n h i k from ext5 rfl rfl rfl rfl rfl, weight_apply]

theorem num_apply (r : Fin 4) (n : Fin 32) (h : Fin 16) (i d : Fin 128) :
    val_main_v91 (F := Ideal) x0 x1 x2 (ix5 r n h d i)
      = outAt (fun s l => x0 (ix2 s l)) (fun s l => x1 (ix2 s l)) (fun a b => x2 (ix2 a b)) r n h i d := by
  rw [val_main_v91_apply]
  unfold outAt num
  refine Finset.sum_congr rfl fun k _ => ?_
  rw [show lidx_main_v91 (ix5 r n h d i) k = ix5 r n k h d from ext5 rfl rfl rfl rfl rfl,
    show ridx_main_v91 (ix5 r n h d i) k = ix5 r n h i k from ext5 rfl rfl rfl rfl rfl, weight_apply]
  by_cases hs : seen n i k
  · rw [values_apply x1 r n k h d hs.2]
  · rw [p_masked (show scoreAt _ _ _ r n h i k = ⊥ from if_neg hs), mul_zero, mul_zero]

/-! ### The two results -/

/-- Row `p` of class `k`: its tile and its place there. -/
abbrev tileAt (p : Fin 1024) : Fin 32 := ⟨p.val / 32, by omega⟩
abbrev placeAt (k : Fin 4) (p : Fin 1024) : Fin 128 := ⟨4 * (p.val % 32) + k.val, by omega⟩

theorem out_apply (k r : Fin 4) (p : Fin 1024) (h : Fin 16) (d : Fin 128) :
    val_main_v102 (F := Ideal) x0 x1 x2 (ix4 k r p ⟨128 * h.val + d.val, by omega⟩)
      = outAt (fun s l => x0 (ix2 s l)) (fun s l => x1 (ix2 s l)) (fun a b => x2 (ix2 a b)) r (tileAt p) h (placeAt k p) d := by
  rw [val_main_v102_apply, val_main_v101_apply, val_main_v100_apply]
  refine Eq.trans (congrArg (val_main_v92 (F := Ideal) x0 x1 x2) (show _ = ix5 r (tileAt p) (placeAt k p) h d from ext5 (Fin.ext ?_) (Fin.ext ?_) (Fin.ext ?_) (Fin.ext ?_) (Fin.ext ?_))) ?_
  · show (((r.val * 1024 + p.val) * 4 + k.val) * 2048 + (128 * h.val + d.val)) / 8388608 = r.val
    omega
  · show (((r.val * 1024 + p.val) * 4 + k.val) * 2048 + (128 * h.val + d.val)) / 262144 % 32 = p.val / 32
    omega
  · show (((r.val * 1024 + p.val) * 4 + k.val) * 2048 + (128 * h.val + d.val)) / 2048 % 128 = 4 * (p.val % 32) + k.val
    omega
  · show (((r.val * 1024 + p.val) * 4 + k.val) * 2048 + (128 * h.val + d.val)) / 128 % 16 = h.val
    omega
  · show (((r.val * 1024 + p.val) * 4 + k.val) * 2048 + (128 * h.val + d.val)) % 128 = d.val
    omega
  pointwise [val_main_v92]
  exact num_apply x0 x1 x2 r (tileAt p) h (placeAt k p) d

theorem lanes_apply (r : Fin 4) (n : Fin 32) (i l : Fin 128) :
    val_main_v99 (F := Ideal) x0 x1 x2 (ix4 r n i l)
      = if h : l.val < 16 then val_main_v96 (F := Ideal) x0 x1 x2 (ix4 r n i ⟨l.val, h⟩)
        else if h : l.val - 16 < 16 then val_main_v97 (F := Ideal) x0 x1 x2 (ix4 r n i ⟨l.val - 16, h⟩)
        else val_main_v98 (F := Ideal) (ix4 r n i ⟨l.val - 16 - 16, by omega⟩) := by
  pointwise [val_main_v99]

theorem log_max_apply (r : Fin 4) (n : Fin 32) (i : Fin 128) (h : Fin 16) :
    val_main_v96 (F := Ideal) x0 x1 x2 (ix4 r n i h)
      = L * top (scoreAt (fun s l => x0 (ix2 s l)) (fun s l => x1 (ix2 s l)) (fun a b => x2 (ix2 a b)) r n h i) := by
  pointwise [val_main_v96, val_main_v95, val_main_v94, val_main_v93, val_main_cst_20]
  rw [max_apply]
  exact div_log_two _

theorem stat_apply (k r : Fin 4) (p : Fin 1024) (l : Fin 128) :
    val_main_v104 (F := Ideal) x0 x1 x2 (ix4 k r p l)
      = statAt (fun s l => x0 (ix2 s l)) (fun s l => x1 (ix2 s l)) (fun a b => x2 (ix2 a b)) r (tileAt p) (placeAt k p) l := by
  rw [val_main_v104_apply, val_main_v103_apply]
  refine Eq.trans (congrArg (val_main_v99 (F := Ideal) x0 x1 x2) (show _ = ix4 r (tileAt p) (placeAt k p) l from ext4 (Fin.ext ?_) (Fin.ext ?_) (Fin.ext ?_) (Fin.ext ?_))) ?_
  · show (((r.val * 1024 + p.val) * 4 + k.val) * 128 + l.val) / 524288 = r.val
    omega
  · show (((r.val * 1024 + p.val) * 4 + k.val) * 128 + l.val) / 16384 % 32 = p.val / 32
    omega
  · show (((r.val * 1024 + p.val) * 4 + k.val) * 128 + l.val) / 128 % 128 = 4 * (p.val % 32) + k.val
    omega
  · show (((r.val * 1024 + p.val) * 4 + k.val) * 128 + l.val) % 128 = l.val
    omega
  have hl := l.isLt
  rw [lanes_apply]
  unfold statAt
  by_cases h : l.val < 16
  · rw [dif_pos h, if_pos h]
    refine (log_max_apply x0 x1 x2 r (tileAt p) (placeAt k p) _).trans ?_
    exact congrArg (fun q : Fin 16 => L * top (scoreAt _ _ _ r (tileAt p) q (placeAt k p))) (Fin.ext (Nat.mod_eq_of_lt h).symm)
  · rw [dif_neg h, if_neg h]
    by_cases h2 : l.val < 32
    · rw [dif_pos (show l.val - 16 < 16 by omega), if_pos h2]
      pointwise [val_main_v97]
      refine (den_apply x0 x1 x2 r (tileAt p) _ (placeAt k p)).trans ?_
      refine congrArg (fun q : Fin 16 => den (scoreAt _ _ _ r (tileAt p) q (placeAt k p))) (Fin.ext ?_)
      show l.val - 16 = l.val % 16
      omega
    · rw [dif_neg (show ¬l.val - 16 < 16 by omega), if_neg h2]
      pointwise [val_main_v98, val_main_cst_21]

end Cert.Reference9Ideal.MidReference

end
-- ==== Proof.MidAlgebraic.lean ====
/-
  The attention of the middle group: the kernel's two result arrays are the reference's.
-/
module

public import proofs.«01_k».proof.Proof.MidFold
public import proofs.«01_k».proof.Proof.MidReference
public import proofs.«01_k».proof.Defs
public import Idealize.ShloMosaic.Lib.Quiescent

@[expose] public section

noncomputable section

namespace Cert.MidAlgebraic

open Idealize.ShloMosaic Idealize.SL.Sem

/-- An index of the values' array: class, residue, row, head and lane. -/
theorem out_index (i : (⟨4, ![4, 4, 1024, 2048]⟩ : Shape).Idx) :
    ∃ (k r : Fin 4) (p : Fin 1024) (h : Fin 16) (d : Fin 128), i = ix4 k r p ⟨128 * h.val + d.val, by omega⟩ := by
  have h3 : (i 3).val < 2048 := (i 3).isLt
  refine ⟨i 0, i 1, i 2, ⟨(i 3).val / 128, by omega⟩, ⟨(i 3).val % 128, by omega⟩, ?_⟩
  exact Cert.Reference6Ideal.AttReference.ext4 rfl rfl rfl (Fin.ext (Nat.div_add_mod (i 3).val 128).symm)

theorem algebraic : algebraic_Kernel9Ideal_Reference9Ideal (hKernel9Ideal := Cert.Kernel9Ideal.Gen.facts)
    (hReference9Ideal := Cert.Reference9Ideal.Gen.facts) := by
  intro m ρ m' ρ' _ hag
  refine ⟨fun c => Cert.Kernel9Ideal.Value.G7 m c, fun c => Cert.Kernel9Ideal.Value.G8 m c, Cert.Kernel9Ideal.Value.run m ρ,
    (θ_run _ _ _).mono (fun _ h c => ⟨(h c).1.trans ?_, (h c).2.1.trans ?_, (h c).2.2⟩) (Cert.Reference9Ideal.Value.run m' ρ')⟩
  · obtain ⟨e0, e1, e2⟩ := hag c
    rw [Cert.Reference9Ideal.Read.val_main_v102_eq, e0, e1, e2]
    funext i
    obtain ⟨k, r, p, h, d, rfl⟩ := out_index i
    exact (Cert.Reference9Ideal.MidReference.out_apply _ _ _ k r p h d).trans (Cert.Kernel9Ideal.MidFold.G7_apply m c k r p h d).symm
  · obtain ⟨e0, e1, e2⟩ := hag c
    rw [Cert.Reference9Ideal.Read.val_main_v104_eq, e0, e1, e2]
    funext i
    rw [eq_ix4 i]
    exact (Cert.Reference9Ideal.MidReference.stat_apply _ _ _ _ _ _ _).trans (Cert.Kernel9Ideal.MidFold.G8_apply m c _ _ _ _).symm

/-- The two named constants stand for their exact values. -/
theorem preserves : preserves_Kernel9_Kernel9Ideal :=
  ⟨IdealRules.named_const.statement Cert.Kernel9Ideal.κ "mask" .f32 0xF149F2CA#32 ⊥ rfl,
    IdealRules.named_const.statement Cert.Kernel9Ideal.κ "log2e" .f32 0x3FB8AA3B#32 (((Real.log 2)⁻¹ : ℝ) : EReal) rfl⟩

/-- The reference runs, keeps its arguments and ends quiescent. -/
theorem reference_quiescent : quiescent_Reference9Ideal (hReference9Ideal := Cert.Reference9Ideal.Gen.facts) := fun m ρ _ =>
  (θ_run Cert.Reference9Ideal.defs _ _).mono (fun r h => ⟨fun c => (h c).2.2, sem_eq_zero_of_no_sems (by decide) r.2⟩)
    (Cert.Reference9Ideal.Value.run (F := Ideal) m ρ)

end Cert.MidAlgebraic

end
-- ==== Proof.FirstBody.lean ====
/-
  The first group's attention body: what one grid step leaves in its output blocks and in the bias scratch, in closed
  form. A tile is eight rows of each of the sixteen classes, cut out of a block in f32; the arithmetic of a tile is the third
  group's.
-/
module

public import proofs.«01_k».proof.Proof.AttBody
public import proofs.«01_k».proof.Proof.Gen.Kernel10Ideal.Value

@[expose] public section

set_option maxRecDepth 16384

noncomputable section

namespace Cert.Kernel10Ideal.FirstBody

open Cert.Kernel10Ideal Cert.Kernel10Ideal.Gen Idealize.ShloMosaic
open Cert.Kernel6Ideal.AttBody (numTile denTile stats rectBias rectBucket biasPieces)

/-! ### One head -/

theorem slices_tile (n : ℕ) (h : n < 8) : S16x64x128.Slices ![0, 8 * n, 0] S16x8x128 := by
  refine ⟨rfl, fun a => ?_⟩
  fin_cases a
  · exact Nat.le_refl _
  · show 8 * n + 8 ≤ 64
    omega
  · exact Nat.le_refl _

/-- Tile `n` of a head's block: eight rows of each class. -/
def tile (x : Vec Ideal S16x1x64x128 .bf16) (n : Fin 8) : FVec Ideal S128x128 .bf16 :=
  truncf .bf16 (shapeCast S128x128 (extractStridedSlice S16x8x128 ![0, 8 * n.val, 0]
    (extf (F := Ideal) .f32 (shapeCast S16x64x128 x shapeCasts_S16x1x64x128_S16x64x128) bitsLt_bf16_f32) (slices_tile n.val n.isLt)) shapeCasts_S16x8x128_S128x128)
    bitsLt_bf16_f32

/-- The last tile of the block before. -/
def lastBefore (p : Vec Ideal S16x1x16x128 .bf16) : FVec Ideal S128x128 .bf16 :=
  truncf .bf16 (shapeCast S128x128 (extractStridedSlice S16x8x128 ![0, 8, 0]
    (extf (F := Ideal) .f32 (shapeCast S16x16x128 p shapeCasts_S16x1x16x128_S16x16x128) bitsLt_bf16_f32) slices_S16x16x128_o0_8_0_S16x8x128)
    shapeCasts_S16x8x128_S128x128) bitsLt_bf16_f32

/-- The tile before tile `n`: of the block before for the first. -/
def prev (p : Vec Ideal S16x1x16x128 .bf16) (x : Vec Ideal S16x1x64x128 .bf16) : Fin 8 → FVec Ideal S128x128 .bf16
  | ⟨0, _⟩ => lastBefore p
  | ⟨n + 1, h⟩ => tile x ⟨n, by omega⟩

/-- What one head reads. -/
structure Head where
  q : Vec Ideal S16x1x64x128 .bf16
  kp : Vec Ideal S16x1x16x128 .bf16
  kc : Vec Ideal S16x1x64x128 .bf16
  vp : Vec Ideal S16x1x16x128 .bf16
  vc : Vec Ideal S16x1x64x128 .bf16
  b1 : Vec Ideal S1x1x128x256 .f32
  b0 : Vec Ideal S1x1x128x256 .f32

def Head.score (H : Head) (n : Fin 8) : FVec Ideal S128x256 .f32 :=
  Kernel6Ideal.AttBody.score (tile H.q n) (prev H.kp H.kc n) (tile H.kc n) (Kernel6Ideal.AttBody.biasOf H.b1 H.b0 n)
def Head.num (H : Head) (n : Fin 8) : FVec Ideal S128x128 .f32 := numTile (H.score n) (prev H.vp H.vc n) (tile H.vc n)
def Head.den (H : Head) (n : Fin 8) : FVec Ideal S128x128 .f32 := denTile (H.score n) (prev H.vp H.vc n) (tile H.vc n)

def eight (f : Fin 8 → FVec Ideal S128x128 .f32) : FVec Ideal S16x64x128 .f32 :=
  concatenate S16x64x128 1 [⟨S16x8x128, shapeCast S16x8x128 (f 0) shapeCasts_S128x128_S16x8x128⟩,
    ⟨S16x8x128, shapeCast S16x8x128 (f 1) shapeCasts_S128x128_S16x8x128⟩,
    ⟨S16x8x128, shapeCast S16x8x128 (f 2) shapeCasts_S128x128_S16x8x128⟩,
    ⟨S16x8x128, shapeCast S16x8x128 (f 3) shapeCasts_S128x128_S16x8x128⟩,
    ⟨S16x8x128, shapeCast S16x8x128 (f 4) shapeCasts_S128x128_S16x8x128⟩,
    ⟨S16x8x128, shapeCast S16x8x128 (f 5) shapeCasts_S128x128_S16x8x128⟩,
    ⟨S16x8x128, shapeCast S16x8x128 (f 6) shapeCasts_S128x128_S16x8x128⟩,
    ⟨S16x8x128, shapeCast S16x8x128 (f 7) shapeCasts_S128x128_S16x8x128⟩]
    concatenates_S16x8x128_S16x8x128_S16x8x128_S16x8x128_S16x8x128_S16x8x128_S16x8x128_S16x8x128_S16x64x128_d1

/-- A head's stored output. -/
def Head.out (H : Head) : Vec Ideal S16x1x64x128 .bf16 :=
  shapeCast S16x1x64x128 (truncf .bf16 (eight H.num) bitsLt_bf16_f32) shapeCasts_S16x64x128_S16x1x64x128

def statsOut (Hs : Fin 16 → Head) : Vec Ideal S16x1x64x128 .f32 :=
  shapeCast S16x1x64x128 (eight fun n => stats (fun h => (Hs h).score n) (fun h => (Hs h).den n) 16) shapeCasts_S16x64x128_S16x1x64x128

/-! ### The grid step's loads -/

theorem inb_wide (h : Fin 16) : ∀ a, (![0, 0, 0, 128 * h.val] : Fin 4 → ℕ) a + S16x1x64x128.size a ≤ S16x1x64x2048.size a := by
  intro a
  have := h.isLt
  fin_cases a
  · exact Nat.le_refl _
  · exact Nat.le_refl _
  · exact Nat.le_refl _
  · show 128 * h.val + 128 ≤ 2048
    omega

theorem inb_before (h : Fin 16) : ∀ a, (![0, 0, 0, 128 * h.val] : Fin 4 → ℕ) a + S16x1x16x128.size a ≤ S16x1x16x2048.size a := by
  intro a
  have := h.isLt
  fin_cases a
  · exact Nat.le_refl _
  · exact Nat.le_refl _
  · exact Nat.le_refl _
  · show 128 * h.val + 128 ≤ 2048
    omega

def rectWide (h : Fin 16) : Rect S16x1x64x2048 := Rect.unit ![0, 0, 0, 128 * h.val] S16x1x64x128.size (inb_wide h)
def rectBefore (h : Fin 16) : Rect S16x1x16x2048 := Rect.unit ![0, 0, 0, 128 * h.val] S16x1x16x128.size (inb_before h)

/-- Which bias the first tile of a step takes: at the first step the one that masks the keys before the sequence. -/
def firstBias (i : grid0.Coords) : Fin 2 := if (i 1).val = 0 then 1 else 0

/-- The load of the first tile's bias: the table its word of the grid step names. -/
def firstOff (i : grid0.Coords) (h : Fin 16) : Fin 4 → ℕ :=
  ![(Scalar.indexCast (Scalar.select (Scalar.cmpi .eq (BitVec.ofNat 32 (i 1).val) 0#32) 1#32 0#32)).toNat, h.val, 0, 0]

theorem first_word : ∀ s : Fin 16, (Scalar.indexCast (Scalar.select (Scalar.cmpi .eq (BitVec.ofNat 32 s.val) 0#32) 1#32 0#32)).toNat
    = (if s.val = 0 then (1 : Fin 2) else 0).val := by decide +kernel

theorem firstOff_eq (i : grid0.Coords) (h : Fin 16) : firstOff i h = ![(firstBias i).val, h.val, 0, 0] :=
  congrArg (fun n : ℕ => (![n, h.val, 0, 0] : Fin 4 → ℕ)) (first_word (i 1))

theorem inb_first (i : grid0.Coords) (h : Fin 16) : ∀ a, firstOff i h a + S1x1x128x256.size a ≤ S2x16x128x256.size a := by
  rw [firstOff_eq]
  exact Kernel6Ideal.AttBody.inb_bias (firstBias i) h

def rectFirst (i : grid0.Coords) (h : Fin 16) : Rect S2x16x128x256 := Rect.unit (firstOff i h) S1x1x128x256.size (inb_first i h)

def rectStats : Rect S16x1x64x128 := Rect.unit ![0, 0, 0, 0] S16x1x64x128.size (fun a => by fin_cases a <;> exact Nat.le_refl _)

theorem inb_tab (n : ℕ) (h : Fin 16) : ∀ a, (![n % 32, h.val] : Fin 2 → ℕ) a + S1x1.size a ≤ S32x48.size a := by
  intro a
  have := h.isLt
  have := Nat.mod_lt n (show 0 < 32 by decide)
  fin_cases a
  · show n % 32 + 1 ≤ 32
    omega
  · show h.val + 1 ≤ 48
    omega

def rectTab (n : ℕ) (h : Fin 16) : Rect S32x48 := Rect.unit ![n % 32, h.val] S1x1.size (inb_tab n h)

variable (c : Dev nD) (i : grid0.Coords) (a2 : Memref sig .tc .smem S32x48 .f32) (h2 : a2.IsWhole)
  (a3 : Memref sig .tc .vmem S128x256 .i32) (h3 : a3.IsWhole) (a4 : Memref sig .tc .vmem S16x1x64x2048 .bf16) (h4 : a4.IsWhole)
  (a5 : Memref sig .tc .vmem S16x1x16x2048 .bf16) (h5 : a5.IsWhole) (a6 : Memref sig .tc .vmem S16x1x64x2048 .bf16) (h6 : a6.IsWhole)
  (a7 : Memref sig .tc .vmem S16x1x16x2048 .bf16) (h7 : a7.IsWhole) (a8 : Memref sig .tc .vmem S16x1x64x2048 .bf16) (h8 : a8.IsWhole)
  (a9 : Memref sig .tc .vmem S16x1x64x2048 .bf16) (h9 : a9.IsWhole) (a10 : Memref sig .tc .vmem S16x1x64x128 .f32) (h10 : a10.IsWhole)
  (a11 : Memref sig .tc .vmem S2x16x128x256 .f32) (h11 : a11.IsWhole)
  (x0 : Vec Ideal S32x48 .f32) (x1 : Vec Ideal S128x256 .i32) (x2 : Vec Ideal S16x1x64x2048 .bf16) (x3 : Vec Ideal S16x1x16x2048 .bf16)
  (x4 : Vec Ideal S16x1x64x2048 .bf16) (x5 : Vec Ideal S16x1x16x2048 .bf16) (x6 : Vec Ideal S16x1x64x2048 .bf16)
  (xs : Vec Ideal S2x16x128x256 .f32)

/-- Head `h`'s loads, its biases given. -/
def loads (B1 B0 : Fin 16 → Vec Ideal S1x1x128x256 .f32) (h : Fin 16) : Head where
  q := View.readAt (Elt Ideal) a4.view (rectWide h).toLoadRect (h4.unread x2)
  kp := View.readAt (Elt Ideal) a5.view (rectBefore h).toLoadRect (h5.unread x3)
  kc := View.readAt (Elt Ideal) a6.view (rectWide h).toLoadRect (h6.unread x4)
  vp := View.readAt (Elt Ideal) a7.view (rectBefore h).toLoadRect (h7.unread x5)
  vc := View.readAt (Elt Ideal) a8.view (rectWide h).toLoadRect (h8.unread x6)
  b1 := B1 h
  b0 := B0 h

/-- The sixteen heads' stores. -/
def pieces (Hs : Fin 16 → Head) : List (View.Piece (Elt Ideal) S16x1x64x2048 .bf16) :=
  [15, 14, 13, 12, 11, 10, 9, 8, 7, 6, 5, 4, 3, 2, 1, 0].map fun h => ⟨rectWide h, (Hs h).out⟩

theorem pieces7_B (hc : ¬cond0_0 i) :
    (kernelRun0_B c i a2 h2 a3 h3 a4 h4 a5 h5 a6 h6 a7 h7 a8 h8 a9 h9 a10 h10 a11 h11 hc x0 x1 x2 x3 x4 x5 x6 xs).1
      = pieces (loads a4 h4 a5 h5 a6 h6 a7 h7 a8 h8 x2 x3 x4 x5 x6
          (fun h => View.readAt (Elt Ideal) a11.view (rectFirst i h).toLoadRect (h11.unread xs))
          (fun h => View.readAt (Elt Ideal) a11.view (rectBias 0 h).toLoadRect (h11.unread xs))) := by
  sl_kernel_rfl

theorem pieces8_B (hc : ¬cond0_0 i) :
    (kernelRun0_B c i a2 h2 a3 h3 a4 h4 a5 h5 a6 h6 a7 h7 a8 h8 a9 h9 a10 h10 a11 h11 hc x0 x1 x2 x3 x4 x5 x6 xs).2.1
      = [⟨rectStats, statsOut (loads a4 h4 a5 h5 a6 h6 a7 h7 a8 h8 x2 x3 x4 x5 x6
          (fun h => View.readAt (Elt Ideal) a11.view (rectFirst i h).toLoadRect (h11.unread xs))
          (fun h => View.readAt (Elt Ideal) a11.view (rectBias 0 h).toLoadRect (h11.unread xs)))⟩] := by
  sl_kernel_rfl

theorem pieces0_A (hc : cond0_0 i) :
    (kernelRun0_A c i a2 h2 a3 h3 a4 h4 a5 h5 a6 h6 a7 h7 a8 h8 a9 h9 a10 h10 a11 h11 hc x0 x1 x2 x3 x4 x5 x6).2.2.1
      = biasPieces (fun h n => View.readAt (Elt Ideal) a2.view (rectTab n h).toLoadRect (h2.unread x0) (Shape.Idx.first (s := S1x1) (by decide)))
          (View.readAt (Elt Ideal) a3.view rectBucket.toLoadRect (h3.unread x1)) := by
  sl_kernel_rfl

theorem pieces7_A (hc : cond0_0 i) :
    (kernelRun0_A c i a2 h2 a3 h3 a4 h4 a5 h5 a6 h6 a7 h7 a8 h8 a9 h9 a10 h10 a11 h11 hc x0 x1 x2 x3 x4 x5 x6).1
      = pieces (loads a4 h4 a5 h5 a6 h6 a7 h7 a8 h8 x2 x3 x4 x5 x6
          (fun h => a11.view.readCov (kernelRun0_A c i a2 h2 a3 h3 a4 h4 a5 h5 a6 h6 a7 h7 a8 h8 a9 h9 a10 h10 a11 h11 hc x0 x1 x2 x3 x4 x5 x6).2.2.1 (rectFirst i h).toLoadRect)
          (fun h => a11.view.readCov (kernelRun0_A c i a2 h2 a3 h3 a4 h4 a5 h5 a6 h6 a7 h7 a8 h8 a9 h9 a10 h10 a11 h11 hc x0 x1 x2 x3 x4 x5 x6).2.2.1 (rectBias 0 h).toLoadRect)) := by
  sl_kernel_rfl

theorem pieces8_A (hc : cond0_0 i) :
    (kernelRun0_A c i a2 h2 a3 h3 a4 h4 a5 h5 a6 h6 a7 h7 a8 h8 a9 h9 a10 h10 a11 h11 hc x0 x1 x2 x3 x4 x5 x6).2.1
      = [⟨rectStats, statsOut (loads a4 h4 a5 h5 a6 h6 a7 h7 a8 h8 x2 x3 x4 x5 x6
          (fun h => a11.view.readCov (kernelRun0_A c i a2 h2 a3 h3 a4 h4 a5 h5 a6 h6 a7 h7 a8 h8 a9 h9 a10 h10 a11 h11 hc x0 x1 x2 x3 x4 x5 x6).2.2.1 (rectFirst i h).toLoadRect)
          (fun h => a11.view.readCov (kernelRun0_A c i a2 h2 a3 h3 a4 h4 a5 h5 a6 h6 a7 h7 a8 h8 a9 h9 a10 h10 a11 h11 hc x0 x1 x2 x3 x4 x5 x6).2.2.1 (rectBias 0 h).toLoadRect))⟩] := by
  sl_kernel_rfl

end Cert.Kernel10Ideal.FirstBody

end
-- ==== Proof.FirstElements.lean ====
/-
  The first group's attention body, element by element.
-/
module

public import proofs.«01_k».proof.Proof.FirstBody
public import proofs.«01_k».proof.Proof.AttElements

@[expose] public section

set_option maxRecDepth 16384

noncomputable section

namespace Cert.Kernel10Ideal.FirstElements

open Cert.Kernel10Ideal Cert.Kernel10Ideal.Gen Cert.Kernel10Ideal.FirstBody Idealize.ShloMosaic
open Cert.Kernel6Ideal.AttBody (colMax numTile denTile stats rectBias biasPieces bias0 bias1)
open Cert.Kernel6Ideal.AttElements (canon_of_agree mem_heads mem_emb bias_emb stats_hz stats_apply)

theorem tile_apply (x : Vec Ideal S16x1x64x128 .bf16) (n : Fin 8) (i d : Fin 128) :
    tile x n (ix2 i d) = x (ix4 (⟨i.val / 8, by omega⟩ : Fin 16) 0 (⟨8 * n.val + i.val % 8, by omega⟩ : Fin 64) d) := by
  pointwise [tile]

theorem before_apply (x : Vec Ideal S16x1x16x128 .bf16) (i d : Fin 128) :
    lastBefore x (ix2 i d) = x (ix4 (⟨i.val / 8, by omega⟩ : Fin 16) 0 (⟨8 + i.val % 8, by omega⟩ : Fin 16) d) := by
  pointwise [lastBefore]

theorem eight_apply (f : Fin 8 → FVec Ideal S128x128 .f32) (n : Fin 8) (i d : Fin 128) (k : Fin 16) (r : Fin 64) (hk : k.val = i.val / 8)
    (hr : r.val = 8 * n.val + i.val % 8) : eight f (ix3 k r d) = f n (ix2 i d) := by
  have e : shapeCast S16x8x128 (f n) shapeCasts_S128x128_S16x8x128 (ix3 k (⟨i.val % 8, by omega⟩ : Fin 8) d) = f n (ix2 i d) := by
    pointwise
    refine congrArg (fun y => f n (ix2 y d)) (Fin.ext ?_)
    show k.val * 8 + i.val % 8 = i.val
    omega
  rw [← e]
  unfold eight
  refine concatenate_ofFn_apply (t := S16x64x128) (s₁ := S16x8x128) 1
    (fun n : Fin 8 => shapeCast S16x8x128 (f n) shapeCasts_S128x128_S16x8x128) _ rfl 8 rfl (ix3 k r d) n ?_ (ix3 k (⟨i.val % 8, by omega⟩ : Fin 8) d) ?_ ?_
  · show r.val / 8 = n.val
    omega
  · show i.val % 8 = r.val % 8
    omega
  · intro b hb
    match b with
    | ⟨0, _⟩ => rfl
    | ⟨1, _⟩ => exact absurd rfl hb
    | ⟨2, _⟩ => rfl

theorem out_apply (H : Head) (n : Fin 8) (i d : Fin 128) (k : Fin 16) (r : Fin 64) (hk : k.val = i.val / 8) (hr : r.val = 8 * n.val + i.val % 8) :
    H.out (ix4 k 0 r d) = H.num n (ix2 i d) := by
  rw [← eight_apply H.num n i d k r hk hr]
  pointwise [Head.out]

theorem statsOut_apply (Hs : Fin 16 → Head) (n : Fin 8) (i l : Fin 128) (k : Fin 16) (r : Fin 64) (hk : k.val = i.val / 8) (hr : r.val = 8 * n.val + i.val % 8) :
    statsOut Hs (ix4 k 0 r l) = if l.val < 16 then colMax ((Hs ⟨l.val % 16, by omega⟩).score n) (ix2 i 0)
      else if l.val < 32 then (Hs ⟨l.val % 16, by omega⟩).den n (ix2 i l) else 0 := by
  have e : statsOut Hs (ix4 k 0 r l) = eight (fun n => stats (fun h => (Hs h).score n) (fun h => (Hs h).den n) 16) (ix3 k r l) := by pointwise [statsOut]
  rw [e, eight_apply _ n i l k r hk hr, stats_apply _ _ i l 16 (by omega)]
  split_ifs <;> first | rfl | omega

/-! ### The blocks a grid step leaves -/

theorem wide_emb (h : Fin 16) (x : S16x1x64x128.Idx) (a : Fin 4) :
    ((rectWide h).emb x a).val = (![0, 0, 0, 128 * h.val] : Fin 4 → ℕ) a + (x a).val :=
  ValueKit.rect_emb_unit_val (s := S16x1x64x2048) (![0, 0, 0, 128 * h.val] : Fin 4 → ℕ) S16x1x64x128.size (inb_wide h) x a

theorem canon_pieces (Hs : Fin 16 → Head) (h : Fin 16) (k : Fin 16) (r : Fin 64) (d : Fin 128) (l : Fin 2048) (hl : l.val = 128 * h.val + d.val) :
    View.canon (pieces Hs) (ix4 k 0 r l) = (Hs h).out (ix4 k 0 r d) := by
  have he : (rectWide h).emb (ix4 k 0 r d) = ix4 k 0 r l := by
    funext a
    apply Fin.ext
    refine (wide_emb h _ a).trans ?_
    match a with
    | ⟨0, _⟩ => exact Nat.zero_add _
    | ⟨1, _⟩ => rfl
    | ⟨2, _⟩ => exact Nat.zero_add _
    | ⟨3, _⟩ => exact hl.symm
  apply canon_of_agree
  · refine ⟨⟨rectWide h, (Hs h).out⟩, List.mem_map.mpr ⟨h, mem_heads h, rfl⟩, ?_⟩
    rw [← he]
    exact mem_emb (rectWide h) _
  · intro p hp x hx
    obtain ⟨h', -, rfl⟩ := List.mem_map.mp hp
    change S16x1x64x128.Idx at x
    have e0 : 0 + (x 0).val = k.val := (wide_emb h' x 0).symm.trans (congrArg (fun y : S16x1x64x2048.Idx => (y 0).val) hx)
    have e2 : 0 + (x 2).val = r.val := (wide_emb h' x 2).symm.trans (congrArg (fun y : S16x1x64x2048.Idx => (y 2).val) hx)
    have e3 : 128 * h'.val + (x 3).val = l.val := (wide_emb h' x 3).symm.trans (congrArg (fun y : S16x1x64x2048.Idx => (y 3).val) hx)
    have hx3 : (x 3).val < 128 := (x 3).isLt
    obtain rfl : h' = h := Fin.ext (by omega)
    show (Hs h').out x = _
    congr 1
    funext a
    apply Fin.ext
    match a with
    | ⟨0, _⟩ => show (x 0).val = k.val; omega
    | ⟨1, _⟩ => exact Nat.lt_one_iff.mp (x 1).isLt
    | ⟨2, _⟩ => show (x 2).val = r.val; omega
    | ⟨3, _⟩ => show (x 3).val = d.val; omega

/-! ### What each case leaves -/

/-- The heads a grid step reads: its blocks, and the biases of the scratch. -/
def headsOf (b : Fin 2) (B : Vec Ideal S2x16x128x256 .f32) (x2 : Vec Ideal S16x1x64x2048 .bf16) (x3 : Vec Ideal S16x1x16x2048 .bf16)
    (x4 : Vec Ideal S16x1x64x2048 .bf16) (x5 : Vec Ideal S16x1x16x2048 .bf16) (x6 : Vec Ideal S16x1x64x2048 .bf16) (h : Fin 16) : Head where
  q := View.ld x2 (rectWide h)
  kp := View.ld x3 (rectBefore h)
  kc := View.ld x4 (rectWide h)
  vp := View.ld x5 (rectBefore h)
  vc := View.ld x6 (rectWide h)
  b1 := View.ld B (rectBias b h)
  b0 := View.ld B (rectBias 0 h)

variable (c : Dev nD) (i : grid0.Coords) (a2 : Memref sig .tc .smem S32x48 .f32) (h2 : a2.IsWhole)
  (a3 : Memref sig .tc .vmem S128x256 .i32) (h3 : a3.IsWhole) (a4 : Memref sig .tc .vmem S16x1x64x2048 .bf16) (h4 : a4.IsWhole)
  (a5 : Memref sig .tc .vmem S16x1x16x2048 .bf16) (h5 : a5.IsWhole) (a6 : Memref sig .tc .vmem S16x1x64x2048 .bf16) (h6 : a6.IsWhole)
  (a7 : Memref sig .tc .vmem S16x1x16x2048 .bf16) (h7 : a7.IsWhole) (a8 : Memref sig .tc .vmem S16x1x64x2048 .bf16) (h8 : a8.IsWhole)
  (a9 : Memref sig .tc .vmem S16x1x64x2048 .bf16) (h9 : a9.IsWhole) (a10 : Memref sig .tc .vmem S16x1x64x128 .f32) (h10 : a10.IsWhole)
  (a11 : Memref sig .tc .vmem S2x16x128x256 .f32) (h11 : a11.IsWhole)
  (x0 : Vec Ideal S32x48 .f32) (x1 : Vec Ideal S128x256 .i32) (x2 : Vec Ideal S16x1x64x2048 .bf16) (x3 : Vec Ideal S16x1x16x2048 .bf16)
  (x4 : Vec Ideal S16x1x64x2048 .bf16) (x5 : Vec Ideal S16x1x16x2048 .bf16) (x6 : Vec Ideal S16x1x64x2048 .bf16)
  (xs : Vec Ideal S2x16x128x256 .f32)

theorem ld_first (X : Vec Ideal S2x16x128x256 .f32) (h : Fin 16) :
    (View.ld X (rectFirst i h) : S1x1x128x256.Idx → EReal) = View.ld X (rectBias (firstBias i) h) := by
  funext x
  refine View.ld_unit_apply_of X (firstOff i h) S1x1x128x256.size (inb_first i h) x ((rectBias (firstBias i) h).emb x) fun a => ?_
  exact (bias_emb (firstBias i) h x a).trans (congrArg (· + (x a).val) (congrFun (firstOff_eq i h) a).symm)

theorem loads_eq (B1 B0 : Fin 16 → Vec Ideal S1x1x128x256 .f32) (h1 : ∀ h, B1 h = View.ld xs (rectFirst i h)) (h0 : ∀ h, B0 h = View.ld xs (rectBias 0 h)) :
    loads a4 h4 a5 h5 a6 h6 a7 h7 a8 h8 x2 x3 x4 x5 x6 B1 B0 = headsOf (firstBias i) xs x2 x3 x4 x5 x6 := by
  funext h
  unfold loads headsOf
  rw [h1 h, h0 h, ld_first]
  simp only [View.readAt_eq_ld, h4.read_unread, h5.read_unread, h6.read_unread, h7.read_unread, h8.read_unread]

theorem out_B_7 (hc : ¬cond0_0 i) (h : Fin 16) (k : Fin 16) (r : Fin 64) (d : Fin 128) (l : Fin 2048) (hl : l.val = 128 * h.val + d.val) :
    out0_B_7 c i a2 h2 a3 h3 a4 h4 a5 h5 a6 h6 a7 h7 a8 h8 a9 h9 a10 h10 a11 h11 hc x0 x1 x2 x3 x4 x5 x6 xs (ix4 k 0 r l)
      = (headsOf (firstBias i) xs x2 x3 x4 x5 x6 h).out (ix4 k 0 r d) := by
  unfold out0_B_7
  rw [View.read_writes_junk_eq_canon, pieces7_B, canon_pieces _ h k r d l hl]
  exact congrArg (fun H : Fin 16 → Head => (H h).out (ix4 k 0 r d)) (loads_eq i a4 h4 a5 h5 a6 h6 a7 h7 a8 h8 x2 x3 x4 x5 x6 xs _ _
    (fun h => by rw [View.readAt_eq_ld, h11.read_unread]) fun h => by rw [View.readAt_eq_ld, h11.read_unread])

theorem canon_stats (w : Vec Ideal S16x1x64x128 .f32) : View.canon [(⟨rectStats, w⟩ : View.Piece (Elt Ideal) S16x1x64x128 .f32)] = w := by
  funext y
  have he : rectStats.emb y = y := by
    funext a
    apply Fin.ext
    refine (ValueKit.rect_emb_unit_val _ _ _ y a).trans ?_
    exact (congrArg (· + (y a).val) (congrFun stats_hz a)).trans (Nat.zero_add _)
  conv_lhs => rw [← he]
  exact View.canon_cons_emb rectStats w [] y

theorem out_B_8 (hc : ¬cond0_0 i) :
    out0_B_8 c i a2 h2 a3 h3 a4 h4 a5 h5 a6 h6 a7 h7 a8 h8 a9 h9 a10 h10 a11 h11 hc x0 x1 x2 x3 x4 x5 x6 xs
      = statsOut (headsOf (firstBias i) xs x2 x3 x4 x5 x6) := by
  unfold out0_B_8
  rw [View.read_writes_junk_eq_canon, pieces8_B, canon_stats]
  exact congrArg (statsOut) (loads_eq i a4 h4 a5 h5 a6 h6 a7 h7 a8 h8 x2 x3 x4 x5 x6 xs _ _
    (fun h => by rw [View.readAt_eq_ld, h11.read_unread]) fun h => by rw [View.readAt_eq_ld, h11.read_unread])

/-- The biases the first grid step computes. -/
def biasOf10 (x0 : Vec Ideal S32x48 .f32) (x1 : Vec Ideal S128x256 .i32) : Vec Ideal S2x16x128x256 .f32 :=
  View.canon (biasPieces (fun h n => x0 (ix2 ⟨n % 32, Nat.mod_lt _ (by decide)⟩ ⟨h.val, by omega⟩)) x1)

theorem scratch_pieces (hc : cond0_0 i) :
    (kernelRun0_A c i a2 h2 a3 h3 a4 h4 a5 h5 a6 h6 a7 h7 a8 h8 a9 h9 a10 h10 a11 h11 hc x0 x1 x2 x3 x4 x5 x6).2.2.1
      = biasPieces (fun h n => x0 (ix2 ⟨n % 32, Nat.mod_lt _ (by decide)⟩ ⟨h.val, by omega⟩)) x1 := by
  rw [pieces0_A]
  congr 1
  · funext h n
    rw [View.readAt_eq_ld, h2.read_unread]
    refine View.ld_unit_apply_of x0 ![n % 32, h.val] S1x1.size (inb_tab n h) _ _ fun a => ?_
    match a with
    | ⟨0, _⟩ => rfl
    | ⟨1, _⟩ => rfl
  · rw [View.readAt_eq_ld, h3.read_unread]
    funext y
    refine View.ld_unit_apply_of x1 ![0, 0] S128x256.size _ y y fun a => ?_
    match a with
    | ⟨0, _⟩ => exact (Nat.zero_add _).symm
    | ⟨1, _⟩ => exact (Nat.zero_add _).symm

theorem sout_A (hc : cond0_0 i) :
    sout0_A_0 c i a2 h2 a3 h3 a4 h4 a5 h5 a6 h6 a7 h7 a8 h8 a9 h9 a10 h10 a11 h11 hc x0 x1 x2 x3 x4 x5 x6 = biasOf10 x0 x1 := by
  unfold sout0_A_0
  rw [View.read_writes_junk_eq_canon, scratch_pieces]
  rfl

theorem out_A_7 (hc : cond0_0 i) (h : Fin 16) (k : Fin 16) (r : Fin 64) (d : Fin 128) (l : Fin 2048) (hl : l.val = 128 * h.val + d.val) :
    out0_A_7 c i a2 h2 a3 h3 a4 h4 a5 h5 a6 h6 a7 h7 a8 h8 a9 h9 a10 h10 a11 h11 hc x0 x1 x2 x3 x4 x5 x6 (ix4 k 0 r l)
      = (headsOf (firstBias i) (biasOf10 x0 x1) x2 x3 x4 x5 x6 h).out (ix4 k 0 r d) := by
  unfold out0_A_7
  rw [View.read_writes_junk_eq_canon, pieces7_A, canon_pieces _ h k r d l hl, scratch_pieces]
  exact congrArg (fun H : Fin 16 → Head => (H h).out (ix4 k 0 r d)) (loads_eq i a4 h4 a5 h5 a6 h6 a7 h7 a8 h8 x2 x3 x4 x5 x6 (biasOf10 x0 x1) _ _
    (fun h => View.readCov_eq_canon' _ _ _) fun h => View.readCov_eq_canon' _ _ _)

theorem out_A_8 (hc : cond0_0 i) :
    out0_A_8 c i a2 h2 a3 h3 a4 h4 a5 h5 a6 h6 a7 h7 a8 h8 a9 h9 a10 h10 a11 h11 hc x0 x1 x2 x3 x4 x5 x6
      = statsOut (headsOf (firstBias i) (biasOf10 x0 x1) x2 x3 x4 x5 x6) := by
  unfold out0_A_8
  rw [View.read_writes_junk_eq_canon, pieces8_A, canon_stats, scratch_pieces]
  exact congrArg (statsOut) (loads_eq i a4 h4 a5 h5 a6 h6 a7 h7 a8 h8 x2 x3 x4 x5 x6 (biasOf10 x0 x1) _ _
    (fun h => View.readCov_eq_canon' _ _ _) fun h => View.readCov_eq_canon' _ _ _)

end Cert.Kernel10Ideal.FirstElements

end
-- ==== Proof.FirstLayer.lean ====
/-
  The first group's attention, as a function of the caller's arrays: tile `n` of 128 positions, head `h`, query `i` of the
  tile, key `j` of the tile before and the tile itself. The sequence is not dilated; the kernel holds a tile as eight rows
  of each of sixteen classes.
-/
module

public import proofs.«01_k».proof.Proof.AttOrder

@[expose] public section

noncomputable section

namespace Cert.FirstSpec

open Idealize.ShloMosaic
open Cert.AttSpec (rel banded t5 L scale num den top)

/-! ### The buckets -/

def bucket (i : Fin 128) (j : Fin 256) : BitVec 32 := t5 (AttSpec.distBy 1#32 (rel i j))

theorem band_cases : ∀ z : Fin 512, banded (BitVec.ofInt 32 ((z.val : ℤ) - 255)) = 1#1 →
    ∃ c : Fin 129, AttSpec.distBy 1#32 (BitVec.ofInt 32 ((z.val : ℤ) - 255)) = BitVec.ofNat 32 c.val := by decide +kernel

/-- In the band the bucket is below 32. -/
theorem bucket_lt (i : Fin 128) (j : Fin 256) (hb : banded (rel i j) = 1#1) : ∃ n : Fin 32, bucket i j = BitVec.ofNat 32 n.val := by
  obtain ⟨z, hz⟩ := AttSpec.rel_cases i j
  unfold bucket
  rw [hz] at hb ⊢
  obtain ⟨c, hc⟩ := band_cases z hb
  rw [hc]
  exact AttSpec.t5_lt ⟨c.val, by omega⟩

/-! ### The layer -/

/-- The key at column `j` of tile `n`'s two tiles. -/
abbrev keyPos (n : Fin 128) (j : Fin 256) : Fin 16384 := ⟨128 * n + j - 128, by omega⟩
abbrev queryPos (n i : Fin 128) : Fin 16384 := ⟨128 * n + i, by omega⟩

abbrev qCol (h : Fin 16) (d : Fin 128) : Fin 6144 := ⟨128 * h + d, by omega⟩
abbrev kCol (h : Fin 16) (d : Fin 128) : Fin 12288 := ⟨128 * h + d, by omega⟩
abbrev vCol (h : Fin 16) (d : Fin 128) : Fin 12288 := ⟨6144 + (128 * h + d), by omega⟩

/-- Whether the query attends to the key: in the band, and not before the sequence. -/
abbrev seen (n i : Fin 128) (j : Fin 256) : Prop := banded (rel i j) = 1#1 ∧ (n ≠ 0 ∨ 128 ≤ j.val)

variable (q : Fin 16384 → Fin 6144 → EReal) (kv : Fin 16384 → Fin 12288 → EReal) (tab : Fin 32 → Fin 48 → EReal)

def biasAt (h : Fin 16) (i : Fin 128) (j : Fin 256) : EReal := tab ⟨(bucket i j).toNat % 32, Nat.mod_lt _ (by decide)⟩ ⟨h, by omega⟩

def dotAt (n : Fin 128) (h : Fin 16) (i : Fin 128) (j : Fin 256) : EReal :=
  ∑ k : Fin 128, q (queryPos n i) (qCol h k) * kv (keyPos n j) (kCol h k)

def scoreAt (n : Fin 128) (h : Fin 16) (i : Fin 128) (j : Fin 256) : EReal :=
  if seen n i j then dotAt q kv n h i j * scale + biasAt tab h i j else ⊥

/-- The unnormalised output. -/
def outAt (n : Fin 128) (h : Fin 16) (i d : Fin 128) : EReal := num (scoreAt q kv tab n h i) fun j => kv (keyPos n j) (vCol h d)

/-- The statistics: the heads' maxima in units of the logarithm of two, the heads' denominators, zeros. -/
def statAt (n i l : Fin 128) : EReal :=
  if l.val < 16 then L * top (scoreAt q kv tab n ⟨l.val % 16, Nat.mod_lt _ (by decide)⟩ i)
  else if l.val < 32 then den (scoreAt q kv tab n ⟨l.val % 16, Nat.mod_lt _ (by decide)⟩ i) else 0

/-! ### The order of a tile -/

/-- Row `i` of the kernel's tile is position `off i`: sixteen classes of eight rows, interleaved. -/
abbrev off (i : Fin 128) : Fin 128 := ⟨(i.val % 8) * 16 + i.val / 8, by omega⟩

def interleave (j : Fin 256) : Fin 256 := ⟨128 * (j.val / 128) + ((j.val % 8) * 16 + j.val % 128 / 8), by omega⟩
def gathered (u : Fin 256) : Fin 256 := ⟨128 * (u.val / 128) + ((u.val % 16) * 8 + u.val % 128 / 16), by omega⟩

/-- The same of two tiles. -/
def two : Fin 256 ≃ Fin 256 :=
  ⟨interleave, gathered, (by decide +kernel : ∀ j : Fin 256, gathered (interleave j) = j), (by decide +kernel : ∀ u : Fin 256, interleave (gathered u) = u)⟩

theorem two_val (j : Fin 256) : (two j).val = 128 * (j.val / 128) + ((j.val % 8) * 16 + j.val % 128 / 8) := rfl

theorem two_low (j : Fin 256) (h : j.val < 128) : (two j).val = (off ⟨j.val, h⟩).val := by
  rw [two_val]
  show 128 * (j.val / 128) + (j.val % 8 * 16 + j.val % 128 / 8) = j.val % 8 * 16 + j.val / 8
  omega

theorem two_high (j : Fin 256) (h : ¬j.val < 128) : (two j).val = (off ⟨j.val - 128, by omega⟩).val + 128 := by
  rw [two_val]
  show 128 * (j.val / 128) + (j.val % 8 * 16 + j.val % 128 / 8) = (j.val - 128) % 8 * 16 + (j.val - 128) / 8 + 128
  omega

end Cert.FirstSpec

end
-- ==== Proof.FirstHost.lean ====
/-
  What the host hands the first group's attention kernel: the scaled queries and the keys and values in residue-major order of
  sixteen classes, and the relative-position bucket of every pair of positions of two tiles.
-/
module

public import proofs.«01_k».proof.Proof.Gen.Kernel10Ideal.Value
public import proofs.«01_k».proof.Proof.MidHost
public import proofs.«01_k».proof.Proof.FirstLayer

@[expose] public section

set_option maxRecDepth 16384

noncomputable section

namespace Cert.Kernel10Ideal.FirstHost

open Cert.Kernel10Ideal Cert.Kernel10Ideal.Gen Cert.Kernel10Ideal.Value Idealize.ShloMosaic Idealize.ShloMosaic.TcCoe
open Cert.FirstSpec
open Cert.AttSpec (scale rel)
open Cert.Kernel9Ideal.MidHost (hostOff hostRel hostBucket rel_of_order)

variable (m : (ℓ : Loc nD τ sig) → Buf (Elt Ideal) ℓ) (c : Dev nD)

/-- The queries, class by class, scaled. -/
def hostQ (x : Vec Ideal S16384x6144 .f32) : Vec Ideal S16x1x1024x6144 .bf16 :=
  shapeCast S16x1x1024x6144 (truncf (F := Ideal) .bf16 (Host.divf (F := Ideal) (φ := .f32)
    (mulf (F := Ideal) (φ := .f32) (shapeCast S16384x6144 (transpose S16x1024x6144 [1, 0, 2] (shapeCast S1024x16x6144 x shapeCasts_S16384x6144_S1024x16x6144)
        transposes_S1024x16x6144_S16x1024x6144_1_0_2) shapeCasts_S16x1024x6144_S16384x6144)
      (broadcastInDim S16384x6144 ![] bcast_S_S16384x6144 (constant (F := Ideal) S_ .f32 0x3DB504F3#32)))
    (broadcastInDim S16384x6144 ![] bcast_S_S16384x6144 (Host.log (F := Ideal) (φ := .f32) (constant (F := Ideal) S_ .f32 0x40000000#32)))) bitsLt_bf16_f32) shapeCasts_S16384x6144_S16x1x1024x6144

/-- The keys and values, class by class. -/
def hostKV (x : Vec Ideal S16384x12288 .f32) : Vec Ideal S16x1x1024x12288 .bf16 :=
  shapeCast S16x1x1024x12288 (truncf (F := Ideal) .bf16 (shapeCast S16384x12288 (transpose S16x1024x12288 [1, 0, 2]
    (shapeCast S1024x16x12288 x shapeCasts_S16384x12288_S1024x16x12288) transposes_S1024x16x12288_S16x1024x12288_1_0_2)
    shapeCasts_S16x1024x12288_S16384x12288) bitsLt_bf16_f32) shapeCasts_S16384x12288_S16x1x1024x12288

theorem host_q : V m c main_v56 = hostQ (m (c.tc.loc main_arg0)) := by sl_kernel_rfl
theorem host_kp : V m c main_v57 = hostKV (m (c.tc.loc main_arg1)) := by sl_kernel_rfl
theorem host_kc : V m c main_v58 = hostKV (m (c.tc.loc main_arg1)) := by sl_kernel_rfl
theorem host_vp : V m c main_v59 = hostKV (m (c.tc.loc main_arg1)) := by sl_kernel_rfl
theorem host_vc : V m c main_v60 = hostKV (m (c.tc.loc main_arg1)) := by sl_kernel_rfl

/-- Row `p` of class `k` is position `16 p + k`. -/
theorem hostKV_apply (x : Vec Ideal S16384x12288 .f32) (k : Fin 16) (p : Fin 1024) (u : Fin 16384) (hu : u.val = 16 * p.val + k.val) (l : Fin 12288) :
    hostKV x (ix4 k 0 p l) = x (ix2 u l) := by
  pointwise [hostKV]
  exact congrArg (fun s => x (ix2 s l)) (Fin.ext (by show _ = u.val; dsimp only; omega))

theorem hostQ_apply (x : Vec Ideal S16384x6144 .f32) (k : Fin 16) (p : Fin 1024) (u : Fin 16384) (hu : u.val = 16 * p.val + k.val) (l : Fin 6144) :
    hostQ x (ix4 k 0 p l) = Ideal.div (x (ix2 u l) * scale) (Ideal.log (Ideal.ofBits .f32 0x40000000#32)) := by
  pointwise [hostQ]
  exact congrArg (fun s => Ideal.div (x (ix2 s l) * scale) _) (Fin.ext (by show _ = u.val; dsimp only; omega))

theorem host_bucket : V m c main_v55 = hostBucket 1#32 (hostRel (hostOff 8#32 16#32)) := by sl_kernel_rfl

theorem off_apply : ∀ i : Fin 128, hostOff 8#32 16#32 (ix1 i) = BitVec.ofNat 32 (off i).val := by decide +kernel

theorem rel_apply (i : Fin 128) (j : Fin 256) : hostRel (hostOff 8#32 16#32) (ix2 i j) = rel (off i) (two j) :=
  rel_of_order _ off two off_apply two_low two_high i j

end Cert.Kernel10Ideal.FirstHost

end
-- ==== Proof.FirstFold.lean ====
/-
  The first group's result arrays, at an index: the first of the sixteen points leaves the biases in the scratch, and
  every point computes eight tiles of the sixteen heads.
-/
module

public import proofs.«01_k».proof.Proof.FirstElements
public import proofs.«01_k».proof.Proof.FirstHost
public import proofs.«01_k».proof.Proof.MidFold

@[expose] public section

set_option maxRecDepth 16384

noncomputable section

namespace Cert.Kernel10Ideal.FirstFold

open Cert.Kernel10Ideal Cert.Kernel10Ideal.Gen Cert.Kernel10Ideal.Value Cert.Kernel10Ideal.FirstBody Cert.Kernel10Ideal.FirstElements Cert.Kernel10Ideal.FirstHost
open Idealize.ShloMosaic Idealize.ShloMosaic.TcCoe
open Cert.Kernel6Ideal.AttBody (colMax biasOf bias0 bias1 rectBias inb_bias)
open Cert.Kernel6Ideal.AttElements (pick score_apply numTile_apply denTile_apply colMax_apply bias_apply bias0_apply bias1_apply canon_biasPieces)
open Cert.AttSpec (top rel banded)
open Cert.Kernel9Ideal.MidFold (block_emb)
open Cert.Kernel9Ideal.MidHost (hostOff hostRel bucket_of_rel)
open Cert.FirstSpec (keyPos queryPos qCol kCol vCol seen biasAt dotAt scoreAt outAt statAt bucket off two two_low two_high)

variable (m : (ℓ : Loc nD τ sig) → Buf (Elt Ideal) ℓ) (c : Dev nD)

def aQ (s : Fin 16384) (l : Fin 6144) : EReal := m ((c : Thread nD τ).loc main_arg0) (ix2 s l)
def aKV (s : Fin 16384) (l : Fin 12288) : EReal := m ((c : Thread nD τ).loc main_arg1) (ix2 s l)
def aT (a : Fin 32) (b : Fin 48) : EReal := m ((c : Thread nD τ).loc main_arg2) (ix2 a b)

/-! ### The blocks -/

theorem idx_blocks : ∀ t : Fin cfg0.N,
    (win0_2.index t (0 : Fin 4) = 0 ∧ win0_2.index t (1 : Fin 4) = 0 ∧ win0_2.index t (2 : Fin 4) = t.val ∧ win0_2.index t (3 : Fin 4) = 0)
    ∧ (win0_3.index t (0 : Fin 4) = 0 ∧ win0_3.index t (1 : Fin 4) = 0 ∧ win0_3.index t (2 : Fin 4) = t.val * 4 - 1 ∧ win0_3.index t (3 : Fin 4) = 0)
    ∧ (win0_4.index t (0 : Fin 4) = 0 ∧ win0_4.index t (1 : Fin 4) = 0 ∧ win0_4.index t (2 : Fin 4) = t.val ∧ win0_4.index t (3 : Fin 4) = 0)
    ∧ (win0_5.index t (0 : Fin 4) = 0 ∧ win0_5.index t (1 : Fin 4) = 0 ∧ win0_5.index t (2 : Fin 4) = t.val * 4 - 1 ∧ win0_5.index t (3 : Fin 4) = 3)
    ∧ (win0_6.index t (0 : Fin 4) = 0 ∧ win0_6.index t (1 : Fin 4) = 0 ∧ win0_6.index t (2 : Fin 4) = t.val ∧ win0_6.index t (3 : Fin 4) = 3) :=
  (by decide +kernel : ∀ t : Fin grid0.N, _)

theorem idx_whole : ∀ t : Fin cfg0.N,
    (win0_0.index t (0 : Fin 2) = 0 ∧ win0_0.index t (1 : Fin 2) = 0) ∧ (win0_1.index t (0 : Fin 2) = 0 ∧ win0_1.index t (1 : Fin 2) = 0) :=
  (by decide +kernel : ∀ t : Fin grid0.N, _)

theorem point_lt (t : Fin cfg0.N) : t.val < 16 := lt_of_lt_of_eq t.isLt N_0

/-- A grid point's tile `n`. -/
abbrev tileOf (t : Fin cfg0.N) (n : Fin 8) : Fin 128 := ⟨8 * t.val + n.val, by have := point_lt t; omega⟩

theorem firstBias_eq : ∀ t : Fin cfg0.N, firstBias (grid0.coords t) = if t.val = 0 then 1 else 0 :=
  (by decide +kernel : ∀ t : Fin grid0.N, _)

theorem row_lt (t : Fin cfg0.N) (p : Fin 64) : t.val * 64 + p.val < 1024 := by have := point_lt t; omega
theorem before_lt (t : Fin cfg0.N) (p : Fin 16) : (t.val * 4 - 1) * 16 + p.val < 1024 := by have := point_lt t; omega

theorem blk2 (t : Fin cfg0.N) (k : Fin 16) (p : Fin 64) (l : Fin 2048) (u : Fin 16384) (hu : u.val = 16 * (t.val * 64 + p.val) + k.val) :
    iblk m c 2 t (ix4 k 0 p l) = Ideal.div (aQ m c u ⟨0 * 2048 + l, by omega⟩ * AttSpec.scale) (Ideal.log (Ideal.ofBits .f32 0x40000000#32)) := by
  obtain ⟨⟨e0, e1, e2, e3⟩, -⟩ := idx_blocks t
  unfold iblk
  rw [View.read_apply]
  refine Eq.trans ?_ (hostQ_apply (m (c.tc.loc main_arg0)) k ⟨t.val * 64 + p.val, row_lt t p⟩ u hu ⟨0 * 2048 + l, by omega⟩)
  show V m c main_v56 _ = _
  rw [host_q]
  exact congrArg _ (block_emb e0 e1 e2 e3 ⟨rfl, rfl, rfl, rfl⟩ ⟨rfl, rfl, rfl, rfl⟩)

theorem blk3 (t : Fin cfg0.N) (k : Fin 16) (p : Fin 16) (l : Fin 2048) (u : Fin 16384) (hu : u.val = 16 * ((t.val * 4 - 1) * 16 + p.val) + k.val) :
    iblk m c 3 t (ix4 k 0 p l) = aKV m c u ⟨0 * 2048 + l, by omega⟩ := by
  obtain ⟨-, ⟨e0, e1, e2, e3⟩, -⟩ := idx_blocks t
  unfold iblk
  rw [View.read_apply]
  refine Eq.trans ?_ (hostKV_apply (m (c.tc.loc main_arg1)) k ⟨(t.val * 4 - 1) * 16 + p.val, before_lt t p⟩ u hu ⟨0 * 2048 + l, by omega⟩)
  show V m c main_v57 _ = _
  rw [host_kp]
  exact congrArg _ (block_emb e0 e1 e2 e3 ⟨rfl, rfl, rfl, rfl⟩ ⟨rfl, rfl, rfl, rfl⟩)

theorem blk4 (t : Fin cfg0.N) (k : Fin 16) (p : Fin 64) (l : Fin 2048) (u : Fin 16384) (hu : u.val = 16 * (t.val * 64 + p.val) + k.val) :
    iblk m c 4 t (ix4 k 0 p l) = aKV m c u ⟨0 * 2048 + l, by omega⟩ := by
  obtain ⟨-, -, ⟨e0, e1, e2, e3⟩, -⟩ := idx_blocks t
  unfold iblk
  rw [View.read_apply]
  refine Eq.trans ?_ (hostKV_apply (m (c.tc.loc main_arg1)) k ⟨t.val * 64 + p.val, row_lt t p⟩ u hu ⟨0 * 2048 + l, by omega⟩)
  show V m c main_v58 _ = _
  rw [host_kc]
  exact congrArg _ (block_emb e0 e1 e2 e3 ⟨rfl, rfl, rfl, rfl⟩ ⟨rfl, rfl, rfl, rfl⟩)

theorem blk5 (t : Fin cfg0.N) (k : Fin 16) (p : Fin 16) (l : Fin 2048) (u : Fin 16384) (hu : u.val = 16 * ((t.val * 4 - 1) * 16 + p.val) + k.val) :
    iblk m c 5 t (ix4 k 0 p l) = aKV m c u ⟨3 * 2048 + l, by omega⟩ := by
  obtain ⟨-, -, -, ⟨e0, e1, e2, e3⟩, -⟩ := idx_blocks t
  unfold iblk
  rw [View.read_apply]
  refine Eq.trans ?_ (hostKV_apply (m (c.tc.loc main_arg1)) k ⟨(t.val * 4 - 1) * 16 + p.val, before_lt t p⟩ u hu ⟨3 * 2048 + l, by omega⟩)
  show V m c main_v59 _ = _
  rw [host_vp]
  exact congrArg _ (block_emb e0 e1 e2 e3 ⟨rfl, rfl, rfl, rfl⟩ ⟨rfl, rfl, rfl, rfl⟩)

theorem blk6 (t : Fin cfg0.N) (k : Fin 16) (p : Fin 64) (l : Fin 2048) (u : Fin 16384) (hu : u.val = 16 * (t.val * 64 + p.val) + k.val) :
    iblk m c 6 t (ix4 k 0 p l) = aKV m c u ⟨3 * 2048 + l, by omega⟩ := by
  obtain ⟨-, -, -, -, ⟨e0, e1, e2, e3⟩⟩ := idx_blocks t
  unfold iblk
  rw [View.read_apply]
  refine Eq.trans ?_ (hostKV_apply (m (c.tc.loc main_arg1)) k ⟨t.val * 64 + p.val, row_lt t p⟩ u hu ⟨3 * 2048 + l, by omega⟩)
  show V m c main_v60 _ = _
  rw [host_vc]
  exact congrArg _ (block_emb e0 e1 e2 e3 ⟨rfl, rfl, rfl, rfl⟩ ⟨rfl, rfl, rfl, rfl⟩)

theorem blk0 (t : Fin cfg0.N) (a : Fin 32) (b : Fin 48) : iblk m c 0 t (ix2 a b) = aT m c a b := by
  obtain ⟨⟨e0, e1⟩, -⟩ := idx_whole t
  unfold iblk aT
  rw [View.read_apply]
  show V m c main_arg2 _ = _
  rw [V_main_arg2]
  congr 1
  funext x
  apply Fin.ext
  match x with
  | ⟨0, _⟩ => show win0_0.index t 0 * 32 + 1 * a.val = a.val; rw [e0]; omega
  | ⟨1, _⟩ => show win0_0.index t 1 * 48 + 1 * b.val = b.val; rw [e1]; omega

theorem blk1 (t : Fin cfg0.N) (i : Fin 128) (j : Fin 256) :
    iblk m c 1 t (ix2 i j) = Scalar.select (banded (rel (off i) (two j))) (bucket (off i) (two j)) 4294967295#32 := by
  obtain ⟨-, ⟨e0, e1⟩⟩ := idx_whole t
  unfold iblk bucket
  rw [View.read_apply, ← rel_apply i j]
  refine Eq.trans ?_ (bucket_of_rel 1#32 (hostRel (hostOff 8#32 16#32)) i j)
  show V m c main_v55 _ = _
  rw [host_bucket]
  congr 1
  funext x
  apply Fin.ext
  match x with
  | ⟨0, _⟩ => show win0_1.index t 0 * 128 + 1 * i.val = i.val; rw [e0]; omega
  | ⟨1, _⟩ => show win0_1.index t 1 * 256 + 1 * j.val = j.val; rw [e1]; omega

/-! ### The biases -/

/-- What the scratch holds: in the band the table's entry, scaled; elsewhere, and before the sequence for the first
    tile, nothing. -/
def IsBias (B : Vec Ideal S2x16x128x256 .f32) : Prop := ∀ (k : Fin 2) (h : Fin 16) (i : Fin 128) (j : Fin 256),
  B (ix4 k h i j) = if banded (rel (off i) (two j)) = 1#1 ∧ (k = 0 ∨ 128 ≤ j.val) then biasAt (aT m c) h (off i) (two j) * AttSpec.L else (⊥ : EReal)

theorem isBias (t : Fin cfg0.N) : IsBias m c (biasOf10 (iblk m c 0 t) (iblk m c 1 t)) := by
  intro k h i j
  have h0 : ∀ tab : ℕ → EReal, (∀ n, tab n = aT m c ⟨n % 32, Nat.mod_lt _ (by decide)⟩ ⟨h.val, by omega⟩) →
      bias0 tab (iblk m c 1 t) (ix2 i j) = if banded (rel (off i) (two j)) = 1#1 then biasAt (aT m c) h (off i) (two j) * AttSpec.L else (⊥ : EReal) := by
    intro tab ht
    rw [bias0_apply, blk1]
    by_cases hb : banded (rel (off i) (two j)) = 1#1
    · obtain ⟨n, hn⟩ := FirstSpec.bucket_lt (off i) (two j) hb
      rw [hb, ValueIdx.select_one, if_pos rfl, ht, if_pos]
      · rfl
      · rw [hn, BitVec.toNat_ofNat]
        have := n.isLt
        omega
    · have hz : banded (rel (off i) (two j)) = 0#1 := by
        rcases (by decide : ∀ b : BitVec 1, b = 0#1 ∨ b = 1#1) (banded (rel (off i) (two j))) with h | h
        · exact h
        · exact absurd h hb
      rw [hz, ValueIdx.select_zero, if_neg (by decide), if_neg (by decide)]
  unfold biasOf10
  rw [canon_biasPieces]
  have hk : k = 0 ∨ k = 1 := by omega
  rcases hk with rfl | rfl
  · rw [if_neg (by decide), h0 _ (fun n => blk0 m c t _ _)]
    simp
  · show bias1 _ _ (ix2 i j) = _
    rw [bias1_apply, h0 _ (fun n => blk0 m c t _ _)]
    by_cases hj : j.val < 128
    · rw [if_pos hj, if_neg]
      rintro ⟨-, h | h⟩
      · exact absurd h (by decide)
      · omega
    · rw [if_neg hj]
      have : 128 ≤ j.val := by omega
      simp [this]

/-! ### One head of one point -/

variable (B : Vec Ideal S2x16x128x256 .f32)

/-- The heads of point `t`, over a scratch. -/
abbrev headsAt (t : Fin cfg0.N) : Fin 16 → Head :=
  headsOf (firstBias (grid0.coords t)) B (iblk m c 2 t) (iblk m c 3 t) (iblk m c 4 t) (iblk m c 5 t) (iblk m c 6 t)

theorem wide_ld (X : Vec Ideal S16x1x64x2048 .bf16) (h : Fin 16) (k : Fin 16) (p : Fin 64) (d : Fin 128) :
    View.ld X (rectWide h) (ix4 k 0 p d) = X (ix4 k 0 p ⟨128 * h + d, by omega⟩) := by
  refine View.ld_unit_apply_of X _ S16x1x64x128.size (inb_wide h) (ix4 k 0 p d) _ fun a => ?_
  match a with
  | ⟨0, _⟩ => exact (Nat.zero_add _).symm
  | ⟨1, _⟩ => rfl
  | ⟨2, _⟩ => exact (Nat.zero_add _).symm
  | ⟨3, _⟩ => rfl

theorem before_ld (X : Vec Ideal S16x1x16x2048 .bf16) (h : Fin 16) (k : Fin 16) (p : Fin 16) (d : Fin 128) :
    View.ld X (rectBefore h) (ix4 k 0 p d) = X (ix4 k 0 p ⟨128 * h + d, by omega⟩) := by
  refine View.ld_unit_apply_of X _ S16x1x16x128.size (inb_before h) (ix4 k 0 p d) _ fun a => ?_
  match a with
  | ⟨0, _⟩ => exact (Nat.zero_add _).symm
  | ⟨1, _⟩ => rfl
  | ⟨2, _⟩ => exact (Nat.zero_add _).symm
  | ⟨3, _⟩ => rfl

theorem bias_ld (k : Fin 2) (h : Fin 16) (i : Fin 128) (j : Fin 256) : View.ld B (rectBias k h) (ix4 0 0 i j) = B (ix4 k h i j) := by
  refine View.ld_unit_apply_of B _ S1x1x128x256.size (inb_bias k h) (ix4 0 0 i j) _ fun a => ?_
  match a with
  | ⟨0, _⟩ => rfl
  | ⟨1, _⟩ => rfl
  | ⟨2, _⟩ => exact (Nat.zero_add _).symm
  | ⟨3, _⟩ => exact (Nat.zero_add _).symm

/-- A seen key's row, of the tile before or the tile itself. -/
theorem pick_key (F : Fin 16384 → EReal) (p : Vec Ideal S16x1x16x128 .bf16) (x : Vec Ideal S16x1x64x128 .bf16) (t : Fin cfg0.N) (n : Fin 8) (j : Fin 256) (d : Fin 128)
    (hx : ∀ (k : Fin 16) (q : Fin 64) (u : Fin 16384), u.val = 16 * (t.val * 64 + q.val) + k.val → x (ix4 k 0 q d) = F u)
    (hp : ∀ (k : Fin 16) (q : Fin 16) (u : Fin 16384), u.val = 16 * ((t.val * 4 - 1) * 16 + q.val) + k.val → p (ix4 k 0 q d) = F u)
    (hj : tileOf t n ≠ 0 ∨ 128 ≤ (two j).val) :
    pick (prev p x n) (tile x n) j d = F (keyPos (tileOf t n) (two j)) := by
  unfold pick
  by_cases h : j.val < 128
  · rw [dif_pos h]
    have e : (two j).val = j.val % 8 * 16 + j.val / 8 := two_low j h
    have hT : tileOf t n ≠ 0 := hj.resolve_right (by omega)
    have hT : 8 * t.val + n.val ≠ 0 := fun h => hT (Fin.ext h)
    match n, hT with
    | ⟨0, _⟩, hT =>
      refine (before_apply p ⟨j.val, h⟩ d).trans (hp _ _ _ ?_)
      show 128 * (8 * t.val + 0) + (two j).val - 128 = 16 * ((t.val * 4 - 1) * 16 + (8 + j.val % 8)) + j.val / 8
      have : 8 * t.val + 0 ≠ 0 := hT
      omega
    | ⟨n + 1, hn⟩, _ =>
      show tile x ⟨n, by omega⟩ (ix2 ⟨j.val, h⟩ d) = _
      rw [tile_apply]
      refine hx _ _ _ ?_
      show 128 * (8 * t.val + (n + 1)) + (two j).val - 128 = 16 * (t.val * 64 + (8 * n + j.val % 8)) + j.val / 8
      omega
  · have e : (two j).val = (j.val - 128) % 8 * 16 + (j.val - 128) / 8 + 128 := two_high j h
    rw [dif_neg h, tile_apply]
    refine hx _ _ _ ?_
    show 128 * (8 * t.val + n.val) + (two j).val - 128 = 16 * (t.val * 64 + (8 * n.val + (j.val - 128) % 8)) + (j.val - 128) / 8
    omega

theorem low_iff (j : Fin 256) : 128 ≤ j.val ↔ 128 ≤ (two j).val := by
  by_cases h : j.val < 128
  · have e : (two j).val = j.val % 8 * 16 + j.val / 8 := two_low j h
    omega
  · have e : (two j).val = (j.val - 128) % 8 * 16 + (j.val - 128) / 8 + 128 := two_high j h
    omega

theorem bias_tile (hB : IsBias m c B) (t : Fin cfg0.N) (h : Fin 16) (n : Fin 8) (i : Fin 128) (j : Fin 256) :
    biasOf (View.ld B (rectBias (firstBias (grid0.coords t)) h)) (View.ld B (rectBias 0 h)) n (ix2 i j)
      = if seen (tileOf t n) (off i) (two j) then biasAt (aT m c) h (off i) (two j) * AttSpec.L else (⊥ : EReal) := by
  match n with
  | ⟨0, _⟩ =>
    show shapeCast S128x256 (View.ld B (rectBias (firstBias (grid0.coords t)) h)) shapeCasts_S1x1x128x256_S128x256 (ix2 i j) = _
    refine (bias_apply (View.ld B (rectBias (firstBias (grid0.coords t)) h)) i j).trans ((bias_ld B _ h i j).trans ((hB _ h i j).trans ?_))
    refine if_congr (and_congr_right fun _ => or_congr ?_ (low_iff j)) rfl rfl
    rw [firstBias_eq]
    by_cases ht : t.val = 0
    · rw [if_pos ht]
      refine iff_of_false (by decide) fun h => h (Fin.ext ?_)
      show 8 * t.val + 0 = 0
      omega
    · rw [if_neg ht]
      refine iff_of_true rfl fun h => ?_
      have h : 8 * t.val + 0 = 0 := congrArg Fin.val h
      omega
  | ⟨n + 1, hn⟩ =>
    show shapeCast S128x256 (View.ld B (rectBias 0 h)) shapeCasts_S1x1x128x256_S128x256 (ix2 i j) = _
    refine (bias_apply (View.ld B (rectBias 0 h)) i j).trans ((bias_ld B 0 h i j).trans ((hB 0 h i j).trans ?_))
    refine if_congr (and_congr_right fun _ => or_congr ?_ (low_iff j)) rfl rfl
    refine iff_of_true rfl fun h => ?_
    have h : 8 * t.val + (n + 1) = 0 := congrArg Fin.val h
    omega

theorem lane_zero {w : ℕ} (l : Fin 2048) (hw : 0 * 2048 + l.val < w) (hl : l.val < w) :
    (⟨0 * 2048 + l.val, hw⟩ : Fin w) = ⟨l.val, hl⟩ := Fin.ext (by show 0 * 2048 + l.val = l.val; omega)

/-- The kernel's scores are the layer's, in units of the logarithm of two, in the kernel's order of a tile. -/
theorem score_at (hB : IsBias m c B) (t : Fin cfg0.N) (h : Fin 16) (n : Fin 8) (i : Fin 128) (j : Fin 256) :
    (headsAt m c B t h).score n (ix2 i j) = AttSpec.L * scoreAt (aQ m c) (aKV m c) (aT m c) (tileOf t n) h (off i) (two j) := by
  unfold Head.score
  rw [score_apply]
  show _ + biasOf (View.ld B (rectBias (firstBias (grid0.coords t)) h)) (View.ld B (rectBias 0 h)) n (ix2 i j) = _
  rw [bias_tile m c B hB]
  unfold scoreAt
  by_cases hs : seen (tileOf t n) (off i) (two j)
  · rw [if_pos hs, if_pos hs]
    refine Eq.trans ?_ (AttSpec.scaled_score _ _ _)
    refine congrArg (· + _) (Finset.sum_congr rfl fun k _ => congrArg₂ (fun a b : EReal => a * b) ?_ ?_)
    · rw [tile_apply]
      refine (wide_ld _ h _ _ k).trans ((blk2 m c t _ _ _ (queryPos (tileOf t n) (off i)) ?_).trans ?_)
      · show 128 * (8 * t.val + n.val) + (i.val % 8 * 16 + i.val / 8) = 16 * (t.val * 64 + (8 * n.val + i.val % 8)) + i.val / 8
        omega
      · rw [lane_zero _ _ (by omega)]
    · refine pick_key (fun u => aKV m c u (kCol h k)) _ _ t n j k (fun a q u hu => ?_) (fun a q u hu => ?_) hs.2
      · refine (wide_ld _ h _ _ k).trans ((blk4 m c t _ _ _ u hu).trans ?_)
        rw [lane_zero _ _ (by omega)]
      · refine (before_ld _ h _ _ k).trans ((blk3 m c t _ _ _ u hu).trans ?_)
        rw [lane_zero _ _ (by omega)]
  · rw [if_neg hs, if_neg hs, AttSpec.L_mul_bot, EReal.add_bot]

theorem num_at (hB : IsBias m c B) (t : Fin cfg0.N) (h : Fin 16) (n : Fin 8) (i d : Fin 128) :
    (headsAt m c B t h).num n (ix2 i d) = outAt (aQ m c) (aKV m c) (aT m c) (tileOf t n) h (off i) d := by
  unfold Head.num
  rw [numTile_apply]
  simp only [score_at m c B hB]
  refine (AttSpec.num_scaled (fun j => scoreAt (aQ m c) (aKV m c) (aT m c) (tileOf t n) h (off i) (two j))
    (fun j => aKV m c (keyPos (tileOf t n) (two j)) (vCol h d)) _ fun j => ?_).trans (AttSpec.num_order two _ fun u => aKV m c (keyPos (tileOf t n) u) (vCol h d))
  by_cases hs : seen (tileOf t n) (off i) (two j)
  · right
    refine pick_key (fun u => aKV m c u (vCol h d)) _ _ t n j d (fun a q u hu => ?_) (fun a q u hu => ?_) hs.2
    · refine (wide_ld _ h _ _ d).trans ((blk6 m c t _ _ _ u hu).trans ?_)
      rfl
    · refine (before_ld _ h _ _ d).trans ((blk5 m c t _ _ _ u hu).trans ?_)
      rfl
  · left
    exact if_neg hs

theorem den_at (hB : IsBias m c B) (t : Fin cfg0.N) (h : Fin 16) (n : Fin 8) (i l : Fin 128) :
    (headsAt m c B t h).den n (ix2 i l) = AttSpec.den (scoreAt (aQ m c) (aKV m c) (aT m c) (tileOf t n) h (off i)) := by
  unfold Head.den
  rw [denTile_apply]
  simp only [score_at m c B hB]
  exact (AttSpec.den_scaled _).trans (AttSpec.den_order two _)

theorem max_at (hB : IsBias m c B) (t : Fin cfg0.N) (h : Fin 16) (n : Fin 8) (i : Fin 128) :
    colMax ((headsAt m c B t h).score n) (ix2 i 0) = AttSpec.L * top (scoreAt (aQ m c) (aKV m c) (aT m c) (tileOf t n) h (off i)) := by
  rw [colMax_apply]
  simp only [score_at m c B hB]
  exact (AttSpec.top_scaled _).trans (congrArg (AttSpec.L * ·) (AttSpec.top_order two _))

/-! ### The points -/

/-- A tile's row `i` in its point's block. -/
abbrev cls (i : Fin 128) : Fin 16 := ⟨i.val / 8, by omega⟩
abbrev row (n : Fin 8) (i : Fin 128) : Fin 64 := ⟨8 * n.val + i.val % 8, by omega⟩

/-- What a point leaves: its tiles' outputs and statistics, and the biases. -/
def Left (t : Fin cfg0.N) (o : Vec Ideal S16x1x64x2048 .bf16 × Vec Ideal S16x1x64x128 .f32 × Vec Ideal S2x16x128x256 .f32) : Prop :=
  (∀ (n : Fin 8) (h : Fin 16) (i d : Fin 128), o.1 (ix4 (cls i) 0 (row n i) ⟨128 * h + d, by omega⟩)
    = outAt (aQ m c) (aKV m c) (aT m c) (tileOf t n) h (off i) d)
  ∧ (∀ (n : Fin 8) (i l : Fin 128), o.2.1 (ix4 (cls i) 0 (row n i) l) = statAt (aQ m c) (aKV m c) (aT m c) (tileOf t n) (off i) l)
  ∧ IsBias m c o.2.2

theorem stats_at (hB : IsBias m c B) (t : Fin cfg0.N) (n : Fin 8) (i l : Fin 128) :
    statsOut (headsAt m c B t) (ix4 (cls i) 0 (row n i) l) = statAt (aQ m c) (aKV m c) (aT m c) (tileOf t n) (off i) l := by
  rw [statsOut_apply _ n i l _ _ rfl rfl]
  unfold statAt
  rw [max_at m c B hB, den_at m c B hB]

theorem out_at (hB : IsBias m c B) (t : Fin cfg0.N) (h : Fin 16) (n : Fin 8) (i d : Fin 128) :
    (headsAt m c B t h).out (ix4 (cls i) 0 (row n i) d) = outAt (aQ m c) (aKV m c) (aT m c) (tileOf t n) h (off i) d := by
  rw [out_apply _ n i d _ _ rfl rfl, num_at m c B hB]

theorem sweep : ∀ (n : ℕ) (hn : n < cfg0.N), Left m c ⟨n, hn⟩ (outsAt0 m c n hn)
  | 0, hn => by
    have e := outsAt0_A m c ⟨0, hn⟩ rfl
    have e' : outsAt0 m c 0 hn = _ := e
    rw [e']
    have hB := isBias m c ⟨0, hn⟩
    refine ⟨fun n h i d => ?_, fun n i l => ?_, ?_⟩
    · dsimp only
      rw [out_A_7 _ _ _ _ _ _ _ _ _ _ _ _ _ _ _ _ _ _ _ _ _ _ _ _ _ _ _ _ _ _ h _ _ d _ rfl]
      exact out_at m c _ hB ⟨0, hn⟩ h n i d
    · dsimp only
      rw [out_A_8]
      exact stats_at m c _ hB ⟨0, hn⟩ n i l
    · dsimp only
      rw [sout_A]
      exact hB
  | n + 1, hn => by
    obtain ⟨-, -, hB⟩ := sweep n (by omega)
    have e := outsAt0_B m c ⟨n + 1, hn⟩ (by have := point_lt ⟨n + 1, hn⟩; show ¬(n + 1) % 16 = 0; have : n + 1 < 16 := this; omega)
    have e' : outsAt0 m c (n + 1) hn = _ := e
    rw [e']
    refine ⟨fun n' h i d => ?_, fun n' i l => ?_, ?_⟩
    · dsimp only
      rw [out_B_7 _ _ _ _ _ _ _ _ _ _ _ _ _ _ _ _ _ _ _ _ _ _ _ _ _ _ _ _ _ _ _ h _ _ d _ rfl]
      exact out_at m c _ hB ⟨n + 1, hn⟩ h n' i d
    · dsimp only
      rw [out_B_8]
      exact stats_at m c _ hB ⟨n + 1, hn⟩ n' i l
    · exact hB

/-! ### The arrays -/

/-- The point and the tile's row of row `p` of class `k`. -/
abbrev pt (p : Fin 1024) : Fin cfg0.N := ⟨p.val / 64, lt_of_lt_of_eq (show _ < 16 by omega) N_0.symm⟩
abbrev tileRow (k : Fin 16) (p : Fin 1024) : Fin 128 := ⟨8 * k.val + p.val % 8, by omega⟩
abbrev tileNo (p : Fin 1024) : Fin 8 := ⟨p.val / 8 % 8, by omega⟩

theorem tile_pt (p : Fin 1024) : tileOf (pt p) (tileNo p) = ⟨p.val / 8, by omega⟩ :=
  Fin.ext (by show 8 * (p.val / 64) + p.val / 8 % 8 = p.val / 8; omega)
theorem off_row (k : Fin 16) (p : Fin 1024) : off (tileRow k p) = ⟨16 * (p.val % 8) + k.val, by omega⟩ :=
  Fin.ext (by show (8 * k.val + p.val % 8) % 8 * 16 + (8 * k.val + p.val % 8) / 8 = 16 * (p.val % 8) + k.val; omega)

theorem G7_apply (k : Fin 16) (p : Fin 1024) (h : Fin 16) (d : Fin 128) :
    G7 m c (ix4 k 0 p ⟨128 * h + d, by omega⟩) = outAt (aQ m c) (aKV m c) (aT m c) ⟨p.val / 8, by omega⟩ h ⟨16 * (p.val % 8) + k.val, by omega⟩ d := by
  have e := (sweep m c (pt p).val (pt p).isLt).1 (tileNo p) h (tileRow k p) d
  rw [outsAt0_sweep] at e
  have hp : pt7Of (ix4 k 0 p ⟨128 * h + d, by omega⟩) = (pt p).val := by
    show 16 * (k.val / 16 - 0) + 16 * (0 / 1 - 0) + 1 * (p.val / 64 - 0) + 1 * ((128 * h.val + d.val) / 2048 - 0) = p.val / 64; omega
  have hl : loc7Of (ix4 k 0 p ⟨128 * h + d, by omega⟩) = ix4 (cls (tileRow k p)) 0 (row (tileNo p) (tileRow k p)) ⟨128 * h + d, by omega⟩ := by
    funext a; apply Fin.ext
    match a with
    | ⟨0, _⟩ => show k.val % 16 = (8 * k.val + p.val % 8) / 8; omega
    | ⟨1, _⟩ => rfl
    | ⟨2, _⟩ => show p.val % 64 = 8 * (p.val / 8 % 8) + (8 * k.val + p.val % 8) % 8; omega
    | ⟨3, _⟩ => show (128 * h.val + d.val) % 2048 = 128 * h.val + d.val; omega
  unfold G7
  rw [dif_pos (by rw [hp]; exact (pt p).isLt), hl, fold0_congr m c _ _ _ _ hp]
  refine e.trans ?_
  show outAt _ _ _ (tileOf (pt p) (tileNo p)) h (off (tileRow k p)) d = _
  rw [tile_pt, off_row]

theorem G8_apply (k : Fin 16) (p : Fin 1024) (l : Fin 128) :
    G8 m c (ix4 k 0 p l) = statAt (aQ m c) (aKV m c) (aT m c) ⟨p.val / 8, by omega⟩ ⟨16 * (p.val % 8) + k.val, by omega⟩ l := by
  have e := (sweep m c (pt p).val (pt p).isLt).2.1 (tileNo p) (tileRow k p) l
  rw [outsAt0_sweep] at e
  have hp : pt8Of (ix4 k 0 p l) = (pt p).val := by
    show 16 * (k.val / 16 - 0) + 16 * (0 / 1 - 0) + 1 * (p.val / 64 - 0) + 1 * (l.val / 128 - 0) = p.val / 64; omega
  have hl : loc8Of (ix4 k 0 p l) = ix4 (cls (tileRow k p)) 0 (row (tileNo p) (tileRow k p)) l := by
    funext a; apply Fin.ext
    match a with
    | ⟨0, _⟩ => show k.val % 16 = (8 * k.val + p.val % 8) / 8; omega
    | ⟨1, _⟩ => rfl
    | ⟨2, _⟩ => show p.val % 64 = 8 * (p.val / 8 % 8) + (8 * k.val + p.val % 8) % 8; omega
    | ⟨3, _⟩ => show l.val % 128 = l.val; omega
  unfold G8
  rw [dif_pos (by rw [hp]; exact (pt p).isLt), hl, fold0_congr m c _ _ _ _ hp]
  refine e.trans ?_
  show statAt _ _ _ (tileOf (pt p) (tileNo p)) (off (tileRow k p)) l = _
  rw [tile_pt, off_row]

end Cert.Kernel10Ideal.FirstFold

end
-- ==== Proof.FirstReference.lean ====
/-
  The reference's attention of the first group, at an index.
-/
module

public import proofs.«01_k».proof.Proof.Gen.Reference10Ideal.Read
public import proofs.«01_k».proof.Proof.FirstLayer
public import proofs.«01_k».proof.Proof.MidReference
public import proofs.«01_k».proof.Proof.IdxExt
public import Idealize.ShloMosaic.Lib.KernelVsHost

@[expose] public section

set_option maxRecDepth 16384

noncomputable section

namespace Cert.Reference10Ideal.FirstReference

open Cert.Reference10Ideal Cert.Reference10Ideal.Read Cert.IdxExt Idealize.ShloMosaic
open Cert.Reference6Ideal.AttReference (ext4 ext5 neg_inf_word and_bit word_of_bucket)
open Cert.AttSpec (rel banded L scale num den top p p_masked div_log_two)
open Cert.FirstSpec

variable (x0 : (⟨S16384x6144, .f32⟩ : BufTy).Contents (Elt Ideal)) (x1 : (⟨S16384x12288, .f32⟩ : BufTy).Contents (Elt Ideal))
  (x2 : (⟨S32x48, .f32⟩ : BufTy).Contents (Elt Ideal))

/-! ### The arrays, tile by tile -/

theorem token (n i : Fin 128) : n.val * 128 + i.val = 128 * n.val + i.val := by omega

theorem lane_zero (h : Fin 16) (k : Fin 128) : h.val * 128 + k.val = 128 * h.val + k.val := by omega

theorem lane (b : ℕ) (h : Fin 16) (k : Fin 128) : b + h.val * 128 + k.val = b + (128 * h.val + k.val) := by omega

theorem q_apply (n : Fin 128) (i : Fin 128) (h : Fin 16) (k : Fin 128) :
    val_main_v11 (F := Ideal) x0 (ix5 0 n i h k) = x0 (ix2 (queryPos n i) (qCol h k)) := by
  pointwise [val_main_v11, val_main_v10, val_main_v9, val_main_v2, val_main_v1, val_main_v0]
  exact congrArg x0 (ext2 (token n i) (lane_zero h k))

theorem k_apply (n : Fin 128) (i : Fin 128) (h : Fin 16) (k : Fin 128) :
    val_main_v14 (F := Ideal) x1 (ix5 0 n i h k) = x1 (ix2 (queryPos n i) (kCol h k)) := by
  pointwise [val_main_v14, val_main_v13, val_main_v12, val_main_v5, val_main_v4, val_main_v3]
  exact congrArg x1 (ext2 (token n i) (lane_zero h k))

theorem v_apply (n : Fin 128) (i : Fin 128) (h : Fin 16) (k : Fin 128) :
    val_main_v20 (F := Ideal) x1 (ix5 0 n i h k) = x1 (ix2 (queryPos n i) (vCol h k)) := by
  pointwise [val_main_v20, val_main_v19, val_main_v18, val_main_v7, val_main_v6, val_main_v3]
  exact congrArg x1 (ext2 (token n i) (lane 6144 h k))

theorem window_row {p p' : Fin 16384} (l : Fin 12288) (hp : p = p') : x1 (ix2 p l) = x1 (ix2 p' l) := by
  rw [hp]

theorem keys_apply (n : Fin 128) (j : Fin 256) (h : Fin 16) (k : Fin 128) (hj : n ≠ 0 ∨ 128 ≤ j.val) :
    val_main_v17 (F := Ideal) x1 (ix5 0 n j h k) = x1 (ix2 (keyPos n j) (kCol h k)) := by
  have hn : n ≠ 0 → 1 ≤ n.val := fun hn => Nat.one_le_iff_ne_zero.mpr fun he => hn (Fin.ext he)
  have hn128 := n.isLt
  pointwise [val_main_v17, val_main_v16, val_main_v15]
  split
  · rename_i hlt
    have h1 : 1 ≤ n.val := hn (hj.resolve_right (by omega))
    rw [dif_pos ⟨⟨h1, by omega⟩, hlt⟩]
    refine (k_apply x1 _ _ h k).trans (window_row x1 _ (Fin.ext ?_))
    show 128 * (n.val - 1) + j.val = 128 * n.val + j.val - 128
    omega
  · refine (k_apply x1 _ _ h k).trans (window_row x1 _ (Fin.ext ?_))
    show 128 * n.val + (j.val - 128) = 128 * n.val + j.val - 128
    omega

theorem values_apply (n : Fin 128) (j : Fin 256) (h : Fin 16) (k : Fin 128) (hj : n ≠ 0 ∨ 128 ≤ j.val) :
    val_main_v23 (F := Ideal) x1 (ix5 0 n j h k) = x1 (ix2 (keyPos n j) (vCol h k)) := by
  have hn : n ≠ 0 → 1 ≤ n.val := fun hn => Nat.one_le_iff_ne_zero.mpr fun he => hn (Fin.ext he)
  have hn128 := n.isLt
  pointwise [val_main_v23, val_main_v22, val_main_v21]
  split
  · rename_i hlt
    have h1 : 1 ≤ n.val := hn (hj.resolve_right (by omega))
    rw [dif_pos ⟨⟨h1, by omega⟩, hlt⟩]
    refine (v_apply x1 _ _ h k).trans (window_row x1 _ (Fin.ext ?_))
    show 128 * (n.val - 1) + j.val = 128 * n.val + j.val - 128
    omega
  · refine (v_apply x1 _ _ h k).trans (window_row x1 _ (Fin.ext ?_))
    show 128 * n.val + (j.val - 128) = 128 * n.val + j.val - 128
    omega

/-! ### The bias -/

theorem rel_apply (i : Fin 128) (j : Fin 256) : val_main_v35 (F := Ideal) (ix2 i j) = rel i j := by
  pointwise [val_main_v35, val_main_v34, val_main_v33, val_main_v32, val_main_v31, val_main_v30, val_main_v29, val_main_v28, val_main_v27, val_main_c_1]
  rfl

theorem bucket_apply (i : Fin 128) (j : Fin 256) : val_main_v61 (F := Ideal) (ix2 i j) = bucket i j := by
  unfold bucket
  rw [← rel_apply]
  rfl

theorem valid_apply (n : Fin 128) (i : Fin 128) (j : Fin 256) : val_main_v79 (F := Ideal) (ix3 n i j) = IntOp.andi (banded (rel i j)) (IntOp.cmpi .sge (IntOp.addi (IntOp.subi (IntOp.muli (BitVec.ofNat 32 n.val) 128#32) 128#32) (BitVec.ofNat 32 j.val)) 0#32) := by
  rw [← rel_apply]
  rfl

theorem key_pos (n : Fin 128) (j : Fin 256) :
    IntOp.cmpi .sge (IntOp.addi (IntOp.subi (IntOp.muli (BitVec.ofNat 32 n.val) 128#32) 128#32) (BitVec.ofNat 32 j.val)) 0#32 = 1#1
      ↔ n ≠ 0 ∨ 128 ≤ j.val := by
  constructor
  · intro h
    by_contra hc
    have hn : n = 0 := not_not.mp fun hn => hc (Or.inl hn)
    have hj : j.val < 128 := not_le.mp fun hj => hc (Or.inr hj)
    subst hn
    exact absurd h ((by decide +kernel : ∀ j : Fin 256, j.val < 128 →
      ¬IntOp.cmpi .sge (IntOp.addi (IntOp.subi (IntOp.muli (BitVec.ofNat 32 (0 : Fin 128).val) 128#32) 128#32) (BitVec.ofNat 32 j.val)) 0#32 = 1#1) j hj)
  · revert n j
    decide +kernel

theorem valid_iff (n : Fin 128) (i : Fin 128) (j : Fin 256) : val_main_v79 (F := Ideal) (ix3 n i j) = 1#1 ↔ seen n i j := by
  rw [valid_apply, and_bit, key_pos]

/-! ### The table's rows -/

theorem table_apply (a : Fin 32) (h : Fin 16) : val_main_v8 (F := Ideal) x2 (ix2 a h) = x2 (ix2 a ⟨h.val, by omega⟩) := by
  pointwise [val_main_v8]

theorem bias_apply (h : Fin 16) (i : Fin 128) (j : Fin 256) (hb : banded (rel i j) = 1#1) :
    val_main_v62 (F := Ideal) x2 (ix3 i j h) = biasAt (fun a b => x2 (ix2 a b)) h i j := by
  obtain ⟨b, hbk⟩ := bucket_lt i j hb
  have hw := bucket_apply i j
  rw [hbk] at hw
  have h4 : val_main_call4_v5 (F := Ideal) (ix3 i j 0) = BitVec.ofNat 32 b.val := by
    pointwise [val_main_call4_v5, val_main_call4_v4, val_main_call4_v3, val_main_call4_v2, val_main_call4_c_0, val_main_call4_v1, val_main_call4_v0, val_main_call4_c]
    rw [hw]
    exact (word_of_bucket b).1
  have h11 : val_main_call4_v11 (F := Ideal) (ix3 i j 0) = 1#1 := by
    pointwise [val_main_call4_v11, val_main_call4_v10, val_main_call4_v9, val_main_call4_v8, val_main_call4_v7, val_main_call4_v6, val_main_call4_c_1, val_main_call4_c_2]
    rw [h4]
    exact (word_of_bucket b).2.1
  have h12 : val_main_call4_v12 (F := Ideal) (ix2 i j) = 1#1 := by
    pointwise [val_main_call4_v12, val_main_call4_c_3]
    rw [show (Finset.univ : Finset (Fin 1)) = {0} from rfl, Finset.fold_singleton, h11]
    rfl
  pointwise [val_main_v62, val_main_call4_v14, val_main_call4_v13]
  rw [h12, ValueIdx.select_one]
  refine (Cert.Reference9Ideal.MidReference.gather_rows _ _ i j h ⟨(bucket i j).toNat % 32, Nat.mod_lt _ (by decide)⟩ ?_).trans (table_apply x2 _ h)
  rw [h4, hbk]
  exact (word_of_bucket b).2.2

theorem dot_apply (n : Fin 128) (h : Fin 16) (i : Fin 128) (j : Fin 256) (hj : n ≠ 0 ∨ 128 ≤ j.val) :
    val_main_v24 (F := Ideal) x0 x1 (ix5 0 n h i j) = dotAt (fun s l => x0 (ix2 s l)) (fun s l => x1 (ix2 s l)) n h i j := by
  rw [val_main_v24_apply]
  refine Finset.sum_congr rfl fun k _ => ?_
  rw [show lidx_main_v24 (ix5 0 n h i j) k = ix5 0 n i h k from ext5 rfl rfl rfl rfl rfl,
    show ridx_main_v24 (ix5 0 n h i j) k = ix5 0 n j h k from ext5 rfl rfl rfl rfl rfl, q_apply, keys_apply x1 n j h k hj]

theorem score_apply (n : Fin 128) (h : Fin 16) (i : Fin 128) (j : Fin 256) :
    val_main_v84 (F := Ideal) x0 x1 x2 (ix5 0 n h i j)
      = scoreAt (fun s l => x0 (ix2 s l)) (fun s l => x1 (ix2 s l)) (fun a b => x2 (ix2 a b)) n h i j := by
  pointwise [val_main_v84, val_main_call5_v1, val_main_call5_v0, val_main_v83, val_main_v82, val_main_v81, val_main_v80, val_main_v63, val_main_v26, val_main_v25, val_main_call5_v2, val_main_cst_17, val_main_cst]
  unfold scoreAt
  by_cases hs : seen n i j
  · rw [if_pos hs, (valid_iff n i j).mpr hs, ValueIdx.select_one, dot_apply x0 x1 n h i j hs.2, bias_apply x2 h i j hs.1]
  · rw [if_neg hs, ValueIdx.eq_zero_of_ne_one (mt (valid_iff n i j).mp hs), ValueIdx.select_zero]
    exact neg_inf_word

theorem max_apply (n : Fin 128) (h : Fin 16) (i : Fin 128) :
    val_main_v85 (F := Ideal) x0 x1 x2 (ix4 0 n h i)
      = top (scoreAt (fun s l => x0 (ix2 s l)) (fun s l => x1 (ix2 s l)) (fun a b => x2 (ix2 a b)) n h i) := by
  pointwise [val_main_v85, val_main_cst_18]
  rw [neg_inf_word]
  exact congrArg (fun f => Finset.fold max ⊥ f Finset.univ) (funext fun j => score_apply x0 x1 x2 n h i j)

/-! ### The weights, their sum and the values -/

theorem weight_apply (n : Fin 128) (h : Fin 16) (i : Fin 128) (j : Fin 256) :
    val_main_v89 (F := Ideal) x0 x1 x2 (ix5 0 n h i j)
      = p (scoreAt (fun s l => x0 (ix2 s l)) (fun s l => x1 (ix2 s l)) (fun a b => x2 (ix2 a b)) n h i) j := by
  pointwise [val_main_v89, val_main_v88, val_main_v87, val_main_v86]
  rw [score_apply, max_apply]
  rfl

theorem den_apply (n : Fin 128) (h : Fin 16) (i : Fin 128) :
    val_main_v90 (F := Ideal) x0 x1 x2 (ix4 0 n h i)
      = den (scoreAt (fun s l => x0 (ix2 s l)) (fun s l => x1 (ix2 s l)) (fun a b => x2 (ix2 a b)) n h i) := by
  rw [val_main_v90_apply, val_main_cst_19_apply, Ideal.ofBits_def, show Ideal.ofBits .f32 0x00000000#32 = 0 from by simp [Ideal.ofBits, Ideal.ieee], zero_add]
  refine Finset.sum_congr rfl fun k _ => ?_
  rw [show idx_main_v90 (ix4 0 n h i) k = ix5 0 n h i k from ext5 rfl rfl rfl rfl rfl, weight_apply]

theorem num_apply (n : Fin 128) (h : Fin 16) (i d : Fin 128) :
    val_main_v91 (F := Ideal) x0 x1 x2 (ix5 0 n h d i)
      = outAt (fun s l => x0 (ix2 s l)) (fun s l => x1 (ix2 s l)) (fun a b => x2 (ix2 a b)) n h i d := by
  rw [val_main_v91_apply]
  unfold outAt num
  refine Finset.sum_congr rfl fun k _ => ?_
  rw [show lidx_main_v91 (ix5 0 n h d i) k = ix5 0 n k h d from ext5 rfl rfl rfl rfl rfl,
    show ridx_main_v91 (ix5 0 n h d i) k = ix5 0 n h i k from ext5 rfl rfl rfl rfl rfl, weight_apply]
  by_cases hs : seen n i k
  · rw [values_apply x1 n k h d hs.2]
  · rw [p_masked (show scoreAt _ _ _ n h i k = ⊥ from if_neg hs), mul_zero, mul_zero]

/-! ### The two results -/

/-- Row `p` of class `k`: its tile and its place there. -/
abbrev tileAt (p : Fin 1024) : Fin 128 := ⟨p.val / 8, by omega⟩
abbrev placeAt (k : Fin 16) (p : Fin 1024) : Fin 128 := ⟨16 * (p.val % 8) + k.val, by omega⟩

theorem out_apply (k : Fin 16) (p : Fin 1024) (h : Fin 16) (d : Fin 128) :
    val_main_v102 (F := Ideal) x0 x1 x2 (ix4 k 0 p ⟨128 * h.val + d.val, by omega⟩)
      = outAt (fun s l => x0 (ix2 s l)) (fun s l => x1 (ix2 s l)) (fun a b => x2 (ix2 a b)) (tileAt p) h (placeAt k p) d := by
  rw [val_main_v102_apply, val_main_v101_apply, val_main_v100_apply]
  refine Eq.trans (congrArg (val_main_v92 (F := Ideal) x0 x1 x2) (show _ = ix5 0 (tileAt p) (placeAt k p) h d from ext5 (Subsingleton.elim (α := Fin 1) _ _) (Fin.ext ?_) (Fin.ext ?_) (Fin.ext ?_) (Fin.ext ?_))) ?_
  · show (((0 * 1024 + p.val) * 16 + k.val) * 2048 + (128 * h.val + d.val)) / 262144 % 128 = p.val / 8
    omega
  · show (((0 * 1024 + p.val) * 16 + k.val) * 2048 + (128 * h.val + d.val)) / 2048 % 128 = 16 * (p.val % 8) + k.val
    omega
  · show (((0 * 1024 + p.val) * 16 + k.val) * 2048 + (128 * h.val + d.val)) / 128 % 16 = h.val
    omega
  · show (((0 * 1024 + p.val) * 16 + k.val) * 2048 + (128 * h.val + d.val)) % 128 = d.val
    omega
  pointwise [val_main_v92]
  exact num_apply x0 x1 x2 (tileAt p) h (placeAt k p) d

theorem lanes_apply (n : Fin 128) (i l : Fin 128) :
    val_main_v99 (F := Ideal) x0 x1 x2 (ix4 0 n i l)
      = if h : l.val < 16 then val_main_v96 (F := Ideal) x0 x1 x2 (ix4 0 n i ⟨l.val, h⟩)
        else if h : l.val - 16 < 16 then val_main_v97 (F := Ideal) x0 x1 x2 (ix4 0 n i ⟨l.val - 16, h⟩)
        else val_main_v98 (F := Ideal) (ix4 0 n i ⟨l.val - 16 - 16, by omega⟩) := by
  pointwise [val_main_v99]

theorem log_max_apply (n : Fin 128) (i : Fin 128) (h : Fin 16) :
    val_main_v96 (F := Ideal) x0 x1 x2 (ix4 0 n i h)
      = L * top (scoreAt (fun s l => x0 (ix2 s l)) (fun s l => x1 (ix2 s l)) (fun a b => x2 (ix2 a b)) n h i) := by
  pointwise [val_main_v96, val_main_v95, val_main_v94, val_main_v93, val_main_cst_20]
  rw [max_apply]
  exact div_log_two _

theorem stat_apply (k : Fin 16) (p : Fin 1024) (l : Fin 128) :
    val_main_v104 (F := Ideal) x0 x1 x2 (ix4 k 0 p l)
      = statAt (fun s l => x0 (ix2 s l)) (fun s l => x1 (ix2 s l)) (fun a b => x2 (ix2 a b)) (tileAt p) (placeAt k p) l := by
  rw [val_main_v104_apply, val_main_v103_apply]
  refine Eq.trans (congrArg (val_main_v99 (F := Ideal) x0 x1 x2) (show _ = ix4 0 (tileAt p) (placeAt k p) l from ext4 (Subsingleton.elim (α := Fin 1) _ _) (Fin.ext ?_) (Fin.ext ?_) (Fin.ext ?_))) ?_
  · show (((0 * 1024 + p.val) * 16 + k.val) * 128 + l.val) / 16384 % 128 = p.val / 8
    omega
  · show (((0 * 1024 + p.val) * 16 + k.val) * 128 + l.val) / 128 % 128 = 16 * (p.val % 8) + k.val
    omega
  · show (((0 * 1024 + p.val) * 16 + k.val) * 128 + l.val) % 128 = l.val
    omega
  have hl := l.isLt
  rw [lanes_apply]
  unfold statAt
  by_cases h : l.val < 16
  · rw [dif_pos h, if_pos h]
    refine (log_max_apply x0 x1 x2 (tileAt p) (placeAt k p) _).trans ?_
    exact congrArg (fun q : Fin 16 => L * top (scoreAt _ _ _ (tileAt p) q (placeAt k p))) (Fin.ext (Nat.mod_eq_of_lt h).symm)
  · rw [dif_neg h, if_neg h]
    by_cases h2 : l.val < 32
    · rw [dif_pos (show l.val - 16 < 16 by omega), if_pos h2]
      pointwise [val_main_v97]
      refine (den_apply x0 x1 x2 (tileAt p) _ (placeAt k p)).trans ?_
      refine congrArg (fun q : Fin 16 => den (scoreAt _ _ _ (tileAt p) q (placeAt k p))) (Fin.ext ?_)
      show l.val - 16 = l.val % 16
      omega
    · rw [dif_neg (show ¬l.val - 16 < 16 by omega), if_neg h2]
      pointwise [val_main_v98, val_main_cst_21]

end Cert.Reference10Ideal.FirstReference

end
-- ==== Proof.FirstAlgebraic.lean ====
/-
  The attention of the first group: the kernel's two result arrays are the reference's.
-/
module

public import proofs.«01_k».proof.Proof.FirstFold
public import proofs.«01_k».proof.Proof.FirstReference
public import proofs.«01_k».proof.Defs
public import Idealize.ShloMosaic.Lib.Quiescent

@[expose] public section

noncomputable section

namespace Cert.FirstAlgebraic

open Idealize.ShloMosaic Idealize.SL.Sem

/-- An index of the values' array: class, row, head and lane. -/
theorem out_index (i : (⟨4, ![16, 1, 1024, 2048]⟩ : Shape).Idx) :
    ∃ (k : Fin 16) (p : Fin 1024) (h : Fin 16) (d : Fin 128), i = ix4 k 0 p ⟨128 * h.val + d.val, by omega⟩ := by
  have h3 : (i 3).val < 2048 := (i 3).isLt
  refine ⟨i 0, i 2, ⟨(i 3).val / 128, by omega⟩, ⟨(i 3).val % 128, by omega⟩, ?_⟩
  exact Cert.Reference6Ideal.AttReference.ext4 rfl (Subsingleton.elim (α := Fin 1) _ _) rfl (Fin.ext (Nat.div_add_mod (i 3).val 128).symm)

theorem algebraic : algebraic_Kernel10Ideal_Reference10Ideal (hKernel10Ideal := Cert.Kernel10Ideal.Gen.facts)
    (hReference10Ideal := Cert.Reference10Ideal.Gen.facts) := by
  intro m ρ m' ρ' _ hag
  refine ⟨fun c => Cert.Kernel10Ideal.Value.G7 m c, fun c => Cert.Kernel10Ideal.Value.G8 m c, Cert.Kernel10Ideal.Value.run m ρ,
    (θ_run _ _ _).mono (fun _ h c => ⟨(h c).1.trans ?_, (h c).2.1.trans ?_, (h c).2.2⟩) (Cert.Reference10Ideal.Value.run m' ρ')⟩
  · obtain ⟨e0, e1, e2⟩ := hag c
    rw [Cert.Reference10Ideal.Read.val_main_v102_eq, e0, e1, e2]
    funext i
    obtain ⟨k, p, h, d, rfl⟩ := out_index i
    exact (Cert.Reference10Ideal.FirstReference.out_apply _ _ _ k p h d).trans (Cert.Kernel10Ideal.FirstFold.G7_apply m c k p h d).symm
  · obtain ⟨e0, e1, e2⟩ := hag c
    rw [Cert.Reference10Ideal.Read.val_main_v104_eq, e0, e1, e2]
    funext i
    rw [eq_ix4 i, show i 1 = (0 : Fin 1) from Subsingleton.elim (α := Fin 1) _ _]
    exact (Cert.Reference10Ideal.FirstReference.stat_apply _ _ _ _ _ _).trans (Cert.Kernel10Ideal.FirstFold.G8_apply m c _ _ _).symm

/-- The two named constants stand for their exact values. -/
theorem preserves : preserves_Kernel10_Kernel10Ideal :=
  ⟨IdealRules.named_const.statement Cert.Kernel10Ideal.κ "mask" .f32 0xF149F2CA#32 ⊥ rfl,
    IdealRules.named_const.statement Cert.Kernel10Ideal.κ "log2e" .f32 0x3FB8AA3B#32 (((Real.log 2)⁻¹ : ℝ) : EReal) rfl⟩

/-- The reference runs, keeps its arguments and ends quiescent. -/
theorem reference_quiescent : quiescent_Reference10Ideal (hReference10Ideal := Cert.Reference10Ideal.Gen.facts) := fun m ρ _ =>
  (θ_run Cert.Reference10Ideal.defs _ _).mono (fun r h => ⟨fun c => (h c).2.2, sem_eq_zero_of_no_sems (by decide) r.2⟩)
    (Cert.Reference10Ideal.Value.run (F := Ideal) m ρ)

end Cert.FirstAlgebraic

end
-- ==== Proof.lean ====
/-
  The proof of the claims: each program's frame, and the kernel's result against the reference's.
-/
module

public import proofs.«01_k».proof.Defs
public import proofs.«01_k».proof.Proof.Gen.Kernel.Frame
public import proofs.«01_k».proof.Proof.FfnAlgebraic
public import proofs.«01_k».proof.Proof.KvAlgebraic
public import proofs.«01_k».proof.Proof.QAlgebraic
public import proofs.«01_k».proof.Proof.OutAlgebraic
public import proofs.«01_k».proof.Proof.MergeAlgebraic
public import proofs.«01_k».proof.Proof.AttAlgebraic
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.PermAlgebraic
public import proofs.«01_k».proof.Proof.Gen.Kernel7.Frame
public import proofs.«01_k».proof.Proof.Gen.Kernel8.Frame
public import proofs.«01_k».proof.Proof.MidAlgebraic
public import proofs.«01_k».proof.Proof.Gen.Kernel9.Frame
public import proofs.«01_k».proof.Proof.FirstAlgebraic
public import proofs.«01_k».proof.Proof.Gen.Kernel10.Frame
public import Idealize.ShloMosaic.Lib.Quiescent

@[expose] public section

noncomputable section

namespace Cert.Proof

open Idealize.ShloMosaic Idealize.SL.Sem

/-- The reference runs, keeps its arguments and ends quiescent. -/
theorem reference_quiescent : quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem reference2_quiescent : quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem reference3_quiescent : quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

theorem reference4_quiescent : quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

theorem reference5_quiescent : quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts, Cert.FinitePre.facts, Cert.StatsPre.facts,
    fun m ρ _ => Cert.Kernel.Gen.frame m ρ, fun m ρ _ => Cert.KernelIdeal.Gen.frame m ρ, fun m ρ _ => Cert.KernelIdeal.Gen.frame m ρ,
    reference_quiescent, fun m ρ _ => reference_quiescent m ρ trivial,
    fun m ρ _ => Cert.Kernel2.Gen.frame m ρ, fun m ρ _ => Cert.Kernel2Ideal.Gen.frame m ρ, reference2_quiescent,
    fun m ρ _ => Cert.Kernel3.Gen.frame m ρ, fun m ρ _ => Cert.Kernel3Ideal.Gen.frame m ρ, reference3_quiescent,
    fun m ρ _ => Cert.Kernel4.Gen.frame m ρ, fun m ρ _ => Cert.Kernel4Ideal.Gen.frame m ρ, reference4_quiescent,
    fun m ρ _ => Cert.Kernel5.Gen.frame m ρ, fun m ρ _ => Cert.Kernel5Ideal.Gen.frame m ρ, fun m ρ _ => Cert.Kernel5Ideal.Gen.frame m ρ,
    reference5_quiescent, fun m ρ _ => reference5_quiescent m ρ trivial,
    fun m ρ _ => Cert.Kernel6.Gen.frame m ρ, fun m ρ _ => Cert.Kernel6Ideal.Gen.frame m ρ, Cert.AttAlgebraic.reference_quiescent,
    fun m ρ _ => Cert.Kernel7.Gen.frame m ρ, fun m ρ _ => Cert.Kernel7Ideal.Gen.frame m ρ, Cert.PermAlgebraic.reference7_quiescent,
    fun m ρ _ => Cert.Kernel8.Gen.frame m ρ, fun m ρ _ => Cert.Kernel8Ideal.Gen.frame m ρ, Cert.PermAlgebraic.reference8_quiescent,
    fun m ρ _ => Cert.Kernel9.Gen.frame m ρ, fun m ρ _ => Cert.Kernel9Ideal.Gen.frame m ρ, Cert.MidAlgebraic.reference_quiescent,
    fun m ρ _ => Cert.Kernel10.Gen.frame m ρ, fun m ρ _ => Cert.Kernel10Ideal.Gen.frame m ρ, Cert.FirstAlgebraic.reference_quiescent,
    trivial, Cert.FfnAlgebraic.algebraic, trivial, Cert.KvAlgebraic.algebraic, trivial, Cert.QAlgebraic.algebraic,
    trivial, Cert.OutAlgebraic.algebraic, trivial, Cert.MergeAlgebraic.algebraic, Cert.AttAlgebraic.preserves, Cert.AttAlgebraic.algebraic,
    trivial, Cert.PermAlgebraic.algebraic7, trivial, Cert.PermAlgebraic.algebraic8,
    Cert.MidAlgebraic.preserves, Cert.MidAlgebraic.algebraic, Cert.FirstAlgebraic.preserves, Cert.FirstAlgebraic.algebraic⟩

end Cert.Proof

end
